-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_tame [hPre_tame : Cert.Pre_tame.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tame.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))) = (fun _ => 1#1)

def Pre_MixtureIdeal (m : (ℓ : Loc Cert.MixtureIdeal.nD Cert.MixtureIdeal.τ Cert.MixtureIdeal.sig) → Buf (Elt Ideal) ℓ) : Prop :=
  True

def Pre_MixtureIdeal_tame [hPre_tame : Cert.Pre_tame.Facts] (m : (ℓ : Loc Cert.MixtureIdeal.nD Cert.MixtureIdeal.τ Cert.MixtureIdeal.sig) → Buf (Elt Ideal) ℓ) : Prop :=
  ∀ c : Dev Cert.MixtureIdeal.nD,
    (Cert.Pre_tame.fn (F := Ideal) (m ((c.tc : Thread Cert.MixtureIdeal.nD Cert.MixtureIdeal.τ).loc Cert.MixtureIdeal.main_arg0)) (m ((c.tc : Thread Cert.MixtureIdeal.nD Cert.MixtureIdeal.τ).loc Cert.MixtureIdeal.main_arg1)) (m ((c.tc : Thread Cert.MixtureIdeal.nD Cert.MixtureIdeal.τ).loc Cert.MixtureIdeal.main_arg2)) (m ((c.tc : Thread Cert.MixtureIdeal.nD Cert.MixtureIdeal.τ).loc Cert.MixtureIdeal.main_arg3)) (m ((c.tc : Thread Cert.MixtureIdeal.nD Cert.MixtureIdeal.τ).loc Cert.MixtureIdeal.main_arg4)) (m ((c.tc : Thread Cert.MixtureIdeal.nD Cert.MixtureIdeal.τ).loc Cert.MixtureIdeal.main_arg5)) (m ((c.tc : Thread Cert.MixtureIdeal.nD Cert.MixtureIdeal.τ).loc Cert.MixtureIdeal.main_arg6)) (m ((c.tc : Thread Cert.MixtureIdeal.nD Cert.MixtureIdeal.τ).loc Cert.MixtureIdeal.main_arg7)) (m ((c.tc : Thread Cert.MixtureIdeal.nD Cert.MixtureIdeal.τ).loc Cert.MixtureIdeal.main_arg8)) (m ((c.tc : Thread Cert.MixtureIdeal.nD Cert.MixtureIdeal.τ).loc Cert.MixtureIdeal.main_arg9)) (m ((c.tc : Thread Cert.MixtureIdeal.nD Cert.MixtureIdeal.τ).loc Cert.MixtureIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_ExpertsIdeal_pre_tame [hExpertsIdeal : Cert.ExpertsIdeal.Facts] [hPre_tame : Cert.Pre_tame.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_tame m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_MixtureIdeal [hMixtureIdeal : Cert.MixtureIdeal.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4)
      ∧ r.2.mem ((c.tc : Thread Cert.MixtureIdeal.nD Cert.MixtureIdeal.τ).loc Cert.MixtureIdeal.main_arg5) = m ((c.tc : Thread Cert.MixtureIdeal.nD Cert.MixtureIdeal.τ).loc Cert.MixtureIdeal.main_arg5)
      ∧ r.2.mem ((c.tc : Thread Cert.MixtureIdeal.nD Cert.MixtureIdeal.τ).loc Cert.MixtureIdeal.main_arg6) = m ((c.tc : Thread Cert.MixtureIdeal.nD Cert.MixtureIdeal.τ).loc Cert.MixtureIdeal.main_arg6)
      ∧ r.2.mem ((c.tc : Thread Cert.MixtureIdeal.nD Cert.MixtureIdeal.τ).loc Cert.MixtureIdeal.main_arg7) = m ((c.tc : Thread Cert.MixtureIdeal.nD Cert.MixtureIdeal.τ).loc Cert.MixtureIdeal.main_arg7)
      ∧ r.2.mem ((c.tc : Thread Cert.MixtureIdeal.nD Cert.MixtureIdeal.τ).loc Cert.MixtureIdeal.main_arg8) = m ((c.tc : Thread Cert.MixtureIdeal.nD Cert.MixtureIdeal.τ).loc Cert.MixtureIdeal.main_arg8)
      ∧ r.2.mem ((c.tc : Thread Cert.MixtureIdeal.nD Cert.MixtureIdeal.τ).loc Cert.MixtureIdeal.main_arg9) = m ((c.tc : Thread Cert.MixtureIdeal.nD Cert.MixtureIdeal.τ).loc Cert.MixtureIdeal.main_arg9)
      ∧ r.2.mem ((c.tc : Thread Cert.MixtureIdeal.nD Cert.MixtureIdeal.τ).loc Cert.MixtureIdeal.main_arg10) = m ((c.tc : Thread Cert.MixtureIdeal.nD Cert.MixtureIdeal.τ).loc Cert.MixtureIdeal.main_arg10))
      ∧ r.2.sem = fun _ => 0)

def quiescent_MixtureIdeal_pre_tame [hMixtureIdeal : Cert.MixtureIdeal.Facts] [hPre_tame : Cert.Pre_tame.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal_tame m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4)
      ∧ r.2.mem ((c.tc : Thread Cert.MixtureIdeal.nD Cert.MixtureIdeal.τ).loc Cert.MixtureIdeal.main_arg5) = m ((c.tc : Thread Cert.MixtureIdeal.nD Cert.MixtureIdeal.τ).loc Cert.MixtureIdeal.main_arg5)
      ∧ r.2.mem ((c.tc : Thread Cert.MixtureIdeal.nD Cert.MixtureIdeal.τ).loc Cert.MixtureIdeal.main_arg6) = m ((c.tc : Thread Cert.MixtureIdeal.nD Cert.MixtureIdeal.τ).loc Cert.MixtureIdeal.main_arg6)
      ∧ r.2.mem ((c.tc : Thread Cert.MixtureIdeal.nD Cert.MixtureIdeal.τ).loc Cert.MixtureIdeal.main_arg7) = m ((c.tc : Thread Cert.MixtureIdeal.nD Cert.MixtureIdeal.τ).loc Cert.MixtureIdeal.main_arg7)
      ∧ r.2.mem ((c.tc : Thread Cert.MixtureIdeal.nD Cert.MixtureIdeal.τ).loc Cert.MixtureIdeal.main_arg8) = m ((c.tc : Thread Cert.MixtureIdeal.nD Cert.MixtureIdeal.τ).loc Cert.MixtureIdeal.main_arg8)
      ∧ r.2.mem ((c.tc : Thread Cert.MixtureIdeal.nD Cert.MixtureIdeal.τ).loc Cert.MixtureIdeal.main_arg9) = m ((c.tc : Thread Cert.MixtureIdeal.nD Cert.MixtureIdeal.τ).loc Cert.MixtureIdeal.main_arg9)
      ∧ r.2.mem ((c.tc : Thread Cert.MixtureIdeal.nD Cert.MixtureIdeal.τ).loc Cert.MixtureIdeal.main_arg10) = m ((c.tc : Thread Cert.MixtureIdeal.nD Cert.MixtureIdeal.τ).loc Cert.MixtureIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  IdealRules.named_const.Statement Cert.ExpertsIdeal.κ "log2_e" .f32 0x3FB8AA3B#32 (((Real.log 2)⁻¹ : ℝ) : EReal)

def algebraic_ExpertsIdeal_MixtureIdeal_pre_tame [hExpertsIdeal : Cert.ExpertsIdeal.Facts] [hMixtureIdeal : Cert.MixtureIdeal.Facts] [hPre_tame : Cert.Pre_tame.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.MixtureIdeal.nD Cert.MixtureIdeal.τ Cert.MixtureIdeal.sig) → Buf (Elt Ideal) ℓ) (g' : Dev Cert.MixtureIdeal.nD → PrngReg), Pre_ExpertsIdeal_tame m →
    (∀ c : Dev Cert.ExpertsIdeal.nD,
      m' ((c.tc : Thread Cert.MixtureIdeal.nD Cert.MixtureIdeal.τ).loc Cert.MixtureIdeal.main_arg0) = m ((c.tc : Thread Cert.ExpertsIdeal.nD Cert.ExpertsIdeal.τ).loc Cert.ExpertsIdeal.main_arg0)
      ∧ m' ((c.tc : Thread Cert.MixtureIdeal.nD Cert.MixtureIdeal.τ).loc Cert.MixtureIdeal.main_arg1) = m ((c.tc : Thread Cert.ExpertsIdeal.nD Cert.ExpertsIdeal.τ).loc Cert.ExpertsIdeal.main_arg1)
      ∧ m' ((c.tc : Thread Cert.MixtureIdeal.nD Cert.MixtureIdeal.τ).loc Cert.MixtureIdeal.main_arg2) = m ((c.tc : Thread Cert.ExpertsIdeal.nD Cert.ExpertsIdeal.τ).loc Cert.ExpertsIdeal.main_arg2)
      ∧ m' ((c.tc : Thread Cert.MixtureIdeal.nD Cert.MixtureIdeal.τ).loc Cert.MixtureIdeal.main_arg3) = m ((c.tc : Thread Cert.ExpertsIdeal.nD Cert.ExpertsIdeal.τ).loc Cert.ExpertsIdeal.main_arg3)
      ∧ m' ((c.tc : Thread Cert.MixtureIdeal.nD Cert.MixtureIdeal.τ).loc Cert.MixtureIdeal.main_arg4) = m ((c.tc : Thread Cert.ExpertsIdeal.nD Cert.ExpertsIdeal.τ).loc Cert.ExpertsIdeal.main_arg4)
      ∧ m' ((c.tc : Thread Cert.MixtureIdeal.nD Cert.MixtureIdeal.τ).loc Cert.MixtureIdeal.main_arg5) = m ((c.tc : Thread Cert.ExpertsIdeal.nD Cert.ExpertsIdeal.τ).loc Cert.ExpertsIdeal.main_arg5)
      ∧ m' ((c.tc : Thread Cert.MixtureIdeal.nD Cert.MixtureIdeal.τ).loc Cert.MixtureIdeal.main_arg6) = m ((c.tc : Thread Cert.ExpertsIdeal.nD Cert.ExpertsIdeal.τ).loc Cert.ExpertsIdeal.main_arg6)
      ∧ m' ((c.tc : Thread Cert.MixtureIdeal.nD Cert.MixtureIdeal.τ).loc Cert.MixtureIdeal.main_arg7) = m ((c.tc : Thread Cert.ExpertsIdeal.nD Cert.ExpertsIdeal.τ).loc Cert.ExpertsIdeal.main_arg7)
      ∧ m' ((c.tc : Thread Cert.MixtureIdeal.nD Cert.MixtureIdeal.τ).loc Cert.MixtureIdeal.main_arg8) = m ((c.tc : Thread Cert.ExpertsIdeal.nD Cert.ExpertsIdeal.τ).loc Cert.ExpertsIdeal.main_arg8)
      ∧ m' ((c.tc : Thread Cert.MixtureIdeal.nD Cert.MixtureIdeal.τ).loc Cert.MixtureIdeal.main_arg9) = m ((c.tc : Thread Cert.ExpertsIdeal.nD Cert.ExpertsIdeal.τ).loc Cert.ExpertsIdeal.main_arg9)
      ∧ m' ((c.tc : Thread Cert.MixtureIdeal.nD Cert.MixtureIdeal.τ).loc Cert.MixtureIdeal.main_arg10) = m ((c.tc : Thread Cert.ExpertsIdeal.nD Cert.ExpertsIdeal.τ).loc Cert.ExpertsIdeal.main_arg10)) →
    ∃ (v0 : (c : Dev Cert.ExpertsIdeal.nD) → Buf (Elt Ideal) ((c.tc : Thread Cert.ExpertsIdeal.nD Cert.ExpertsIdeal.τ).loc Cert.ExpertsIdeal.main_v23)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v23) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ θ_run (Cert.MixtureIdeal.defs (F := Ideal)) (onTc (τ := Cert.MixtureIdeal.τ) (Cert.MixtureIdeal.main (F := Ideal))) ⟨m', fun _ => 0, g'⟩ (fun r => ∀ c : Dev Cert.MixtureIdeal.nD,
          r.2.mem ((c.tc : Thread Cert.MixtureIdeal.nD Cert.MixtureIdeal.τ).loc Cert.MixtureIdeal.main_v78) = v0 c
          ∧ r.2.mem ((c.tc : Thread Cert.MixtureIdeal.nD Cert.MixtureIdeal.τ).loc Cert.MixtureIdeal.main_arg0) = m' ((c.tc : Thread Cert.MixtureIdeal.nD Cert.MixtureIdeal.τ).loc Cert.MixtureIdeal.main_arg0)
          ∧ r.2.mem ((c.tc : Thread Cert.MixtureIdeal.nD Cert.MixtureIdeal.τ).loc Cert.MixtureIdeal.main_arg1) = m' ((c.tc : Thread Cert.MixtureIdeal.nD Cert.MixtureIdeal.τ).loc Cert.MixtureIdeal.main_arg1)
          ∧ r.2.mem ((c.tc : Thread Cert.MixtureIdeal.nD Cert.MixtureIdeal.τ).loc Cert.MixtureIdeal.main_arg2) = m' ((c.tc : Thread Cert.MixtureIdeal.nD Cert.MixtureIdeal.τ).loc Cert.MixtureIdeal.main_arg2)
          ∧ r.2.mem ((c.tc : Thread Cert.MixtureIdeal.nD Cert.MixtureIdeal.τ).loc Cert.MixtureIdeal.main_arg3) = m' ((c.tc : Thread Cert.MixtureIdeal.nD Cert.MixtureIdeal.τ).loc Cert.MixtureIdeal.main_arg3)
          ∧ r.2.mem ((c.tc : Thread Cert.MixtureIdeal.nD Cert.MixtureIdeal.τ).loc Cert.MixtureIdeal.main_arg4) = m' ((c.tc : Thread Cert.MixtureIdeal.nD Cert.MixtureIdeal.τ).loc Cert.MixtureIdeal.main_arg4)
          ∧ r.2.mem ((c.tc : Thread Cert.MixtureIdeal.nD Cert.MixtureIdeal.τ).loc Cert.MixtureIdeal.main_arg5) = m' ((c.tc : Thread Cert.MixtureIdeal.nD Cert.MixtureIdeal.τ).loc Cert.MixtureIdeal.main_arg5)
          ∧ r.2.mem ((c.tc : Thread Cert.MixtureIdeal.nD Cert.MixtureIdeal.τ).loc Cert.MixtureIdeal.main_arg6) = m' ((c.tc : Thread Cert.MixtureIdeal.nD Cert.MixtureIdeal.τ).loc Cert.MixtureIdeal.main_arg6)
          ∧ r.2.mem ((c.tc : Thread Cert.MixtureIdeal.nD Cert.MixtureIdeal.τ).loc Cert.MixtureIdeal.main_arg7) = m' ((c.tc : Thread Cert.MixtureIdeal.nD Cert.MixtureIdeal.τ).loc Cert.MixtureIdeal.main_arg7)
          ∧ r.2.mem ((c.tc : Thread Cert.MixtureIdeal.nD Cert.MixtureIdeal.τ).loc Cert.MixtureIdeal.main_arg8) = m' ((c.tc : Thread Cert.MixtureIdeal.nD Cert.MixtureIdeal.τ).loc Cert.MixtureIdeal.main_arg8)
          ∧ r.2.mem ((c.tc : Thread Cert.MixtureIdeal.nD Cert.MixtureIdeal.τ).loc Cert.MixtureIdeal.main_arg9) = m' ((c.tc : Thread Cert.MixtureIdeal.nD Cert.MixtureIdeal.τ).loc Cert.MixtureIdeal.main_arg9)
          ∧ r.2.mem ((c.tc : Thread Cert.MixtureIdeal.nD Cert.MixtureIdeal.τ).loc Cert.MixtureIdeal.main_arg10) = m' ((c.tc : Thread Cert.MixtureIdeal.nD Cert.MixtureIdeal.τ).loc Cert.MixtureIdeal.main_arg10))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hMixtureIdeal : Cert.MixtureIdeal.Facts) (hPre_finite : Cert.Pre_finite.Facts) (hPre_tame : Cert.Pre_tame.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsIdeal_pre_tame (hExpertsIdeal := hExpertsIdeal) (hPre_tame := hPre_tame)
    ∧ quiescent_MixtureIdeal (hMixtureIdeal := hMixtureIdeal)
    ∧ quiescent_MixtureIdeal_pre_tame (hMixtureIdeal := hMixtureIdeal) (hPre_tame := hPre_tame)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_MixtureIdeal_pre_tame (hExpertsIdeal := hExpertsIdeal) (hMixtureIdeal := hMixtureIdeal) (hPre_tame := hPre_tame)
-- ==== Pre_finite.lean ====
abbrev S2x2048x1024 : Shape := ⟨3, ![2, 2048, 1024]⟩
abbrev S8x1024 : Shape := ⟨2, ![8, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2x2048x1024 .f32) (main_arg1 : FVec F S8x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Pre_tame.lean ====
abbrev S2x2048x1024 : Shape := ⟨3, ![2, 2048, 1024]⟩
abbrev S8x4096 : Shape := ⟨2, ![8, 4096]⟩
abbrev S8x1024x4096 : Shape := ⟨3, ![8, 1024, 4096]⟩
abbrev S8x2048x4 : Shape := ⟨3, ![8, 2048, 4]⟩
abbrev S8x2048 : Shape := ⟨2, ![8, 2048]⟩
abbrev S8x2048x96 : Shape := ⟨3, ![8, 2048, 96]⟩
abbrev S8x64x2048 : Shape := ⟨3, ![8, 64, 2048]⟩
abbrev S8x2048x16 : Shape := ⟨3, ![8, 2048, 16]⟩
abbrev S8x2048x1024 : Shape := ⟨3, ![8, 2048, 1024]⟩
abbrev S8x4096x2x2048 : Shape := ⟨4, ![8, 4096, 2, 2048]⟩
abbrev S8x2x2048x4096 : Shape := ⟨4, ![8, 2, 2048, 4096]⟩
abbrev S8x2x2048x2048 : Shape := ⟨4, ![8, 2, 2048, 2048]⟩
abbrev S_ : Shape := ⟨0, ![]⟩
abbrev S8x2x2051x2048 : Shape := ⟨4, ![8, 2, 2051, 2048]⟩
abbrev S8x1x1x2048 : Shape := ⟨4, ![8, 1, 1, 2048]⟩
abbrev S8x2048x1 : Shape := ⟨3, ![8, 2048, 1]⟩
abbrev S8x2x2048x96 : Shape := ⟨4, ![8, 2, 2048, 96]⟩
abbrev S8x2x2048x64 : Shape := ⟨4, ![8, 2, 2048, 64]⟩

class Facts : Prop where
  transposes_S8x4096x2x2048_S8x2x2048x4096_0_2_3_1 : S8x4096x2x2048.Transposes [0, 2, 3, 1] S8x2x2048x4096
  slices_S8x2x2048x4096_S8x2x2048x2048_0_0_0_0 : S8x2x2048x4096.Slices ![0, 0, 0, 0] S8x2x2048x2048
  slices_S8x2x2048x4096_S8x2x2048x2048_0_0_0_2048 : S8x2x2048x4096.Slices ![0, 0, 0, 2048] S8x2x2048x2048
  pads_S8x2x2048x2048_S8x2x2051x2048_000_000_300_000 : S8x2x2048x2048.Pads (![0, 0, 3, 0] : Fin 4 → Nat) ![0, 0, 0, 0] ![0, 0, 0, 0] S8x2x2051x2048
  h_S_ : 0 < S_.numel
  bcast_S8x2048_S8x1x1x2048_0_3 : S8x2048.BroadcastsInDim S8x1x1x2048 (![0, 3] : Fin 2 → Fin S8x1x1x2048.rank)
  slices_S8x2x2051x2048_S8x2x2048x2048_0_0_0_0 : S8x2x2051x2048.Slices ![0, 0, 0, 0] S8x2x2048x2048
  slices_S8x2048x4_S8x2048x1_0_0_0 : S8x2048x4.Slices ![0, 0, 0] S8x2048x1
  shapeCasts_S8x2048x1_S8x2048 : S8x2048x1.ShapeCasts S8x2048
  bcast_S8x1x1x2048_S8x2x2048x2048_0_1_2_3 : S8x1x1x2048.BroadcastsInDim S8x2x2048x2048 (![0, 1, 2, 3] : Fin 4 → Fin S8x2x2048x2048.rank)
  slices_S8x2x2051x2048_S8x2x2048x2048_0_0_1_0 : S8x2x2051x2048.Slices ![0, 0, 1, 0] S8x2x2048x2048
  slices_S8x2048x4_S8x2048x1_0_0_1 : S8x2048x4.Slices ![0, 0, 1] S8x2048x1
  slices_S8x2x2051x2048_S8x2x2048x2048_0_0_2_0 : S8x2x2051x2048.Slices ![0, 0, 2, 0] S8x2x2048x2048
  slices_S8x2048x4_S8x2048x1_0_0_2 : S8x2048x4.Slices ![0, 0, 2] S8x2048x1
  slices_S8x2x2051x2048_S8x2x2048x2048_0_0_3_0 : S8x2x2051x2048.Slices ![0, 0, 3, 0] S8x2x2048x2048
  slices_S8x2048x4_S8x2048x1_0_0_3 : S8x2048x4.Slices ![0, 0, 3] S8x2048x1
  bcast_S_S8x2x2048x2048 : S_.BroadcastsInDim S8x2x2048x2048 (![] : Fin 0 → Fin S8x2x2048x2048.rank)
  slices_S8x2x2048x96_S8x2x2048x64_0_0_0_0 : S8x2x2048x96.Slices ![0, 0, 0, 0] S8x2x2048x64
  reducesTo_S8x2x2048x2048_S_d0_1_2_3 : S8x2x2048x2048.ReducesTo [0, 1, 2, 3] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x2048x4 : S_.BroadcastsInDim S8x2048x4 (![] : Fin 0 → Fin S8x2048x4.rank)
  reducesTo_S8x2048x4_S_d0_1_2 : S8x2048x4.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x96 : S_.BroadcastsInDim S8x2048x96 (![] : Fin 0 → Fin S8x2048x96.rank)
  reducesTo_S8x2048x96_S_d0_1_2 : S8x2048x96.ReducesTo [0, 1, 2] S_
  bcast_S_S8x64x2048 : S_.BroadcastsInDim S8x64x2048 (![] : Fin 0 → Fin S8x64x2048.rank)
  reducesTo_S8x64x2048_S_d0_1_2 : S8x64x2048.ReducesTo [0, 1, 2] S_
  bcast_S_S8x2048x16 : S_.BroadcastsInDim S8x2048x16 (![] : Fin 0 → Fin S8x2048x16.rank)
  reducesTo_S8x2048x16_S_d0_1_2 : S8x2048x16.ReducesTo [0, 1, 2] S_
  bcast_S_S8x2048x1024 : S_.BroadcastsInDim S8x2048x1024 (![] : Fin 0 → Fin S8x2048x1024.rank)
  reducesTo_S8x2048x1024_S_d0_1_2 : S8x2048x1024.ReducesTo [0, 1, 2] S_
  dot_S8x1024x4096_S2x2048x1024_S8x4096x2x2048_1_2_02_01_n_n_wf : DotDims.WF S8x1024x4096 S2x2048x1024 S8x4096x2x2048 [1] [2] [0, 2] [0, 1] [] []
  dot_S8x2x2048x2048_S8x2048x96_S8x2x2048x96_3_1_12_2_0_0_wf : DotDims.WF S8x2x2048x2048 S8x2048x96 S8x2x2048x96 [3] [1] [1, 2] [2] [0] [0]
  dot_S8x2x2048x64_S8x64x2048_S8x2x2048x2048_3_1_12_2_0_0_wf : DotDims.WF S8x2x2048x64 S8x64x2048 S8x2x2048x2048 [3] [1] [1, 2] [2] [0] [0]

variable [Facts]

def dot_S8x1024x4096_S2x2048x1024_S8x4096x2x2048_1_2_02_01_n_n : DotDims S8x1024x4096 S2x2048x1024 S8x4096x2x2048 where
  lhsContracting := [1]
  rhsContracting := [2]
  lhsNonContracting := [0, 2]
  rhsNonContracting := [0, 1]
  lhsBatch := []
  rhsBatch := []
  wf := dot_S8x1024x4096_S2x2048x1024_S8x4096x2x2048_1_2_02_01_n_n_wf
def dot_S8x2x2048x2048_S8x2048x96_S8x2x2048x96_3_1_12_2_0_0 : DotDims S8x2x2048x2048 S8x2048x96 S8x2x2048x96 where
  lhsContracting := [3]
  rhsContracting := [1]
  lhsNonContracting := [1, 2]
  rhsNonContracting := [2]
  lhsBatch := [0]
  rhsBatch := [0]
  wf := dot_S8x2x2048x2048_S8x2048x96_S8x2x2048x96_3_1_12_2_0_0_wf
def dot_S8x2x2048x64_S8x64x2048_S8x2x2048x2048_3_1_12_2_0_0 : DotDims S8x2x2048x64 S8x64x2048 S8x2x2048x2048 where
  lhsContracting := [3]
  rhsContracting := [1]
  lhsNonContracting := [1, 2]
  rhsNonContracting := [2]
  lhsBatch := [0]
  rhsBatch := [0]
  wf := dot_S8x2x2048x64_S8x64x2048_S8x2x2048x2048_3_1_12_2_0_0_wf
def fn_pad {F : FTy → Type} [FloatOps F] (arg0 : FVec F S8x2x2048x2048 .f32) (arg1 : IVec S_ 32) : FVec F S8x2x2051x2048 .f32 :=
  let v0 : FVec F S_ .f32 := sitofp .f32 arg1
  let v1 : FVec F S8x2x2051x2048 .f32 := (fun x v => pad S8x2x2051x2048 ![0, 0, 3, 0] ![0, 0, 0, 0] ![0, 0, 0, 0] x v pads_S8x2x2048x2048_S8x2x2051x2048_000_000_300_000 h_S_) arg0 v0
  v1

def fn_part5 {F : FTy → Type} [FloatOps F] (main_arg10 : FVec F S8x2048x1024 .f32) (main_v95 : IVec S_ 1) (main_v96 : FVec F S8x2048 .f32) : IVec S_ 1 :=
  let main_cst_21 : FVec F S_ .f32 := constant S_ .f32 0x7F800000#32
  let main_v97 : FVec F S8x2048 .f32 := broadcastInDim S8x2048 ![] bcast_S_S8x2048 main_cst_21
  let main_v98 : IVec S8x2048 1 := cmpf .olt main_v96 main_v97
  let main_c_22 : IVec S_ 1 := constantI S_ 1 1#1
  let main_v99 : IVec S_ 1 := (fun x v => Host.reduce IntOp.andi x v reducesTo_S8x2048_S_d0_1 h_S_) main_v98 main_c_22
  let main_v100 : IVec S_ 1 := andi main_v95 main_v99
  let main_v101 : FVec F S8x2048x1024 .f32 := Host.absf main_arg10
  let main_cst_23 : FVec F S_ .f32 := constant S_ .f32 0x7F800000#32
  let main_v102 : FVec F S8x2048x1024 .f32 := broadcastInDim S8x2048x1024 ![] bcast_S_S8x2048x1024 main_cst_23
  let main_v103 : IVec S8x2048x1024 1 := cmpf .olt main_v101 main_v102
  let main_c_24 : IVec S_ 1 := constantI S_ 1 1#1
  let main_v104 : IVec S_ 1 := (fun x v => Host.reduce IntOp.andi x v reducesTo_S8x2048x1024_S_d0_1_2 h_S_) main_v103 main_c_24
  let main_v105 : IVec S_ 1 := andi main_v100 main_v104
  main_v105

def fn_part4 {F : FTy → Type} [FloatOps F] (main_arg6 : FVec F S8x64x2048 .f32) (main_arg7 : FVec F S8x2048 .f32) (main_arg8 : FVec F S8x2048x16 .f32) (main_arg9 : FVec F S8x2048 .f32) (main_arg10 : FVec F S8x2048x1024 .f32) (main_v75 : IVec S_ 1) (main_v78 : IVec S8x2048x96 1) (main_c_14 : IVec S_ 1) : IVec S_ 1 :=
  let main_v79 : IVec S_ 1 := (fun x v => Host.reduce IntOp.andi x v reducesTo_S8x2048x96_S_d0_1_2 h_S_) main_v78 main_c_14
  let main_v80 : IVec S_ 1 := andi main_v75 main_v79
  let main_v81 : FVec F S8x64x2048 .f32 := Host.absf main_arg6
  let main_cst_15 : FVec F S_ .f32 := constant S_ .f32 0x7F800000#32
  let main_v82 : FVec F S8x64x2048 .f32 := broadcastInDim S8x64x2048 ![] bcast_S_S8x64x2048 main_cst_15
  let main_v83 : IVec S8x64x2048 1 := cmpf .olt main_v81 main_v82
  let main_c_16 : IVec S_ 1 := constantI S_ 1 1#1
  let main_v84 : IVec S_ 1 := (fun x v => Host.reduce IntOp.andi x v reducesTo_S8x64x2048_S_d0_1_2 h_S_) main_v83 main_c_16
  let main_v85 : IVec S_ 1 := andi main_v80 main_v84
  let main_v86 : FVec F S8x2048 .f32 := Host.absf main_arg7
  let main_cst_17 : FVec F S_ .f32 := constant S_ .f32 0x7F800000#32
  let main_v87 : FVec F S8x2048 .f32 := broadcastInDim S8x2048 ![] bcast_S_S8x2048 main_cst_17
  let main_v88 : IVec S8x2048 1 := cmpf .olt main_v86 main_v87
  let main_c_18 : IVec S_ 1 := constantI S_ 1 1#1
  let main_v89 : IVec S_ 1 := (fun x v => Host.reduce IntOp.andi x v reducesTo_S8x2048_S_d0_1 h_S_) main_v88 main_c_18
  let main_v90 : IVec S_ 1 := andi main_v85 main_v89
  let main_v91 : FVec F S8x2048x16 .f32 := Host.absf main_arg8
  let main_cst_19 : FVec F S_ .f32 := constant S_ .f32 0x7F800000#32
  let main_v92 : FVec F S8x2048x16 .f32 := broadcastInDim S8x2048x16 ![] bcast_S_S8x2048x16 main_cst_19
  let main_v93 : IVec S8x2048x16 1 := cmpf .olt main_v91 main_v92
  let main_c_20 : IVec S_ 1 := constantI S_ 1 1#1
  let main_v94 : IVec S_ 1 := (fun x v => Host.reduce IntOp.andi x v reducesTo_S8x2048x16_S_d0_1_2 h_S_) main_v93 main_c_20
  let main_v95 : IVec S_ 1 := andi main_v90 main_v94
  let main_v96 : FVec F S8x2048 .f32 := Host.absf main_arg9
  fn_part5 (F := F) main_arg10 main_v95 main_v96

def fn_part3 {F : FTy → Type} [FloatOps F] (main_arg3 : FVec F S8x2048x4 .f32) (main_arg4 : FVec F S8x2048 .f32) (main_arg5 : FVec F S8x2048x96 .f32) (main_arg6 : FVec F S8x64x2048 .f32) (main_arg7 : FVec F S8x2048 .f32) (main_arg8 : FVec F S8x2048x16 .f32) (main_arg9 : FVec F S8x2048 .f32) (main_arg10 : FVec F S8x2048x1024 .f32) (main_v60 : IVec S_ 1) (main_v61 : FVec F S8x1024x4096 .f32) (main_cst_7 : FVec F S_ .f32) : IVec S_ 1 :=
  let main_v62 : FVec F S8x1024x4096 .f32 := broadcastInDim S8x1024x4096 ![] bcast_S_S8x1024x4096 main_cst_7
  let main_v63 : IVec S8x1024x4096 1 := cmpf .olt main_v61 main_v62
  let main_c_8 : IVec S_ 1 := constantI S_ 1 1#1
  let main_v64 : IVec S_ 1 := (fun x v => Host.reduce IntOp.andi x v reducesTo_S8x1024x4096_S_d0_1_2 h_S_) main_v63 main_c_8
  let main_v65 : IVec S_ 1 := andi main_v60 main_v64
  let main_v66 : FVec F S8x2048x4 .f32 := Host.absf main_arg3
  let main_cst_9 : FVec F S_ .f32 := constant S_ .f32 0x7F800000#32
  let main_v67 : FVec F S8x2048x4 .f32 := broadcastInDim S8x2048x4 ![] bcast_S_S8x2048x4 main_cst_9
  let main_v68 : IVec S8x2048x4 1 := cmpf .olt main_v66 main_v67
  let main_c_10 : IVec S_ 1 := constantI S_ 1 1#1
  let main_v69 : IVec S_ 1 := (fun x v => Host.reduce IntOp.andi x v reducesTo_S8x2048x4_S_d0_1_2 h_S_) main_v68 main_c_10
  let main_v70 : IVec S_ 1 := andi main_v65 main_v69
  let main_v71 : FVec F S8x2048 .f32 := Host.absf main_arg4
  let main_cst_11 : FVec F S_ .f32 := constant S_ .f32 0x7F800000#32
  let main_v72 : FVec F S8x2048 .f32 := broadcastInDim S8x2048 ![] bcast_S_S8x2048 main_cst_11
  let main_v73 : IVec S8x2048 1 := cmpf .olt main_v71 main_v72
  let main_c_12 : IVec S_ 1 := constantI S_ 1 1#1
  let main_v74 : IVec S_ 1 := (fun x v => Host.reduce IntOp.andi x v reducesTo_S8x2048_S_d0_1 h_S_) main_v73 main_c_12
  let main_v75 : IVec S_ 1 := andi main_v70 main_v74
  let main_v76 : FVec F S8x2048x96 .f32 := Host.absf main_arg5
  let main_cst_13 : FVec F S_ .f32 := constant S_ .f32 0x7F800000#32
  let main_v77 : FVec F S8x2048x96 .f32 := broadcastInDim S8x2048x96 ![] bcast_S_S8x2048x96 main_cst_13
  let main_v78 : IVec S8x2048x96 1 := cmpf .olt main_v76 main_v77
  let main_c_14 : IVec S_ 1 := constantI S_ 1 1#1
  fn_part4 (F := F) main_arg6 main_arg7 main_arg8 main_arg9 main_arg10 main_v75 main_v78 main_c_14

def fn_part2 {F : FTy → Type} [FloatOps F] (main_arg0 : FVec F S2x2048x1024 .f32) (main_arg1 : FVec F S8x4096 .f32) (main_arg2 : FVec F S8x1024x4096 .f32) (main_arg3 : FVec F S8x2048x4 .f32) (main_arg4 : FVec F S8x2048 .f32) (main_arg5 : FVec F S8x2048x96 .f32) (main_arg6 : FVec F S8x64x2048 .f32) (main_arg7 : FVec F S8x2048 .f32) (main_arg8 : FVec F S8x2048x16 .f32) (main_arg9 : FVec F S8x2048 .f32) (main_arg10 : FVec F S8x2048x1024 .f32) (main_v44 : FVec F S8x2x2048x2048 .f32) : IVec S_ 1 :=
  let main_v45 : FVec F S8x1x1x2048 .f32 := broadcastInDim S8x1x1x2048 ![0, 3] bcast_S8x2048_S8x1x1x2048_0_3 main_arg7
  let main_v46 : FVec F S8x2x2048x2048 .f32 := broadcastInDim S8x2x2048x2048 ![0, 1, 2, 3] bcast_S8x1x1x2048_S8x2x2048x2048_0_1_2_3 main_v45
  let main_v47 : FVec F S8x2x2048x2048 .f32 := addf main_v44 main_v46
  let main_cst_1 : FVec F S_ .f32 := constant S_ .f32 0x41A00000#32
  let main_v48 : FVec F S8x2x2048x2048 .f32 := broadcastInDim S8x2x2048x2048 ![] bcast_S_S8x2x2048x2048 main_cst_1
  let main_v49 : IVec S8x2x2048x2048 1 := cmpf .ole main_v47 main_v48
  let main_c_2 : IVec S_ 1 := constantI S_ 1 1#1
  let main_v50 : IVec S_ 1 := (fun x v => Host.reduce IntOp.andi x v reducesTo_S8x2x2048x2048_S_d0_1_2_3 h_S_) main_v49 main_c_2
  let main_v51 : FVec F S2x2048x1024 .f32 := Host.absf main_arg0
  let main_cst_3 : FVec F S_ .f32 := constant S_ .f32 0x7F800000#32
  let main_v52 : FVec F S2x2048x1024 .f32 := broadcastInDim S2x2048x1024 ![] bcast_S_S2x2048x1024 main_cst_3
  let main_v53 : IVec S2x2048x1024 1 := cmpf .olt main_v51 main_v52
  let main_c_4 : IVec S_ 1 := constantI S_ 1 1#1
  let main_v54 : IVec S_ 1 := (fun x v => Host.reduce IntOp.andi x v reducesTo_S2x2048x1024_S_d0_1_2 h_S_) main_v53 main_c_4
  let main_v55 : IVec S_ 1 := andi main_v50 main_v54
  let main_v56 : FVec F S8x4096 .f32 := Host.absf main_arg1
  let main_cst_5 : FVec F S_ .f32 := constant S_ .f32 0x7F800000#32
  let main_v57 : FVec F S8x4096 .f32 := broadcastInDim S8x4096 ![] bcast_S_S8x4096 main_cst_5
  let main_v58 : IVec S8x4096 1 := cmpf .olt main_v56 main_v57
  let main_c_6 : IVec S_ 1 := constantI S_ 1 1#1
  let main_v59 : IVec S_ 1 := (fun x v => Host.reduce IntOp.andi x v reducesTo_S8x4096_S_d0_1 h_S_) main_v58 main_c_6
  let main_v60 : IVec S_ 1 := andi main_v55 main_v59
  let main_v61 : FVec F S8x1024x4096 .f32 := Host.absf main_arg2
  let main_cst_7 : FVec F S_ .f32 := constant S_ .f32 0x7F800000#32
  fn_part3 (F := F) main_arg3 main_arg4 main_arg5 main_arg6 main_arg7 main_arg8 main_arg9 main_arg10 main_v60 main_v61 main_cst_7

def fn_part1 {F : FTy → Type} [FloatOps F] (main_arg0 : FVec F S2x2048x1024 .f32) (main_arg1 : FVec F S8x4096 .f32) (main_arg2 : FVec F S8x1024x4096 .f32) (main_arg3 : FVec F S8x2048x4 .f32) (main_arg4 : FVec F S8x2048 .f32) (main_arg5 : FVec F S8x2048x96 .f32) (main_arg6 : FVec F S8x64x2048 .f32) (main_arg7 : FVec F S8x2048 .f32) (main_arg8 : FVec F S8x2048x16 .f32) (main_arg9 : FVec F S8x2048 .f32) (main_arg10 : FVec F S8x2048x1024 .f32) (main_v4 : FVec F S8x2x2051x2048 .f32) (main_v20 : FVec F S8x2x2048x2048 .f32) (main_v21 : FVec F S8x2x2048x2048 .f32) (main_v22 : FVec F S8x2048x1 .f32) : IVec S_ 1 :=
  let main_v23 : FVec F S8x2048 .f32 := shapeCast S8x2048 main_v22 shapeCasts_S8x2048x1_S8x2048
  let main_v24 : FVec F S8x1x1x2048 .f32 := broadcastInDim S8x1x1x2048 ![0, 3] bcast_S8x2048_S8x1x1x2048_0_3 main_v23
  let main_v25 : FVec F S8x2x2048x2048 .f32 := broadcastInDim S8x2x2048x2048 ![0, 1, 2, 3] bcast_S8x1x1x2048_S8x2x2048x2048_0_1_2_3 main_v24
  let main_v26 : FVec F S8x2x2048x2048 .f32 := mulf main_v21 main_v25
  let main_v27 : FVec F S8x2x2048x2048 .f32 := addf main_v20 main_v26
  let main_v28 : FVec F S8x2x2048x2048 .f32 := (extractStridedSlice S8x2x2048x2048 ![0, 0, 3, 0] · slices_S8x2x2051x2048_S8x2x2048x2048_0_0_3_0) main_v4
  let main_v29 : FVec F S8x2048x1 .f32 := (extractStridedSlice S8x2048x1 ![0, 0, 3] · slices_S8x2048x4_S8x2048x1_0_0_3) main_arg3
  let main_v30 : FVec F S8x2048 .f32 := shapeCast S8x2048 main_v29 shapeCasts_S8x2048x1_S8x2048
  let main_v31 : FVec F S8x1x1x2048 .f32 := broadcastInDim S8x1x1x2048 ![0, 3] bcast_S8x2048_S8x1x1x2048_0_3 main_v30
  let main_v32 : FVec F S8x2x2048x2048 .f32 := broadcastInDim S8x2x2048x2048 ![0, 1, 2, 3] bcast_S8x1x1x2048_S8x2x2048x2048_0_1_2_3 main_v31
  let main_v33 : FVec F S8x2x2048x2048 .f32 := mulf main_v28 main_v32
  let main_v34 : FVec F S8x2x2048x2048 .f32 := addf main_v27 main_v33
  let main_v35 : FVec F S8x2x2048x2048 .f32 := Host.negf main_v34
  let main_v36 : FVec F S8x2x2048x2048 .f32 := Host.exp main_v35
  let main_cst : FVec F S_ .f32 := constant S_ .f32 0x3F800000#32
  let main_v37 : FVec F S8x2x2048x2048 .f32 := broadcastInDim S8x2x2048x2048 ![] bcast_S_S8x2x2048x2048 main_cst
  let main_v38 : FVec F S8x2x2048x2048 .f32 := addf main_v37 main_v36
  let main_cst_0 : FVec F S_ .f32 := constant S_ .f32 0x3F800000#32
  let main_v39 : FVec F S8x2x2048x2048 .f32 := broadcastInDim S8x2x2048x2048 ![] bcast_S_S8x2x2048x2048 main_cst_0
  let main_v40 : FVec F S8x2x2048x2048 .f32 := Host.divf main_v39 main_v38
  let main_v41 : FVec F S8x2x2048x2048 .f32 := mulf main_v34 main_v40
  let main_v42 : FVec F S8x2x2048x96 .f32 := (fun l r => Host.dotGeneral dot_S8x2x2048x2048_S8x2048x96_S8x2x2048x96_3_1_12_2_0_0 none l r) main_v41 main_arg5
  let main_v43 : FVec F S8x2x2048x64 .f32 := (extractStridedSlice S8x2x2048x64 ![0, 0, 0, 0] · slices_S8x2x2048x96_S8x2x2048x64_0_0_0_0) main_v42
  let main_v44 : FVec F S8x2x2048x2048 .f32 := (fun l r => Host.dotGeneral dot_S8x2x2048x64_S8x64x2048_S8x2x2048x2048_3_1_12_2_0_0 none l r) main_v43 main_arg6
  fn_part2 (F := F) main_arg0 main_arg1 main_arg2 main_arg3 main_arg4 main_arg5 main_arg6 main_arg7 main_arg8 main_arg9 main_arg10 main_v44

def fn {F : FTy → Type} [FloatOps F] (main_arg0 : FVec F S2x2048x1024 .f32) (main_arg1 : FVec F S8x4096 .f32) (main_arg2 : FVec F S8x1024x4096 .f32) (main_arg3 : FVec F S8x2048x4 .f32) (main_arg4 : FVec F S8x2048 .f32) (main_arg5 : FVec F S8x2048x96 .f32) (main_arg6 : FVec F S8x64x2048 .f32) (main_arg7 : FVec F S8x2048 .f32) (main_arg8 : FVec F S8x2048x16 .f32) (main_arg9 : FVec F S8x2048 .f32) (main_arg10 : FVec F S8x2048x1024 .f32) : IVec S_ 1 :=
  let main_v0 : FVec F S8x4096x2x2048 .f32 := (fun l r => Host.dotGeneral dot_S8x1024x4096_S2x2048x1024_S8x4096x2x2048_1_2_02_01_n_n none l r) main_arg2 main_arg0
  let main_v1 : FVec F S8x2x2048x4096 .f32 := (transpose S8x2x2048x4096 [0, 2, 3, 1] · transposes_S8x4096x2x2048_S8x2x2048x4096_0_2_3_1) main_v0
  let main_v2 : FVec F S8x2x2048x2048 .f32 := (extractStridedSlice S8x2x2048x2048 ![0, 0, 0, 0] · slices_S8x2x2048x4096_S8x2x2048x2048_0_0_0_0) main_v1
  let main_v3 : FVec F S8x2x2048x2048 .f32 := (extractStridedSlice S8x2x2048x2048 ![0, 0, 0, 2048] · slices_S8x2x2048x4096_S8x2x2048x2048_0_0_0_2048) main_v1
  let main_c : IVec S_ 32 := constantI S_ 32 0#32
  let main_v4 : FVec F S8x2x2051x2048 .f32 := fn_pad (F := F) main_v2 main_c
  let main_v5 : FVec F S8x1x1x2048 .f32 := broadcastInDim S8x1x1x2048 ![0, 3] bcast_S8x2048_S8x1x1x2048_0_3 main_arg4
  let main_v6 : FVec F S8x2x2048x2048 .f32 := (extractStridedSlice S8x2x2048x2048 ![0, 0, 0, 0] · slices_S8x2x2051x2048_S8x2x2048x2048_0_0_0_0) main_v4
  let main_v7 : FVec F S8x2048x1 .f32 := (extractStridedSlice S8x2048x1 ![0, 0, 0] · slices_S8x2048x4_S8x2048x1_0_0_0) main_arg3
  let main_v8 : FVec F S8x2048 .f32 := shapeCast S8x2048 main_v7 shapeCasts_S8x2048x1_S8x2048
  let main_v9 : FVec F S8x1x1x2048 .f32 := broadcastInDim S8x1x1x2048 ![0, 3] bcast_S8x2048_S8x1x1x2048_0_3 main_v8
  let main_v10 : FVec F S8x2x2048x2048 .f32 := broadcastInDim S8x2x2048x2048 ![0, 1, 2, 3] bcast_S8x1x1x2048_S8x2x2048x2048_0_1_2_3 main_v9
  let main_v11 : FVec F S8x2x2048x2048 .f32 := mulf main_v6 main_v10
  let main_v12 : FVec F S8x2x2048x2048 .f32 := broadcastInDim S8x2x2048x2048 ![0, 1, 2, 3] bcast_S8x1x1x2048_S8x2x2048x2048_0_1_2_3 main_v5
  let main_v13 : FVec F S8x2x2048x2048 .f32 := addf main_v12 main_v11
  let main_v14 : FVec F S8x2x2048x2048 .f32 := (extractStridedSlice S8x2x2048x2048 ![0, 0, 1, 0] · slices_S8x2x2051x2048_S8x2x2048x2048_0_0_1_0) main_v4
  let main_v15 : FVec F S8x2048x1 .f32 := (extractStridedSlice S8x2048x1 ![0, 0, 1] · slices_S8x2048x4_S8x2048x1_0_0_1) main_arg3
  let main_v16 : FVec F S8x2048 .f32 := shapeCast S8x2048 main_v15 shapeCasts_S8x2048x1_S8x2048
  let main_v17 : FVec F S8x1x1x2048 .f32 := broadcastInDim S8x1x1x2048 ![0, 3] bcast_S8x2048_S8x1x1x2048_0_3 main_v16
  let main_v18 : FVec F S8x2x2048x2048 .f32 := broadcastInDim S8x2x2048x2048 ![0, 1, 2, 3] bcast_S8x1x1x2048_S8x2x2048x2048_0_1_2_3 main_v17
  let main_v19 : FVec F S8x2x2048x2048 .f32 := mulf main_v14 main_v18
  let main_v20 : FVec F S8x2x2048x2048 .f32 := addf main_v13 main_v19
  let main_v21 : FVec F S8x2x2048x2048 .f32 := (extractStridedSlice S8x2x2048x2048 ![0, 0, 2, 0] · slices_S8x2x2051x2048_S8x2x2048x2048_0_0_2_0) main_v4
  let main_v22 : FVec F S8x2048x1 .f32 := (extractStridedSlice S8x2048x1 ![0, 0, 2] · slices_S8x2048x4_S8x2048x1_0_0_2) main_arg3
  fn_part1 (F := F) main_arg0 main_arg1 main_arg2 main_arg3 main_arg4 main_arg5 main_arg6 main_arg7 main_arg8 main_arg9 main_arg10 main_v4 main_v20 main_v21 main_v22
-- ==== Kernel.lean ====
abbrev S2x2048x1024 : Shape := ⟨3, ![2, 2048, 1024]⟩
abbrev S8x1024 : Shape := ⟨2, ![8, 1024]⟩
abbrev S1024x8 : Shape := ⟨2, ![1024, 8]⟩
abbrev S_ : Shape := ⟨0, ![]⟩
abbrev S1024x128 : Shape := ⟨2, ![1024, 128]⟩
abbrev S8x4096 : Shape := ⟨2, ![8, 4096]⟩
abbrev S1x256x1024 : Shape := ⟨3, ![1, 256, 1024]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S2x8x128 : Shape := ⟨3, ![2, 8, 128]⟩
abbrev S2 : Shape := ⟨1, ![2]⟩
abbrev S1x8x128 : Shape := ⟨3, ![1, 8, 128]⟩
abbrev S8x128 : Shape := ⟨2, ![8, 128]⟩
abbrev S1 : Shape := ⟨1, ![1]⟩
abbrev S16 : Shape := ⟨1, ![16]⟩
abbrev S1x16 : Shape := ⟨2, ![1, 16]⟩
abbrev S8 : Shape := ⟨1, ![8]⟩
abbrev S8x1 : Shape := ⟨2, ![8, 1]⟩
abbrev S1x4096 : Shape := ⟨2, ![1, 4096]⟩
abbrev S1x1 : Shape := ⟨2, ![1, 1]⟩

abbrev nBuf : Table → Nat
  | .hbm => 54
  | .local .tc .vmem => 9
  | .local .scVector .vmem => 3
  | _ => 0

abbrev bufTy : (tb : Table) → Fin (nBuf tb) → BufTy
  | .hbm, ⟨0, _⟩ => ⟨S2x2048x1024, .f32⟩
  | .hbm, ⟨1, _⟩ => ⟨S8x1024, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S8x128, .f32⟩
  | .hbm, ⟨10, _⟩ => ⟨S8x128, .f32⟩
  | .hbm, ⟨11, _⟩ => ⟨S8x1, .f32⟩
  | .hbm, ⟨12, _⟩ => ⟨S8, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local .tc .vmem, ⟨0, _⟩ => ⟨S1x256x1024, .f32⟩
  | .local .tc .vmem, ⟨1, _⟩ => ⟨S1x256x1024, .f32⟩
  | .local .tc .vmem, ⟨2, _⟩ => ⟨S1024x128, .f32⟩
  | .local .tc .vmem, ⟨3, _⟩ => ⟨S8x256, .f32⟩
  | .local .tc .vmem, ⟨4, _⟩ => ⟨S8x256, .f32⟩
  | .local .tc .vmem, ⟨5, _⟩ => ⟨S8x4096, .f32⟩
  | .local .tc .vmem, ⟨6, _⟩ => ⟨S8x4096, .f32⟩
  | .local .tc .vmem, ⟨7, _⟩ => ⟨S8x128, .f32⟩
  | .local .tc .vmem, ⟨8, _⟩ => ⟨S8x128, .f32⟩
  | .local .scVector .vmem, ⟨0, _⟩ => ⟨S2x8x128, .f32⟩
  | .local .scVector .vmem, ⟨1, _⟩ => ⟨S2x8x128, .f32⟩
  | .local .scVector .vmem, ⟨2, _⟩ => ⟨S2x8x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_call1_v0 : Ref sig .tc := ⟨.hbm, 25, rfl⟩
abbrev main_v14 : Ref sig .tc := ⟨.hbm, 26, rfl⟩
abbrev main_c_4 : Ref sig .tc := ⟨.hbm, 27, rfl⟩
abbrev main_call2_call0_cst : Ref sig .tc := ⟨.hbm, 28, rfl⟩
abbrev main_call2_call0_v0 : Ref sig .tc := ⟨.hbm, 29, rfl⟩
abbrev main_call2_call0_v1 : Ref sig .tc := ⟨.hbm, 30, rfl⟩
abbrev main_call2_call0_cst_0 : Ref sig .tc := ⟨.hbm, 31, rfl⟩
abbrev main_call2_call0_v2 : Ref sig .tc := ⟨.hbm, 32, rfl⟩
abbrev main_call2_call0_v3 : Ref sig .tc := ⟨.hbm, 33, rfl⟩
abbrev main_call2_call0_v4 : Ref sig .tc := ⟨.hbm, 34, rfl⟩
abbrev main_call2_call0_v5 : Ref sig .tc := ⟨.hbm, 35, rfl⟩
abbrev main_call2_call0_v6 : Ref sig .tc := ⟨.hbm, 36, rfl⟩
abbrev main_call2_call0_v7 : Ref sig .tc := ⟨.hbm, 37, rfl⟩
abbrev main_call2_call0_cst_1 : Ref sig .tc := ⟨.hbm, 38, rfl⟩
abbrev main_call2_call0_v8 : Ref sig .tc := ⟨.hbm, 39, rfl⟩
abbrev main_call2_call0_cst_2 : Ref sig .tc := ⟨.hbm, 40, rfl⟩
abbrev main_call2_call0_v9 : Ref sig .tc := ⟨.hbm, 41, rfl⟩
abbrev main_call2_call0_v10 : Ref sig .tc := ⟨.hbm, 42, rfl⟩
abbrev main_call2_call0_cst_3 : Ref sig .tc := ⟨.hbm, 43, rfl⟩
abbrev main_call2_call0_v11 : Ref sig .tc := ⟨.hbm, 44, rfl⟩
abbrev main_call2_call0_cst_4 : Ref sig .tc := ⟨.hbm, 45, rfl⟩
abbrev main_call2_call0_call0_v0 : Ref sig .tc := ⟨.hbm, 46, rfl⟩
abbrev main_call2_v0 : Ref sig .tc := ⟨.hbm, 47, rfl⟩
abbrev main_v15 : Ref sig .tc := ⟨.hbm, 48, rfl⟩
abbrev main_v16 : Ref sig .tc := ⟨.hbm, 49, rfl⟩
abbrev main_cst_5 : Ref sig .tc := ⟨.hbm, 50, rfl⟩
abbrev main_v17 : Ref sig .tc := ⟨.hbm, 51, rfl⟩
abbrev main_cst_6 : Ref sig .tc := ⟨.hbm, 52, rfl⟩
abbrev main_v18 : Ref sig .tc := ⟨.hbm, 53, rfl⟩
abbrev main_v2_scv : Ref sig .scVector := ⟨.hbm, 6, rfl⟩
abbrev main_v3_0_scv : Ref sig .scVector := ⟨.hbm, 7, rfl⟩
abbrev main_v3_1_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc1_scoped0 : Ref sig .scVector := ⟨.vmem, 0, rfl⟩
abbrev cc1_scoped2 : Ref sig .scVector := ⟨.vmem, 1, rfl⟩
abbrev cc1_scoped4 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 11
abbrev cc2_sem1_0 : DmaSem sig := 12
abbrev cc2_sem2_0 : DmaSem sig := 13
abbrev cc2_sem3_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 : Fin 3 → Nat :=
  let c0_i32_20_r0 : BitVec 32 := 0#32
  let c2_i32_r0 : BitVec 32 := 2#32
  let v21_r0 : BitVec 32 := Scalar.remui c0_i32_20_r0 c2_i32_r0
  let c0_i32_21_r0 : BitVec 32 := 0#32
  let c0_i32_22_r0 : BitVec 32 := 0#32
  ![v21_r0.toNat, 0, 0]
def k1_off2 (i : grid1.Coords) : Fin 2 → Nat :=
  let c0_i32_23_r0 : BitVec 32 := 0#32
  let c128_i32_r0 : BitVec 32 := 128#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v8_r0 : BitVec 32 := Scalar.addi c0_i32_3_r0 v4
  let v22_r0 : BitVec 32 := Scalar.muli c128_i32_r0 v8_r0
  ![0, v22_r0.toNat]
def k1_off3 : Fin 1 → Nat :=
  let c0_i32_20_r0 : BitVec 32 := 0#32
  let c2_i32_r0 : BitVec 32 := 2#32
  let v21_r0 : BitVec 32 := Scalar.remui c0_i32_20_r0 c2_i32_r0
  ![v21_r0.toNat]
def k1_cond1 (i : grid1.Coords) : BitVec 1 :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_50_r0 : BitVec 32 := 0#32
  let v42_r0 : BitVec 32 := Scalar.addi c0_i32_50_r0 v4
  let v47_r0 : BitVec 1 := Scalar.cmpi .ne v34_r0 v42_r0
  let c0_i32_35_r0 : BitVec 32 := 0#32
  let c0_i32_57_r0 : BitVec 32 := 0#32
  let v48_r0 : BitVec 1 := Scalar.cmpi .sge c0_i32_35_r0 c0_i32_57_r0
  let true_58_r0 : BitVec 1 := 1#1
  let v49_r0 : BitVec 1 := Scalar.xori v48_r0 true_58_r0
  let v50_r0 : BitVec 1 := Scalar.andi v47_r0 v49_r0
  let true_59_r0 : BitVec 1 := 1#1
  let v51_r0 : BitVec 1 := Scalar.andi v50_r0 true_59_r0
  let v52_r0 : BitVec 32 := Scalar.extui v51_r0
  let c0_i32_60_r0 : BitVec 32 := 0#32
  let v53_r0 : BitVec 1 := Scalar.cmpi .ne v52_r0 c0_i32_60_r0
  v53_r0

def k1_off4 : Fin 3 → Nat :=
  let c0_i32_27_r0 : BitVec 32 := 0#32
  let c1_i32_28_r0 : BitVec 32 := 1#32
  let v31_r0 : BitVec 32 := Scalar.addi c0_i32_27_r0 c1_i32_28_r0
  let c2_i32_1103_r0 : BitVec 32 := 2#32
  let v2227_r0 : BitVec 32 := Scalar.remui v31_r0 c2_i32_1103_r0
  let c0_i32_1105_r0 : BitVec 32 := 0#32
  let c0_i32_1106_r0 : BitVec 32 := 0#32
  ![v2227_r0.toNat, 0, 0]
def k1_off5 (i : grid1.Coords) : Fin 2 → Nat :=
  let c0_i32_1107_r0 : BitVec 32 := 0#32
  let c128_i32_1104_r0 : BitVec 32 := 128#32
  let c0_i32_50_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v42_r0 : BitVec 32 := Scalar.addi c0_i32_50_r0 v4
  let v2228_r0 : BitVec 32 := Scalar.muli c128_i32_1104_r0 v42_r0
  ![0, v2228_r0.toNat]
def k1_off6 : Fin 1 → Nat :=
  let c0_i32_27_r0 : BitVec 32 := 0#32
  let c1_i32_28_r0 : BitVec 32 := 1#32
  let v31_r0 : BitVec 32 := Scalar.addi c0_i32_27_r0 c1_i32_28_r0
  let c2_i32_1103_r0 : BitVec 32 := 2#32
  let v2227_r0 : BitVec 32 := Scalar.remui v31_r0 c2_i32_1103_r0
  ![v2227_r0.toNat]
def k1_cond2 (i : grid1.Coords) : BitVec 1 :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_44_r0 : BitVec 32 := 0#32
  let v38_r0 : BitVec 32 := Scalar.addi c0_i32_44_r0 v4
  let v65_r0 : BitVec 1 := Scalar.cmpi .ne v34_r0 v38_r0
  let c0_i32_35_r0 : BitVec 32 := 0#32
  let c0_i32_36_r0 : BitVec 32 := 0#32
  let v32_r0 : BitVec 1 := Scalar.cmpi .eq c0_i32_35_r0 c0_i32_36_r0
  let v66_r0 : BitVec 1 := Scalar.ori v65_r0 v32_r0
  let c0_i32_67_r0 : BitVec 32 := 0#32
  let v67_r0 : BitVec 1 := Scalar.cmpi .sge c0_i32_35_r0 c0_i32_67_r0
  let v68_r0 : BitVec 1 := Scalar.andi v66_r0 v67_r0
  let v69_r0 : BitVec 32 := Scalar.extui v68_r0
  let c0_i32_68_r0 : BitVec 32 := 0#32
  let v70_r0 : BitVec 1 := Scalar.cmpi .ne v69_r0 c0_i32_68_r0
  v70_r0

def k1_off7 : Fin 3 → Nat :=
  let c0_i32_29_r0 : BitVec 32 := 0#32
  let c2_i32_1104_r0 : BitVec 32 := 2#32
  let v2228_r0 : BitVec 32 := Scalar.remui c0_i32_29_r0 c2_i32_1104_r0
  let c0_i32_1105_r0 : BitVec 32 := 0#32
  let c0_i32_1106_r0 : BitVec 32 := 0#32
  ![v2228_r0.toNat, 0, 0]
def k1_off8 (i : grid1.Coords) : Fin 2 → Nat :=
  let c0_i32_1107_r0 : BitVec 32 := 0#32
  let c128_i32_1103_r0 : BitVec 32 := 128#32
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let v2227_r0 : BitVec 32 := Scalar.muli c128_i32_1103_r0 v34_r0
  ![0, v2227_r0.toNat]
def k1_off9 : Fin 1 → Nat :=
  let c0_i32_29_r0 : BitVec 32 := 0#32
  let c2_i32_1104_r0 : BitVec 32 := 2#32
  let v2228_r0 : BitVec 32 := Scalar.remui c0_i32_29_r0 c2_i32_1104_r0
  ![v2228_r0.toNat]
def k1_cond6 (i : grid1.Coords) : BitVec 1 :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_50_r0 : BitVec 32 := 0#32
  let v42_r0 : BitVec 32 := Scalar.addi c0_i32_50_r0 v4
  let v2147_r0 : BitVec 1 := Scalar.cmpi .ne v34_r0 v42_r0
  let c0_i32_35_r0 : BitVec 32 := 0#32
  let c0_i32_37_r0 : BitVec 32 := 0#32
  let v33_r0 : BitVec 1 := Scalar.cmpi .eq c0_i32_35_r0 c0_i32_37_r0
  let v2148_r0 : BitVec 1 := Scalar.ori v2147_r0 v33_r0
  let v2149_r0 : BitVec 32 := Scalar.extui v2148_r0
  let c0_i32_1039_r0 : BitVec 32 := 0#32
  let v2150_r0 : BitVec 1 := Scalar.cmpi .ne v2149_r0 c0_i32_1039_r0
  v2150_r0

def k1_off10 : Fin 3 → Nat :=
  let c0_i32_30_r0 : BitVec 32 := 0#32
  let c2_i32_1103_r0 : BitVec 32 := 2#32
  let v2227_r0 : BitVec 32 := Scalar.remui c0_i32_30_r0 c2_i32_1103_r0
  let c0_i32_1105_r0 : BitVec 32 := 0#32
  let c0_i32_1106_r0 : BitVec 32 := 0#32
  ![v2227_r0.toNat, 0, 0]
def k1_off11 (i : grid1.Coords) : Fin 2 → Nat :=
  let c0_i32_1107_r0 : BitVec 32 := 0#32
  let c128_i32_1104_r0 : BitVec 32 := 128#32
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let v2228_r0 : BitVec 32 := Scalar.muli c128_i32_1104_r0 v34_r0
  ![0, v2228_r0.toNat]
def k1_off12 : Fin 1 → Nat :=
  let c0_i32_30_r0 : BitVec 32 := 0#32
  let c2_i32_1103_r0 : BitVec 32 := 2#32
  let v2227_r0 : BitVec 32 := Scalar.remui c0_i32_30_r0 c2_i32_1103_r0
  ![v2227_r0.toNat]
def k1_cond7 (i : grid1.Coords) : BitVec 1 :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_50_r0 : BitVec 32 := 0#32
  let v42_r0 : BitVec 32 := Scalar.addi c0_i32_50_r0 v4
  let v2154_r0 : BitVec 1 := Scalar.cmpi .ne v34_r0 v42_r0
  let c0_i32_35_r0 : BitVec 32 := 0#32
  let c0_i32_37_r0 : BitVec 32 := 0#32
  let v33_r0 : BitVec 1 := Scalar.cmpi .eq c0_i32_35_r0 c0_i32_37_r0
  let v2155_r0 : BitVec 1 := Scalar.ori v2154_r0 v33_r0
  let v2156_r0 : BitVec 32 := Scalar.extui v2155_r0
  let c0_i32_1042_r0 : BitVec 32 := 0#32
  let v2157_r0 : BitVec 1 := Scalar.cmpi .ne v2156_r0 c0_i32_1042_r0
  v2157_r0

def k1_off13 : Fin 3 → Nat :=
  let c0_i32_32_r0 : BitVec 32 := 0#32
  let c2_i32_1103_r0 : BitVec 32 := 2#32
  let v2227_r0 : BitVec 32 := Scalar.remui c0_i32_32_r0 c2_i32_1103_r0
  let c0_i32_1105_r0 : BitVec 32 := 0#32
  let c0_i32_1106_r0 : BitVec 32 := 0#32
  ![v2227_r0.toNat, 0, 0]
def k1_off14 (i : grid1.Coords) : Fin 2 → Nat :=
  let c0_i32_1107_r0 : BitVec 32 := 0#32
  let c128_i32_1104_r0 : BitVec 32 := 128#32
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let v2228_r0 : BitVec 32 := Scalar.muli c128_i32_1104_r0 v34_r0
  ![0, v2228_r0.toNat]
def k1_off15 : Fin 1 → Nat :=
  let c0_i32_32_r0 : BitVec 32 := 0#32
  let c2_i32_1103_r0 : BitVec 32 := 2#32
  let v2227_r0 : BitVec 32 := Scalar.remui c0_i32_32_r0 c2_i32_1103_r0
  ![v2227_r0.toNat]
def k1_cond9 (i : grid1.Coords) : BitVec 1 :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_44_r0 : BitVec 32 := 0#32
  let v38_r0 : BitVec 32 := Scalar.addi c0_i32_44_r0 v4
  let v2167_r0 : BitVec 1 := Scalar.cmpi .ne v34_r0 v38_r0
  let c0_i32_35_r0 : BitVec 32 := 0#32
  let c0_i32_36_r0 : BitVec 32 := 0#32
  let v32_r0 : BitVec 1 := Scalar.cmpi .eq c0_i32_35_r0 c0_i32_36_r0
  let true_1048_r0 : BitVec 1 := 1#1
  let v2168_r0 : BitVec 1 := Scalar.xori v32_r0 true_1048_r0
  let v2169_r0 : BitVec 1 := Scalar.andi v2167_r0 v2168_r0
  let v2170_r0 : BitVec 32 := Scalar.extui v2169_r0
  let c0_i32_1049_r0 : BitVec 32 := 0#32
  let v2171_r0 : BitVec 1 := Scalar.cmpi .ne v2170_r0 c0_i32_1049_r0
  v2171_r0

def k1_off16 : Fin 3 → Nat :=
  let c0_i32_31_r0 : BitVec 32 := 0#32
  let c2_i32_1103_r0 : BitVec 32 := 2#32
  let v2227_r0 : BitVec 32 := Scalar.remui c0_i32_31_r0 c2_i32_1103_r0
  let c0_i32_1105_r0 : BitVec 32 := 0#32
  let c0_i32_1106_r0 : BitVec 32 := 0#32
  ![v2227_r0.toNat, 0, 0]
def k1_off17 (i : grid1.Coords) : Fin 2 → Nat :=
  let c0_i32_1107_r0 : BitVec 32 := 0#32
  let c128_i32_1104_r0 : BitVec 32 := 128#32
  let c0_i32_44_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v38_r0 : BitVec 32 := Scalar.addi c0_i32_44_r0 v4
  let v2228_r0 : BitVec 32 := Scalar.muli c128_i32_1104_r0 v38_r0
  ![0, v2228_r0.toNat]
def k1_off18 : Fin 1 → Nat :=
  let c0_i32_31_r0 : BitVec 32 := 0#32
  let c2_i32_1103_r0 : BitVec 32 := 2#32
  let v2227_r0 : BitVec 32 := Scalar.remui c0_i32_31_r0 c2_i32_1103_r0
  ![v2227_r0.toNat]
def k1_cond10 (i : grid1.Coords) : BitVec 1 :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_44_r0 : BitVec 32 := 0#32
  let v38_r0 : BitVec 32 := Scalar.addi c0_i32_44_r0 v4
  let v2175_r0 : BitVec 1 := Scalar.cmpi .ne v34_r0 v38_r0
  let c0_i32_35_r0 : BitVec 32 := 0#32
  let c0_i32_36_r0 : BitVec 32 := 0#32
  let v32_r0 : BitVec 1 := Scalar.cmpi .eq c0_i32_35_r0 c0_i32_36_r0
  let true_1052_r0 : BitVec 1 := 1#1
  let v2176_r0 : BitVec 1 := Scalar.xori v32_r0 true_1052_r0
  let v2177_r0 : BitVec 1 := Scalar.andi v2175_r0 v2176_r0
  let v2178_r0 : BitVec 32 := Scalar.extui v2177_r0
  let c0_i32_1053_r0 : BitVec 32 := 0#32
  let v2179_r0 : BitVec 1 := Scalar.cmpi .ne v2178_r0 c0_i32_1053_r0
  v2179_r0

def k1_off19 : Fin 3 → Nat :=
  let c0_i32_33_r0 : BitVec 32 := 0#32
  let c2_i32_1103_r0 : BitVec 32 := 2#32
  let v2227_r0 : BitVec 32 := Scalar.remui c0_i32_33_r0 c2_i32_1103_r0
  let c0_i32_1105_r0 : BitVec 32 := 0#32
  let c0_i32_1106_r0 : BitVec 32 := 0#32
  ![v2227_r0.toNat, 0, 0]
def k1_off20 (i : grid1.Coords) : Fin 2 → Nat :=
  let c0_i32_1107_r0 : BitVec 32 := 0#32
  let c128_i32_1104_r0 : BitVec 32 := 128#32
  let c0_i32_44_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v38_r0 : BitVec 32 := Scalar.addi c0_i32_44_r0 v4
  let v2228_r0 : BitVec 32 := Scalar.muli c128_i32_1104_r0 v38_r0
  ![0, v2228_r0.toNat]
def k1_off21 : Fin 1 → Nat :=
  let c0_i32_33_r0 : BitVec 32 := 0#32
  let c2_i32_1103_r0 : BitVec 32 := 2#32
  let v2227_r0 : BitVec 32 := Scalar.remui c0_i32_33_r0 c2_i32_1103_r0
  ![v2227_r0.toNat]
def k1_off22 (i : grid1.Coords) : Fin 3 → Nat :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_44_r0 : BitVec 32 := 0#32
  let v38_r0 : BitVec 32 := Scalar.addi c0_i32_44_r0 v4
  let v2167_r0 : BitVec 1 := Scalar.cmpi .ne v34_r0 v38_r0
  let c0_i32_35_r0 : BitVec 32 := 0#32
  let c0_i32_36_r0 : BitVec 32 := 0#32
  let v32_r0 : BitVec 1 := Scalar.cmpi .eq c0_i32_35_r0 c0_i32_36_r0
  let true_1048_r0 : BitVec 1 := 1#1
  let v2168_r0 : BitVec 1 := Scalar.xori v32_r0 true_1048_r0
  let v2169_r0 : BitVec 1 := Scalar.andi v2167_r0 v2168_r0
  let true_1050_r0 : BitVec 1 := 1#1
  let v2172_r0 : BitVec 1 := Scalar.andi v2169_r0 true_1050_r0
  let c0_i32_31_r0 : BitVec 32 := 0#32
  let c1_i32_1051_r0 : BitVec 32 := 1#32
  let v2173_r0 : BitVec 32 := Scalar.addi c0_i32_31_r0 c1_i32_1051_r0
  let v2174_r0 : BitVec 32 := Scalar.select v2172_r0 v2173_r0 c0_i32_31_r0
  let c2_i32_1087_r0 : BitVec 32 := 2#32
  let v2207_r0 : BitVec 32 := Scalar.remui v2174_r0 c2_i32_1087_r0
  let c0_i32_1089_r0 : BitVec 32 := 0#32
  let c0_i32_1090_r0 : BitVec 32 := 0#32
  ![v2207_r0.toNat, 0, 0]
def k1_off23 (i : grid1.Coords) : Fin 1 → Nat :=
  let c0_i32_38_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v34_r0 : BitVec 32 := Scalar.addi c0_i32_38_r0 v4
  let c0_i32_44_r0 : BitVec 32 := 0#32
  let v38_r0 : BitVec 32 := Scalar.addi c0_i32_44_r0 v4
  let v2167_r0 : BitVec 1 := Scalar.cmpi .ne v34_r0 v38_r0
  let c0_i32_35_r0 : BitVec 32 := 0#32
  let c0_i32_36_r0 : BitVec 32 := 0#32
  let v32_r0 : BitVec 1 := Scalar.cmpi .eq c0_i32_35_r0 c0_i32_36_r0
  let true_1048_r0 : BitVec 1 := 1#1
  let v2168_r0 : BitVec 1 := Scalar.xori v32_r0 true_1048_r0
  let v2169_r0 : BitVec 1 := Scalar.andi v2167_r0 v2168_r0
  let true_1050_r0 : BitVec 1 := 1#1
  let v2172_r0 : BitVec 1 := Scalar.andi v2169_r0 true_1050_r0
  let c0_i32_31_r0 : BitVec 32 := 0#32
  let c1_i32_1051_r0 : BitVec 32 := 1#32
  let v2173_r0 : BitVec 32 := Scalar.addi c0_i32_31_r0 c1_i32_1051_r0
  let v2174_r0 : BitVec 32 := Scalar.select v2172_r0 v2173_r0 c0_i32_31_r0
  let c2_i32_1087_r0 : BitVec 32 := 2#32
  let v2207_r0 : BitVec 32 := Scalar.remui v2174_r0 c2_i32_1087_r0
  ![v2207_r0.toNat]
abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S8x1024 : Shape := ⟨2, ![8, 1024]⟩
abbrev S1024x8 : Shape := ⟨2, ![1024, 8]⟩
abbrev S2x2048x8 : Shape := ⟨3, ![2, 2048, 8]⟩
abbrev S2x2048x2 : Shape := ⟨3, ![2, 2048, 2]⟩
abbrev S_ : Shape := ⟨0, ![]⟩
abbrev S2x2048 : Shape := ⟨2, ![2, 2048]⟩
abbrev S2x2048x1 : Shape := ⟨3, ![2, 2048, 1]⟩
abbrev S8 : Shape := ⟨1, ![8]⟩
abbrev S4096 : Shape := ⟨1, ![4096]⟩
abbrev S4096x1 : Shape := ⟨2, ![4096, 1]⟩
abbrev S1 : Shape := ⟨1, ![1]⟩
abbrev S8x1x1x1 : Shape := ⟨4, ![8, 1, 1, 1]⟩
abbrev S1x2x2048x2 : Shape := ⟨4, ![1, 2, 2048, 2]⟩
abbrev S8x2x2048x2 : Shape := ⟨4, ![8, 2, 2048, 2]⟩
abbrev S8x2x2048 : Shape := ⟨3, ![8, 2, 2048]⟩
abbrev S8x4096 : Shape := ⟨2, ![8, 4096]⟩

abbrev nBuf : Space → Nat
  | .hbm => 139
  | .vmem => 0
  | .smem => 0
  | _ => 0

abbrev hbmTy0_0 (i : Nat) : BufTy := match i % 128 with
  | 0 => ⟨S2x2048x1024, .f32⟩
  | 1 => ⟨S8x1024, .f32⟩
  | 2 => ⟨S1024x8, .f32⟩
  | 3 => ⟨S2x2048x8, .f32⟩
  | 4 => ⟨S2x2048x2, .f32⟩
  | 5 => ⟨S2x2048x2, .i32⟩
  | 6 => ⟨S_, .f32⟩
  | 7 => ⟨S2x2048, .f32⟩
  | 8 => ⟨S_, .f32⟩
  | 9 => ⟨S2x2048, .f32⟩
  | 10 => ⟨S2x2048, .f32⟩
  | 11 => ⟨S2x2048x1, .f32⟩
  | 12 => ⟨S2x2048x2, .f32⟩
  | 13 => ⟨S2x2048x2, .f32⟩
  | 14 => ⟨S2x2048x2, .f32⟩
  | 15 => ⟨S_, .f32⟩
  | 16 => ⟨S2x2048, .f32⟩
  | 17 => ⟨S2x2048x1, .f32⟩
  | 18 => ⟨S2x2048x2, .f32⟩
  | 19 => ⟨S2x2048x2, .f32⟩
  | 20 => ⟨S_, .f32⟩
  | 21 => ⟨S8, .f32⟩
  | 22 => ⟨S2x2048x1, .i32⟩
  | 23 => ⟨S2x2048, .i32⟩
  | 24 => ⟨S4096, .i32⟩
  | 25 => ⟨S2x2048x1, .f32⟩
  | 26 => ⟨S2x2048, .f32⟩
  | 27 => ⟨S4096, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S8, .f32⟩
  | 37 => ⟨S2x2048x1, .i32⟩
  | 38 => ⟨S2x2048, .i32⟩
  | 39 => ⟨S4096, .i32⟩
  | 40 => ⟨S2x2048x1, .f32⟩
  | 41 => ⟨S2x2048, .f32⟩
  | 42 => ⟨S4096, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S8, .f32⟩
  | 52 => ⟨S_, .f32⟩
  | 53 => ⟨S8, .f32⟩
  | 54 => ⟨S8, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i32⟩
  | 63 => ⟨S_, .f32⟩
  | 64 => ⟨S_, .f32⟩
  | 65 => ⟨S1, .f32⟩
  | 66 => ⟨S_, .f32⟩
  | 67 => ⟨S1, .f32⟩
  | 68 => ⟨S1, .f32⟩
  | 69 => ⟨S8, .f32⟩
  | 70 => ⟨S8, .f32⟩
  | 71 => ⟨S8, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S2x2048, .f32⟩
  | 91 => ⟨S_, .f32⟩
  | 92 => ⟨S2x2048, .f32⟩
  | 93 => ⟨S2x2048, .f32⟩
  | 94 => ⟨S2x2048x1, .f32⟩
  | 95 => ⟨S2x2048x2, .f32⟩
  | 96 => ⟨S2x2048x2, .f32⟩
  | 97 => ⟨S2x2048x2, .f32⟩
  | 98 => ⟨S_, .f32⟩
  | 99 => ⟨S2x2048, .f32⟩
  | 100 => ⟨S2x2048x1, .f32⟩
  | 101 => ⟨S2x2048x2, .f32⟩
  | 102 => ⟨S2x2048x2, .f32⟩
  | 103 => ⟨S_, .f32⟩
  | 104 => ⟨S2x2048, .f32⟩
  | 105 => ⟨S_, .f32⟩
  | 106 => ⟨S2x2048, .f32⟩
  | 107 => ⟨S2x2048, .f32⟩
  | 108 => ⟨S2x2048x1, .f32⟩
  | 109 => ⟨S2x2048x2, .f32⟩
  | 110 => ⟨S2x2048x2, .f32⟩
  | 111 => ⟨S2x2048x2, .f32⟩
  | 112 => ⟨S_, .f32⟩
  | 113 => ⟨S2x2048, .f32⟩
  | 114 => ⟨S2x2048x1, .f32⟩
  | 115 => ⟨S2x2048x1, .f32⟩
  | 116 => ⟨S2x2048x2, .f32⟩
  | 117 => ⟨S2x2048x2, .f32⟩
  | 118 => ⟨S2x2048x2, .f32⟩
  | 119 => ⟨S_, .f32⟩
  | 120 => ⟨S2x2048, .f32⟩
  | 121 => ⟨S_, .f32⟩
  | 122 => ⟨S_, .f32⟩
  | 123 => ⟨S_, .f32⟩
  | 124 => ⟨S_, .f32⟩
  | 125 => ⟨S_, .f32⟩
  | 126 => ⟨S8, .i32⟩
  | 127 => ⟨S8x1x1x1, .i32⟩
  | _ => ⟨S2x2048x1024, .f32⟩

abbrev hbmTy0_1 (i : Nat) : BufTy := match i % 128 with
  | 0 => ⟨S1x2x2048x2, .i32⟩
  | 1 => ⟨S8x2x2048x2, .i32⟩
  | 2 => ⟨S8x2x2048x2, .i32⟩
  | 3 => ⟨S8x2x2048x2, .i1⟩
  | 4 => ⟨S8x2x2048x2, .f32⟩
  | 5 => ⟨S1x2x2048x2, .f32⟩
  | 6 => ⟨S8x2x2048x2, .f32⟩
  | 7 => ⟨S8x2x2048x2, .f32⟩
  | 8 => ⟨S_, .f32⟩
  | 9 => ⟨S8x2x2048, .f32⟩
  | 10 => ⟨S8x4096, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_cst_9 : Ref sig .tc := ⟨.hbm, 59, rfl⟩
abbrev main_call0_v0 : Ref sig .tc := ⟨.hbm, 60, rfl⟩
abbrev main_v44 : Ref sig .tc := ⟨.hbm, 61, rfl⟩
abbrev main_c_10 : Ref sig .tc := ⟨.hbm, 62, rfl⟩
abbrev main_call1_call0_cst : Ref sig .tc := ⟨.hbm, 63, rfl⟩
abbrev main_call1_call0_v0 : Ref sig .tc := ⟨.hbm, 64, rfl⟩
abbrev main_call1_call0_v1 : Ref sig .tc := ⟨.hbm, 65, rfl⟩
abbrev main_call1_call0_cst_0 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_cst_1 : Ref sig .tc := ⟨.hbm, 73, rfl⟩
abbrev main_call1_call0_v8 : Ref sig .tc := ⟨.hbm, 74, rfl⟩
abbrev main_call1_call0_cst_2 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_cst_3 : Ref sig .tc := ⟨.hbm, 78, rfl⟩
abbrev main_call1_call0_v11 : Ref sig .tc := ⟨.hbm, 79, rfl⟩
abbrev main_call1_call0_cst_4 : Ref sig .tc := ⟨.hbm, 80, rfl⟩
abbrev main_call1_call0_call0_v0 : Ref sig .tc := ⟨.hbm, 81, rfl⟩
abbrev main_call1_v0 : Ref sig .tc := ⟨.hbm, 82, rfl⟩
abbrev main_v45 : Ref sig .tc := ⟨.hbm, 83, rfl⟩
abbrev main_v46 : Ref sig .tc := ⟨.hbm, 84, rfl⟩
abbrev main_cst_11 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_cst_13 : Ref sig .tc := ⟨.hbm, 89, rfl⟩
abbrev main_v49 : Ref sig .tc := ⟨.hbm, 90, rfl⟩
abbrev main_cst_14 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_15 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_call2_cst : Ref sig .tc := ⟨.hbm, 103, rfl⟩
abbrev main_call2_v0 : Ref sig .tc := ⟨.hbm, 104, rfl⟩
abbrev main_call2_cst_0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_cst_1 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_v60 : Ref sig .tc := ⟨.hbm, 117, rfl⟩
abbrev main_v61 : Ref sig .tc := ⟨.hbm, 118, rfl⟩
abbrev main_cst_16 : Ref sig .tc := ⟨.hbm, 119, rfl⟩
abbrev main_v62 : Ref sig .tc := ⟨.hbm, 120, rfl⟩
abbrev main_cst_17 : Ref sig .tc := ⟨.hbm, 121, rfl⟩
abbrev main_v63 : Ref sig .tc := ⟨.hbm, 122, rfl⟩
abbrev main_cst_18 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_19 : Ref sig .tc := ⟨.hbm, 136, rfl⟩
abbrev main_v76 : Ref sig .tc := ⟨.hbm, 137, rfl⟩
abbrev main_v77 : Ref sig .tc := ⟨.hbm, 138, rfl⟩

abbrev nD : Nat := 1
abbrev τ : Topo := Topo.v7x

variable {F : FTy → Type} [FloatOps F]
-- ==== Experts.lean ====
abbrev S2x2048x1024 : Shape := ⟨3, ![2, 2048, 1024]⟩
abbrev S8x4096 : Shape := ⟨2, ![8, 4096]⟩
abbrev S8x1024x4096 : Shape := ⟨3, ![8, 1024, 4096]⟩
abbrev S8x2048x4 : Shape := ⟨3, ![8, 2048, 4]⟩
abbrev S8x2048 : Shape := ⟨2, ![8, 2048]⟩
abbrev S8x2048x96 : Shape := ⟨3, ![8, 2048, 96]⟩
abbrev S8x64x2048 : Shape := ⟨3, ![8, 64, 2048]⟩
abbrev S8x2048x16 : Shape := ⟨3, ![8, 2048, 16]⟩
abbrev S8x2048x1024 : Shape := ⟨3, ![8, 2048, 1024]⟩
abbrev S8x4x2048 : Shape := ⟨3, ![8, 4, 2048]⟩
abbrev S_ : Shape := ⟨0, ![]⟩
abbrev S8x8x2048 : Shape := ⟨3, ![8, 8, 2048]⟩
abbrev S8x1x2048 : Shape := ⟨3, ![8, 1, 2048]⟩
abbrev S8x2048x64 : Shape := ⟨3, ![8, 2048, 64]⟩
abbrev S8x2048x128 : Shape := ⟨3, ![8, 2048, 128]⟩
abbrev S8x2048x384 : Shape := ⟨3, ![8, 2048, 384]⟩
abbrev S8x128x2048 : Shape := ⟨3, ![8, 128, 2048]⟩
abbrev S8x16x2048 : Shape := ⟨3, ![8, 16, 2048]⟩
abbrev S8x2x2048 : Shape := ⟨3, ![8, 2, 2048]⟩
abbrev S2x8x2048 : Shape := ⟨3, ![2, 8, 2048]⟩
abbrev S1x256x1024 : Shape := ⟨3, ![1, 256, 1024]⟩
abbrev S1x1024x4096 : Shape := ⟨3, ![1, 1024, 4096]⟩
abbrev S1x8x2048 : Shape := ⟨3, ![1, 8, 2048]⟩
abbrev S1x1x2048 : Shape := ⟨3, ![1, 1, 2048]⟩
abbrev S1x2048x384 : Shape := ⟨3, ![1, 2048, 384]⟩
abbrev S1x128x2048 : Shape := ⟨3, ![1, 128, 2048]⟩
abbrev S1x16x2048 : Shape := ⟨3, ![1, 16, 2048]⟩
abbrev S1x2048x1024 : Shape := ⟨3, ![1, 2048, 1024]⟩
abbrev S1x8x256 : Shape := ⟨3, ![1, 8, 256]⟩
abbrev S264x2048 : Shape := ⟨2, ![264, 2048]⟩
abbrev S264x16 : Shape := ⟨2, ![264, 16]⟩
abbrev S256x2048 : Shape := ⟨2, ![256, 2048]⟩
abbrev S16x2048 : Shape := ⟨2, ![16, 2048]⟩
abbrev S256x1024 : Shape := ⟨2, ![256, 1024]⟩
abbrev S1024x4096 : Shape := ⟨2, ![1024, 4096]⟩
abbrev S256x4096 : Shape := ⟨2, ![256, 4096]⟩
abbrev S3x2048 : Shape := ⟨2, ![3, 2048]⟩
abbrev S1x2048 : Shape := ⟨2, ![1, 2048]⟩
abbrev S2048x384 : Shape := ⟨2, ![2048, 384]⟩
abbrev S256x384 : Shape := ⟨2, ![256, 384]⟩
abbrev S256x128 : Shape := ⟨2, ![256, 128]⟩
abbrev S128x2048 : Shape := ⟨2, ![128, 2048]⟩
abbrev S256x16 : Shape := ⟨2, ![256, 16]⟩
abbrev S16x16 : Shape := ⟨2, ![16, 16]⟩
abbrev S1x16 : Shape := ⟨2, ![1, 16]⟩
abbrev S16 : Shape := ⟨1, ![16]⟩
abbrev S16x1 : Shape := ⟨2, ![16, 1]⟩
abbrev S2048 : Shape := ⟨1, ![2048]⟩
abbrev S1x1x256 : Shape := ⟨3, ![1, 1, 256]⟩
abbrev S1x256 : Shape := ⟨2, ![1, 256]⟩
abbrev S256x1 : Shape := ⟨2, ![256, 1]⟩
abbrev S2048x1024 : Shape := ⟨2, ![2048, 1024]⟩

abbrev nBuf : Space → Nat
  | .hbm => 45
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S8x4096, .f32⟩
  | .hbm, ⟨2, _⟩ => ⟨S8x1024x4096, .f32⟩
  | .hbm, ⟨3, _⟩ => ⟨S8x2048x4, .f32⟩
  | .hbm, ⟨4, _⟩ => ⟨S8x2048, .f32⟩
  | .hbm, ⟨5, _⟩ => ⟨S8x2048x96, .f32⟩
  | .hbm, ⟨6, _⟩ => ⟨S8x64x2048, .f32⟩
  | .hbm, ⟨7, _⟩ => ⟨S8x2048, .f32⟩
  | .hbm, ⟨8, _⟩ => ⟨S8x2048x16, .f32⟩
  | .hbm, ⟨9, _⟩ => ⟨S8x2048, .f32⟩
  | .hbm, ⟨10, _⟩ => ⟨S8x2048x1024, .f32⟩
  | .hbm, ⟨11, _⟩ => ⟨S8x1024x4096, .bf16⟩
  | .hbm, ⟨12, _⟩ => ⟨S8x4x2048, .f32⟩
  | .hbm, ⟨13, _⟩ => ⟨S_, .i32⟩
  | .hbm, ⟨14, _⟩ => ⟨S_, .f32⟩
  | .hbm, ⟨15, _⟩ => ⟨S8x8x2048, .f32⟩
  | .hbm, ⟨16, _⟩ => ⟨S8x1x2048, .f32⟩
  | .hbm, ⟨17, _⟩ => ⟨S8x2048x64, .f32⟩
  | .hbm, ⟨18, _⟩ => ⟨S_, .i32⟩
  | .hbm, ⟨19, _⟩ => ⟨S_, .f32⟩
  | .hbm, ⟨20, _⟩ => ⟨S8x2048x128, .f32⟩
  | .hbm, ⟨21, _⟩ => ⟨S8x2048x16, .f32⟩
  | .hbm, ⟨22, _⟩ => ⟨S_, .i32⟩
  | .hbm, ⟨23, _⟩ => ⟨S_, .f32⟩
  | .hbm, ⟨24, _⟩ => ⟨S8x2048x128, .f32⟩
  | .hbm, ⟨25, _⟩ => ⟨S8x2048x16, .f32⟩
  | .hbm, ⟨26, _⟩ => ⟨S_, .i32⟩
  | .hbm, ⟨27, _⟩ => ⟨S_, .f32⟩
  | .hbm, ⟨28, _⟩ => ⟨S8x2048x128, .f32⟩
  | .hbm, ⟨29, _⟩ => ⟨S8x2048x384, .f32⟩
  | .hbm, ⟨30, _⟩ => ⟨S8x2048x384, .bf16⟩
  | .hbm, ⟨31, _⟩ => ⟨S_, .i32⟩
  | .hbm, ⟨32, _⟩ => ⟨S_, .f32⟩
  | .hbm, ⟨33, _⟩ => ⟨S8x128x2048, .f32⟩
  | .hbm, ⟨34, _⟩ => ⟨S8x128x2048, .bf16⟩
  | .hbm, ⟨35, _⟩ => ⟨S8x1x2048, .f32⟩
  | .hbm, ⟨36, _⟩ => ⟨S8x2048x16, .f32⟩
  | .hbm, ⟨37, _⟩ => ⟨S8x2048x16, .f32⟩
  | .hbm, ⟨38, _⟩ => ⟨S8x16x2048, .f32⟩
  | .hbm, ⟨39, _⟩ => ⟨S8x1x2048, .f32⟩
  | .hbm, ⟨40, _⟩ => ⟨S8x2048x1024, .bf16⟩
  | .hbm, ⟨41, _⟩ => ⟨S2x2048x1024, .bf16⟩
  | .hbm, ⟨42, _⟩ => ⟨S8x2x2048, .f32⟩
  | .hbm, ⟨43, _⟩ => ⟨S2x8x2048, .f32⟩
  | .hbm, ⟨44, _⟩ => ⟨S2x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x8x2048, .f32⟩
  | .local _ .vmem, ⟨5, _⟩ => ⟨S1x8x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x384, .bf16⟩
  | .local _ .vmem, ⟨9, _⟩ => ⟨S1x2048x384, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x1x2048, .f32⟩
  | .local _ .vmem, ⟨13, _⟩ => ⟨S1x1x2048, .f32⟩
  | .local _ .vmem, ⟨14, _⟩ => ⟨S1x16x2048, .f32⟩
  | .local _ .vmem, ⟨15, _⟩ => ⟨S1x16x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x2048x1024, .bf16⟩
  | .local _ .vmem, ⟨19, _⟩ => ⟨S1x2048x1024, .bf16⟩
  | .local _ .vmem, ⟨20, _⟩ => ⟨S1x8x256, .f32⟩
  | .local _ .vmem, ⟨21, _⟩ => ⟨S1x8x256, .f32⟩
  | .local _ .vmem, ⟨22, _⟩ => ⟨S2x2048x1024, .f32⟩
  | .local _ .vmem, ⟨23, _⟩ => ⟨S264x2048, .f32⟩
  | .local _ .vmem, ⟨24, _⟩ => ⟨S264x2048, .f32⟩
  | .local _ .vmem, ⟨25, _⟩ => ⟨S264x2048, .f32⟩
  | .local _ .vmem, ⟨26, _⟩ => ⟨S264x16, .f32⟩
  | .local _ .vmem, ⟨27, _⟩ => ⟨S264x16, .f32⟩
  | .local _ .vmem, ⟨28, _⟩ => ⟨S256x2048, .f32⟩
  | .local _ .vmem, ⟨29, _⟩ => ⟨S16x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_call3_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_call4_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨3, ![8, 2, 8], ![false, false, false]⟩

@[reducible] def k0_t1_loop : Scf.Loop 32 :=
  let c0_i32_60 : BitVec 32 := 0#32
  let c64_i32 : BitVec 32 := 64#32
  let v100 : BitVec 32 := Scalar.addi c0_i32_60 c64_i32
  let c1_i32 : BitVec 32 := 1#32
  ⟨c0_i32_60, v100, c1_i32⟩
def k0_off1 (k0_t1 : Fin k0_t1_loop.trips) (c0_i32_79 : BitVec 32) : Fin 2 → Nat :=
  let c4_i32 : BitVec 32 := 4#32
  let c0_i32_60 : BitVec 32 := 0#32
  let c1_i32 : BitVec 32 := 1#32
  let arg22 : BitVec 32 := Scf.iv c0_i32_60 c1_i32 k0_t1
  let v131 : BitVec 32 := Scalar.muli c4_i32 arg22
  let v132 : BitVec 32 := Scalar.addi v131 c0_i32_79
  let v133 : Index := Scalar.indexCast v132
  let c0_80 : Index := 0#32
  ![v133.toNat, 0]
def k0_off2 (k0_t1 : Fin k0_t1_loop.trips) (c0_i32_79 : BitVec 32) : Fin 2 → Nat :=
  let c4_i32 : BitVec 32 := 4#32
  let c0_i32_60 : BitVec 32 := 0#32
  let c1_i32 : BitVec 32 := 1#32
  let arg22 : BitVec 32 := Scf.iv c0_i32_60 c1_i32 k0_t1
  let v131 : BitVec 32 := Scalar.muli c4_i32 arg22
  let v132 : BitVec 32 := Scalar.addi v131 c0_i32_79
  let v140 : Index := Scalar.indexCast v132
  let c0_82 : Index := 0#32
  ![v140.toNat, 0]
def k0_off3 (k0_t1 : Fin k0_t1_loop.trips) (c0_i32_79 : BitVec 32) : Fin 2 → Nat :=
  let c4_i32 : BitVec 32 := 4#32
  let c0_i32_60 : BitVec 32 := 0#32
  let c1_i32 : BitVec 32 := 1#32
  let arg22 : BitVec 32 := Scf.iv c0_i32_60 c1_i32 k0_t1
  let v131 : BitVec 32 := Scalar.muli c4_i32 arg22
  let v132 : BitVec 32 := Scalar.addi v131 c0_i32_79
  let v165 : Index := Scalar.indexCast v132
  let c0_89 : Index := 0#32
  ![v165.toNat, 0]
def k0_off4 (i : grid0.Coords) : Fin 3 → Nat :=
  let c0_69 : Index := 0#32
  let arg0 : BitVec 32 := BitVec.ofNat 32 (i 0).val
  let v114 : Index := Scalar.indexCast arg0
  let c0_70 : Index := 0#32
  ![0, v114.toNat, 0]
def k0_cond3 (i : grid0.Coords) : BitVec 1 :=
  let arg0 : BitVec 32 := BitVec.ofNat 32 (i 0).val
  let c0_i32_75 : BitVec 32 := 0#32
  let v125 : BitVec 1 := Scalar.cmpi .eq arg0 c0_i32_75
  let v126 : BitVec 32 := Scalar.extui v125
  let c0_i32_76 : BitVec 32 := 0#32
  let v127 : BitVec 1 := Scalar.cmpi .ne v126 c0_i32_76
  v127

def k0_off5 (i : grid0.Coords) : Fin 3 → Nat :=
  let arg1 : BitVec 32 := BitVec.ofNat 32 (i 1).val
  let v132 : Index := Scalar.indexCast arg1
  let arg2 : BitVec 32 := BitVec.ofNat 32 (i 2).val
  let c256_i32 : BitVec 32 := 256#32
  let v124 : BitVec 32 := Scalar.muli arg2 c256_i32
  let v133 : Index := Scalar.indexCast v124
  let c0_79 : Index := 0#32
  ![v132.toNat, v133.toNat, 0]
def k0_cond4 (i : grid0.Coords) : BitVec 1 :=
  let arg0 : BitVec 32 := BitVec.ofNat 32 (i 0).val
  let c0_i32_77 : BitVec 32 := 0#32
  let v128 : BitVec 1 := Scalar.cmpi .sgt arg0 c0_i32_77
  let v129 : BitVec 32 := Scalar.extui v128
  let c0_i32_78 : BitVec 32 := 0#32
  let v130 : BitVec 1 := Scalar.cmpi .ne v129 c0_i32_78
  v130

def k0_off6 (i : grid0.Coords) : Fin 3 → Nat :=
  let arg1 : BitVec 32 := BitVec.ofNat 32 (i 1).val
  let v131 : Index := Scalar.indexCast arg1
  let arg2 : BitVec 32 := BitVec.ofNat 32 (i 2).val
  let c256_i32 : BitVec 32 := 256#32
  let v124 : BitVec 32 := Scalar.muli arg2 c256_i32
  let v132 : Index := Scalar.indexCast v124
  let c0_79 : Index := 0#32
  ![v131.toNat, v132.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 1 → Memref sig .tc .vmem S2x2048x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== ExpertsIdeal.lean ====
variable {F : FTy → Type} [FloatOps F] [Named F]
def κ : String → Option EReal := fun
  | "log2_e" => some (((Real.log 2)⁻¹ : ℝ) : EReal)
  | _ => none
-- ==== MixtureIdeal.lean ====
abbrev S2x2048x1024 : Shape := ⟨3, ![2, 2048, 1024]⟩
abbrev S8x4096 : Shape := ⟨2, ![8, 4096]⟩
abbrev S8x1024x4096 : Shape := ⟨3, ![8, 1024, 4096]⟩
abbrev S8x2048x4 : Shape := ⟨3, ![8, 2048, 4]⟩
abbrev S8x2048 : Shape := ⟨2, ![8, 2048]⟩
abbrev S8x2048x96 : Shape := ⟨3, ![8, 2048, 96]⟩
abbrev S8x64x2048 : Shape := ⟨3, ![8, 64, 2048]⟩
abbrev S8x2048x16 : Shape := ⟨3, ![8, 2048, 16]⟩
abbrev S8x2048x1024 : Shape := ⟨3, ![8, 2048, 1024]⟩
abbrev S8x4096x2x2048 : Shape := ⟨4, ![8, 4096, 2, 2048]⟩
abbrev S8x2x2048x4096 : Shape := ⟨4, ![8, 2, 2048, 4096]⟩
abbrev S8x2x2048x2048 : Shape := ⟨4, ![8, 2, 2048, 2048]⟩
abbrev S_ : Shape := ⟨0, ![]⟩
abbrev S8x2x2051x2048 : Shape := ⟨4, ![8, 2, 2051, 2048]⟩
abbrev S8x1x1x2048 : Shape := ⟨4, ![8, 1, 1, 2048]⟩
abbrev S8x2048x1 : Shape := ⟨3, ![8, 2048, 1]⟩
abbrev S8x2x2048x96 : Shape := ⟨4, ![8, 2, 2048, 96]⟩
abbrev S8x2x2048x64 : Shape := ⟨4, ![8, 2, 2048, 64]⟩
abbrev S8x2x2048x16 : Shape := ⟨4, ![8, 2, 2048, 16]⟩
abbrev S2048x8x2x2048 : Shape := ⟨4, ![2048, 8, 2, 2048]⟩
abbrev S2048x8x2x16 : Shape := ⟨4, ![2048, 8, 2, 16]⟩
abbrev S1x8x2x2048 : Shape := ⟨4, ![1, 8, 2, 2048]⟩
abbrev S8x2x2048 : Shape := ⟨3, ![8, 2, 2048]⟩
abbrev S1x8x2x16 : Shape := ⟨4, ![1, 8, 2, 16]⟩
abbrev S8x2x16 : Shape := ⟨3, ![8, 2, 16]⟩
abbrev S8x2x2048x1 : Shape := ⟨4, ![8, 2, 2048, 1]⟩
abbrev S8x1x2048x16 : Shape := ⟨4, ![8, 1, 2048, 16]⟩
abbrev S8x2x1x16 : Shape := ⟨4, ![8, 2, 1, 16]⟩
abbrev S8x2x2048x1024 : Shape := ⟨4, ![8, 2, 2048, 1024]⟩

abbrev nBuf : Space → Nat
  | .hbm => 170
  | .vmem => 0
  | .smem => 0
  | _ => 0

abbrev hbmTy0_0 (i : Nat) : BufTy := match i % 128 with
  | 0 => ⟨S2x2048x1024, .f32⟩
  | 1 => ⟨S8x4096, .f32⟩
  | 2 => ⟨S8x1024x4096, .f32⟩
  | 3 => ⟨S8x2048x4, .f32⟩
  | 4 => ⟨S8x2048, .f32⟩
  | 5 => ⟨S8x2048x96, .f32⟩
  | 6 => ⟨S8x64x2048, .f32⟩
  | 7 => ⟨S8x2048, .f32⟩
  | 8 => ⟨S8x2048x16, .f32⟩
  | 9 => ⟨S8x2048, .f32⟩
  | 10 => ⟨S8x2048x1024, .f32⟩
  | 11 => ⟨S8x4096x2x2048, .f32⟩
  | 12 => ⟨S8x2x2048x4096, .f32⟩
  | 13 => ⟨S8x2x2048x2048, .f32⟩
  | 14 => ⟨S8x2x2048x2048, .f32⟩
  | 15 => ⟨S_, .i32⟩
  | 16 => ⟨S_, .f32⟩
  | 17 => ⟨S8x2x2051x2048, .f32⟩
  | 18 => ⟨S8x1x1x2048, .f32⟩
  | 19 => ⟨S8x2x2048x2048, .f32⟩
  | 20 => ⟨S8x2048x1, .f32⟩
  | 21 => ⟨S8x2048, .f32⟩
  | 22 => ⟨S8x1x1x2048, .f32⟩
  | 23 => ⟨S8x2x2048x2048, .f32⟩
  | 24 => ⟨S8x2x2048x2048, .f32⟩
  | 25 => ⟨S8x2x2048x2048, .f32⟩
  | 26 => ⟨S8x2x2048x2048, .f32⟩
  | 27 => ⟨S8x2x2048x2048, .f32⟩
  | 28 => ⟨S8x2048x1, .f32⟩
  | 29 => ⟨S8x2048, .f32⟩
  | 30 => ⟨S8x1x1x2048, .f32⟩
  | 31 => ⟨S8x2x2048x2048, .f32⟩
  | 32 => ⟨S8x2x2048x2048, .f32⟩
  | 33 => ⟨S8x2x2048x2048, .f32⟩
  | 34 => ⟨S8x2x2048x2048, .f32⟩
  | 35 => ⟨S8x2048x1, .f32⟩
  | 36 => ⟨S8x2048, .f32⟩
  | 37 => ⟨S8x1x1x2048, .f32⟩
  | 38 => ⟨S8x2x2048x2048, .f32⟩
  | 39 => ⟨S8x2x2048x2048, .f32⟩
  | 40 => ⟨S8x2x2048x2048, .f32⟩
  | 41 => ⟨S8x2x2048x2048, .f32⟩
  | 42 => ⟨S8x2048x1, .f32⟩
  | 43 => ⟨S8x2048, .f32⟩
  | 44 => ⟨S8x1x1x2048, .f32⟩
  | 45 => ⟨S8x2x2048x2048, .f32⟩
  | 46 => ⟨S8x2x2048x2048, .f32⟩
  | 47 => ⟨S8x2x2048x2048, .f32⟩
  | 48 => ⟨S8x2x2048x2048, .f32⟩
  | 49 => ⟨S8x2x2048x2048, .f32⟩
  | 50 => ⟨S_, .f32⟩
  | 51 => ⟨S8x2x2048x2048, .f32⟩
  | 52 => ⟨S8x2x2048x2048, .f32⟩
  | 53 => ⟨S_, .f32⟩
  | 54 => ⟨S8x2x2048x2048, .f32⟩
  | 55 => ⟨S8x2x2048x2048, .f32⟩
  | 56 => ⟨S8x2x2048x2048, .f32⟩
  | 57 => ⟨S8x2x2048x96, .f32⟩
  | 58 => ⟨S8x2x2048x64, .f32⟩
  | 59 => ⟨S8x2x2048x2048, .f32⟩
  | 60 => ⟨S8x1x1x2048, .f32⟩
  | 61 => ⟨S8x2x2048x2048, .f32⟩
  | 62 => ⟨S8x2x2048x2048, .f32⟩
  | 63 => ⟨S8x2x2048x16, .f32⟩
  | 64 => ⟨S8x2x2048x16, .f32⟩
  | 65 => ⟨S_, .f32⟩
  | 66 => ⟨S8x2x2048x2048, .f32⟩
  | 67 => ⟨S8x2x2048x2048, .f32⟩
  | 68 => ⟨S8x2x2048x2048, .f32⟩
  | 69 => ⟨S8x2x2048x2048, .f32⟩
  | 70 => ⟨S8x2x2048x2048, .i1⟩
  | 71 => ⟨S8x2x2048x2048, .f32⟩
  | 72 => ⟨S8x2x2048x2048, .f32⟩
  | 73 => ⟨S8x2x2048x2048, .f32⟩
  | 74 => ⟨S8x2x2048x2048, .f32⟩
  | 75 => ⟨S8x2x2048x2048, .f32⟩
  | 76 => ⟨S8x2x2048x2048, .f32⟩
  | 77 => ⟨S8x2x2048x2048, .f32⟩
  | 78 => ⟨S8x2x2048x2048, .f32⟩
  | 79 => ⟨S8x2048x16, .f32⟩
  | 80 => ⟨S8x2048x16, .f32⟩
  | 81 => ⟨S_, .f32⟩
  | 82 => ⟨S8x2x2048x16, .f32⟩
  | 83 => ⟨S2048x8x2x2048, .f32⟩
  | 84 => ⟨S2048x8x2x16, .f32⟩
  | 85 => ⟨S2048x8x2x16, .f32⟩
  | 86 => ⟨S2048x8x2x2048, .f32⟩
  | 87 => ⟨S_, .f32⟩
  | 88 => ⟨S2048x8x2x2048, .f32⟩
  | 89 => ⟨S_, .i32⟩
  | 90 => ⟨S2048x8x2x2048, .f32⟩
  | 91 => ⟨S2048x8x2x16, .f32⟩
  | 92 => ⟨S2048x8x2x16, .f32⟩
  | 93 => ⟨S2048x8x2x2048, .f32⟩
  | 94 => ⟨S8x2048x16, .f32⟩
  | 95 => ⟨S_, .i32⟩
  | 96 => ⟨S8x2x2048x16, .f32⟩
  | 97 => ⟨S2048x8x2x2048, .f32⟩
  | 98 => ⟨S_, .i32⟩
  | 99 => ⟨S_, .i1⟩
  | 100 => ⟨S_, .i32⟩
  | 101 => ⟨S_, .i32⟩
  | 102 => ⟨S_, .i32⟩
  | 103 => ⟨S1x8x2x2048, .f32⟩
  | 104 => ⟨S8x2x2048, .f32⟩
  | 105 => ⟨S_, .i32⟩
  | 106 => ⟨S_, .i32⟩
  | 107 => ⟨S_, .i32⟩
  | 108 => ⟨S1x8x2x16, .f32⟩
  | 109 => ⟨S8x2x16, .f32⟩
  | 110 => ⟨S_, .i32⟩
  | 111 => ⟨S_, .i32⟩
  | 112 => ⟨S_, .i32⟩
  | 113 => ⟨S1x8x2x16, .f32⟩
  | 114 => ⟨S8x2x16, .f32⟩
  | 115 => ⟨S_, .i32⟩
  | 116 => ⟨S_, .i32⟩
  | 117 => ⟨S_, .i32⟩
  | 118 => ⟨S1x8x2x2048, .f32⟩
  | 119 => ⟨S8x2x2048, .f32⟩
  | 120 => ⟨S8x2x2048x1, .f32⟩
  | 121 => ⟨S8x1x2048x16, .f32⟩
  | 122 => ⟨S8x2x2048x16, .f32⟩
  | 123 => ⟨S8x2x2048x16, .f32⟩
  | 124 => ⟨S8x2x2048x16, .f32⟩
  | 125 => ⟨S8x2x2048x16, .f32⟩
  | 126 => ⟨S8x2x2048x16, .f32⟩
  | 127 => ⟨S8x2x2048x1, .f32⟩
  | _ => ⟨S2x2048x1024, .f32⟩

abbrev hbmTy0_1 (i : Nat) : BufTy := match i % 128 with
  | 0 => ⟨S8x2x1x16, .f32⟩
  | 1 => ⟨S8x2x2048x16, .f32⟩
  | 2 => ⟨S8x2x2048x16, .f32⟩
  | 3 => ⟨S8x2x2048x16, .f32⟩
  | 4 => ⟨S8x2x2048x1, .f32⟩
  | 5 => ⟨S8x2x2048x16, .f32⟩
  | 6 => ⟨S8x2x2048x16, .f32⟩
  | 7 => ⟨S8x2x2048x16, .f32⟩
  | 8 => ⟨S8x2x1x16, .f32⟩
  | 9 => ⟨S8x2x2048x16, .f32⟩
  | 10 => ⟨S8x2x2048x16, .f32⟩
  | 11 => ⟨S_, .f32⟩
  | 12 => ⟨S8x2x2048, .f32⟩
  | 13 => ⟨S1x8x2x2048, .f32⟩
  | 14 => ⟨S_, .i32⟩
  | 15 => ⟨S_, .i32⟩
  | 16 => ⟨S_, .i32⟩
  | 17 => ⟨S2048x8x2x2048, .f32⟩
  | 18 => ⟨S_, .i32⟩
  | 19 => ⟨S_, .i32⟩
  | 20 => ⟨S8x2x2048x2048, .f32⟩
  | 21 => ⟨S8x1x1x2048, .f32⟩
  | 22 => ⟨S8x2x2048x2048, .f32⟩
  | 23 => ⟨S8x2x2048x2048, .f32⟩
  | 24 => ⟨S8x2x2048x2048, .f32⟩
  | 25 => ⟨S8x2x2048x2048, .f32⟩
  | 26 => ⟨S8x2x2048x2048, .f32⟩
  | 27 => ⟨S_, .f32⟩
  | 28 => ⟨S8x2x2048x2048, .f32⟩
  | 29 => ⟨S8x2x2048x2048, .f32⟩
  | 30 => ⟨S_, .f32⟩
  | 31 => ⟨S8x2x2048x2048, .f32⟩
  | 32 => ⟨S8x2x2048x2048, .f32⟩
  | 33 => ⟨S8x2x2048x2048, .f32⟩
  | 34 => ⟨S8x2x2048x2048, .f32⟩
  | 35 => ⟨S8x2x2048x1024, .f32⟩
  | 36 => ⟨S8x2x2048, .f32⟩
  | 37 => ⟨S8x2x2048x1, .f32⟩
  | 38 => ⟨S8x2x2048x1024, .f32⟩
  | 39 => ⟨S8x2x2048x1024, .f32⟩
  | 40 => ⟨S_, .f32⟩
  | 41 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_cst_0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_1 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_2 : Ref sig .tc := ⟨.hbm, 87, rfl⟩
abbrev main_v58 : Ref sig .tc := ⟨.hbm, 88, rfl⟩
abbrev main_c_3 : Ref sig .tc := ⟨.hbm, 89, rfl⟩
abbrev main_v59_0 : Ref sig .tc := ⟨.hbm, 90, rfl⟩
abbrev main_v59_1 : Ref sig .tc := ⟨.hbm, 91, rfl⟩
abbrev main_v59_2 : Ref sig .tc := ⟨.hbm, 92, rfl⟩
abbrev main_v59_3 : Ref sig .tc := ⟨.hbm, 93, rfl⟩
abbrev main_v59_4 : Ref sig .tc := ⟨.hbm, 94, rfl⟩
abbrev main_v59_5 : Ref sig .tc := ⟨.hbm, 95, rfl⟩
abbrev main_v59_6 : Ref sig .tc := ⟨.hbm, 96, rfl⟩
abbrev main_v59_7 : Ref sig .tc := ⟨.hbm, 97, rfl⟩
abbrev main_while0c_c_14 : Ref sig .tc := ⟨.hbm, 98, rfl⟩
abbrev main_while0c_v79 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_v0 : Ref sig .tc := ⟨.hbm, 103, rfl⟩
abbrev main_while0b_v79 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_v0 : Ref sig .tc := ⟨.hbm, 108, rfl⟩
abbrev main_while0b_v80 : Ref sig .tc := ⟨.hbm, 109, rfl⟩
abbrev main_while0b_call4_c : Ref sig .tc := ⟨.hbm, 110, rfl⟩
abbrev main_while0b_call4_c_0 : Ref sig .tc := ⟨.hbm, 111, rfl⟩
abbrev main_while0b_call4_c_1 : Ref sig .tc := ⟨.hbm, 112, rfl⟩
abbrev main_while0b_call4_v0 : Ref sig .tc := ⟨.hbm, 113, rfl⟩
abbrev main_while0b_v81 : Ref sig .tc := ⟨.hbm, 114, rfl⟩
abbrev main_while0b_call5_c : Ref sig .tc := ⟨.hbm, 115, rfl⟩
abbrev main_while0b_call5_c_0 : Ref sig .tc := ⟨.hbm, 116, rfl⟩
abbrev main_while0b_call5_c_1 : Ref sig .tc := ⟨.hbm, 117, rfl⟩
abbrev main_while0b_call5_v0 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_cst_14 : Ref sig .tc := ⟨.hbm, 139, rfl⟩
abbrev main_while0b_v102 : Ref sig .tc := ⟨.hbm, 140, rfl⟩
abbrev main_while0b_call6_v0 : Ref sig .tc := ⟨.hbm, 141, rfl⟩
abbrev main_while0b_call6_c : Ref sig .tc := ⟨.hbm, 142, rfl⟩
abbrev main_while0b_call6_c_0 : Ref sig .tc := ⟨.hbm, 143, rfl⟩
abbrev main_while0b_call6_c_1 : Ref sig .tc := ⟨.hbm, 144, rfl⟩
abbrev main_while0b_v103 : Ref sig .tc := ⟨.hbm, 145, rfl⟩
abbrev main_while0b_c_15 : Ref sig .tc := ⟨.hbm, 146, rfl⟩
abbrev main_while0b_v104 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_cst_4 : Ref sig .tc := ⟨.hbm, 155, rfl⟩
abbrev main_v67 : Ref sig .tc := ⟨.hbm, 156, rfl⟩
abbrev main_v68 : Ref sig .tc := ⟨.hbm, 157, rfl⟩
abbrev main_cst_5 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_cst_6 : Ref sig .tc := ⟨.hbm, 168, rfl⟩
abbrev main_v78 : Ref sig .tc := ⟨.hbm, 169, rfl⟩

abbrev nD : Nat := 1
abbrev τ : Topo := Topo.v7x

variable {F : FTy → Type} [FloatOps F]

abbrev main_while0_count : Scf.Loop 32 := ⟨0#32, 2048#32, 1#32⟩
-- ==== Proof.Setup.lean ====
/-
  The router program as the SparseCore launch theorem sees it, for any family of float values: the program's cells and
  levels, the resource algebra (the handshakes' rounds, the two TensorCore pipelines' rounds, the transfers' counters),
  the arrays of the SparseCore call and their cut into thirty-two blocks of 128 columns, and what one lane of the
  routing kernel computes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds in the machine's algebra, -/
abbrev EH : Emb UH (MT nD τ sig (HIx 1) (Elt F) ℕ UU ℕ) := embL
/-- and the TensorCore pipelines'. -/
abbrev EP : Emb UP (MT nD τ sig (HIx 1) (Elt F) ℕ UU ℕ) := (Emb.inl : Emb UP (UP × Counters)).trans embR

/-! ## The call's arrays -/

/-- The logits' transpose (the call's operand), the gates (its first result) and the top two's differences (its second), as
    locations of device `d`. -/
abbrev ltLoc (d : Dev nD) : Loc nD τ sig := (SparseCore.T d).loc main_v2
abbrev wLoc (d : Dev nD) : Loc nD τ sig := (SparseCore.T d).loc main_v3_0
abbrev dLoc (d : Dev nD) : Loc nD τ sig := (SparseCore.T d).loc main_v3_1

local notation "ltV" => (Memref.whole Cert.KernelIdeal.main_v2_scv : Memref Cert.KernelIdeal.sig Kind.scVector Space.hbm Cert.KernelIdeal.S8x4096 EltTy.f32)
local notation "wV" => (Memref.whole Cert.KernelIdeal.main_v3_0_scv : Memref Cert.KernelIdeal.sig Kind.scVector Space.hbm Cert.KernelIdeal.S8x4096 EltTy.f32)
local notation "dV" => (Memref.whole Cert.KernelIdeal.main_v3_1_scv : Memref Cert.KernelIdeal.sig Kind.scVector Space.hbm Cert.KernelIdeal.S8x4096 EltTy.f32)
local notation "sL" => (Memref.whole Cert.KernelIdeal.cc1_scoped0 : Memref Cert.KernelIdeal.sig Kind.scVector Space.vmem Cert.KernelIdeal.S2x8x128 EltTy.f32)
local notation "sW" => (Memref.whole Cert.KernelIdeal.cc1_scoped2 : Memref Cert.KernelIdeal.sig Kind.scVector Space.vmem Cert.KernelIdeal.S2x8x128 EltTy.f32)
local notation "sD" => (Memref.whole Cert.KernelIdeal.cc1_scoped4 : Memref Cert.KernelIdeal.sig Kind.scVector Space.vmem Cert.KernelIdeal.S2x8x128 EltTy.f32)

theorem hdiv : 32 ∣ S8x4096.size 1 := ⟨128, rfl⟩
/-- Block `k` of 128 columns of an (8, 4096) array: one tile's. -/
abbrev col (k : Fin 32) : Rect S8x4096 := Rect.part (s := S8x4096) (a₀ := 1) hdiv k
abbrev colSet (k : Fin 32) : Finset S8x4096.Idx := ((ltV).view.slice (col k)).set

/-- The block of the tile at sub-core `i` of SparseCore `c`. -/
def blkOf (c : Fin 2) (i : Fin 16) : Fin 32 := ⟨16 * c.val + i.val, by omega⟩

/-! ## What one lane computes

The two running maxima with the experts that hold them, over the eight experts in order; the first keeps a tie. -/

/-- The running top two of one token: the maxima and their experts. -/
structure Top (F : FTy → Type) where
  m1 : F .f32
  m2 : F .f32
  i1 : BitVec 32
  i2 : BitVec 32

/-- One expert's logit against the running top two. -/
def Top.step (s : Top F) (e : BitVec 32) (le : F .f32) : Top F :=
  let gt1 := FloatOps.cmpf .ogt le s.m1
  let gt2 := FloatOps.cmpf .ogt le s.m2
  { i2 := Scalar.select gt1 s.i1 (Scalar.select gt2 e s.i2)
    m2 := Scalar.select gt1 s.m1 (Scalar.select gt2 le s.m2)
    i1 := Scalar.select gt1 e s.i1
    m1 := Scalar.select gt1 le s.m1 }

/-- Before any expert. -/
def Top.init : Top F := ⟨Named.named κ "mask" 0xF149F2CA#32, Named.named κ "mask" 0xF149F2CA#32, 0#32, 0#32⟩

/-- The top two of a token's eight logits. -/
def topOf (r : Fin 8 → F .f32) : Top F :=
  (((((((((Top.init (F := F)).step 0#32 (r 0)).step 1#32 (r 1)).step 2#32 (r 2)).step 3#32 (r 3)).step 4#32 (r 4)).step 5#32 (r 5)).step 6#32 (r 6)).step 7#32 (r 7))

/-- The second largest logit less the largest. -/
def dOf (r : Fin 8 → F .f32) : F .f32 := FloatOps.subf (topOf r).m2 (topOf r).m1
/-- The gate of the largest, -/
def g1Of (r : Fin 8 → F .f32) : F .f32 :=
  FloatOps.divf (FloatOps.ofBits .f32 0x3F800000#32) (FloatOps.addf (FloatOps.ofBits .f32 0x3F800000#32) (FloatOps.exp (dOf r)))
/-- and of the second. -/
def g2Of (r : Fin 8 → F .f32) : F .f32 := FloatOps.mulf (FloatOps.exp (dOf r)) (g1Of r)
/-- Expert `e`'s gate. -/
def wOf (r : Fin 8 → F .f32) (e : BitVec 32) : F .f32 :=
  FloatOps.addf (Scalar.select (IntOp.cmpi .eq (topOf r).i1 e) (g1Of r) (FloatOps.ofBits .f32 0x00000000#32))
    (Scalar.select (IntOp.cmpi .eq (topOf r).i2 e) (g2Of r) (FloatOps.ofBits .f32 0x00000000#32))

/-- The column of logits of token `t`. -/
def colAt (lt : S8x4096.Idx → F .f32) (t : Fin 4096) : Fin 8 → F .f32 := fun e => lt (Shape.pair e t)

/-- The gates of every token, -/
def Wv (lt : S8x4096.Idx → F .f32) : S8x4096.Idx → F .f32 := fun j => wOf (colAt lt (j 1)) (BitVec.ofNat 32 (j 0).val)
/-- and the differences (row 0 of the second result). -/
def Dv (lt : S8x4096.Idx → F .f32) (t : Fin 4096) : F .f32 := dOf (colAt lt t)

end Cert.Proof.Router

end
-- ==== Proof.Lanes.lean ====
/-
  Sixteen lanes at a time: how a vector load from the staged block of logits and a vector store into a staged block of
  results read element by element, for any family of float values.
-/
module

public import proofs.«01_k».proof.Proof.Setup
public import Idealize.ShloMosaic.Lib.Writes
public import Idealize.ShloMosaic.Lib.ValueLayout

@[expose] public section

noncomputable section

namespace Cert.Proof.Router

open Cert.KernelIdeal Cert.KernelIdeal.Gen

open Idealize.ShloMosaic

variable {F : FTy → Type} [FloatOps F] [Named F]

/-- The eight logits of column `t` of a staged block. -/
def rowAt (X : S8x128.Idx → F .f32) (t : Fin 128) : Fin 8 → F .f32 := fun e => X (Shape.pair e t)
/-- The staged block of gates that a staged block of logits gives, -/
def gW (X : S8x128.Idx → F .f32) : S8x128.Idx → F .f32 := fun z => wOf (rowAt X (z 1)) (BitVec.ofNat 32 (z 0).val)
/-- and the differences. -/
def gD (X : S8x128.Idx → F .f32) : S8x128.Idx → F .f32 := fun z => dOf (rowAt X (z 1))

/-- Lane `y` of the sixteen columns from `c`. -/
def laneCol (c : ℕ) (hc : c + 16 ≤ 128) (y : S16.Idx) : Fin 128 := ⟨c + (y 0).val, by have := (y 0).isLt; change (y 0).val < 16 at this; omega⟩

/-- The lane a stored row's index names. -/
def unlane (x : S1x16.Idx) : S16.Idx := Shape.reshapeEquiv shapeCasts_S16_S1x16 x

theorem unlane_val (x : S1x16.Idx) : (unlane x 0).val = (x 1).val := by
  have h : unlane x = ValueIdx.ix1 (⟨(x 1).val, (x 1).isLt⟩ : Fin 16) := by
    refine Shape.reshapeEquiv_eq_of_rowMajor _ ?_
    have h0 : (x 0).val = 0 := by have := (x 0).isLt; change (x 0).val < 1 at this; omega
    refine (Shape.rowMajor_val_one _).trans ?_
    refine Eq.trans ?_ (Shape.rowMajor_val_two x).symm
    show (x 1).val = (x 0).val * 16 + (x 1).val
    omega
  rw [h]

/-- A sixteen-lane load of row `e` from column `c`, after the whole block `X` was written: lane `y` is `X` at `(e, c + y)`. -/
theorem lane_read {v : View sig .scVector .vmem S8x128 .f32} (f : v.ty.Contents (Elt F)) (X : S8x128.Idx → F .f32) (e : Fin 8)
    (c : ℕ) (hc : c + 16 ≤ 128) (inb) (h : S1x16.ShapeCasts S16) (y : S16.Idx) :
    (shapeCast S16 (v.readAt (Elt F) (Rect.unit (s := S8x128) ![e.val, c] S1x16.size inb).toLoadRect
        (v.write (Elt F) f X Finset.univ) : S1x16.Idx → F .f32) h y : F .f32) = rowAt X (laneCol c hc y) e := by
  have hy : Shape.reshapeEquiv h y = Shape.pair (d := ![1, 16]) (0 : Fin 1) (y 0) := by
    refine Shape.reshapeEquiv_eq_of_rowMajor _ ?_
    refine (Shape.rowMajor_val_two _).trans ?_
    refine Eq.trans ?_ (Shape.rowMajor_val_one y).symm
    show 0 * 16 + (y 0).val = (y 0).val
    omega
  unfold shapeCast
  rw [hy, View.readAt_apply, View.read_write_univ]
  unfold rowAt
  congr 1
  funext a
  refine Fin.ext ?_
  match a with
  | 0 => show e.val + 1 * 0 = e.val; omega
  | 1 => show c + 1 * (y 0).val = c + (y 0).val; omega

/-- Where a stored row's element lies in the block. -/
theorem emb_row (e c : ℕ) (inb) (x : S1x16.Idx) :
    (((Rect.unit (s := S8x128) ![e, c] S1x16.size inb).emb x) 0).val = e
      ∧ (((Rect.unit (s := S8x128) ![e, c] S1x16.size inb).emb x) 1).val = c + (x 1).val := by
  have h0 : (x 0).val = 0 := by have := (x 0).isLt; change (x 0).val < 1 at this; omega
  constructor
  · show e + 1 * (x 0).val = e; omega
  · show c + 1 * (x 1).val = c + (x 1).val; omega

theorem mem_row (e c : ℕ) (inb) (z : S8x128.Idx) :
    z ∈ (Rect.unit (s := S8x128) ![e, c] S1x16.size inb).set ↔ (z 0).val = e ∧ c ≤ (z 1).val ∧ (z 1).val < c + 16 := by
  rw [Rect.mem_set_unit]
  constructor
  · intro h
    have h0 := h 0
    have h1 := h 1
    change e ≤ (z 0).val ∧ (z 0).val < e + 1 at h0
    change c ≤ (z 1).val ∧ (z 1).val < c + 16 at h1
    omega
  · rintro ⟨h0, h1, h2⟩ a
    match a with
    | 0 => show e ≤ (z 0).val ∧ (z 0).val < e + 1; omega
    | 1 => exact ⟨h1, h2⟩

theorem piece_w (X : S8x128.Idx → F .f32) (e : Fin 8) (c : ℕ) (hc : c + 16 ≤ 128) (inb) (p : S1x16.Idx → F .f32)
    (hp : ∀ x, p x = wOf (rowAt X (laneCol c hc (unlane x))) (BitVec.ofNat 32 e.val)) (x : S1x16.Idx) :
    p x = gW X ((Rect.unit (s := S8x128) ![e.val, c] S1x16.size inb).emb x) := by
  obtain ⟨h0, h1⟩ := emb_row e.val c inb x
  rw [hp x]
  unfold gW
  rw [h0]
  congr 2
  refine Fin.ext ?_
  rw [h1]
  show c + (unlane x 0).val = _
  rw [unlane_val]

theorem piece_d (X : S8x128.Idx → F .f32) (e : Fin 8) (c : ℕ) (hc : c + 16 ≤ 128) (inb) (p : S1x16.Idx → F .f32)
    (hp : ∀ x, p x = dOf (rowAt X (laneCol c hc (unlane x)))) (x : S1x16.Idx) :
    p x = gD X ((Rect.unit (s := S8x128) ![e.val, c] S1x16.size inb).emb x) := by
  obtain ⟨h0, h1⟩ := emb_row e.val c inb x
  rw [hp x]
  unfold gD
  congr 2
  refine Fin.ext ?_
  rw [h1]
  show c + (unlane x 0).val = _
  rw [unlane_val]

/-- One lane group's eight stores: its sixteen columns hold the gates, the rest of the block what it held. -/
theorem group_w {v : View sig .scVector .vmem S8x128 .f32} {f f' : v.ty.Contents (Elt F)} (X : S8x128.Idx → F .f32)
    (c : ℕ) (hc : c + 16 ≤ 128) {p0 p1 p2 p3 p4 p5 p6 p7 : S1x16.Idx → F .f32} (i0) (i1) (i2) (i3) (i4) (i5) (i6) (i7)
    (hf : f' = v.writes (Elt F) f [⟨Rect.unit (s := S8x128) ![7, c] S1x16.size i7, p7⟩, ⟨Rect.unit (s := S8x128) ![6, c] S1x16.size i6, p6⟩,
      ⟨Rect.unit (s := S8x128) ![5, c] S1x16.size i5, p5⟩, ⟨Rect.unit (s := S8x128) ![4, c] S1x16.size i4, p4⟩,
      ⟨Rect.unit (s := S8x128) ![3, c] S1x16.size i3, p3⟩, ⟨Rect.unit (s := S8x128) ![2, c] S1x16.size i2, p2⟩,
      ⟨Rect.unit (s := S8x128) ![1, c] S1x16.size i1, p1⟩, ⟨Rect.unit (s := S8x128) ![0, c] S1x16.size i0, p0⟩])
    (h0 : ∀ x, p0 x = wOf (rowAt X (laneCol c hc (unlane x))) 0#32) (h1 : ∀ x, p1 x = wOf (rowAt X (laneCol c hc (unlane x))) 1#32)
    (h2 : ∀ x, p2 x = wOf (rowAt X (laneCol c hc (unlane x))) 2#32) (h3 : ∀ x, p3 x = wOf (rowAt X (laneCol c hc (unlane x))) 3#32)
    (h4 : ∀ x, p4 x = wOf (rowAt X (laneCol c hc (unlane x))) 4#32) (h5 : ∀ x, p5 x = wOf (rowAt X (laneCol c hc (unlane x))) 5#32)
    (h6 : ∀ x, p6 x = wOf (rowAt X (laneCol c hc (unlane x))) 6#32) (h7 : ∀ x, p7 x = wOf (rowAt X (laneCol c hc (unlane x))) 7#32)
    (z : S8x128.Idx) : (v.read (Elt F) f' z : F .f32) = if c ≤ (z 1).val ∧ (z 1).val < c + 16 then gW X z else v.read (Elt F) f z := by
  subst hf
  split
  · next hz =>
    refine View.read_writes_apply_of_pieces v f (gW X) _ ?_ z ?_
    · intro p hp
      simp only [List.mem_cons, List.not_mem_nil, or_false] at hp
      rcases hp with rfl | rfl | rfl | rfl | rfl | rfl | rfl | rfl
      · exact piece_w X 7 c hc i7 _ h7
      · exact piece_w X 6 c hc i6 _ h6
      · exact piece_w X 5 c hc i5 _ h5
      · exact piece_w X 4 c hc i4 _ h4
      · exact piece_w X 3 c hc i3 _ h3
      · exact piece_w X 2 c hc i2 _ h2
      · exact piece_w X 1 c hc i1 _ h1
      · exact piece_w X 0 c hc i0 _ h0
    · have hz0 : (z 0).val < 8 := (z 0).isLt
      have hcase : (z 0).val = 7 ∨ (z 0).val = 6 ∨ (z 0).val = 5 ∨ (z 0).val = 4 ∨ (z 0).val = 3 ∨ (z 0).val = 2 ∨ (z 0).val = 1 ∨ (z 0).val = 0 := by omega
      rcases hcase with h | h | h | h | h | h | h | h
      · exact ⟨_, List.mem_cons_self, (mem_row 7 c i7 z).mpr ⟨h, hz⟩⟩
      · exact ⟨_, List.mem_cons_of_mem _ List.mem_cons_self, (mem_row 6 c i6 z).mpr ⟨h, hz⟩⟩
      · exact ⟨_, List.mem_cons_of_mem _ (List.mem_cons_of_mem _ List.mem_cons_self), (mem_row 5 c i5 z).mpr ⟨h, hz⟩⟩
      · exact ⟨_, List.mem_cons_of_mem _ (List.mem_cons_of_mem _ (List.mem_cons_of_mem _ List.mem_cons_self)), (mem_row 4 c i4 z).mpr ⟨h, hz⟩⟩
      · exact ⟨_, List.mem_cons_of_mem _ (List.mem_cons_of_mem _ (List.mem_cons_of_mem _ (List.mem_cons_of_mem _ List.mem_cons_self))), (mem_row 3 c i3 z).mpr ⟨h, hz⟩⟩
      · exact ⟨_, List.mem_cons_of_mem _ (List.mem_cons_of_mem _ (List.mem_cons_of_mem _ (List.mem_cons_of_mem _ (List.mem_cons_of_mem _ List.mem_cons_self)))), (mem_row 2 c i2 z).mpr ⟨h, hz⟩⟩
      · exact ⟨_, List.mem_cons_of_mem _ (List.mem_cons_of_mem _ (List.mem_cons_of_mem _ (List.mem_cons_of_mem _ (List.mem_cons_of_mem _ (List.mem_cons_of_mem _ List.mem_cons_self))))), (mem_row 1 c i1 z).mpr ⟨h, hz⟩⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (mem_row 0 c i0 z).mpr ⟨h, hz⟩⟩
  · next hz =>
    refine View.read_writes_apply_of_forall_not_mem v f z _ ?_
    intro p hp
    simp only [List.mem_cons, List.not_mem_nil, or_false] at hp
    rcases hp with rfl | rfl | rfl | rfl | rfl | rfl | rfl | rfl <;> rw [mem_row] <;> exact fun h => hz h.2

/-- One lane group's store of the differences. -/
theorem group_d {v : View sig .scVector .vmem S8x128 .f32} {f f' : v.ty.Contents (Elt F)} (X : S8x128.Idx → F .f32)
    (c : ℕ) (hc : c + 16 ≤ 128) {p0 : S1x16.Idx → F .f32} (i0)
    (hf : f' = v.writes (Elt F) f [⟨Rect.unit (s := S8x128) ![0, c] S1x16.size i0, p0⟩])
    (h0 : ∀ x, p0 x = dOf (rowAt X (laneCol c hc (unlane x))))
    (z : S8x128.Idx) (hz0 : (z 0).val = 0) :
    (v.read (Elt F) f' z : F .f32) = if c ≤ (z 1).val ∧ (z 1).val < c + 16 then gD X z else v.read (Elt F) f z := by
  subst hf
  split
  · next hz =>
    refine View.read_writes_apply_of_pieces v f (gD X) _ ?_ z ?_
    · intro p hp
      simp only [List.mem_cons, List.not_mem_nil, or_false] at hp
      subst hp
      exact piece_d X 0 c hc i0 _ h0
    · exact ⟨_, List.mem_cons_self, (mem_row 0 c i0 z).mpr ⟨hz0, hz⟩⟩
  · next hz =>
    refine View.read_writes_apply_of_forall_not_mem v f z _ ?_
    intro p hp
    simp only [List.mem_cons, List.not_mem_nil, or_false] at hp
    subst hp
    rw [mem_row]; exact fun h => hz h.2

/-- The gate of expert `e` from a token's top two. -/
def Top.w (t : Top F) (e : BitVec 32) : F .f32 :=
  FloatOps.addf
    (Scalar.select (IntOp.cmpi .eq t.i1 e)
      (FloatOps.divf (FloatOps.ofBits .f32 0x3F800000#32) (FloatOps.addf (FloatOps.ofBits .f32 0x3F800000#32) (FloatOps.exp (FloatOps.subf t.m2 t.m1))))
      (FloatOps.ofBits .f32 0x00000000#32))
    (Scalar.select (IntOp.cmpi .eq t.i2 e)
      (FloatOps.mulf (FloatOps.exp (FloatOps.subf t.m2 t.m1))
        (FloatOps.divf (FloatOps.ofBits .f32 0x3F800000#32) (FloatOps.addf (FloatOps.ofBits .f32 0x3F800000#32) (FloatOps.exp (FloatOps.subf t.m2 t.m1)))))
      (FloatOps.ofBits .f32 0x00000000#32))

theorem wOf_of_top {r : Fin 8 → F .f32} {t : Top F} (h : t = topOf r) (e : BitVec 32) : t.w e = wOf r e := by
  subst h; rfl
theorem dOf_of_top {r : Fin 8 → F .f32} {t : Top F} (h : t = topOf r) : FloatOps.subf t.m2 t.m1 = dOf r := by
  subst h; rfl

/-- Eight steps from the start are the top two. -/
theorem topOf_of_steps {r : Fin 8 → F .f32} {l0 l1 l2 l3 l4 l5 l6 l7 : F .f32} (h0 : l0 = r 0) (h1 : l1 = r 1) (h2 : l2 = r 2)
    (h3 : l3 = r 3) (h4 : l4 = r 4) (h5 : l5 = r 5) (h6 : l6 = r 6) (h7 : l7 = r 7) :
    (((((((((Top.init (F := F)).step 0#32 l0).step 1#32 l1).step 2#32 l2).step 3#32 l3).step 4#32 l4).step 5#32 l5).step 6#32 l6).step 7#32 l7)
      = topOf r := by
  subst h0 h1 h2 h3 h4 h5 h6 h7; rfl

end Cert.Proof.Router

end
-- ==== Proof.Tile.lean ====
/-
  One tile's run of the routing kernel, at a symbolic tile: the block of logits in, the eight lane groups, the block of gates
  and the block of differences out.
-/
module

public import proofs.«01_k».proof.Proof.Lanes

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "ltV" => (Memref.whole Cert.KernelIdeal.main_v2_scv : Memref Cert.KernelIdeal.sig Kind.scVector Space.hbm Cert.KernelIdeal.S8x4096 EltTy.f32)
local notation "wV" => (Memref.whole Cert.KernelIdeal.main_v3_0_scv : Memref Cert.KernelIdeal.sig Kind.scVector Space.hbm Cert.KernelIdeal.S8x4096 EltTy.f32)
local notation "dV" => (Memref.whole Cert.KernelIdeal.main_v3_1_scv : Memref Cert.KernelIdeal.sig Kind.scVector Space.hbm Cert.KernelIdeal.S8x4096 EltTy.f32)
local notation "sL" => (Memref.whole Cert.KernelIdeal.cc1_scoped0 : Memref Cert.KernelIdeal.sig Kind.scVector Space.vmem Cert.KernelIdeal.S2x8x128 EltTy.f32)
local notation "sW" => (Memref.whole Cert.KernelIdeal.cc1_scoped2 : Memref Cert.KernelIdeal.sig Kind.scVector Space.vmem Cert.KernelIdeal.S2x8x128 EltTy.f32)
local notation "sD" => (Memref.whole Cert.KernelIdeal.cc1_scoped4 : Memref Cert.KernelIdeal.sig Kind.scVector Space.vmem Cert.KernelIdeal.S2x8x128 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's block of columns. -/
abbrev kL (L : grid1.Coords) : Fin 32 := blkOf (Fin.cast bound_zero (L 0)) (Fin.cast bound_one (L 1))

/-- The tile's block as the body spells it. -/
abbrev colK (L : grid1.Coords) : Rect S8x4096 := Rect.unit (s := S8x4096) (k1_off2 L) S8x128.size (k1_off2_inb L)
abbrev ltK (L : grid1.Coords) : Memref sig .scVector .hbm S8x128 .f32 := (ltV).slice (colK L) (fun _ => rfl)
abbrev wK (L : grid1.Coords) : Memref sig .scVector .hbm S8x128 .f32 := (wV).slice (colK L) (fun _ => rfl)
abbrev dK (L : grid1.Coords) : Memref sig .scVector .hbm S8x128 .f32 := (dV).slice (colK L) (fun _ => rfl)

theorem colK_eq : colK L = col (kL L) := by
  unfold colK col Rect.part Rect.block
  congr 1 <;> funext a
  · rw [k1_off2_eq]
    match a with
    | 0 => simp [Shape.partIx, Shape.partSize]
    | 1 =>
      show 128 * (L 1).val + 2048 * (L 0).val = (16 * (L 0).val + (L 1).val) * (4096 / 32)
      omega
  · match a with
    | 0 => simp [Shape.partSize]
    | 1 => simp [Shape.partSize]

theorem set_ltK : (ltK L).view.set = colSet (kL L) := by
  show ((ltV).view.slice (colK L)).set = _
  exact colK_eq L ▸ rfl
theorem set_wK : (wK L).view.set = colSet (kL L) := by
  show ((wV).view.slice (colK L)).set = _
  exact colK_eq L ▸ rfl
theorem set_dK : (dK L).view.set = colSet (kL L) := by
  show ((dV).view.slice (colK L)).set = _
  exact colK_eq L ▸ rfl

theorem pts_ltK (f : Buf (Elt F) (ltLoc d)) :
    ((ltK L).view.loc (V d (cV L) (jV L)) ↦[(ltK L).view.set]{fullShare} f : sProp 𝕄) = ltLoc d ↦[colSet (kL L)]{fullShare} f := by
  rw [set_ltK]
theorem pts_wK (f : Buf (Elt F) (wLoc d)) :
    ((wK L).view.loc (V d (cV L) (jV L)) ↦[(wK L).view.set]{fullShare} f : sProp 𝕄) = wLoc d ↦[colSet (kL L)]{fullShare} f := by
  rw [set_wK]
theorem pts_dK (f : Buf (Elt F) (dLoc d)) :
    ((dK L).view.loc (V d (cV L) (jV L)) ↦[(dK L).view.set]{fullShare} f : sProp 𝕄) = dLoc d ↦[colSet (kL L)]{fullShare} f := by
  rw [set_dK]

/-- The three semaphore cells of the tile that the pipeline waits on. -/
abbrev semL : DmaSem sig := ((cc1_scoped1.slice (Rect.unit (s := S2) k1_off3 S1.size k1_off3_inb)).squeeze S_ squeezes_S1_S_).sem
abbrev semW : DmaSem sig := ((cc1_scoped3.slice (Rect.unit (s := S2) k1_off3 S1.size k1_off3_inb)).squeeze S_ squeezes_S1_S_).sem
abbrev semD : DmaSem sig := ((cc1_scoped5.slice (Rect.unit (s := S2) k1_off3 S1.size k1_off3_inb)).squeeze S_ squeezes_S1_S_).sem
abbrev cLcell (d : Dev nD) (c : Fin τ.nSC) (i : Fin τ.nSub) : GSem nD τ sig := (V d c i, .dma semL)
abbrev cWcell (d : Dev nD) (c : Fin τ.nSC) (i : Fin τ.nSub) : GSem nD τ sig := (V d c i, .dma semW)
abbrev cDcell (d : Dev nD) (c : Fin τ.nSC) (i : Fin τ.nSub) : GSem nD τ sig := (V d c i, .dma semD)

theorem ne_LW : cWcell d (cV L) (jV L) ≠ cLcell d (cV L) (jV L) := by
  simp only [ne_eq, Prod.mk.injEq, true_and]; decide
theorem ne_WD : cDcell d (cV L) (jV L) ≠ cWcell d (cV L) (jV L) := by
  simp only [ne_eq, Prod.mk.injEq, true_and]; decide
theorem ne_LD : cDcell d (cV L) (jV L) ≠ cLcell d (cV L) (jV L) := by
  simp only [ne_eq, Prod.mk.injEq, true_and]; decide

theorem ownSems0_V :
    (ownSems0 (V d (cV L) (jV L)) : sProp 𝕄)
      = iprop(semVal (cLcell d (cV L) (jV L)) 0 ∗ semVal (cWcell d (cV L) (jV L)) 0 ∗ semVal (cDcell d (cV L) (jV L)) 0
          ∗ bigSep ((((ownCells (V d (cV L) (jV L))).erase (cLcell d (cV L) (jV L))).erase (cWcell d (cV L) (jV L))).erase (cDcell d (cV L) (jV L)))
              fun g => semVal g 0) := by
  unfold SparseCore.Cfg.ownSems0
  rw [SparseCore.bigSep_erase' ((mem_ownCells (g := cLcell d (cV L) (jV L))).mpr ⟨rfl, by
      show (SemLoc.dma semL : SemLoc sig).isScoped .scVector = true; decide⟩),
    SparseCore.bigSep_erase' (Finset.mem_erase.mpr ⟨ne_LW d L, (mem_ownCells (g := cWcell d (cV L) (jV L))).mpr ⟨rfl, by
      show (SemLoc.dma semW : SemLoc sig).isScoped .scVector = true; decide⟩⟩),
    SparseCore.bigSep_erase' (Finset.mem_erase.mpr ⟨ne_WD d L, Finset.mem_erase.mpr ⟨ne_LD d L,
      (mem_ownCells (g := cDcell d (cV L) (jV L))).mpr ⟨rfl, by show (SemLoc.dma semD : SemLoc sig).isScoped .scVector = true; decide⟩⟩⟩)]

/-- The tile's own buffers are the three staging buffers, each at some contents, together with the rest. -/
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ (∃ f, (V d (cV L) (jV L)).loc cc1_scoped4 ↦{fullShare} f)
          ∗ bigSep ((((ownRefs (τ := τ) (.scVector (cV L) (jV L))).erase ((Proc.scVector (cV L) (jV L)).devRef cc1_scoped0)).erase
              ((Proc.scVector (cV L) (jV L)).devRef cc1_scoped2)).erase ((Proc.scVector (cV L) (jV L)).devRef cc1_scoped4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩),
    SparseCore.bigSep_erase' (Finset.mem_erase.mpr ⟨fun e => absurd (Proc.devRef_injective _ e) (show (cc1_scoped4 : Ref sig .scVector) ≠ cc1_scoped2 by decide),
      Finset.mem_erase.mpr ⟨fun e => absurd (Proc.devRef_injective _ e) (show (cc1_scoped4 : Ref sig .scVector) ≠ cc1_scoped0 by decide),
      SparseCore.Cfg.mem_ownRefs_of_owner (p := Proc.scVector (cV L) (jV L)) (b := (Proc.scVector (cV L) (jV L)).devRef cc1_scoped4) rfl⟩⟩)]

theorem pts_sL (f : Buf (Elt F) ((V d (cV L) (jV L)).loc cc1_scoped0)) :
    ((sL).view.loc (V d (cV L) (jV L)) ↦{fullShare} f : sProp 𝕄) = (V d (cV L) (jV L)).loc cc1_scoped0 ↦{fullShare} f := rfl
theorem pts_sW (f : Buf (Elt F) ((V d (cV L) (jV L)).loc cc1_scoped2)) :
    ((sW).view.loc (V d (cV L) (jV L)) ↦{fullShare} f : sProp 𝕄) = (V d (cV L) (jV L)).loc cc1_scoped2 ↦{fullShare} f := rfl
theorem pts_sD (f : Buf (Elt F) ((V d (cV L) (jV L)).loc cc1_scoped4)) :
    ((sD).view.loc (V d (cV L) (jV L)) ↦{fullShare} f : sProp 𝕄) = (V d (cV L) (jV L)).loc cc1_scoped4 ↦{fullShare} f := rfl

theorem cond1 : ∀ i : grid1.Coords, ¬ k1_cond1 i = 1#1 := by decide +kernel
theorem cond2 : ∀ i : grid1.Coords, k1_cond2 i = 1#1 := by decide +kernel
theorem cond6 : ∀ i : grid1.Coords, k1_cond6 i = 1#1 := by decide +kernel
theorem cond7 : ∀ i : grid1.Coords, k1_cond7 i = 1#1 := by decide +kernel
theorem cond9 : ∀ i : grid1.Coords, ¬ k1_cond9 i = 1#1 := by decide +kernel
theorem cond10 : ∀ i : grid1.Coords, ¬ k1_cond10 i = 1#1 := by decide +kernel

/-- The slot of each staging buffer that the tile uses. -/
abbrev slotL : Memref sig .scVector .vmem S8x128 .f32 :=
  ((sL).slice (Rect.unit (s := S2x8x128) k1_off1 S1x8x128.size k1_off1_inb) (fun _ => rfl)).squeeze S8x128 squeezes_S1x8x128_S8x128
abbrev slotW : Memref sig .scVector .vmem S8x128 .f32 :=
  ((sW).slice (Rect.unit (s := S2x8x128) k1_off1 S1x8x128.size k1_off1_inb) (fun _ => rfl)).squeeze S8x128 squeezes_S1x8x128_S8x128
abbrev slotD : Memref sig .scVector .vmem S8x128 .f32 :=
  ((sD).slice (Rect.unit (s := S2x8x128) k1_off1 S1x8x128.size k1_off1_inb) (fun _ => rfl)).squeeze S8x128 squeezes_S1x8x128_S8x128

/-- The last two waits spell the slot's semaphore by the tile's coordinates: it is slot 0's. -/
theorem sem_end (m : DmaSems sig S2) :
    ((m.slice (Rect.unit (s := S2) (k1_off23 L) S1.size (k1_off23_inb L))).squeeze S_ squeezes_S1_S_).sem
      = ((m.slice (Rect.unit (s := S2) k1_off3 S1.size k1_off3_inb)).squeeze S_ squeezes_S1_S_).sem := by
  have h : ∀ (o : Fin S2.rank → ℕ) (ho : ∀ a, o a + S1.size a ≤ S2.size a), o = k1_off3 →
      ((m.slice (Rect.unit (s := S2) o S1.size ho)).squeeze S_ squeezes_S1_S_).sem
        = ((m.slice (Rect.unit (s := S2) k1_off3 S1.size k1_off3_inb)).squeeze S_ squeezes_S1_S_).sem := by
    rintro o ho rfl; rfl
  exact h _ _ ((k1_off23_eq L).trans k1_off3_eq.symm)

/-- Slot 0 by another spelling of its offset reads the same. -/
theorem slot_read (m : Memref sig .scVector .vmem S2x8x128 .f32) (o : Fin S2x8x128.rank → ℕ) (ho : ∀ a, o a + S1x8x128.size a ≤ S2x8x128.size a)
    (e : o = k1_off1) (f : m.view.ty.Contents (Elt F)) (z : S8x128.Idx) :
    ((m.slice (Rect.unit (s := S2x8x128) o S1x8x128.size ho) (fun _ => rfl)).squeeze S8x128 squeezes_S1x8x128_S8x128).view.read (Elt F) f z
      = ((m.slice (Rect.unit (s := S2x8x128) k1_off1 S1x8x128.size k1_off1_inb) (fun _ => rfl)).squeeze S8x128 squeezes_S1x8x128_S8x128).view.read (Elt F) f z := by
  subst e; rfl

/-- The staged logits of the tile's block. -/
abbrev stage (lt : S8x4096.Idx → F .f32) : S8x128.Idx → F .f32 := fun z => lt ((ltK L).view.emb z)

theorem rowAt_stage (lt : S8x4096.Idx → F .f32) (z : S8x128.Idx) :
    rowAt (stage L lt) (z 1) = colAt lt (((wK L).view.emb z) 1) := by
  funext e
  unfold rowAt colAt stage
  congr 1
  funext a
  refine Fin.ext ?_
  match a with
  | 0 =>
    show k1_off2 L 0 + 1 * e.val = e.val
    rw [k1_off2_eq]; simp
  | 1 => rfl

theorem row_emb (z : S8x128.Idx) : (((wK L).view.emb z) 0).val = (z 0).val := by
  show k1_off2 L 0 + 1 * (z 0).val = (z 0).val
  rw [k1_off2_eq]; simp

/-- The block of gates written out holds the gates of its columns. -/
theorem out_w (lt w0 : S8x4096.Idx → F .f32) (P : S8x128.Idx → F .f32) (hP : ∀ z, P z = gW (stage L lt) z) :
    ∀ j ∈ (wK L).view.set, ((wK L).view.writes (Elt F) w0 [⟨Rect.whole S8x128, P⟩] : S8x4096.Idx → F .f32) j = Wv lt j := by
  intro j hj
  obtain ⟨z, -, rfl⟩ := Finset.mem_map.mp hj
  have h := View.read_writes_cons_emb (wK L).view (Val := Elt F) w0 (Rect.whole S8x128) P [] z
  rw [Rect.emb_whole_apply] at h
  refine Eq.trans (show _ = P z from h) ((hP z).trans ?_)
  unfold gW Wv
  rw [rowAt_stage, row_emb]

/-- The block of differences written out holds in its row 0 the differences of its columns. -/
theorem out_d (lt d0 : S8x4096.Idx → F .f32) (P : S8x128.Idx → F .f32) (hP : ∀ z, (z 0).val = 0 → P z = gD (stage L lt) z) :
    ∀ j ∈ (dK L).view.set, (j 0).val = 0 → ((dK L).view.writes (Elt F) d0 [⟨Rect.whole S8x128, P⟩] : S8x4096.Idx → F .f32) j = Dv lt (j 1) := by
  intro j hj h0
  obtain ⟨z, -, rfl⟩ := Finset.mem_map.mp hj
  have h := View.read_writes_cons_emb (dK L).view (Val := Elt F) d0 (Rect.whole S8x128) P [] z
  rw [Rect.emb_whole_apply] at h
  refine Eq.trans (show _ = P z from h) ((hP z ((row_emb L z).symm.trans h0)).trans ?_)
  unfold gD Dv
  rw [rowAt_stage]
  rfl

/-- The tile's block of gates, and of differences, as the run returns it. -/
abbrev dPiece (lt : Buf (Elt F) (ltLoc d)) (k : Fin 32) : sProp 𝕄 :=
  iprop(∃ f : S8x4096.Idx → F .f32, ⌜∀ j ∈ colSet k, (j 0).val = 0 → f j = Dv (F := F) lt (j 1)⌝ ∗ dLoc d ↦[colSet k]{fullShare} f)

end Tile

namespace tile_body.sl
end tile_body.sl
open Cert.Proof.Router.tile_body.sl

section Tile

variable (d : Dev nD) (L : grid1.Coords)

set_option maxHeartbeats 4000000 in
theorem tile_body (lt : Buf (Elt F) (ltLoc d)) (wi : Buf (Elt F) (wLoc d)) (di : Buf (Elt F) (dLoc d)) (hF : (K (F := F)).Facts)
    (O : CellTallies nD τ sig (HIx 1)) (W : Waits sig (HIx 1)) (hO : ∀ g, O g none = 0) :
    (iprop(levAts (K (F := F)).L (K (F := F)).lev ∗ emp
        ∗ ((ltLoc d ↦[colSet (kL L)]{fullShare} lt) ∗ (wLoc d ↦[colSet (kL L)]{fullShare} wi) ∗ (dLoc d ↦[colSet (kL L)]{fullShare} di))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_k L ltV (Memref.isWhole_whole _) wV (Memref.isWhole_whole _) dV (Memref.isWhole_whole _)
            sL (Memref.isWhole_whole _) cc1_scoped1 sW (Memref.isWhole_whole _) cc1_scoped3 sD (Memref.isWhole_whole _) cc1_scoped5)
          fun _ => iprop(((ltLoc d ↦[colSet (kL L)]{fullShare} lt) ∗ (wLoc d ↦[colSet (kL L)]{fullShare} (Wv (F := F) lt : S8x4096.Idx → F .f32)) ∗ dPiece d lt (kL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hw, Hd⟩, ⟨⟨%fs, Hs⟩, ⟨%fc, Hc⟩, ⟨%fu, Hu⟩, Hbufs⟩, ⟨HsemL, HsemW, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_ltK (F := F) d L _).symm) $$ Hx
  ihave Hw' := (Entails.of_eq (pts_wK (F := F) d L _).symm) $$ Hw
  ihave Hd' := (Entails.of_eq (pts_dK (F := F) d L _).symm) $$ Hd
  ihave Hs' := (Entails.of_eq (pts_sL (F := F) d L _).symm) $$ Hs
  ihave Hc' := (Entails.of_eq (pts_sW (F := F) d L _).symm) $$ Hc
  ihave Hu' := (Entails.of_eq (pts_sD (F := F) d L _).symm) $$ Hu
  have h1 := cond1 L
  have h2 := cond2 L
  have h6 := cond6 L
  have h7 := cond7 L
  have h9 := cond9 L
  have h10 := cond10 L
  rw [cc1_k_eq_skeleton]
  sl_unfold [cc1_k_skel]
  sl_exec (disch := exact View.amount_pos _ _ (show 0 < S8x128.numel by decide))
  rw [sem_end]
  sl_exec (disch := exact View.amount_pos _ _ (show 0 < S8x128.numel by decide))
  rw [sem_end]
  sl_exec (disch := exact View.amount_pos _ _ (show 0 < S8x128.numel by decide))
  let X : S8x128.Idx → F .f32 := dma0 d L lt
  have t0 : ∀ y : S16.Idx, (⟨v209_r0 d L lt fs y, v206_r0 d L lt fs y, v208_r0 d L lt fs y, v204_r0 d L lt fs y⟩ : Top F) = topOf (rowAt X (laneCol 0 (by decide) y)) := by
    intro y
    have s0 : (⟨v100_r0 d L lt fs y, v101_r0 d L lt fs y, v103_r0 d L lt fs y, v99_r0 d L lt fs y⟩ : Top F)
      = ((Top.init (F := F)).step 0#32 (shapeCast S16 (v93_r0 d L lt fs) shapeCasts_S1x16_S16 y : F .f32)) := rfl
    have s1 : (⟨v119_r0 d L lt fs y, v116_r0 d L lt fs y, v118_r0 d L lt fs y, v114_r0 d L lt fs y⟩ : Top F)
      = ((⟨v100_r0 d L lt fs y, v101_r0 d L lt fs y, v103_r0 d L lt fs y, v99_r0 d L lt fs y⟩ : Top F).step 1#32 (shapeCast S16 (v108_r0 d L lt fs) shapeCasts_S1x16_S16 y : F .f32)) := rfl
    have s2 : (⟨v134_r0 d L lt fs y, v131_r0 d L lt fs y, v133_r0 d L lt fs y, v129_r0 d L lt fs y⟩ : Top F)
      = ((⟨v119_r0 d L lt fs y, v116_r0 d L lt fs y, v118_r0 d L lt fs y, v114_r0 d L lt fs y⟩ : Top F).step 2#32 (shapeCast S16 (v123_r0 d L lt fs) shapeCasts_S1x16_S16 y : F .f32)) := rfl
    have s3 : (⟨v149_r0 d L lt fs y, v146_r0 d L lt fs y, v148_r0 d L lt fs y, v144_r0 d L lt fs y⟩ : Top F)
      = ((⟨v134_r0 d L lt fs y, v131_r0 d L lt fs y, v133_r0 d L lt fs y, v129_r0 d L lt fs y⟩ : Top F).step 3#32 (shapeCast S16 (v138_r0 d L lt fs) shapeCasts_S1x16_S16 y : F .f32)) := rfl
    have s4 : (⟨v164_r0 d L lt fs y, v161_r0 d L lt fs y, v163_r0 d L lt fs y, v159_r0 d L lt fs y⟩ : Top F)
      = ((⟨v149_r0 d L lt fs y, v146_r0 d L lt fs y, v148_r0 d L lt fs y, v144_r0 d L lt fs y⟩ : Top F).step 4#32 (shapeCast S16 (v153_r0 d L lt fs) shapeCasts_S1x16_S16 y : F .f32)) := rfl
    have s5 : (⟨v179_r0 d L lt fs y, v176_r0 d L lt fs y, v178_r0 d L lt fs y, v174_r0 d L lt fs y⟩ : Top F)
      = ((⟨v164_r0 d L lt fs y, v161_r0 d L lt fs y, v163_r0 d L lt fs y, v159_r0 d L lt fs y⟩ : Top F).step 5#32 (shapeCast S16 (v168_r0 d L lt fs) shapeCasts_S1x16_S16 y : F .f32)) := rfl
    have s6 : (⟨v194_r0 d L lt fs y, v191_r0 d L lt fs y, v193_r0 d L lt fs y, v189_r0 d L lt fs y⟩ : Top F)
      = ((⟨v179_r0 d L lt fs y, v176_r0 d L lt fs y, v178_r0 d L lt fs y, v174_r0 d L lt fs y⟩ : Top F).step 6#32 (shapeCast S16 (v183_r0 d L lt fs) shapeCasts_S1x16_S16 y : F .f32)) := rfl
    have s7 : (⟨v209_r0 d L lt fs y, v206_r0 d L lt fs y, v208_r0 d L lt fs y, v204_r0 d L lt fs y⟩ : Top F)
      = ((⟨v194_r0 d L lt fs y, v191_r0 d L lt fs y, v193_r0 d L lt fs y, v189_r0 d L lt fs y⟩ : Top F).step 7#32 (shapeCast S16 (v198_r0 d L lt fs) shapeCasts_S1x16_S16 y : F .f32)) := rfl
    refine Eq.trans ?_ (topOf_of_steps (l0 := (shapeCast S16 (v93_r0 d L lt fs) shapeCasts_S1x16_S16 y : F .f32))
      (l1 := (shapeCast S16 (v108_r0 d L lt fs) shapeCasts_S1x16_S16 y : F .f32))
      (l2 := (shapeCast S16 (v123_r0 d L lt fs) shapeCasts_S1x16_S16 y : F .f32))
      (l3 := (shapeCast S16 (v138_r0 d L lt fs) shapeCasts_S1x16_S16 y : F .f32))
      (l4 := (shapeCast S16 (v153_r0 d L lt fs) shapeCasts_S1x16_S16 y : F .f32))
      (l5 := (shapeCast S16 (v168_r0 d L lt fs) shapeCasts_S1x16_S16 y : F .f32))
      (l6 := (shapeCast S16 (v183_r0 d L lt fs) shapeCasts_S1x16_S16 y : F .f32))
      (l7 := (shapeCast S16 (v198_r0 d L lt fs) shapeCasts_S1x16_S16 y : F .f32))
      (lane_read (v := slotL.view) fs X 0 0 (by decide) _ _ y) (lane_read (v := slotL.view) fs X 1 0 (by decide) _ _ y) (lane_read (v := slotL.view) fs X 2 0 (by decide) _ _ y) (lane_read (v := slotL.view) fs X 3 0 (by decide) _ _ y) (lane_read (v := slotL.view) fs X 4 0 (by decide) _ _ y) (lane_read (v := slotL.view) fs X 5 0 (by decide) _ _ y) (lane_read (v := slotL.view) fs X 6 0 (by decide) _ _ y) (lane_read (v := slotL.view) fs X 7 0 (by decide) _ _ y))
    rw [← s0, ← s1, ← s2, ← s3, ← s4, ← s5, ← s6, ← s7]
  have h0_0 : ∀ x : S1x16.Idx, ((v231_r0 d L lt fs) x : F .f32) = wOf (rowAt X (laneCol 0 (by decide) (unlane x))) 0#32 := fun x =>
    (show (v231_r0 d L lt fs) x = Top.w ⟨v209_r0 d L lt fs (unlane x), v206_r0 d L lt fs (unlane x), v208_r0 d L lt fs (unlane x), v204_r0 d L lt fs (unlane x)⟩ 0#32 from rfl).trans (wOf_of_top (t0 (unlane x)) _)
  have h0_1 : ∀ x : S1x16.Idx, ((v246_r0 d L lt fs) x : F .f32) = wOf (rowAt X (laneCol 0 (by decide) (unlane x))) 1#32 := fun x =>
    (show (v246_r0 d L lt fs) x = Top.w ⟨v209_r0 d L lt fs (unlane x), v206_r0 d L lt fs (unlane x), v208_r0 d L lt fs (unlane x), v204_r0 d L lt fs (unlane x)⟩ 1#32 from rfl).trans (wOf_of_top (t0 (unlane x)) _)
  have h0_2 : ∀ x : S1x16.Idx, ((v261_r0 d L lt fs) x : F .f32) = wOf (rowAt X (laneCol 0 (by decide) (unlane x))) 2#32 := fun x =>
    (show (v261_r0 d L lt fs) x = Top.w ⟨v209_r0 d L lt fs (unlane x), v206_r0 d L lt fs (unlane x), v208_r0 d L lt fs (unlane x), v204_r0 d L lt fs (unlane x)⟩ 2#32 from rfl).trans (wOf_of_top (t0 (unlane x)) _)
  have h0_3 : ∀ x : S1x16.Idx, ((v276_r0 d L lt fs) x : F .f32) = wOf (rowAt X (laneCol 0 (by decide) (unlane x))) 3#32 := fun x =>
    (show (v276_r0 d L lt fs) x = Top.w ⟨v209_r0 d L lt fs (unlane x), v206_r0 d L lt fs (unlane x), v208_r0 d L lt fs (unlane x), v204_r0 d L lt fs (unlane x)⟩ 3#32 from rfl).trans (wOf_of_top (t0 (unlane x)) _)
  have h0_4 : ∀ x : S1x16.Idx, ((v291_r0 d L lt fs) x : F .f32) = wOf (rowAt X (laneCol 0 (by decide) (unlane x))) 4#32 := fun x =>
    (show (v291_r0 d L lt fs) x = Top.w ⟨v209_r0 d L lt fs (unlane x), v206_r0 d L lt fs (unlane x), v208_r0 d L lt fs (unlane x), v204_r0 d L lt fs (unlane x)⟩ 4#32 from rfl).trans (wOf_of_top (t0 (unlane x)) _)
  have h0_5 : ∀ x : S1x16.Idx, ((v306_r0 d L lt fs) x : F .f32) = wOf (rowAt X (laneCol 0 (by decide) (unlane x))) 5#32 := fun x =>
    (show (v306_r0 d L lt fs) x = Top.w ⟨v209_r0 d L lt fs (unlane x), v206_r0 d L lt fs (unlane x), v208_r0 d L lt fs (unlane x), v204_r0 d L lt fs (unlane x)⟩ 5#32 from rfl).trans (wOf_of_top (t0 (unlane x)) _)
  have h0_6 : ∀ x : S1x16.Idx, ((v321_r0 d L lt fs) x : F .f32) = wOf (rowAt X (laneCol 0 (by decide) (unlane x))) 6#32 := fun x =>
    (show (v321_r0 d L lt fs) x = Top.w ⟨v209_r0 d L lt fs (unlane x), v206_r0 d L lt fs (unlane x), v208_r0 d L lt fs (unlane x), v204_r0 d L lt fs (unlane x)⟩ 6#32 from rfl).trans (wOf_of_top (t0 (unlane x)) _)
  have h0_7 : ∀ x : S1x16.Idx, ((k1_pay71 (v330_r0 d L lt fs)) x : F .f32) = wOf (rowAt X (laneCol 0 (by decide) (unlane x))) 7#32 := fun x =>
    (show (k1_pay71 (v330_r0 d L lt fs)) x = Top.w ⟨v209_r0 d L lt fs (unlane x), v206_r0 d L lt fs (unlane x), v208_r0 d L lt fs (unlane x), v204_r0 d L lt fs (unlane x)⟩ 7#32 from rfl).trans (wOf_of_top (t0 (unlane x)) _)
  have e0 : ∀ x : S1x16.Idx, ((k1_pay72 (v210_r0 d L lt fs)) x : F .f32) = dOf (rowAt X (laneCol 0 (by decide) (unlane x))) := fun x =>
    (show (k1_pay72 (v210_r0 d L lt fs)) x = FloatOps.subf (v206_r0 d L lt fs (unlane x)) (v209_r0 d L lt fs (unlane x)) from rfl).trans (dOf_of_top (t0 (unlane x)))
  have w0 : ∀ z, (slotW.view.read (Elt F) (Hc'_w9 d L lt fs fc) z : F .f32) = if 0 ≤ (z 1).val ∧ (z 1).val < 0 + 16 then gW X z else slotW.view.read (Elt F) fc z :=
    group_w X 0 (by decide) (by decide) (by decide) (by decide) (by decide) (by decide) (by decide) (by decide) (by decide) rfl h0_0 h0_1 h0_2 h0_3 h0_4 h0_5 h0_6 h0_7
  have u0 : ∀ z, (z 0).val = 0 → (slotD.view.read (Elt F) (Hu'_w10 d L lt fs fu) z : F .f32) = if 0 ≤ (z 1).val ∧ (z 1).val < 0 + 16 then gD X z else slotD.view.read (Elt F) fu z :=
    group_d X 0 (by decide) (by decide) rfl e0
  have t1 : ∀ y : S16.Idx, (⟨v466_r0 d L lt fs y, v463_r0 d L lt fs y, v465_r0 d L lt fs y, v461_r0 d L lt fs y⟩ : Top F) = topOf (rowAt X (laneCol 16 (by decide) y)) := by
    intro y
    have s0 : (⟨r_3 d L lt fs y, r_1 d L lt fs y, r_2 d L lt fs y, r d L lt fs y⟩ : Top F)
      = ((Top.init (F := F)).step 0#32 (shapeCast S16 (v350_r0 d L lt fs) shapeCasts_S1x16_S16 y : F .f32)) := rfl
    have s1 : (⟨v376_r0 d L lt fs y, v373_r0 d L lt fs y, v375_r0 d L lt fs y, v371_r0 d L lt fs y⟩ : Top F)
      = ((⟨r_3 d L lt fs y, r_1 d L lt fs y, r_2 d L lt fs y, r d L lt fs y⟩ : Top F).step 1#32 (shapeCast S16 (v365_r0 d L lt fs) shapeCasts_S1x16_S16 y : F .f32)) := rfl
    have s2 : (⟨v391_r0 d L lt fs y, v388_r0 d L lt fs y, v390_r0 d L lt fs y, v386_r0 d L lt fs y⟩ : Top F)
      = ((⟨v376_r0 d L lt fs y, v373_r0 d L lt fs y, v375_r0 d L lt fs y, v371_r0 d L lt fs y⟩ : Top F).step 2#32 (shapeCast S16 (v380_r0 d L lt fs) shapeCasts_S1x16_S16 y : F .f32)) := rfl
    have s3 : (⟨v406_r0 d L lt fs y, v403_r0 d L lt fs y, v405_r0 d L lt fs y, v401_r0 d L lt fs y⟩ : Top F)
      = ((⟨v391_r0 d L lt fs y, v388_r0 d L lt fs y, v390_r0 d L lt fs y, v386_r0 d L lt fs y⟩ : Top F).step 3#32 (shapeCast S16 (v395_r0 d L lt fs) shapeCasts_S1x16_S16 y : F .f32)) := rfl
    have s4 : (⟨v421_r0 d L lt fs y, v418_r0 d L lt fs y, v420_r0 d L lt fs y, v416_r0 d L lt fs y⟩ : Top F)
      = ((⟨v406_r0 d L lt fs y, v403_r0 d L lt fs y, v405_r0 d L lt fs y, v401_r0 d L lt fs y⟩ : Top F).step 4#32 (shapeCast S16 (v410_r0 d L lt fs) shapeCasts_S1x16_S16 y : F .f32)) := rfl
    have s5 : (⟨v436_r0 d L lt fs y, v433_r0 d L lt fs y, v435_r0 d L lt fs y, v431_r0 d L lt fs y⟩ : Top F)
      = ((⟨v421_r0 d L lt fs y, v418_r0 d L lt fs y, v420_r0 d L lt fs y, v416_r0 d L lt fs y⟩ : Top F).step 5#32 (shapeCast S16 (v425_r0 d L lt fs) shapeCasts_S1x16_S16 y : F .f32)) := rfl
    have s6 : (⟨v451_r0 d L lt fs y, v448_r0 d L lt fs y, v450_r0 d L lt fs y, v446_r0 d L lt fs y⟩ : Top F)
      = ((⟨v436_r0 d L lt fs y, v433_r0 d L lt fs y, v435_r0 d L lt fs y, v431_r0 d L lt fs y⟩ : Top F).step 6#32 (shapeCast S16 (v440_r0 d L lt fs) shapeCasts_S1x16_S16 y : F .f32)) := rfl
    have s7 : (⟨v466_r0 d L lt fs y, v463_r0 d L lt fs y, v465_r0 d L lt fs y, v461_r0 d L lt fs y⟩ : Top F)
      = ((⟨v451_r0 d L lt fs y, v448_r0 d L lt fs y, v450_r0 d L lt fs y, v446_r0 d L lt fs y⟩ : Top F).step 7#32 (shapeCast S16 (v455_r0 d L lt fs) shapeCasts_S1x16_S16 y : F .f32)) := rfl
    refine Eq.trans ?_ (topOf_of_steps (l0 := (shapeCast S16 (v350_r0 d L lt fs) shapeCasts_S1x16_S16 y : F .f32))
      (l1 := (shapeCast S16 (v365_r0 d L lt fs) shapeCasts_S1x16_S16 y : F .f32))
      (l2 := (shapeCast S16 (v380_r0 d L lt fs) shapeCasts_S1x16_S16 y : F .f32))
      (l3 := (shapeCast S16 (v395_r0 d L lt fs) shapeCasts_S1x16_S16 y : F .f32))
      (l4 := (shapeCast S16 (v410_r0 d L lt fs) shapeCasts_S1x16_S16 y : F .f32))
      (l5 := (shapeCast S16 (v425_r0 d L lt fs) shapeCasts_S1x16_S16 y : F .f32))
      (l6 := (shapeCast S16 (v440_r0 d L lt fs) shapeCasts_S1x16_S16 y : F .f32))
      (l7 := (shapeCast S16 (v455_r0 d L lt fs) shapeCasts_S1x16_S16 y : F .f32))
      (lane_read (v := slotL.view) fs X 0 16 (by decide) _ _ y) (lane_read (v := slotL.view) fs X 1 16 (by decide) _ _ y) (lane_read (v := slotL.view) fs X 2 16 (by decide) _ _ y) (lane_read (v := slotL.view) fs X 3 16 (by decide) _ _ y) (lane_read (v := slotL.view) fs X 4 16 (by decide) _ _ y) (lane_read (v := slotL.view) fs X 5 16 (by decide) _ _ y) (lane_read (v := slotL.view) fs X 6 16 (by decide) _ _ y) (lane_read (v := slotL.view) fs X 7 16 (by decide) _ _ y))
    rw [← s0, ← s1, ← s2, ← s3, ← s4, ← s5, ← s6, ← s7]
  have h1_0 : ∀ x : S1x16.Idx, ((v488_r0 d L lt fs) x : F .f32) = wOf (rowAt X (laneCol 16 (by decide) (unlane x))) 0#32 := fun x =>
    (show (v488_r0 d L lt fs) x = Top.w ⟨v466_r0 d L lt fs (unlane x), v463_r0 d L lt fs (unlane x), v465_r0 d L lt fs (unlane x), v461_r0 d L lt fs (unlane x)⟩ 0#32 from rfl).trans (wOf_of_top (t1 (unlane x)) _)
  have h1_1 : ∀ x : S1x16.Idx, ((v503_r0 d L lt fs) x : F .f32) = wOf (rowAt X (laneCol 16 (by decide) (unlane x))) 1#32 := fun x =>
    (show (v503_r0 d L lt fs) x = Top.w ⟨v466_r0 d L lt fs (unlane x), v463_r0 d L lt fs (unlane x), v465_r0 d L lt fs (unlane x), v461_r0 d L lt fs (unlane x)⟩ 1#32 from rfl).trans (wOf_of_top (t1 (unlane x)) _)
  have h1_2 : ∀ x : S1x16.Idx, ((v518_r0 d L lt fs) x : F .f32) = wOf (rowAt X (laneCol 16 (by decide) (unlane x))) 2#32 := fun x =>
    (show (v518_r0 d L lt fs) x = Top.w ⟨v466_r0 d L lt fs (unlane x), v463_r0 d L lt fs (unlane x), v465_r0 d L lt fs (unlane x), v461_r0 d L lt fs (unlane x)⟩ 2#32 from rfl).trans (wOf_of_top (t1 (unlane x)) _)
  have h1_3 : ∀ x : S1x16.Idx, ((v533_r0 d L lt fs) x : F .f32) = wOf (rowAt X (laneCol 16 (by decide) (unlane x))) 3#32 := fun x =>
    (show (v533_r0 d L lt fs) x = Top.w ⟨v466_r0 d L lt fs (unlane x), v463_r0 d L lt fs (unlane x), v465_r0 d L lt fs (unlane x), v461_r0 d L lt fs (unlane x)⟩ 3#32 from rfl).trans (wOf_of_top (t1 (unlane x)) _)
  have h1_4 : ∀ x : S1x16.Idx, ((v548_r0 d L lt fs) x : F .f32) = wOf (rowAt X (laneCol 16 (by decide) (unlane x))) 4#32 := fun x =>
    (show (v548_r0 d L lt fs) x = Top.w ⟨v466_r0 d L lt fs (unlane x), v463_r0 d L lt fs (unlane x), v465_r0 d L lt fs (unlane x), v461_r0 d L lt fs (unlane x)⟩ 4#32 from rfl).trans (wOf_of_top (t1 (unlane x)) _)
  have h1_5 : ∀ x : S1x16.Idx, ((v563_r0 d L lt fs) x : F .f32) = wOf (rowAt X (laneCol 16 (by decide) (unlane x))) 5#32 := fun x =>
    (show (v563_r0 d L lt fs) x = Top.w ⟨v466_r0 d L lt fs (unlane x), v463_r0 d L lt fs (unlane x), v465_r0 d L lt fs (unlane x), v461_r0 d L lt fs (unlane x)⟩ 5#32 from rfl).trans (wOf_of_top (t1 (unlane x)) _)
  have h1_6 : ∀ x : S1x16.Idx, ((k1_pay140 (v567_r0 d L lt fs) (v571_r0 d L lt fs)) x : F .f32) = wOf (rowAt X (laneCol 16 (by decide) (unlane x))) 6#32 := fun x =>
    (show (k1_pay140 (v567_r0 d L lt fs) (v571_r0 d L lt fs)) x = Top.w ⟨v466_r0 d L lt fs (unlane x), v463_r0 d L lt fs (unlane x), v465_r0 d L lt fs (unlane x), v461_r0 d L lt fs (unlane x)⟩ 6#32 from rfl).trans (wOf_of_top (t1 (unlane x)) _)
  have h1_7 : ∀ x : S1x16.Idx, ((k1_pay141 (v461_r0 d L lt fs) (v465_r0 d L lt fs) (v472_r0 d L lt fs) (v473_r0 d L lt fs)) x : F .f32) = wOf (rowAt X (laneCol 16 (by decide) (unlane x))) 7#32 := fun x =>
    (show (k1_pay141 (v461_r0 d L lt fs) (v465_r0 d L lt fs) (v472_r0 d L lt fs) (v473_r0 d L lt fs)) x = Top.w ⟨v466_r0 d L lt fs (unlane x), v463_r0 d L lt fs (unlane x), v465_r0 d L lt fs (unlane x), v461_r0 d L lt fs (unlane x)⟩ 7#32 from rfl).trans (wOf_of_top (t1 (unlane x)) _)
  have e1 : ∀ x : S1x16.Idx, ((k1_pay142 (v467_r0 d L lt fs)) x : F .f32) = dOf (rowAt X (laneCol 16 (by decide) (unlane x))) := fun x =>
    (show (k1_pay142 (v467_r0 d L lt fs)) x = FloatOps.subf (v463_r0 d L lt fs (unlane x)) (v466_r0 d L lt fs (unlane x)) from rfl).trans (dOf_of_top (t1 (unlane x)))
  have w1 : ∀ z, (slotW.view.read (Elt F) (Hc'_w18 d L lt fs fc) z : F .f32) = if 16 ≤ (z 1).val ∧ (z 1).val < 16 + 16 then gW X z else slotW.view.read (Elt F) (Hc'_w9 d L lt fs fc) z :=
    group_w X 16 (by decide) (by decide) (by decide) (by decide) (by decide) (by decide) (by decide) (by decide) (by decide) rfl h1_0 h1_1 h1_2 h1_3 h1_4 h1_5 h1_6 h1_7
  have u1 : ∀ z, (z 0).val = 0 → (slotD.view.read (Elt F) (Hu'_w19 d L lt fs fu) z : F .f32) = if 16 ≤ (z 1).val ∧ (z 1).val < 16 + 16 then gD X z else slotD.view.read (Elt F) (Hu'_w10 d L lt fs fu) z :=
    group_d X 16 (by decide) (by decide) rfl e1
  have t2 : ∀ y : S16.Idx, (⟨v723_r0 d L lt fs y, v720_r0 d L lt fs y, v722_r0 d L lt fs y, v718_r0 d L lt fs y⟩ : Top F) = topOf (rowAt X (laneCol 32 (by decide) y)) := by
    intro y
    have s0 : (⟨v618_r0 d L lt fs y, v615_r0 d L lt fs y, v617_r0 d L lt fs y, v613_r0 d L lt fs y⟩ : Top F)
      = ((Top.init (F := F)).step 0#32 (shapeCast S16 (v607_r0 d L lt fs) shapeCasts_S1x16_S16 y : F .f32)) := rfl
    have s1 : (⟨v633_r0 d L lt fs y, v630_r0 d L lt fs y, v632_r0 d L lt fs y, v628_r0 d L lt fs y⟩ : Top F)
      = ((⟨v618_r0 d L lt fs y, v615_r0 d L lt fs y, v617_r0 d L lt fs y, v613_r0 d L lt fs y⟩ : Top F).step 1#32 (shapeCast S16 (v622_r0 d L lt fs) shapeCasts_S1x16_S16 y : F .f32)) := rfl
    have s2 : (⟨v648_r0 d L lt fs y, v645_r0 d L lt fs y, v647_r0 d L lt fs y, v643_r0 d L lt fs y⟩ : Top F)
      = ((⟨v633_r0 d L lt fs y, v630_r0 d L lt fs y, v632_r0 d L lt fs y, v628_r0 d L lt fs y⟩ : Top F).step 2#32 (shapeCast S16 (v637_r0 d L lt fs) shapeCasts_S1x16_S16 y : F .f32)) := rfl
    have s3 : (⟨v663_r0 d L lt fs y, v660_r0 d L lt fs y, v662_r0 d L lt fs y, v658_r0 d L lt fs y⟩ : Top F)
      = ((⟨v648_r0 d L lt fs y, v645_r0 d L lt fs y, v647_r0 d L lt fs y, v643_r0 d L lt fs y⟩ : Top F).step 3#32 (shapeCast S16 (v652_r0 d L lt fs) shapeCasts_S1x16_S16 y : F .f32)) := rfl
    have s4 : (⟨v678_r0 d L lt fs y, v675_r0 d L lt fs y, v677_r0 d L lt fs y, v673_r0 d L lt fs y⟩ : Top F)
      = ((⟨v663_r0 d L lt fs y, v660_r0 d L lt fs y, v662_r0 d L lt fs y, v658_r0 d L lt fs y⟩ : Top F).step 4#32 (shapeCast S16 (v667_r0 d L lt fs) shapeCasts_S1x16_S16 y : F .f32)) := rfl
    have s5 : (⟨v693_r0 d L lt fs y, v690_r0 d L lt fs y, v692_r0 d L lt fs y, v688_r0 d L lt fs y⟩ : Top F)
      = ((⟨v678_r0 d L lt fs y, v675_r0 d L lt fs y, v677_r0 d L lt fs y, v673_r0 d L lt fs y⟩ : Top F).step 5#32 (shapeCast S16 (v682_r0 d L lt fs) shapeCasts_S1x16_S16 y : F .f32)) := rfl
    have s6 : (⟨v708_r0 d L lt fs y, v705_r0 d L lt fs y, v707_r0 d L lt fs y, v703_r0 d L lt fs y⟩ : Top F)
      = ((⟨v693_r0 d L lt fs y, v690_r0 d L lt fs y, v692_r0 d L lt fs y, v688_r0 d L lt fs y⟩ : Top F).step 6#32 (shapeCast S16 (v697_r0 d L lt fs) shapeCasts_S1x16_S16 y : F .f32)) := rfl
    have s7 : (⟨v723_r0 d L lt fs y, v720_r0 d L lt fs y, v722_r0 d L lt fs y, v718_r0 d L lt fs y⟩ : Top F)
      = ((⟨v708_r0 d L lt fs y, v705_r0 d L lt fs y, v707_r0 d L lt fs y, v703_r0 d L lt fs y⟩ : Top F).step 7#32 (shapeCast S16 (v712_r0 d L lt fs) shapeCasts_S1x16_S16 y : F .f32)) := rfl
    refine Eq.trans ?_ (topOf_of_steps (l0 := (shapeCast S16 (v607_r0 d L lt fs) shapeCasts_S1x16_S16 y : F .f32))
      (l1 := (shapeCast S16 (v622_r0 d L lt fs) shapeCasts_S1x16_S16 y : F .f32))
      (l2 := (shapeCast S16 (v637_r0 d L lt fs) shapeCasts_S1x16_S16 y : F .f32))
      (l3 := (shapeCast S16 (v652_r0 d L lt fs) shapeCasts_S1x16_S16 y : F .f32))
      (l4 := (shapeCast S16 (v667_r0 d L lt fs) shapeCasts_S1x16_S16 y : F .f32))
      (l5 := (shapeCast S16 (v682_r0 d L lt fs) shapeCasts_S1x16_S16 y : F .f32))
      (l6 := (shapeCast S16 (v697_r0 d L lt fs) shapeCasts_S1x16_S16 y : F .f32))
      (l7 := (shapeCast S16 (v712_r0 d L lt fs) shapeCasts_S1x16_S16 y : F .f32))
      (lane_read (v := slotL.view) fs X 0 32 (by decide) _ _ y) (lane_read (v := slotL.view) fs X 1 32 (by decide) _ _ y) (lane_read (v := slotL.view) fs X 2 32 (by decide) _ _ y) (lane_read (v := slotL.view) fs X 3 32 (by decide) _ _ y) (lane_read (v := slotL.view) fs X 4 32 (by decide) _ _ y) (lane_read (v := slotL.view) fs X 5 32 (by decide) _ _ y) (lane_read (v := slotL.view) fs X 6 32 (by decide) _ _ y) (lane_read (v := slotL.view) fs X 7 32 (by decide) _ _ y))
    rw [← s0, ← s1, ← s2, ← s3, ← s4, ← s5, ← s6, ← s7]
  have h2_0 : ∀ x : S1x16.Idx, ((v745_r0 d L lt fs) x : F .f32) = wOf (rowAt X (laneCol 32 (by decide) (unlane x))) 0#32 := fun x =>
    (show (v745_r0 d L lt fs) x = Top.w ⟨v723_r0 d L lt fs (unlane x), v720_r0 d L lt fs (unlane x), v722_r0 d L lt fs (unlane x), v718_r0 d L lt fs (unlane x)⟩ 0#32 from rfl).trans (wOf_of_top (t2 (unlane x)) _)
  have h2_1 : ∀ x : S1x16.Idx, ((v760_r0 d L lt fs) x : F .f32) = wOf (rowAt X (laneCol 32 (by decide) (unlane x))) 1#32 := fun x =>
    (show (v760_r0 d L lt fs) x = Top.w ⟨v723_r0 d L lt fs (unlane x), v720_r0 d L lt fs (unlane x), v722_r0 d L lt fs (unlane x), v718_r0 d L lt fs (unlane x)⟩ 1#32 from rfl).trans (wOf_of_top (t2 (unlane x)) _)
  have h2_2 : ∀ x : S1x16.Idx, ((v775_r0 d L lt fs) x : F .f32) = wOf (rowAt X (laneCol 32 (by decide) (unlane x))) 2#32 := fun x =>
    (show (v775_r0 d L lt fs) x = Top.w ⟨v723_r0 d L lt fs (unlane x), v720_r0 d L lt fs (unlane x), v722_r0 d L lt fs (unlane x), v718_r0 d L lt fs (unlane x)⟩ 2#32 from rfl).trans (wOf_of_top (t2 (unlane x)) _)
  have h2_3 : ∀ x : S1x16.Idx, ((v790_r0 d L lt fs) x : F .f32) = wOf (rowAt X (laneCol 32 (by decide) (unlane x))) 3#32 := fun x =>
    (show (v790_r0 d L lt fs) x = Top.w ⟨v723_r0 d L lt fs (unlane x), v720_r0 d L lt fs (unlane x), v722_r0 d L lt fs (unlane x), v718_r0 d L lt fs (unlane x)⟩ 3#32 from rfl).trans (wOf_of_top (t2 (unlane x)) _)
  have h2_4 : ∀ x : S1x16.Idx, ((v805_r0 d L lt fs) x : F .f32) = wOf (rowAt X (laneCol 32 (by decide) (unlane x))) 4#32 := fun x =>
    (show (v805_r0 d L lt fs) x = Top.w ⟨v723_r0 d L lt fs (unlane x), v720_r0 d L lt fs (unlane x), v722_r0 d L lt fs (unlane x), v718_r0 d L lt fs (unlane x)⟩ 4#32 from rfl).trans (wOf_of_top (t2 (unlane x)) _)
  have h2_5 : ∀ x : S1x16.Idx, ((v820_r0 d L lt fs) x : F .f32) = wOf (rowAt X (laneCol 32 (by decide) (unlane x))) 5#32 := fun x =>
    (show (v820_r0 d L lt fs) x = Top.w ⟨v723_r0 d L lt fs (unlane x), v720_r0 d L lt fs (unlane x), v722_r0 d L lt fs (unlane x), v718_r0 d L lt fs (unlane x)⟩ 5#32 from rfl).trans (wOf_of_top (t2 (unlane x)) _)
  have h2_6 : ∀ x : S1x16.Idx, ((v835_r0 d L lt fs) x : F .f32) = wOf (rowAt X (laneCol 32 (by decide) (unlane x))) 6#32 := fun x =>
    (show (v835_r0 d L lt fs) x = Top.w ⟨v723_r0 d L lt fs (unlane x), v720_r0 d L lt fs (unlane x), v722_r0 d L lt fs (unlane x), v718_r0 d L lt fs (unlane x)⟩ 6#32 from rfl).trans (wOf_of_top (t2 (unlane x)) _)
  have h2_7 : ∀ x : S1x16.Idx, ((k1_pay213 (v844_r0 d L lt fs)) x : F .f32) = wOf (rowAt X (laneCol 32 (by decide) (unlane x))) 7#32 := fun x =>
    (show (k1_pay213 (v844_r0 d L lt fs)) x = Top.w ⟨v723_r0 d L lt fs (unlane x), v720_r0 d L lt fs (unlane x), v722_r0 d L lt fs (unlane x), v718_r0 d L lt fs (unlane x)⟩ 7#32 from rfl).trans (wOf_of_top (t2 (unlane x)) _)
  have e2 : ∀ x : S1x16.Idx, ((k1_pay214 (v724_r0 d L lt fs)) x : F .f32) = dOf (rowAt X (laneCol 32 (by decide) (unlane x))) := fun x =>
    (show (k1_pay214 (v724_r0 d L lt fs)) x = FloatOps.subf (v720_r0 d L lt fs (unlane x)) (v723_r0 d L lt fs (unlane x)) from rfl).trans (dOf_of_top (t2 (unlane x)))
  have w2 : ∀ z, (slotW.view.read (Elt F) (Hc'_w27 d L lt fs fc) z : F .f32) = if 32 ≤ (z 1).val ∧ (z 1).val < 32 + 16 then gW X z else slotW.view.read (Elt F) (Hc'_w18 d L lt fs fc) z :=
    group_w X 32 (by decide) (by decide) (by decide) (by decide) (by decide) (by decide) (by decide) (by decide) (by decide) rfl h2_0 h2_1 h2_2 h2_3 h2_4 h2_5 h2_6 h2_7
  have u2 : ∀ z, (z 0).val = 0 → (slotD.view.read (Elt F) (Hu'_w28 d L lt fs fu) z : F .f32) = if 32 ≤ (z 1).val ∧ (z 1).val < 32 + 16 then gD X z else slotD.view.read (Elt F) (Hu'_w19 d L lt fs fu) z :=
    group_d X 32 (by decide) (by decide) rfl e2
  have t3 : ∀ y : S16.Idx, (⟨v980_r0 d L lt fs y, v977_r0 d L lt fs y, v979_r0 d L lt fs y, v975_r0 d L lt fs y⟩ : Top F) = topOf (rowAt X (laneCol 48 (by decide) y)) := by
    intro y
    have s1 : (⟨v890_r0 d L lt fs y, v887_r0 d L lt fs y, v889_r0 d L lt fs y, r_11 d L lt fs y⟩ : Top F)
      = (((Top.init (F := F)).step 0#32 (shapeCast S16 (v864_r0 d L lt fs) shapeCasts_S1x16_S16 y : F .f32)).step 1#32 (shapeCast S16 (v879_r0 d L lt fs) shapeCasts_S1x16_S16 y : F .f32)) := rfl
    have s2 : (⟨v905_r0 d L lt fs y, v902_r0 d L lt fs y, v904_r0 d L lt fs y, v900_r0 d L lt fs y⟩ : Top F)
      = ((⟨v890_r0 d L lt fs y, v887_r0 d L lt fs y, v889_r0 d L lt fs y, r_11 d L lt fs y⟩ : Top F).step 2#32 (shapeCast S16 (v894_r0 d L lt fs) shapeCasts_S1x16_S16 y : F .f32)) := rfl
    have s3 : (⟨v920_r0 d L lt fs y, v917_r0 d L lt fs y, v919_r0 d L lt fs y, v915_r0 d L lt fs y⟩ : Top F)
      = ((⟨v905_r0 d L lt fs y, v902_r0 d L lt fs y, v904_r0 d L lt fs y, v900_r0 d L lt fs y⟩ : Top F).step 3#32 (shapeCast S16 (v909_r0 d L lt fs) shapeCasts_S1x16_S16 y : F .f32)) := rfl
    have s4 : (⟨v935_r0 d L lt fs y, v932_r0 d L lt fs y, v934_r0 d L lt fs y, v930_r0 d L lt fs y⟩ : Top F)
      = ((⟨v920_r0 d L lt fs y, v917_r0 d L lt fs y, v919_r0 d L lt fs y, v915_r0 d L lt fs y⟩ : Top F).step 4#32 (shapeCast S16 (v924_r0 d L lt fs) shapeCasts_S1x16_S16 y : F .f32)) := rfl
    have s5 : (⟨v950_r0 d L lt fs y, v947_r0 d L lt fs y, v949_r0 d L lt fs y, v945_r0 d L lt fs y⟩ : Top F)
      = ((⟨v935_r0 d L lt fs y, v932_r0 d L lt fs y, v934_r0 d L lt fs y, v930_r0 d L lt fs y⟩ : Top F).step 5#32 (shapeCast S16 (v939_r0 d L lt fs) shapeCasts_S1x16_S16 y : F .f32)) := rfl
    have s6 : (⟨v965_r0 d L lt fs y, v962_r0 d L lt fs y, v964_r0 d L lt fs y, v960_r0 d L lt fs y⟩ : Top F)
      = ((⟨v950_r0 d L lt fs y, v947_r0 d L lt fs y, v949_r0 d L lt fs y, v945_r0 d L lt fs y⟩ : Top F).step 6#32 (shapeCast S16 (v954_r0 d L lt fs) shapeCasts_S1x16_S16 y : F .f32)) := rfl
    have s7 : (⟨v980_r0 d L lt fs y, v977_r0 d L lt fs y, v979_r0 d L lt fs y, v975_r0 d L lt fs y⟩ : Top F)
      = ((⟨v965_r0 d L lt fs y, v962_r0 d L lt fs y, v964_r0 d L lt fs y, v960_r0 d L lt fs y⟩ : Top F).step 7#32 (shapeCast S16 (v969_r0 d L lt fs) shapeCasts_S1x16_S16 y : F .f32)) := rfl
    refine Eq.trans ?_ (topOf_of_steps (l0 := (shapeCast S16 (v864_r0 d L lt fs) shapeCasts_S1x16_S16 y : F .f32))
      (l1 := (shapeCast S16 (v879_r0 d L lt fs) shapeCasts_S1x16_S16 y : F .f32))
      (l2 := (shapeCast S16 (v894_r0 d L lt fs) shapeCasts_S1x16_S16 y : F .f32))
      (l3 := (shapeCast S16 (v909_r0 d L lt fs) shapeCasts_S1x16_S16 y : F .f32))
      (l4 := (shapeCast S16 (v924_r0 d L lt fs) shapeCasts_S1x16_S16 y : F .f32))
      (l5 := (shapeCast S16 (v939_r0 d L lt fs) shapeCasts_S1x16_S16 y : F .f32))
      (l6 := (shapeCast S16 (v954_r0 d L lt fs) shapeCasts_S1x16_S16 y : F .f32))
      (l7 := (shapeCast S16 (v969_r0 d L lt fs) shapeCasts_S1x16_S16 y : F .f32))
      (lane_read (v := slotL.view) fs X 0 48 (by decide) _ _ y) (lane_read (v := slotL.view) fs X 1 48 (by decide) _ _ y) (lane_read (v := slotL.view) fs X 2 48 (by decide) _ _ y) (lane_read (v := slotL.view) fs X 3 48 (by decide) _ _ y) (lane_read (v := slotL.view) fs X 4 48 (by decide) _ _ y) (lane_read (v := slotL.view) fs X 5 48 (by decide) _ _ y) (lane_read (v := slotL.view) fs X 6 48 (by decide) _ _ y) (lane_read (v := slotL.view) fs X 7 48 (by decide) _ _ y))
    rw [← s1, ← s2, ← s3, ← s4, ← s5, ← s6, ← s7]
  have h3_0 : ∀ x : S1x16.Idx, ((v1002_r0 d L lt fs) x : F .f32) = wOf (rowAt X (laneCol 48 (by decide) (unlane x))) 0#32 := fun x =>
    (show (v1002_r0 d L lt fs) x = Top.w ⟨v980_r0 d L lt fs (unlane x), v977_r0 d L lt fs (unlane x), v979_r0 d L lt fs (unlane x), v975_r0 d L lt fs (unlane x)⟩ 0#32 from rfl).trans (wOf_of_top (t3 (unlane x)) _)
  have h3_1 : ∀ x : S1x16.Idx, ((v1017_r0 d L lt fs) x : F .f32) = wOf (rowAt X (laneCol 48 (by decide) (unlane x))) 1#32 := fun x =>
    (show (v1017_r0 d L lt fs) x = Top.w ⟨v980_r0 d L lt fs (unlane x), v977_r0 d L lt fs (unlane x), v979_r0 d L lt fs (unlane x), v975_r0 d L lt fs (unlane x)⟩ 1#32 from rfl).trans (wOf_of_top (t3 (unlane x)) _)
  have h3_2 : ∀ x : S1x16.Idx, ((v1032_r0 d L lt fs) x : F .f32) = wOf (rowAt X (laneCol 48 (by decide) (unlane x))) 2#32 := fun x =>
    (show (v1032_r0 d L lt fs) x = Top.w ⟨v980_r0 d L lt fs (unlane x), v977_r0 d L lt fs (unlane x), v979_r0 d L lt fs (unlane x), v975_r0 d L lt fs (unlane x)⟩ 2#32 from rfl).trans (wOf_of_top (t3 (unlane x)) _)
  have h3_3 : ∀ x : S1x16.Idx, ((v1047_r0 d L lt fs) x : F .f32) = wOf (rowAt X (laneCol 48 (by decide) (unlane x))) 3#32 := fun x =>
    (show (v1047_r0 d L lt fs) x = Top.w ⟨v980_r0 d L lt fs (unlane x), v977_r0 d L lt fs (unlane x), v979_r0 d L lt fs (unlane x), v975_r0 d L lt fs (unlane x)⟩ 3#32 from rfl).trans (wOf_of_top (t3 (unlane x)) _)
  have h3_4 : ∀ x : S1x16.Idx, ((v1062_r0 d L lt fs) x : F .f32) = wOf (rowAt X (laneCol 48 (by decide) (unlane x))) 4#32 := fun x =>
    (show (v1062_r0 d L lt fs) x = Top.w ⟨v980_r0 d L lt fs (unlane x), v977_r0 d L lt fs (unlane x), v979_r0 d L lt fs (unlane x), v975_r0 d L lt fs (unlane x)⟩ 4#32 from rfl).trans (wOf_of_top (t3 (unlane x)) _)
  have h3_5 : ∀ x : S1x16.Idx, ((v1077_r0 d L lt fs) x : F .f32) = wOf (rowAt X (laneCol 48 (by decide) (unlane x))) 5#32 := fun x =>
    (show (v1077_r0 d L lt fs) x = Top.w ⟨v980_r0 d L lt fs (unlane x), v977_r0 d L lt fs (unlane x), v979_r0 d L lt fs (unlane x), v975_r0 d L lt fs (unlane x)⟩ 5#32 from rfl).trans (wOf_of_top (t3 (unlane x)) _)
  have h3_6 : ∀ x : S1x16.Idx, ((k1_pay283 (v1086_r0 d L lt fs)) x : F .f32) = wOf (rowAt X (laneCol 48 (by decide) (unlane x))) 6#32 := fun x =>
    (show (k1_pay283 (v1086_r0 d L lt fs)) x = Top.w ⟨v980_r0 d L lt fs (unlane x), v977_r0 d L lt fs (unlane x), v979_r0 d L lt fs (unlane x), v975_r0 d L lt fs (unlane x)⟩ 6#32 from rfl).trans (wOf_of_top (t3 (unlane x)) _)
  have h3_7 : ∀ x : S1x16.Idx, ((k1_pay284 (v975_r0 d L lt fs) (v979_r0 d L lt fs) (v986_r0 d L lt fs) (v987_r0 d L lt fs)) x : F .f32) = wOf (rowAt X (laneCol 48 (by decide) (unlane x))) 7#32 := fun x =>
    (show (k1_pay284 (v975_r0 d L lt fs) (v979_r0 d L lt fs) (v986_r0 d L lt fs) (v987_r0 d L lt fs)) x = Top.w ⟨v980_r0 d L lt fs (unlane x), v977_r0 d L lt fs (unlane x), v979_r0 d L lt fs (unlane x), v975_r0 d L lt fs (unlane x)⟩ 7#32 from rfl).trans (wOf_of_top (t3 (unlane x)) _)
  have e3 : ∀ x : S1x16.Idx, ((k1_pay285 (v981_r0 d L lt fs)) x : F .f32) = dOf (rowAt X (laneCol 48 (by decide) (unlane x))) := fun x =>
    (show (k1_pay285 (v981_r0 d L lt fs)) x = FloatOps.subf (v977_r0 d L lt fs (unlane x)) (v980_r0 d L lt fs (unlane x)) from rfl).trans (dOf_of_top (t3 (unlane x)))
  have w3 : ∀ z, (slotW.view.read (Elt F) (Hc'_w36 d L lt fs fc) z : F .f32) = if 48 ≤ (z 1).val ∧ (z 1).val < 48 + 16 then gW X z else slotW.view.read (Elt F) (Hc'_w27 d L lt fs fc) z :=
    group_w X 48 (by decide) (by decide) (by decide) (by decide) (by decide) (by decide) (by decide) (by decide) (by decide) rfl h3_0 h3_1 h3_2 h3_3 h3_4 h3_5 h3_6 h3_7
  have u3 : ∀ z, (z 0).val = 0 → (slotD.view.read (Elt F) (Hu'_w37 d L lt fs fu) z : F .f32) = if 48 ≤ (z 1).val ∧ (z 1).val < 48 + 16 then gD X z else slotD.view.read (Elt F) (Hu'_w28 d L lt fs fu) z :=
    group_d X 48 (by decide) (by decide) rfl e3
  have t4 : ∀ y : S16.Idx, (⟨v1237_r0 d L lt fs y, v1234_r0 d L lt fs y, v1236_r0 d L lt fs y, v1232_r0 d L lt fs y⟩ : Top F) = topOf (rowAt X (laneCol 64 (by decide) y)) := by
    intro y
    have s0 : (⟨v1128_r0 d L lt fs y, v1129_r0 d L lt fs y, v1126_r0 d L lt fs y, v1127_r0 d L lt fs y⟩ : Top F)
      = ((Top.init (F := F)).step 0#32 (shapeCast S16 (v1121_r0 d L lt fs) shapeCasts_S1x16_S16 y : F .f32)) := rfl
    have s1 : (⟨v1147_r0 d L lt fs y, v1144_r0 d L lt fs y, v1146_r0 d L lt fs y, v1142_r0 d L lt fs y⟩ : Top F)
      = ((⟨v1128_r0 d L lt fs y, v1129_r0 d L lt fs y, v1126_r0 d L lt fs y, v1127_r0 d L lt fs y⟩ : Top F).step 1#32 (shapeCast S16 (v1136_r0 d L lt fs) shapeCasts_S1x16_S16 y : F .f32)) := rfl
    have s2 : (⟨v1162_r0 d L lt fs y, v1159_r0 d L lt fs y, v1161_r0 d L lt fs y, v1157_r0 d L lt fs y⟩ : Top F)
      = ((⟨v1147_r0 d L lt fs y, v1144_r0 d L lt fs y, v1146_r0 d L lt fs y, v1142_r0 d L lt fs y⟩ : Top F).step 2#32 (shapeCast S16 (v1151_r0 d L lt fs) shapeCasts_S1x16_S16 y : F .f32)) := rfl
    have s3 : (⟨v1177_r0 d L lt fs y, v1174_r0 d L lt fs y, v1176_r0 d L lt fs y, v1172_r0 d L lt fs y⟩ : Top F)
      = ((⟨v1162_r0 d L lt fs y, v1159_r0 d L lt fs y, v1161_r0 d L lt fs y, v1157_r0 d L lt fs y⟩ : Top F).step 3#32 (shapeCast S16 (v1166_r0 d L lt fs) shapeCasts_S1x16_S16 y : F .f32)) := rfl
    have s4 : (⟨v1192_r0 d L lt fs y, v1189_r0 d L lt fs y, v1191_r0 d L lt fs y, v1187_r0 d L lt fs y⟩ : Top F)
      = ((⟨v1177_r0 d L lt fs y, v1174_r0 d L lt fs y, v1176_r0 d L lt fs y, v1172_r0 d L lt fs y⟩ : Top F).step 4#32 (shapeCast S16 (v1181_r0 d L lt fs) shapeCasts_S1x16_S16 y : F .f32)) := rfl
    have s5 : (⟨v1207_r0 d L lt fs y, v1204_r0 d L lt fs y, v1206_r0 d L lt fs y, v1202_r0 d L lt fs y⟩ : Top F)
      = ((⟨v1192_r0 d L lt fs y, v1189_r0 d L lt fs y, v1191_r0 d L lt fs y, v1187_r0 d L lt fs y⟩ : Top F).step 5#32 (shapeCast S16 (v1196_r0 d L lt fs) shapeCasts_S1x16_S16 y : F .f32)) := rfl
    have s6 : (⟨v1222_r0 d L lt fs y, v1219_r0 d L lt fs y, v1221_r0 d L lt fs y, v1217_r0 d L lt fs y⟩ : Top F)
      = ((⟨v1207_r0 d L lt fs y, v1204_r0 d L lt fs y, v1206_r0 d L lt fs y, v1202_r0 d L lt fs y⟩ : Top F).step 6#32 (shapeCast S16 (v1211_r0 d L lt fs) shapeCasts_S1x16_S16 y : F .f32)) := rfl
    have s7 : (⟨v1237_r0 d L lt fs y, v1234_r0 d L lt fs y, v1236_r0 d L lt fs y, v1232_r0 d L lt fs y⟩ : Top F)
      = ((⟨v1222_r0 d L lt fs y, v1219_r0 d L lt fs y, v1221_r0 d L lt fs y, v1217_r0 d L lt fs y⟩ : Top F).step 7#32 (shapeCast S16 (v1226_r0 d L lt fs) shapeCasts_S1x16_S16 y : F .f32)) := rfl
    refine Eq.trans ?_ (topOf_of_steps (l0 := (shapeCast S16 (v1121_r0 d L lt fs) shapeCasts_S1x16_S16 y : F .f32))
      (l1 := (shapeCast S16 (v1136_r0 d L lt fs) shapeCasts_S1x16_S16 y : F .f32))
      (l2 := (shapeCast S16 (v1151_r0 d L lt fs) shapeCasts_S1x16_S16 y : F .f32))
      (l3 := (shapeCast S16 (v1166_r0 d L lt fs) shapeCasts_S1x16_S16 y : F .f32))
      (l4 := (shapeCast S16 (v1181_r0 d L lt fs) shapeCasts_S1x16_S16 y : F .f32))
      (l5 := (shapeCast S16 (v1196_r0 d L lt fs) shapeCasts_S1x16_S16 y : F .f32))
      (l6 := (shapeCast S16 (v1211_r0 d L lt fs) shapeCasts_S1x16_S16 y : F .f32))
      (l7 := (shapeCast S16 (v1226_r0 d L lt fs) shapeCasts_S1x16_S16 y : F .f32))
      (lane_read (v := slotL.view) fs X 0 64 (by decide) _ _ y) (lane_read (v := slotL.view) fs X 1 64 (by decide) _ _ y) (lane_read (v := slotL.view) fs X 2 64 (by decide) _ _ y) (lane_read (v := slotL.view) fs X 3 64 (by decide) _ _ y) (lane_read (v := slotL.view) fs X 4 64 (by decide) _ _ y) (lane_read (v := slotL.view) fs X 5 64 (by decide) _ _ y) (lane_read (v := slotL.view) fs X 6 64 (by decide) _ _ y) (lane_read (v := slotL.view) fs X 7 64 (by decide) _ _ y))
    rw [← s0, ← s1, ← s2, ← s3, ← s4, ← s5, ← s6, ← s7]
  have h4_0 : ∀ x : S1x16.Idx, ((v1259_r0 d L lt fs) x : F .f32) = wOf (rowAt X (laneCol 64 (by decide) (unlane x))) 0#32 := fun x =>
    (show (v1259_r0 d L lt fs) x = Top.w ⟨v1237_r0 d L lt fs (unlane x), v1234_r0 d L lt fs (unlane x), v1236_r0 d L lt fs (unlane x), v1232_r0 d L lt fs (unlane x)⟩ 0#32 from rfl).trans (wOf_of_top (t4 (unlane x)) _)
  have h4_1 : ∀ x : S1x16.Idx, ((v1274_r0 d L lt fs) x : F .f32) = wOf (rowAt X (laneCol 64 (by decide) (unlane x))) 1#32 := fun x =>
    (show (v1274_r0 d L lt fs) x = Top.w ⟨v1237_r0 d L lt fs (unlane x), v1234_r0 d L lt fs (unlane x), v1236_r0 d L lt fs (unlane x), v1232_r0 d L lt fs (unlane x)⟩ 1#32 from rfl).trans (wOf_of_top (t4 (unlane x)) _)
  have h4_2 : ∀ x : S1x16.Idx, ((v1289_r0 d L lt fs) x : F .f32) = wOf (rowAt X (laneCol 64 (by decide) (unlane x))) 2#32 := fun x =>
    (show (v1289_r0 d L lt fs) x = Top.w ⟨v1237_r0 d L lt fs (unlane x), v1234_r0 d L lt fs (unlane x), v1236_r0 d L lt fs (unlane x), v1232_r0 d L lt fs (unlane x)⟩ 2#32 from rfl).trans (wOf_of_top (t4 (unlane x)) _)
  have h4_3 : ∀ x : S1x16.Idx, ((v1304_r0 d L lt fs) x : F .f32) = wOf (rowAt X (laneCol 64 (by decide) (unlane x))) 3#32 := fun x =>
    (show (v1304_r0 d L lt fs) x = Top.w ⟨v1237_r0 d L lt fs (unlane x), v1234_r0 d L lt fs (unlane x), v1236_r0 d L lt fs (unlane x), v1232_r0 d L lt fs (unlane x)⟩ 3#32 from rfl).trans (wOf_of_top (t4 (unlane x)) _)
  have h4_4 : ∀ x : S1x16.Idx, ((v1319_r0 d L lt fs) x : F .f32) = wOf (rowAt X (laneCol 64 (by decide) (unlane x))) 4#32 := fun x =>
    (show (v1319_r0 d L lt fs) x = Top.w ⟨v1237_r0 d L lt fs (unlane x), v1234_r0 d L lt fs (unlane x), v1236_r0 d L lt fs (unlane x), v1232_r0 d L lt fs (unlane x)⟩ 4#32 from rfl).trans (wOf_of_top (t4 (unlane x)) _)
  have h4_5 : ∀ x : S1x16.Idx, ((v1334_r0 d L lt fs) x : F .f32) = wOf (rowAt X (laneCol 64 (by decide) (unlane x))) 5#32 := fun x =>
    (show (v1334_r0 d L lt fs) x = Top.w ⟨v1237_r0 d L lt fs (unlane x), v1234_r0 d L lt fs (unlane x), v1236_r0 d L lt fs (unlane x), v1232_r0 d L lt fs (unlane x)⟩ 5#32 from rfl).trans (wOf_of_top (t4 (unlane x)) _)
  have h4_6 : ∀ x : S1x16.Idx, ((v1349_r0 d L lt fs) x : F .f32) = wOf (rowAt X (laneCol 64 (by decide) (unlane x))) 6#32 := fun x =>
    (show (v1349_r0 d L lt fs) x = Top.w ⟨v1237_r0 d L lt fs (unlane x), v1234_r0 d L lt fs (unlane x), v1236_r0 d L lt fs (unlane x), v1232_r0 d L lt fs (unlane x)⟩ 6#32 from rfl).trans (wOf_of_top (t4 (unlane x)) _)
  have h4_7 : ∀ x : S1x16.Idx, ((v1364_r0 d L lt fs) x : F .f32) = wOf (rowAt X (laneCol 64 (by decide) (unlane x))) 7#32 := fun x =>
    (show (v1364_r0 d L lt fs) x = Top.w ⟨v1237_r0 d L lt fs (unlane x), v1234_r0 d L lt fs (unlane x), v1236_r0 d L lt fs (unlane x), v1232_r0 d L lt fs (unlane x)⟩ 7#32 from rfl).trans (wOf_of_top (t4 (unlane x)) _)
  have e4 : ∀ x : S1x16.Idx, ((k1_pay355 (v1238_r0 d L lt fs)) x : F .f32) = dOf (rowAt X (laneCol 64 (by decide) (unlane x))) := fun x =>
    (show (k1_pay355 (v1238_r0 d L lt fs)) x = FloatOps.subf (v1234_r0 d L lt fs (unlane x)) (v1237_r0 d L lt fs (unlane x)) from rfl).trans (dOf_of_top (t4 (unlane x)))
  have w4 : ∀ z, (slotW.view.read (Elt F) (Hc'_w45 d L lt fs fc) z : F .f32) = if 64 ≤ (z 1).val ∧ (z 1).val < 64 + 16 then gW X z else slotW.view.read (Elt F) (Hc'_w36 d L lt fs fc) z :=
    group_w X 64 (by decide) (by decide) (by decide) (by decide) (by decide) (by decide) (by decide) (by decide) (by decide) rfl h4_0 h4_1 h4_2 h4_3 h4_4 h4_5 h4_6 h4_7
  have u4 : ∀ z, (z 0).val = 0 → (slotD.view.read (Elt F) (Hu'_w46 d L lt fs fu) z : F .f32) = if 64 ≤ (z 1).val ∧ (z 1).val < 64 + 16 then gD X z else slotD.view.read (Elt F) (Hu'_w37 d L lt fs fu) z :=
    group_d X 64 (by decide) (by decide) rfl e4
  have t5 : ∀ y : S16.Idx, (⟨v1494_r0 d L lt fs y, v1491_r0 d L lt fs y, v1493_r0 d L lt fs y, v1489_r0 d L lt fs y⟩ : Top F) = topOf (rowAt X (laneCol 80 (by decide) y)) := by
    intro y
    have s1 : (⟨v1404_r0 d L lt fs y, r_18 d L lt fs y, r_19 d L lt fs y, r_17 d L lt fs y⟩ : Top F)
      = (((Top.init (F := F)).step 0#32 (shapeCast S16 (v1378_r0 d L lt fs) shapeCasts_S1x16_S16 y : F .f32)).step 1#32 (shapeCast S16 (v1393_r0 d L lt fs) shapeCasts_S1x16_S16 y : F .f32)) := rfl
    have s2 : (⟨v1419_r0 d L lt fs y, v1416_r0 d L lt fs y, v1418_r0 d L lt fs y, v1414_r0 d L lt fs y⟩ : Top F)
      = ((⟨v1404_r0 d L lt fs y, r_18 d L lt fs y, r_19 d L lt fs y, r_17 d L lt fs y⟩ : Top F).step 2#32 (shapeCast S16 (v1408_r0 d L lt fs) shapeCasts_S1x16_S16 y : F .f32)) := rfl
    have s3 : (⟨v1434_r0 d L lt fs y, v1431_r0 d L lt fs y, v1433_r0 d L lt fs y, v1429_r0 d L lt fs y⟩ : Top F)
      = ((⟨v1419_r0 d L lt fs y, v1416_r0 d L lt fs y, v1418_r0 d L lt fs y, v1414_r0 d L lt fs y⟩ : Top F).step 3#32 (shapeCast S16 (v1423_r0 d L lt fs) shapeCasts_S1x16_S16 y : F .f32)) := rfl
    have s4 : (⟨v1449_r0 d L lt fs y, v1446_r0 d L lt fs y, v1448_r0 d L lt fs y, v1444_r0 d L lt fs y⟩ : Top F)
      = ((⟨v1434_r0 d L lt fs y, v1431_r0 d L lt fs y, v1433_r0 d L lt fs y, v1429_r0 d L lt fs y⟩ : Top F).step 4#32 (shapeCast S16 (v1438_r0 d L lt fs) shapeCasts_S1x16_S16 y : F .f32)) := rfl
    have s5 : (⟨v1464_r0 d L lt fs y, v1461_r0 d L lt fs y, v1463_r0 d L lt fs y, v1459_r0 d L lt fs y⟩ : Top F)
      = ((⟨v1449_r0 d L lt fs y, v1446_r0 d L lt fs y, v1448_r0 d L lt fs y, v1444_r0 d L lt fs y⟩ : Top F).step 5#32 (shapeCast S16 (v1453_r0 d L lt fs) shapeCasts_S1x16_S16 y : F .f32)) := rfl
    have s6 : (⟨v1479_r0 d L lt fs y, v1476_r0 d L lt fs y, v1478_r0 d L lt fs y, v1474_r0 d L lt fs y⟩ : Top F)
      = ((⟨v1464_r0 d L lt fs y, v1461_r0 d L lt fs y, v1463_r0 d L lt fs y, v1459_r0 d L lt fs y⟩ : Top F).step 6#32 (shapeCast S16 (v1468_r0 d L lt fs) shapeCasts_S1x16_S16 y : F .f32)) := rfl
    have s7 : (⟨v1494_r0 d L lt fs y, v1491_r0 d L lt fs y, v1493_r0 d L lt fs y, v1489_r0 d L lt fs y⟩ : Top F)
      = ((⟨v1479_r0 d L lt fs y, v1476_r0 d L lt fs y, v1478_r0 d L lt fs y, v1474_r0 d L lt fs y⟩ : Top F).step 7#32 (shapeCast S16 (v1483_r0 d L lt fs) shapeCasts_S1x16_S16 y : F .f32)) := rfl
    refine Eq.trans ?_ (topOf_of_steps (l0 := (shapeCast S16 (v1378_r0 d L lt fs) shapeCasts_S1x16_S16 y : F .f32))
      (l1 := (shapeCast S16 (v1393_r0 d L lt fs) shapeCasts_S1x16_S16 y : F .f32))
      (l2 := (shapeCast S16 (v1408_r0 d L lt fs) shapeCasts_S1x16_S16 y : F .f32))
      (l3 := (shapeCast S16 (v1423_r0 d L lt fs) shapeCasts_S1x16_S16 y : F .f32))
      (l4 := (shapeCast S16 (v1438_r0 d L lt fs) shapeCasts_S1x16_S16 y : F .f32))
      (l5 := (shapeCast S16 (v1453_r0 d L lt fs) shapeCasts_S1x16_S16 y : F .f32))
      (l6 := (shapeCast S16 (v1468_r0 d L lt fs) shapeCasts_S1x16_S16 y : F .f32))
      (l7 := (shapeCast S16 (v1483_r0 d L lt fs) shapeCasts_S1x16_S16 y : F .f32))
      (lane_read (v := slotL.view) fs X 0 80 (by decide) _ _ y) (lane_read (v := slotL.view) fs X 1 80 (by decide) _ _ y) (lane_read (v := slotL.view) fs X 2 80 (by decide) _ _ y) (lane_read (v := slotL.view) fs X 3 80 (by decide) _ _ y) (lane_read (v := slotL.view) fs X 4 80 (by decide) _ _ y) (lane_read (v := slotL.view) fs X 5 80 (by decide) _ _ y) (lane_read (v := slotL.view) fs X 6 80 (by decide) _ _ y) (lane_read (v := slotL.view) fs X 7 80 (by decide) _ _ y))
    rw [← s1, ← s2, ← s3, ← s4, ← s5, ← s6, ← s7]
  have h5_0 : ∀ x : S1x16.Idx, ((v1516_r0 d L lt fs) x : F .f32) = wOf (rowAt X (laneCol 80 (by decide) (unlane x))) 0#32 := fun x =>
    (show (v1516_r0 d L lt fs) x = Top.w ⟨v1494_r0 d L lt fs (unlane x), v1491_r0 d L lt fs (unlane x), v1493_r0 d L lt fs (unlane x), v1489_r0 d L lt fs (unlane x)⟩ 0#32 from rfl).trans (wOf_of_top (t5 (unlane x)) _)
  have h5_1 : ∀ x : S1x16.Idx, ((v1531_r0 d L lt fs) x : F .f32) = wOf (rowAt X (laneCol 80 (by decide) (unlane x))) 1#32 := fun x =>
    (show (v1531_r0 d L lt fs) x = Top.w ⟨v1494_r0 d L lt fs (unlane x), v1491_r0 d L lt fs (unlane x), v1493_r0 d L lt fs (unlane x), v1489_r0 d L lt fs (unlane x)⟩ 1#32 from rfl).trans (wOf_of_top (t5 (unlane x)) _)
  have h5_2 : ∀ x : S1x16.Idx, ((v1546_r0 d L lt fs) x : F .f32) = wOf (rowAt X (laneCol 80 (by decide) (unlane x))) 2#32 := fun x =>
    (show (v1546_r0 d L lt fs) x = Top.w ⟨v1494_r0 d L lt fs (unlane x), v1491_r0 d L lt fs (unlane x), v1493_r0 d L lt fs (unlane x), v1489_r0 d L lt fs (unlane x)⟩ 2#32 from rfl).trans (wOf_of_top (t5 (unlane x)) _)
  have h5_3 : ∀ x : S1x16.Idx, ((v1561_r0 d L lt fs) x : F .f32) = wOf (rowAt X (laneCol 80 (by decide) (unlane x))) 3#32 := fun x =>
    (show (v1561_r0 d L lt fs) x = Top.w ⟨v1494_r0 d L lt fs (unlane x), v1491_r0 d L lt fs (unlane x), v1493_r0 d L lt fs (unlane x), v1489_r0 d L lt fs (unlane x)⟩ 3#32 from rfl).trans (wOf_of_top (t5 (unlane x)) _)
  have h5_4 : ∀ x : S1x16.Idx, ((v1576_r0 d L lt fs) x : F .f32) = wOf (rowAt X (laneCol 80 (by decide) (unlane x))) 4#32 := fun x =>
    (show (v1576_r0 d L lt fs) x = Top.w ⟨v1494_r0 d L lt fs (unlane x), v1491_r0 d L lt fs (unlane x), v1493_r0 d L lt fs (unlane x), v1489_r0 d L lt fs (unlane x)⟩ 4#32 from rfl).trans (wOf_of_top (t5 (unlane x)) _)
  have h5_5 : ∀ x : S1x16.Idx, ((v1591_r0 d L lt fs) x : F .f32) = wOf (rowAt X (laneCol 80 (by decide) (unlane x))) 5#32 := fun x =>
    (show (v1591_r0 d L lt fs) x = Top.w ⟨v1494_r0 d L lt fs (unlane x), v1491_r0 d L lt fs (unlane x), v1493_r0 d L lt fs (unlane x), v1489_r0 d L lt fs (unlane x)⟩ 5#32 from rfl).trans (wOf_of_top (t5 (unlane x)) _)
  have h5_6 : ∀ x : S1x16.Idx, ((k1_pay423 (v1600_r0 d L lt fs)) x : F .f32) = wOf (rowAt X (laneCol 80 (by decide) (unlane x))) 6#32 := fun x =>
    (show (k1_pay423 (v1600_r0 d L lt fs)) x = Top.w ⟨v1494_r0 d L lt fs (unlane x), v1491_r0 d L lt fs (unlane x), v1493_r0 d L lt fs (unlane x), v1489_r0 d L lt fs (unlane x)⟩ 6#32 from rfl).trans (wOf_of_top (t5 (unlane x)) _)
  have h5_7 : ∀ x : S1x16.Idx, ((k1_pay424 (v1489_r0 d L lt fs) (v1493_r0 d L lt fs) (v1500_r0 d L lt fs) (v1501_r0 d L lt fs)) x : F .f32) = wOf (rowAt X (laneCol 80 (by decide) (unlane x))) 7#32 := fun x =>
    (show (k1_pay424 (v1489_r0 d L lt fs) (v1493_r0 d L lt fs) (v1500_r0 d L lt fs) (v1501_r0 d L lt fs)) x = Top.w ⟨v1494_r0 d L lt fs (unlane x), v1491_r0 d L lt fs (unlane x), v1493_r0 d L lt fs (unlane x), v1489_r0 d L lt fs (unlane x)⟩ 7#32 from rfl).trans (wOf_of_top (t5 (unlane x)) _)
  have e5 : ∀ x : S1x16.Idx, ((k1_pay425 (v1495_r0 d L lt fs)) x : F .f32) = dOf (rowAt X (laneCol 80 (by decide) (unlane x))) := fun x =>
    (show (k1_pay425 (v1495_r0 d L lt fs)) x = FloatOps.subf (v1491_r0 d L lt fs (unlane x)) (v1494_r0 d L lt fs (unlane x)) from rfl).trans (dOf_of_top (t5 (unlane x)))
  have w5 : ∀ z, (slotW.view.read (Elt F) (Hc'_w54 d L lt fs fc) z : F .f32) = if 80 ≤ (z 1).val ∧ (z 1).val < 80 + 16 then gW X z else slotW.view.read (Elt F) (Hc'_w45 d L lt fs fc) z :=
    group_w X 80 (by decide) (by decide) (by decide) (by decide) (by decide) (by decide) (by decide) (by decide) (by decide) rfl h5_0 h5_1 h5_2 h5_3 h5_4 h5_5 h5_6 h5_7
  have u5 : ∀ z, (z 0).val = 0 → (slotD.view.read (Elt F) (Hu'_w55 d L lt fs fu) z : F .f32) = if 80 ≤ (z 1).val ∧ (z 1).val < 80 + 16 then gD X z else slotD.view.read (Elt F) (Hu'_w46 d L lt fs fu) z :=
    group_d X 80 (by decide) (by decide) rfl e5
  have t6 : ∀ y : S16.Idx, (⟨v1751_r0 d L lt fs y, v1748_r0 d L lt fs y, v1750_r0 d L lt fs y, v1746_r0 d L lt fs y⟩ : Top F) = topOf (rowAt X (laneCol 96 (by decide) y)) := by
    intro y
    have s0 : (⟨v1642_r0 d L lt fs y, v1643_r0 d L lt fs y, v1640_r0 d L lt fs y, v1641_r0 d L lt fs y⟩ : Top F)
      = ((Top.init (F := F)).step 0#32 (shapeCast S16 (v1635_r0 d L lt fs) shapeCasts_S1x16_S16 y : F .f32)) := rfl
    have s1 : (⟨v1661_r0 d L lt fs y, v1658_r0 d L lt fs y, v1660_r0 d L lt fs y, v1656_r0 d L lt fs y⟩ : Top F)
      = ((⟨v1642_r0 d L lt fs y, v1643_r0 d L lt fs y, v1640_r0 d L lt fs y, v1641_r0 d L lt fs y⟩ : Top F).step 1#32 (shapeCast S16 (v1650_r0 d L lt fs) shapeCasts_S1x16_S16 y : F .f32)) := rfl
    have s2 : (⟨v1676_r0 d L lt fs y, v1673_r0 d L lt fs y, v1675_r0 d L lt fs y, v1671_r0 d L lt fs y⟩ : Top F)
      = ((⟨v1661_r0 d L lt fs y, v1658_r0 d L lt fs y, v1660_r0 d L lt fs y, v1656_r0 d L lt fs y⟩ : Top F).step 2#32 (shapeCast S16 (v1665_r0 d L lt fs) shapeCasts_S1x16_S16 y : F .f32)) := rfl
    have s3 : (⟨v1691_r0 d L lt fs y, v1688_r0 d L lt fs y, v1690_r0 d L lt fs y, v1686_r0 d L lt fs y⟩ : Top F)
      = ((⟨v1676_r0 d L lt fs y, v1673_r0 d L lt fs y, v1675_r0 d L lt fs y, v1671_r0 d L lt fs y⟩ : Top F).step 3#32 (shapeCast S16 (v1680_r0 d L lt fs) shapeCasts_S1x16_S16 y : F .f32)) := rfl
    have s4 : (⟨v1706_r0 d L lt fs y, v1703_r0 d L lt fs y, v1705_r0 d L lt fs y, v1701_r0 d L lt fs y⟩ : Top F)
      = ((⟨v1691_r0 d L lt fs y, v1688_r0 d L lt fs y, v1690_r0 d L lt fs y, v1686_r0 d L lt fs y⟩ : Top F).step 4#32 (shapeCast S16 (v1695_r0 d L lt fs) shapeCasts_S1x16_S16 y : F .f32)) := rfl
    have s5 : (⟨v1721_r0 d L lt fs y, v1718_r0 d L lt fs y, v1720_r0 d L lt fs y, v1716_r0 d L lt fs y⟩ : Top F)
      = ((⟨v1706_r0 d L lt fs y, v1703_r0 d L lt fs y, v1705_r0 d L lt fs y, v1701_r0 d L lt fs y⟩ : Top F).step 5#32 (shapeCast S16 (v1710_r0 d L lt fs) shapeCasts_S1x16_S16 y : F .f32)) := rfl
    have s6 : (⟨v1736_r0 d L lt fs y, v1733_r0 d L lt fs y, v1735_r0 d L lt fs y, v1731_r0 d L lt fs y⟩ : Top F)
      = ((⟨v1721_r0 d L lt fs y, v1718_r0 d L lt fs y, v1720_r0 d L lt fs y, v1716_r0 d L lt fs y⟩ : Top F).step 6#32 (shapeCast S16 (v1725_r0 d L lt fs) shapeCasts_S1x16_S16 y : F .f32)) := rfl
    have s7 : (⟨v1751_r0 d L lt fs y, v1748_r0 d L lt fs y, v1750_r0 d L lt fs y, v1746_r0 d L lt fs y⟩ : Top F)
      = ((⟨v1736_r0 d L lt fs y, v1733_r0 d L lt fs y, v1735_r0 d L lt fs y, v1731_r0 d L lt fs y⟩ : Top F).step 7#32 (shapeCast S16 (v1740_r0 d L lt fs) shapeCasts_S1x16_S16 y : F .f32)) := rfl
    refine Eq.trans ?_ (topOf_of_steps (l0 := (shapeCast S16 (v1635_r0 d L lt fs) shapeCasts_S1x16_S16 y : F .f32))
      (l1 := (shapeCast S16 (v1650_r0 d L lt fs) shapeCasts_S1x16_S16 y : F .f32))
      (l2 := (shapeCast S16 (v1665_r0 d L lt fs) shapeCasts_S1x16_S16 y : F .f32))
      (l3 := (shapeCast S16 (v1680_r0 d L lt fs) shapeCasts_S1x16_S16 y : F .f32))
      (l4 := (shapeCast S16 (v1695_r0 d L lt fs) shapeCasts_S1x16_S16 y : F .f32))
      (l5 := (shapeCast S16 (v1710_r0 d L lt fs) shapeCasts_S1x16_S16 y : F .f32))
      (l6 := (shapeCast S16 (v1725_r0 d L lt fs) shapeCasts_S1x16_S16 y : F .f32))
      (l7 := (shapeCast S16 (v1740_r0 d L lt fs) shapeCasts_S1x16_S16 y : F .f32))
      (lane_read (v := slotL.view) fs X 0 96 (by decide) _ _ y) (lane_read (v := slotL.view) fs X 1 96 (by decide) _ _ y) (lane_read (v := slotL.view) fs X 2 96 (by decide) _ _ y) (lane_read (v := slotL.view) fs X 3 96 (by decide) _ _ y) (lane_read (v := slotL.view) fs X 4 96 (by decide) _ _ y) (lane_read (v := slotL.view) fs X 5 96 (by decide) _ _ y) (lane_read (v := slotL.view) fs X 6 96 (by decide) _ _ y) (lane_read (v := slotL.view) fs X 7 96 (by decide) _ _ y))
    rw [← s0, ← s1, ← s2, ← s3, ← s4, ← s5, ← s6, ← s7]
  have h6_0 : ∀ x : S1x16.Idx, ((v1773_r0 d L lt fs) x : F .f32) = wOf (rowAt X (laneCol 96 (by decide) (unlane x))) 0#32 := fun x =>
    (show (v1773_r0 d L lt fs) x = Top.w ⟨v1751_r0 d L lt fs (unlane x), v1748_r0 d L lt fs (unlane x), v1750_r0 d L lt fs (unlane x), v1746_r0 d L lt fs (unlane x)⟩ 0#32 from rfl).trans (wOf_of_top (t6 (unlane x)) _)
  have h6_1 : ∀ x : S1x16.Idx, ((v1788_r0 d L lt fs) x : F .f32) = wOf (rowAt X (laneCol 96 (by decide) (unlane x))) 1#32 := fun x =>
    (show (v1788_r0 d L lt fs) x = Top.w ⟨v1751_r0 d L lt fs (unlane x), v1748_r0 d L lt fs (unlane x), v1750_r0 d L lt fs (unlane x), v1746_r0 d L lt fs (unlane x)⟩ 1#32 from rfl).trans (wOf_of_top (t6 (unlane x)) _)
  have h6_2 : ∀ x : S1x16.Idx, ((v1803_r0 d L lt fs) x : F .f32) = wOf (rowAt X (laneCol 96 (by decide) (unlane x))) 2#32 := fun x =>
    (show (v1803_r0 d L lt fs) x = Top.w ⟨v1751_r0 d L lt fs (unlane x), v1748_r0 d L lt fs (unlane x), v1750_r0 d L lt fs (unlane x), v1746_r0 d L lt fs (unlane x)⟩ 2#32 from rfl).trans (wOf_of_top (t6 (unlane x)) _)
  have h6_3 : ∀ x : S1x16.Idx, ((v1818_r0 d L lt fs) x : F .f32) = wOf (rowAt X (laneCol 96 (by decide) (unlane x))) 3#32 := fun x =>
    (show (v1818_r0 d L lt fs) x = Top.w ⟨v1751_r0 d L lt fs (unlane x), v1748_r0 d L lt fs (unlane x), v1750_r0 d L lt fs (unlane x), v1746_r0 d L lt fs (unlane x)⟩ 3#32 from rfl).trans (wOf_of_top (t6 (unlane x)) _)
  have h6_4 : ∀ x : S1x16.Idx, ((v1833_r0 d L lt fs) x : F .f32) = wOf (rowAt X (laneCol 96 (by decide) (unlane x))) 4#32 := fun x =>
    (show (v1833_r0 d L lt fs) x = Top.w ⟨v1751_r0 d L lt fs (unlane x), v1748_r0 d L lt fs (unlane x), v1750_r0 d L lt fs (unlane x), v1746_r0 d L lt fs (unlane x)⟩ 4#32 from rfl).trans (wOf_of_top (t6 (unlane x)) _)
  have h6_5 : ∀ x : S1x16.Idx, ((v1848_r0 d L lt fs) x : F .f32) = wOf (rowAt X (laneCol 96 (by decide) (unlane x))) 5#32 := fun x =>
    (show (v1848_r0 d L lt fs) x = Top.w ⟨v1751_r0 d L lt fs (unlane x), v1748_r0 d L lt fs (unlane x), v1750_r0 d L lt fs (unlane x), v1746_r0 d L lt fs (unlane x)⟩ 5#32 from rfl).trans (wOf_of_top (t6 (unlane x)) _)
  have h6_6 : ∀ x : S1x16.Idx, ((v1863_r0 d L lt fs) x : F .f32) = wOf (rowAt X (laneCol 96 (by decide) (unlane x))) 6#32 := fun x =>
    (show (v1863_r0 d L lt fs) x = Top.w ⟨v1751_r0 d L lt fs (unlane x), v1748_r0 d L lt fs (unlane x), v1750_r0 d L lt fs (unlane x), v1746_r0 d L lt fs (unlane x)⟩ 6#32 from rfl).trans (wOf_of_top (t6 (unlane x)) _)
  have h6_7 : ∀ x : S1x16.Idx, ((v1878_r0 d L lt fs) x : F .f32) = wOf (rowAt X (laneCol 96 (by decide) (unlane x))) 7#32 := fun x =>
    (show (v1878_r0 d L lt fs) x = Top.w ⟨v1751_r0 d L lt fs (unlane x), v1748_r0 d L lt fs (unlane x), v1750_r0 d L lt fs (unlane x), v1746_r0 d L lt fs (unlane x)⟩ 7#32 from rfl).trans (wOf_of_top (t6 (unlane x)) _)
  have e6 : ∀ x : S1x16.Idx, ((k1_pay495 (v1752_r0 d L lt fs)) x : F .f32) = dOf (rowAt X (laneCol 96 (by decide) (unlane x))) := fun x =>
    (show (k1_pay495 (v1752_r0 d L lt fs)) x = FloatOps.subf (v1748_r0 d L lt fs (unlane x)) (v1751_r0 d L lt fs (unlane x)) from rfl).trans (dOf_of_top (t6 (unlane x)))
  have w6 : ∀ z, (slotW.view.read (Elt F) (Hc'_w63 d L lt fs fc) z : F .f32) = if 96 ≤ (z 1).val ∧ (z 1).val < 96 + 16 then gW X z else slotW.view.read (Elt F) (Hc'_w54 d L lt fs fc) z :=
    group_w X 96 (by decide) (by decide) (by decide) (by decide) (by decide) (by decide) (by decide) (by decide) (by decide) rfl h6_0 h6_1 h6_2 h6_3 h6_4 h6_5 h6_6 h6_7
  have u6 : ∀ z, (z 0).val = 0 → (slotD.view.read (Elt F) (Hu'_w64 d L lt fs fu) z : F .f32) = if 96 ≤ (z 1).val ∧ (z 1).val < 96 + 16 then gD X z else slotD.view.read (Elt F) (Hu'_w55 d L lt fs fu) z :=
    group_d X 96 (by decide) (by decide) rfl e6
  have t7 : ∀ y : S16.Idx, (⟨v2008_r0 d L lt fs y, v2005_r0 d L lt fs y, v2007_r0 d L lt fs y, v2003_r0 d L lt fs y⟩ : Top F) = topOf (rowAt X (laneCol 112 (by decide) y)) := by
    intro y
    have s1 : (⟨r_26 d L lt fs y, r_24 d L lt fs y, r_25 d L lt fs y, r_23 d L lt fs y⟩ : Top F)
      = (((Top.init (F := F)).step 0#32 (shapeCast S16 (v1892_r0 d L lt fs) shapeCasts_S1x16_S16 y : F .f32)).step 1#32 (shapeCast S16 (v1907_r0 d L lt fs) shapeCasts_S1x16_S16 y : F .f32)) := rfl
    have s2 : (⟨v1933_r0 d L lt fs y, v1930_r0 d L lt fs y, v1932_r0 d L lt fs y, v1928_r0 d L lt fs y⟩ : Top F)
      = ((⟨r_26 d L lt fs y, r_24 d L lt fs y, r_25 d L lt fs y, r_23 d L lt fs y⟩ : Top F).step 2#32 (shapeCast S16 (v1922_r0 d L lt fs) shapeCasts_S1x16_S16 y : F .f32)) := rfl
    have s3 : (⟨v1948_r0 d L lt fs y, v1945_r0 d L lt fs y, v1947_r0 d L lt fs y, v1943_r0 d L lt fs y⟩ : Top F)
      = ((⟨v1933_r0 d L lt fs y, v1930_r0 d L lt fs y, v1932_r0 d L lt fs y, v1928_r0 d L lt fs y⟩ : Top F).step 3#32 (shapeCast S16 (v1937_r0 d L lt fs) shapeCasts_S1x16_S16 y : F .f32)) := rfl
    have s4 : (⟨v1963_r0 d L lt fs y, v1960_r0 d L lt fs y, v1962_r0 d L lt fs y, v1958_r0 d L lt fs y⟩ : Top F)
      = ((⟨v1948_r0 d L lt fs y, v1945_r0 d L lt fs y, v1947_r0 d L lt fs y, v1943_r0 d L lt fs y⟩ : Top F).step 4#32 (shapeCast S16 (v1952_r0 d L lt fs) shapeCasts_S1x16_S16 y : F .f32)) := rfl
    have s5 : (⟨v1978_r0 d L lt fs y, v1975_r0 d L lt fs y, v1977_r0 d L lt fs y, v1973_r0 d L lt fs y⟩ : Top F)
      = ((⟨v1963_r0 d L lt fs y, v1960_r0 d L lt fs y, v1962_r0 d L lt fs y, v1958_r0 d L lt fs y⟩ : Top F).step 5#32 (shapeCast S16 (v1967_r0 d L lt fs) shapeCasts_S1x16_S16 y : F .f32)) := rfl
    have s6 : (⟨v1993_r0 d L lt fs y, v1990_r0 d L lt fs y, v1992_r0 d L lt fs y, v1988_r0 d L lt fs y⟩ : Top F)
      = ((⟨v1978_r0 d L lt fs y, v1975_r0 d L lt fs y, v1977_r0 d L lt fs y, v1973_r0 d L lt fs y⟩ : Top F).step 6#32 (shapeCast S16 (v1982_r0 d L lt fs) shapeCasts_S1x16_S16 y : F .f32)) := rfl
    have s7 : (⟨v2008_r0 d L lt fs y, v2005_r0 d L lt fs y, v2007_r0 d L lt fs y, v2003_r0 d L lt fs y⟩ : Top F)
      = ((⟨v1993_r0 d L lt fs y, v1990_r0 d L lt fs y, v1992_r0 d L lt fs y, v1988_r0 d L lt fs y⟩ : Top F).step 7#32 (shapeCast S16 (v1997_r0 d L lt fs) shapeCasts_S1x16_S16 y : F .f32)) := rfl
    refine Eq.trans ?_ (topOf_of_steps (l0 := (shapeCast S16 (v1892_r0 d L lt fs) shapeCasts_S1x16_S16 y : F .f32))
      (l1 := (shapeCast S16 (v1907_r0 d L lt fs) shapeCasts_S1x16_S16 y : F .f32))
      (l2 := (shapeCast S16 (v1922_r0 d L lt fs) shapeCasts_S1x16_S16 y : F .f32))
      (l3 := (shapeCast S16 (v1937_r0 d L lt fs) shapeCasts_S1x16_S16 y : F .f32))
      (l4 := (shapeCast S16 (v1952_r0 d L lt fs) shapeCasts_S1x16_S16 y : F .f32))
      (l5 := (shapeCast S16 (v1967_r0 d L lt fs) shapeCasts_S1x16_S16 y : F .f32))
      (l6 := (shapeCast S16 (v1982_r0 d L lt fs) shapeCasts_S1x16_S16 y : F .f32))
      (l7 := (shapeCast S16 (v1997_r0 d L lt fs) shapeCasts_S1x16_S16 y : F .f32))
      (lane_read (v := slotL.view) fs X 0 112 (by decide) _ _ y) (lane_read (v := slotL.view) fs X 1 112 (by decide) _ _ y) (lane_read (v := slotL.view) fs X 2 112 (by decide) _ _ y) (lane_read (v := slotL.view) fs X 3 112 (by decide) _ _ y) (lane_read (v := slotL.view) fs X 4 112 (by decide) _ _ y) (lane_read (v := slotL.view) fs X 5 112 (by decide) _ _ y) (lane_read (v := slotL.view) fs X 6 112 (by decide) _ _ y) (lane_read (v := slotL.view) fs X 7 112 (by decide) _ _ y))
    rw [← s1, ← s2, ← s3, ← s4, ← s5, ← s6, ← s7]
  have h7_0 : ∀ x : S1x16.Idx, ((v2030_r0 d L lt fs) x : F .f32) = wOf (rowAt X (laneCol 112 (by decide) (unlane x))) 0#32 := fun x =>
    (show (v2030_r0 d L lt fs) x = Top.w ⟨v2008_r0 d L lt fs (unlane x), v2005_r0 d L lt fs (unlane x), v2007_r0 d L lt fs (unlane x), v2003_r0 d L lt fs (unlane x)⟩ 0#32 from rfl).trans (wOf_of_top (t7 (unlane x)) _)
  have h7_1 : ∀ x : S1x16.Idx, ((v2045_r0 d L lt fs) x : F .f32) = wOf (rowAt X (laneCol 112 (by decide) (unlane x))) 1#32 := fun x =>
    (show (v2045_r0 d L lt fs) x = Top.w ⟨v2008_r0 d L lt fs (unlane x), v2005_r0 d L lt fs (unlane x), v2007_r0 d L lt fs (unlane x), v2003_r0 d L lt fs (unlane x)⟩ 1#32 from rfl).trans (wOf_of_top (t7 (unlane x)) _)
  have h7_2 : ∀ x : S1x16.Idx, ((v2060_r0 d L lt fs) x : F .f32) = wOf (rowAt X (laneCol 112 (by decide) (unlane x))) 2#32 := fun x =>
    (show (v2060_r0 d L lt fs) x = Top.w ⟨v2008_r0 d L lt fs (unlane x), v2005_r0 d L lt fs (unlane x), v2007_r0 d L lt fs (unlane x), v2003_r0 d L lt fs (unlane x)⟩ 2#32 from rfl).trans (wOf_of_top (t7 (unlane x)) _)
  have h7_3 : ∀ x : S1x16.Idx, ((v2075_r0 d L lt fs) x : F .f32) = wOf (rowAt X (laneCol 112 (by decide) (unlane x))) 3#32 := fun x =>
    (show (v2075_r0 d L lt fs) x = Top.w ⟨v2008_r0 d L lt fs (unlane x), v2005_r0 d L lt fs (unlane x), v2007_r0 d L lt fs (unlane x), v2003_r0 d L lt fs (unlane x)⟩ 3#32 from rfl).trans (wOf_of_top (t7 (unlane x)) _)
  have h7_4 : ∀ x : S1x16.Idx, ((v2090_r0 d L lt fs) x : F .f32) = wOf (rowAt X (laneCol 112 (by decide) (unlane x))) 4#32 := fun x =>
    (show (v2090_r0 d L lt fs) x = Top.w ⟨v2008_r0 d L lt fs (unlane x), v2005_r0 d L lt fs (unlane x), v2007_r0 d L lt fs (unlane x), v2003_r0 d L lt fs (unlane x)⟩ 4#32 from rfl).trans (wOf_of_top (t7 (unlane x)) _)
  have h7_5 : ∀ x : S1x16.Idx, ((v2105_r0 d L lt fs) x : F .f32) = wOf (rowAt X (laneCol 112 (by decide) (unlane x))) 5#32 := fun x =>
    (show (v2105_r0 d L lt fs) x = Top.w ⟨v2008_r0 d L lt fs (unlane x), v2005_r0 d L lt fs (unlane x), v2007_r0 d L lt fs (unlane x), v2003_r0 d L lt fs (unlane x)⟩ 5#32 from rfl).trans (wOf_of_top (t7 (unlane x)) _)
  have h7_6 : ∀ x : S1x16.Idx, ((v2120_r0 d L lt fs) x : F .f32) = wOf (rowAt X (laneCol 112 (by decide) (unlane x))) 6#32 := fun x =>
    (show (v2120_r0 d L lt fs) x = Top.w ⟨v2008_r0 d L lt fs (unlane x), v2005_r0 d L lt fs (unlane x), v2007_r0 d L lt fs (unlane x), v2003_r0 d L lt fs (unlane x)⟩ 6#32 from rfl).trans (wOf_of_top (t7 (unlane x)) _)
  have h7_7 : ∀ x : S1x16.Idx, ((v2135_r0 d L lt fs) x : F .f32) = wOf (rowAt X (laneCol 112 (by decide) (unlane x))) 7#32 := fun x =>
    (show (v2135_r0 d L lt fs) x = Top.w ⟨v2008_r0 d L lt fs (unlane x), v2005_r0 d L lt fs (unlane x), v2007_r0 d L lt fs (unlane x), v2003_r0 d L lt fs (unlane x)⟩ 7#32 from rfl).trans (wOf_of_top (t7 (unlane x)) _)
  have e7 : ∀ x : S1x16.Idx, ((v2141_r0 d L lt fs) x : F .f32) = dOf (rowAt X (laneCol 112 (by decide) (unlane x))) := fun x =>
    (show (v2141_r0 d L lt fs) x = FloatOps.subf (v2005_r0 d L lt fs (unlane x)) (v2008_r0 d L lt fs (unlane x)) from rfl).trans (dOf_of_top (t7 (unlane x)))
  have w7 : ∀ z, (slotW.view.read (Elt F) (Hc'_w72 d L lt fs fc) z : F .f32) = if 112 ≤ (z 1).val ∧ (z 1).val < 112 + 16 then gW X z else slotW.view.read (Elt F) (Hc'_w63 d L lt fs fc) z :=
    group_w X 112 (by decide) (by decide) (by decide) (by decide) (by decide) (by decide) (by decide) (by decide) (by decide) rfl h7_0 h7_1 h7_2 h7_3 h7_4 h7_5 h7_6 h7_7
  have u7 : ∀ z, (z 0).val = 0 → (slotD.view.read (Elt F) (Hu'_w73 d L lt fs fu) z : F .f32) = if 112 ≤ (z 1).val ∧ (z 1).val < 112 + 16 then gD X z else slotD.view.read (Elt F) (Hu'_w64 d L lt fs fu) z :=
    group_d X 112 (by decide) (by decide) rfl e7
  have hWs : ∀ z : S8x128.Idx, (slotW.view.read (Elt F) (Hc'_w72 d L lt fs fc) z : F .f32) = gW X z := by
    intro z
    have hz : (z 1).val < 128 := (z 1).isLt
    rw [w7 z, w6 z, w5 z, w4 z, w3 z, w2 z, w1 z, w0 z]
    split_ifs <;> first | rfl | omega
  have hDs : ∀ z : S8x128.Idx, (z 0).val = 0 → (slotD.view.read (Elt F) (Hu'_w73 d L lt fs fu) z : F .f32) = gD X z := by
    intro z h0
    have hz : (z 1).val < 128 := (z 1).isLt
    rw [u7 z h0, u6 z h0, u5 z h0, u4 z h0, u3 z h0, u2 z h0, u1 z h0, u0 z h0]
    split_ifs <;> first | rfl | omega
  have hX : X = stage L lt := rfl
  have hPw : ∀ z : S8x128.Idx, (dma208 d L lt fs fc h6 z : F .f32) = gW (stage L lt) z := fun z =>
    (slot_read (sW) k1_off10 _ ((k1_off10_eq).trans k1_off1_eq.symm) _ z).trans (hWs z)
  have hPd : ∀ z : S8x128.Idx, (z 0).val = 0 → (dma208_1 d L lt fs fu h7 z : F .f32) = gD (stage L lt) z := fun z h0 =>
    (slot_read (sD) k1_off13 _ ((k1_off13_eq).trans k1_off1_eq.symm) _ z).trans (hDs z h0)
  sl_step
  isplitl [Hx' Hw' Hd']
  · isplitl [Hx']; · iapply (Entails.of_eq (pts_ltK (F := F) d L _)); iexact Hx'
    isplitl [Hw']
    · ihave Hw2 := (Entails.of_eq (pointsTo_congr (out_w L lt wi _ hPw))) $$ Hw'
      iapply (Entails.of_eq (pts_wK (F := F) d L _)); iexact Hw2
    iexists _
    isplitr
    · ipureintro
      intro j hj h0
      exact out_d L lt di _ hPd j (by rw [set_dK]; exact hj) h0
    iapply (Entails.of_eq (pts_dK (F := F) d L _)); iexact Hd'
  isplitl [Hs' Hc' Hu' Hbufs]
  · isplitl [Hs']; · iexists _; iexact Hs'
    isplitl [Hc']; · iexists _; iexact Hc'
    isplitl [Hu']; · iexists _; iexact Hu'
    iexact Hbufs
  isplitl [HsemL HsemW HsemD Hsems]
  · isplitl [HsemL]; · iexact HsemL
    isplitl [HsemW]; · iexact HsemW
    isplitl [HsemD]; · iexact HsemD
    iexact Hsems
  iexists _
  isplitr
  swap
  · iexact HO
  ipureintro
  intro p _
  rcases p.2 with _ | q
  · exact .inr (.inl rfl)
  · exact .inr (.inr (congrArg some (Subsingleton.elim q 0)))

end Tile

end Cert.Proof.Router

end
-- ==== Proof.Bodies.lean ====
/-
  The two TensorCore kernels beside the router: each body run once, over any staging buffers, as what it makes of the
  blocks it reads; and the proof data of the two pipelines at an entry valuation of the program's buffers.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions
public import Idealize.ShloMosaic.Lib.VecWindow
public import Idealize.ShloMosaic.Lib.Tactic

@[expose] public section

noncomputable section

namespace Cert.Proof.Router

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## What the bodies make of their blocks -/

/-- The logits kernel at one block of 256 tokens: the block times the padded gate, transposed, its first eight rows. -/
def logitsBlk (X : FVec F S1x256x1024 .f32) (G : FVec F S1024x128 .f32) : FVec F S8x256 .f32 :=
  extractStridedSlice S8x256 ![0, 0]
    (transpose S128x256 [1, 0]
      (matmul dot_S256x1024_S1024x128_S256x128_1_0_0_1_n_n none
        (shapeCast S256x1024 X shapeCasts_S1x256x1024_S256x1024)
        (shapeCast S1024x128 G shapeCasts_S1024x128_S1024x128) (constant S256x128 .f32 0x00000000#32))
      transposes_S256x128_p1_0_S128x256) slices_S128x256_o0_0_S8x256

/-- The statistics kernel's first result: the row sums of the gates, along 128 equal columns. -/
def loadBlk (W : FVec F S8x4096 .f32) : FVec F S8x128 .f32 :=
  broadcastTo S8x128
    (shapeCast S8x1
      (shapeCast S8x1
        (multiReduction .add [1] S8 (shapeCast S8x4096 W shapeCasts_S8x4096_S8x4096) 0x00000000#32 reduces_S8x4096_S8 (.inl rfl) rfl)
        shapeCasts_S8_S8x1) shapeCasts_S8x1_S8x1) broadcasts_S8x1_S8x128

/-- The statistics kernel's second result: the sum over the tokens of the entropy of the two gates, everywhere. -/
def entBlk (D : FVec F S8x4096 .f32) : FVec F S8x128 .f32 :=
  let r := shapeCast S1x4096 (VecWindow.window D ![0, 0] S1x4096.size inb_S8x4096_S1x4096_0_0) shapeCasts_S1x4096_S1x4096
  broadcastTo S8x128
    (shapeCast S1x1
      (shapeCast S1x1
        (multiReduction .add [1] S1
          (subf (log1p (exp r)) (mulf (divf (exp r) (addf (broadcast S1x4096 (Scalar.ofBits .f32 0x3F800000#32)) (exp r))) r))
          0x00000000#32 reduces_S1x4096_S1 (.inl rfl) rfl)
        shapeCasts_S1_S1x1) shapeCasts_S1x1_S1x1) broadcasts_S1x1_S8x128

/-! ## The bodies, run -/

theorem logits_body (c : Dev nD) (i : grid0.Coords)
    (M0 : Memref sig .tc .vmem S1x256x1024 .f32) (h0 : M0.IsWhole) (M1 : Memref sig .tc .vmem S1024x128 .f32) (h1 : M1.IsWhole)
    (M2 : Memref sig .tc .vmem S8x256 .f32) (h2 : M2.IsWhole)
    (X0 : S1x256x1024.Idx → Elt F .f32) (X1 : S1024x128.Idx → Elt F .f32) (X2 : S8x256.Idx → Elt F .f32) (Q : PUnit → sProp 𝕄) :
    iprop(owns (c : Thread nD τ) M0 fullShare X0 ∗ owns (c : Thread nD τ) M1 fullShare X1 ∗ owns (c : Thread nD τ) M2 fullShare X2
        ∗ ((owns (c : Thread nD τ) M0 fullShare X0 ∗ owns (c : Thread nD τ) M1 fullShare X1
            ∗ owns (c : Thread nD τ) M2 fullShare (logitsBlk (F := F) X0 X1)) -∗ Q ⟨⟩))
      ⊢ wp frame (wpE (defs₀ (F := F)) 𝒱₀ (c : Thread nD τ) none) Set.univ (cc0__logits_kernel i M0 h0 M1 h1 M2 h2) Q := by
  unfold owns
  rw [h0.set_eq_univ, h1.set_eq_univ, h2.set_eq_univ]
  iintro ⟨⟨%f0, %e0, H0⟩, ⟨%f1, %e1, H1⟩, ⟨%f2, %e2, H2⟩, Hk⟩
  subst e0 e1
  sl_exec!
  sl_step
  iapply Hk
  isplitl [H0]
  · iexists f0; isplitr; · ipureintro; rfl
    iexact H0
  isplitl [H1]
  · iexists f1; isplitr; · ipureintro; rfl
    iexact H1
  iexists _
  isplitr; swap; · iexact H2
  ipureintro
  exact (View.read_writes_full M2.view _ _ _ _).trans
    (congrArg₂ (logitsBlk (F := F)) (View.readAt_full M0.view f0 _) (View.readAt_full M1.view f1 _))

theorem stats_body (c : Dev nD) (i : grid2.Coords)
    (M0 : Memref sig .tc .vmem S8x4096 .f32) (h0 : M0.IsWhole) (M1 : Memref sig .tc .vmem S8x4096 .f32) (h1 : M1.IsWhole)
    (M2 : Memref sig .tc .vmem S8x128 .f32) (h2 : M2.IsWhole) (M3 : Memref sig .tc .vmem S8x128 .f32) (h3 : M3.IsWhole)
    (X0 : S8x4096.Idx → Elt F .f32) (X1 : S8x4096.Idx → Elt F .f32) (X2 X3 : S8x128.Idx → Elt F .f32) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3
        ∗ ((owns (c : Thread nD τ) M0 fullShare X0 ∗ owns (c : Thread nD τ) M1 fullShare X1
            ∗ owns (c : Thread nD τ) M2 fullShare (loadBlk (F := F) X0)
            ∗ owns (c : Thread nD τ) M3 fullShare (entBlk (F := F) X1)) -∗ Q ⟨⟩))
      ⊢ wp frame (wpE (defs₀ (F := F)) 𝒱₀ (c : Thread nD τ) none) Set.univ (cc2__stats_kernel i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, %e2, H2⟩, ⟨%f3, %e3, H3⟩, Hk⟩
  subst e0 e1
  sl_exec!
  sl_step
  iapply Hk
  isplitl [H0]
  · iexists f0; isplitr; · ipureintro; rfl
    iexact H0
  isplitl [H1]
  · iexists f1; isplitr; · ipureintro; rfl
    iexact H1
  isplitl [H2]
  · iexists _
    isplitr; swap; · iexact H2
    ipureintro
    exact (View.read_writes_full M2.view _ _ _ _).trans (congrArg (loadBlk (F := F)) (View.readAt_full M0.view f0 _))
  iexists _
  isplitr; swap; · iexact H3
  ipureintro
  exact (View.read_writes_full M3.view _ _ _ _).trans rfl

/-! ## The two pipelines' proof data -/

variable (Vl : Dev nD → Valuation τ sig (Elt F))

abbrev Φ0 (c : Dev nD) : sProp 𝕄 := Pipeline.scopedRest (Ix := HIx 1) (Name := ℕ) (U := UU) (Lvl := ℕ) (Val := Elt F) spec0 c
abbrev Φ2 (c : Dev nD) : sProp 𝕄 := Pipeline.scopedRest (Ix := HIx 1) (Name := ℕ) (U := UU) (Lvl := ℕ) (Val := Elt F) spec2 c

/-- The pairs waited for before the `n`-th SparseCore call: none at a level above the calls gone by. -/
def below (c : Dev nD) (n : ℕ) : Set (SemLoc sig × HIx 1) := {p | (K (F := F)).lev (T c, p.1) p.2 ≤ 8 * n}

/-- The windows' blocks at a point, of the arrays at the entry valuation. -/
def iblk0 (c : Dev nD) (w : Fin cfg0.W) (t : Fin cfg0.N) : ((cfg0.win w).xblock (cfg0.grid.coords t)).Idx → Elt F (cfg0.win w).elt :=
  ((cfg0.win w).blk t).view.read (Elt F) (Vl c (Pipeline.arrRef spec0 w))
def iblk2 (c : Dev nD) (w : Fin cfg2.W) (t : Fin cfg2.N) : ((cfg2.win w).xblock (cfg2.grid.coords t)).Idx → Elt F (cfg2.win w).elt :=
  ((cfg2.win w).blk t).view.read (Elt F) (Vl c (Pipeline.arrRef spec2 w))

/-- The logits pipeline, entered before the SparseCore call: its blocks kept, the result's block the kernel's; the core owes the
    start signals of the call. -/
def dat0 (c : Dev nD) : Dat τ (Elt F) (HIx 1) ℕ UU ℕ cfg0 c where
  A w := Vl c (Pipeline.arrRef spec0 w)
  after w t := match w with
    | ⟨0, _⟩ => iblk0 Vl c 0 t
    | ⟨1, _⟩ => iblk0 Vl c 1 t
    | ⟨2, _⟩ => logitsBlk (F := F) (iblk0 Vl c 0 t) (iblk0 Vl c 1 t)
  Φ _ := Φ0 c
  q _ := fullShare
  owed _ := (K (F := F)).Otc c 0
  recorded _ := below (F := F) c 0

/-- The statistics pipeline, entered after the SparseCore call. -/
def dat2 (c : Dev nD) : Dat τ (Elt F) (HIx 1) ℕ UU ℕ cfg2 c where
  A w := Vl c (Pipeline.arrRef spec2 w)
  after w t := match w with
    | ⟨0, _⟩ => iblk2 Vl c 0 t
    | ⟨1, _⟩ => iblk2 Vl c 1 t
    | ⟨2, _⟩ => loadBlk (F := F) (iblk2 Vl c 0 t)
    | ⟨3, _⟩ => entBlk (F := F) (iblk2 Vl c 1 t)
  Φ _ := Φ2 c
  q _ := fullShare
  owed _ := (K (F := F)).Otc c 1
  recorded _ := below (F := F) c 1

theorem before0_0 (c : Dev nD) (t : Fin cfg0.N) (d : (cfg0.win 0).block.Idx → Elt F (cfg0.win 0).elt) :
    (dat0 Vl c).before 0 t d = iblk0 Vl c 0 t :=
  ((dat0 Vl c).before_in_eq_fetched 0 rfl (fun _ => rfl) (fun _ _ _ => rfl) (fun _ => rfl) t d).trans rfl
theorem before0_1 (c : Dev nD) (t : Fin cfg0.N) (d : (cfg0.win 1).block.Idx → Elt F (cfg0.win 1).elt) :
    (dat0 Vl c).before 1 t d = iblk0 Vl c 1 t :=
  ((dat0 Vl c).before_in_eq_fetched 1 rfl (fun _ => rfl) (fun _ _ _ => rfl) (fun _ => rfl) t d).trans rfl
theorem before2_0 (c : Dev nD) (t : Fin cfg2.N) (d : (cfg2.win 0).block.Idx → Elt F (cfg2.win 0).elt) :
    (dat2 Vl c).before 0 t d = iblk2 Vl c 0 t :=
  ((dat2 Vl c).before_in_eq_fetched 0 rfl (fun _ => rfl) (fun _ _ _ => rfl) (fun _ => rfl) t d).trans rfl
theorem before2_1 (c : Dev nD) (t : Fin cfg2.N) (d : (cfg2.win 1).block.Idx → Elt F (cfg2.win 1).elt) :
    (dat2 Vl c).before 1 t d = iblk2 Vl c 1 t :=
  ((dat2 Vl c).before_in_eq_fetched 1 rfl (fun _ => rfl) (fun _ _ _ => rfl) (fun _ => rfl) t d).trans rfl

theorem body_obligation0 (c : Dev nD) : BodyObligation (dat0 Vl c) (defs₀ (F := F)) 𝒱₀ none Set.univ := fun t => by
  rw [bigSep_W0, bigSep_W0]
  rw [show (dat0 Vl c).Φ t.castSucc = Φ0 c from rfl, show (dat0 Vl c).Φ t.succ = Φ0 c from rfl,
    show (dat0 Vl c).owesAt none t.succ = (dat0 Vl c).owesAt none t.castSucc from rfl]
  iintro ⟨HΦ, Howes, ⟨%d0, H0⟩, ⟨%d1, H1⟩, ⟨%d2, H2⟩⟩
  rw [before0_0, before0_1]
  iapply (logits_body (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body_obligation2 (c : Dev nD) : BodyObligation (dat2 Vl c) (defs₀ (F := F)) 𝒱₀ none Set.univ := fun t => by
  rw [bigSep_W2, bigSep_W2]
  rw [show (dat2 Vl c).Φ t.castSucc = Φ2 c from rfl, show (dat2 Vl c).Φ t.succ = Φ2 c from rfl,
    show (dat2 Vl c).owesAt none t.succ = (dat2 Vl c).owesAt none t.castSucc from rfl]
  iintro ⟨HΦ, Howes, ⟨%d0, H0⟩, ⟨%d1, H1⟩, ⟨%d2, H2⟩, ⟨%d3, H3⟩⟩
  rw [before2_0, before2_1]
  iapply (stats_body (F := F) c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) _ _ _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end Cert.Proof.Router

end
-- ==== Proof.Regions.lean ====
/-
  The two TensorCore pipelines as regions of @main: from every unscoped buffer held at a valuation, and the core's tallies with
  the waits it has recorded all below the calls gone by, the region's call runs to the same at the valuation the pipeline
  leaves. Stated for the program's own labels, where the SparseCore call's are beside.
-/
module

public import proofs.«01_k».proof.Proof.Bodies
public import Idealize.ShloMosaic.Lib.Pipeline.RegionArrays
public import Idealize.ShloMosaic.Lib.Pipeline.RegionArraysS
public import Idealize.ShloMosaic.Lib.Pipeline.FrameTail

@[expose] public section

noncomputable section

namespace Cert.Proof.Router

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ucRefs arrRefs arrRef afterRegion)

variable {F : FTy → Type} [FloatOps F] [Named F]

local notation "𝕄" => MT nD τ sig (HIx 1) (Elt F) ℕ UU ℕ

/-- No pipeline has a prefetched table: the one admissible choice. -/
abbrev adm : (p : Fin 2) → (pcfgs (F := F) p).Adm := fun p => (cfgs p).toPCfg_adm

variable (Vl : Dev nD → Valuation τ sig (Elt F))

/-- Both pipelines' proof data, entered at one valuation. -/
def pdats : (p : Fin 2) → (c : Dev nD) → Dat τ (Elt F) (HIx 1) ℕ UU ℕ (Pipeline.pin (pcfgs (F := F)) adm p) c
  | ⟨0, _⟩ => fun c => dat0 Vl c
  | ⟨1, _⟩ => fun c => dat2 Vl c

/-- The core's tallies after `n` of the calls, the waits recorded all at or below their level. -/
abbrev owesBelow (d : Dev nD) (n : ℕ) : sProp 𝕄 :=
  iprop(∃ W, ⌜(K (F := F)).WBelow (T d) W (8 * n)⌝ ∗ owes (T d) ((K (F := F)).Otc d n) W)

theorem Otc_none (d : Dev nD) (n : ℕ) (g : GSem nD τ sig) : (K (F := F)).Otc (N := 1) d n g none = 0 := by
  unfold SparseCore.Cfg.Otc
  refine Finset.sum_induction _ (fun O : CellTallies nD τ sig (HIx 1) => O g none = 0) (fun a b ha hb => ?_) rfl fun q _ => ?_
  · show a g none + b g none = 0
    rw [ha, hb]
  split
  · refine Finset.sum_induction _ (fun O : CellTallies nD τ sig (HIx 1) => O g none = 0) (fun a b ha hb => ?_) rfl fun c _ => ?_
    · show a g none + b g none = 0
      rw [ha, hb]
    · show (tallyAt _ _ _ : CellTallies nD τ sig (HIx 1)) g none = 0
      rw [tallyAt_apply, if_neg fun h => by cases h.2]
  · rfl

set_option backward.isDefEq.respectTransparency.types false in
/-- Pipeline `p`'s region over every unscoped buffer, the core owing the tallies after `n` calls. -/
def seg (p : Fin 2) (n : ℕ) (kit : Pipeline.PLaunchFacts (nD := nD) (τ := τ) (pcfgs (F := F)) p)
    (hbody : ∀ c, BodyObligationLoose (pdats Vl p c) (defs₀ (F := F)) 𝒱₀ none Set.univ)
    (hΦ : ∀ c t, (pdats Vl p c).Φ t = Pipeline.scopedRest (Pipeline.pin (pcfgs (F := F)) adm p).spec c)
    (howed : ∀ c t, (pdats Vl p c).owed t = (K (F := F)).Otc c n)
    (hrec : ∀ c t, (pdats Vl p c).recorded t = below (F := F) c n)
    (hshare : ∀ c w, (pdats Vl p c).share w = fullShare)
    (hA : ∀ c w, (pdats Vl p c).arrAt w 0 = Vl c (Proc.devRef .tc (arrRef (Pipeline.pin (pcfgs (F := F)) adm p).spec w))) :
    Pipeline.RegionSeg (pcfgs (F := F)) adm (pdats Vl) (none : HIx 1) defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro _ _ _ _ _ fun w s t => by
    rw [howed]; exact (K (F := F)).mayWait_none _ (Otc_none c n)
  pre c := iprop(StableHlo.held (c.tc : Thread nD τ) (ucRefs τ sig) (Vl c) ∗ owesBelow (F := F) c n)
  post c := iprop(StableHlo.held (c.tc : Thread nD τ) (ucRefs τ sig) (afterRegion (pdats Vl p c) (Vl c)) ∗ owesBelow (F := F) c n)
  X _ := BI.emp
  Y _ := BI.emp
  Z c := StableHlo.held (c.tc : Thread nD τ) (ucRefs τ sig \ arrRefs (pcfgs (F := F) p).spec) (Vl c)
  hentry c := by
    rw [Pipeline.ownSems0_none, Pipeline.prefHeld_of_none _ rfl,
      StableHlo.held_sub_split _ (Pipeline.arrRefs_sub_ucRefs (pcfgs (F := F) p).spec kit.win.arr_unscoped),
      ← Pipeline.arrays_held (pcfgs (F := F)) adm (pdats Vl) p kit c (hshare c) ((pdats Vl p c).arrAt · 0) (Vl c) (hA c)]
    iintro ⟨⟨⟨Ha, Hr⟩, HO⟩, -, -⟩
    imodintro
    isplitl [Ha]; · iexact Ha
    isplitr; · iempintro
    isplitl [HO]
    · unfold Dat.owesAt Pipeline.owesWithin Dat.bound
      rw [howed c 0, hrec c]
      icases HO with ⟨%W, %hW, HO⟩; iexists W; isplitr; · ipureintro; exact fun q hq => Or.inl (hW q hq)
      iexact HO
    isplitr; · iempintro
    iexact Hr
  hin c := by
    rw [hΦ]
    iintro ⟨-, -, Hr⟩; iexact Hr
  hout c := by
    rw [hΦ, Pipeline.ownSems0_none]
    iintro Hr
    isplitr; · iempintro
    isplitr; · iempintro
    iexact Hr
  hexit c := by
    rw [StableHlo.held_sub_split _ (Pipeline.arrRefs_sub_ucRefs (pcfgs (F := F) p).spec kit.win.arr_unscoped) (afterRegion (pdats Vl p c) (Vl c)),
      StableHlo.held_congr _ (Pipeline.afterRegion_off (pdats Vl p c) (Vl c) (ucRefs τ sig)),
      ← Pipeline.arrays_held (pcfgs (F := F)) adm (pdats Vl) p kit c (hshare c) ((pdats Vl p c).arrAt · (Pipeline.pin (pcfgs (F := F)) adm p).N)
        (afterRegion (pdats Vl p c) (Vl c)) (fun w => (Pipeline.afterRegion_arr (pdats Vl p c) (Vl c) kit.win.arr_inj w).symm)]
    iintro ⟨Ha, HO, -, Hr⟩
    imodintro
    isplitl [Ha Hr]
    · isplitl [Ha]; · iexact Ha
      iexact Hr
    unfold Dat.owesAt Pipeline.owesWithin Dat.bound
    rw [howed c (Fin.last _), hrec c]
    icases HO with ⟨%W, %hW, HO⟩; iexists W; isplitr
    · ipureintro
      intro q hq
      rcases hW hq with h | ⟨w, s, rfl⟩
      · exact h
      · exact Nat.zero_le _
    iexact HO

theorem share0 (c : Dev nD) (w) : (pdats Vl 0 c).share w = fullShare := (pdats Vl 0 c).share_full (fun _ => rfl) w
theorem share2 (c : Dev nD) (w) : (pdats Vl 1 c).share w = fullShare := (pdats Vl 1 c).share_full (fun _ => rfl) w

theorem inv0 (c : Dev nD) (t) : (pdats Vl 0 c).Φ t = Pipeline.scopedRest (Pipeline.pin (pcfgs (F := F)) adm 0).spec c :=
  show Φ0 (F := F) c = _ from by rfl
theorem inv2 (c : Dev nD) (t) : (pdats Vl 1 c).Φ t = Pipeline.scopedRest (Pipeline.pin (pcfgs (F := F)) adm 1).spec c :=
  show Φ2 (F := F) c = _ from by rfl
theorem owed0 (c : Dev nD) (t) : (pdats Vl 0 c).owed t = (K (F := F)).Otc c 0 := rfl
theorem owed2 (c : Dev nD) (t) : (pdats Vl 1 c).owed t = (K (F := F)).Otc c 1 := rfl
theorem rec0 (c : Dev nD) (t) : (pdats Vl 0 c).recorded t = below (F := F) c 0 := rfl
theorem rec2 (c : Dev nD) (t) : (pdats Vl 1 c).recorded t = below (F := F) c 1 := rfl

/-- The logits pipeline's region, entered before the SparseCore call, -/
def seg0 : Pipeline.RegionSeg (pcfgs (F := F)) adm (pdats Vl) (none : HIx 1) defs₀ 𝒱₀ (K (F := F)).L (K (F := F)).lev 0 :=
  seg Vl 0 0 launch0.toP (fun c => (body_obligation0 Vl c).loose) (inv0 Vl) (owed0 Vl) (rec0 Vl) (share0 Vl) (fun _ _ => rfl)
/-- and the statistics pipeline's, entered after it. -/
def seg2 : Pipeline.RegionSeg (pcfgs (F := F)) adm (pdats Vl) (none : HIx 1) defs₀ 𝒱₀ (K (F := F)).L (K (F := F)).lev 1 :=
  seg Vl 1 1 launch2.toP (fun c => (body_obligation2 Vl c).loose) (inv2 Vl) (owed2 Vl) (rec2 Vl) (share2 Vl) (fun _ _ => rfl)

variable [∀ e, Nonempty (Elt F e)]

set_option backward.isDefEq.respectTransparency.types false in
/-- A region's call at the program's own labels. -/
theorem wp_region (p : Fin 2) (n : ℕ) (R : Pipeline.RegionSeg (pcfgs (F := F)) adm (pdats Vl) (none : HIx 1) defs₀ 𝒱₀ (K (F := F)).L (K (F := F)).lev p)
    (hpre : ∀ c, R.pre c = iprop(StableHlo.held (c.tc : Thread nD τ) (ucRefs τ sig) (Vl c) ∗ owesBelow (F := F) c n))
    (hpost : ∀ c, R.post c = iprop(StableHlo.held (c.tc : Thread nD τ) (ucRefs τ sig) (afterRegion (pdats Vl p c) (Vl c)) ∗ owesBelow (F := F) c n))
    (d : Dev nD) (Q : PUnit → sProp 𝕄) :
    iprop(((boundary (T d) ∗ StableHlo.held (T d) (ucRefs τ sig) (afterRegion (pdats Vl p d) (Vl d)) ∗ owesBelow (F := F) d n) -∗ Q ⟨⟩)
        ∗ boundary (T d) ∗ StableHlo.held (T d) (ucRefs τ sig) (Vl d) ∗ owesBelow (F := F) d n
        ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs D) 𝒱 (T d) none) Set.univ (Prog.lift (.customCall (SparseCore.inner (Pipeline.entry p)) ())) Q := by
  refine BI.Entails.trans ?_ ((K (F := F)).wp_liftProg D 𝒱 (T d) Set.univ none (.op (.customCall (Pipeline.entry p) ()) .ret) Q)
  have h := R.wp (pcfgs (F := F)) adm (pdats Vl) (none : HIx 1) (cellOf_inj) (EP (F := F)) defs₀ 𝒱₀ (K (F := F)).L (K (F := F)).lev d none (fun u hu => by cases hu) .ret Q
  refine BI.Entails.trans ?_ h
  rw [hpre, hpost]
  change (_ : sProp 𝕄) ⊢ _
  iintro ⟨Hk, Hb, Hh, HO, Hl, Hg, Ht⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Cert.Proof.Router

end
-- ==== Proof.Ops.lean ====
/-
  @main cut at its three calls: the host operations before the first, the calls, and the host operations after the last, each
  run of operations a list over buffers that no call scopes.
-/
module

public import proofs.«01_k».proof.Proof.Regions

@[expose] public section

noncomputable section

namespace Cert.Proof.Router

open Cert.KernelIdeal Cert.KernelIdeal.Gen

open Idealize.ShloMosaic Idealize.ShloMosaic.TcCoe Idealize.ShloMosaic.Tactic
open Idealize.SL.Sem
open Idealize.ShloMosaic.StableHlo

variable {F : FTy → Type} [FloatOps F] [Named F]

/-- The weights transposed and padded to 128 columns. -/
abbrev preOps : List (HloOp τ sig (Elt F)) :=
  [ StableHlo.unary main_arg1 main_v0 ((transpose S1024x8 [1, 0] · transposes_S8x1024_S1024x8_1_0) : (⟨S8x1024, .f32⟩ : BufTy).Contents (Elt F) → (⟨S1024x8, .f32⟩ : BufTy).Contents (Elt F)),
    StableHlo.nullary main_c (constantI S_ 32 0#32),
    StableHlo.TRef.unary (TRef.of (T := ⟨S_, .i32⟩) main_c) (TRef.of (T := ⟨S_, .f32⟩) main_call0_v0) (sitofp .f32),
    StableHlo.TRef.binary (TRef.of (T := ⟨S1024x8, .f32⟩) main_v0) (TRef.of (T := ⟨S_, .f32⟩) main_call0_v0) (TRef.of (T := ⟨S1024x128, .f32⟩) main_v1) (fun x v => pad S1024x128 ![0, 0] ![0, 120] ![0, 0] x v pads_S1024x8_S1024x128_000_01200 h_S_) ]

/-- The load and the entropy off the two statistics blocks, and the balance loss off the load. -/
abbrev postOps : List (HloOp τ sig (Elt F)) :=
  [ StableHlo.unary main_v4_0 main_v5 ((extractStridedSlice S8x1 ![0, 0] · slices_S8x128_S8x1_0_0) : (⟨S8x128, .f32⟩ : BufTy).Contents (Elt F) → (⟨S8x1, .f32⟩ : BufTy).Contents (Elt F)),
    StableHlo.reshape main_v5 main_v6 (rfl : (.f32 : EltTy) = .f32) shapeCasts_S8x1_S8,
    StableHlo.unary main_v4_1 main_v7 ((extractStridedSlice S1x1 ![0, 0] · slices_S8x128_S1x1_0_0) : (⟨S8x128, .f32⟩ : BufTy).Contents (Elt F) → (⟨S1x1, .f32⟩ : BufTy).Contents (Elt F)),
    StableHlo.reshape main_v7 main_v8 (rfl : (.f32 : EltTy) = .f32) shapeCasts_S1x1_S_,
    StableHlo.nullary main_cst (constant S_ .f32 0x45800000#32),
    StableHlo.binary main_v8 main_cst main_v9 (Host.divf : (⟨S_, .f32⟩ : BufTy).Contents (Elt F) → (⟨S_, .f32⟩ : BufTy).Contents (Elt F) → (⟨S_, .f32⟩ : BufTy).Contents (Elt F)),
    StableHlo.nullary main_cst_0 (constant S_ .f32 0x44800000#32),
    StableHlo.unary main_cst_0 main_v10 (broadcastInDim S8 ![] bcast_S_S8 : (⟨S_, .f32⟩ : BufTy).Contents (Elt F) → (⟨S8, .f32⟩ : BufTy).Contents (Elt F)),
    StableHlo.binary main_v6 main_v10 main_v11 (Host.divf : (⟨S8, .f32⟩ : BufTy).Contents (Elt F) → (⟨S8, .f32⟩ : BufTy).Contents (Elt F) → (⟨S8, .f32⟩ : BufTy).Contents (Elt F)),
    StableHlo.nullary main_cst_1 (constant S_ .f32 0x00000000#32),
    StableHlo.binary main_v11 main_cst_1 main_v12 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_2 (constant S_ .f32 0x41000000#32),
    StableHlo.binary main_v12 main_cst_2 main_v13 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.TRef.unary (TRef.of (T := ⟨S_, .f32⟩) main_cst_3) (TRef.of (T := ⟨S_, .f32⟩) main_call1_v0) id,
    StableHlo.TRef.binary (TRef.of (T := ⟨S_, .f32⟩) main_call1_v0) (TRef.of (T := ⟨S_, .f32⟩) main_v13) (TRef.of (T := ⟨S_, .f32⟩) main_v14) maximumf,
    StableHlo.nullary main_c_4 (constantI S_ 32 1#32),
    StableHlo.TRef.nullary (TRef.of (T := ⟨S_, .f32⟩) main_call2_call0_cst) (constant S_ .f32 0x00000000#32),
    StableHlo.TRef.binary (TRef.of (T := ⟨S8, .f32⟩) main_v11) (TRef.of (T := ⟨S_, .f32⟩) main_call2_call0_cst) (TRef.of (T := ⟨S_, .f32⟩) main_call2_call0_v0) (fun x v => Host.reduceAdd x v reducesTo_S8_S_d0 h_S_),
    StableHlo.TRef.unary (TRef.of (T := ⟨S_, .f32⟩) main_call2_call0_v0) (TRef.of (T := ⟨S1, .f32⟩) main_call2_call0_v1) (broadcastInDim S1 ![] bcast_S_S1),
    StableHlo.TRef.nullary (TRef.of (T := ⟨S_, .f32⟩) main_call2_call0_cst_0) (constant S_ .f32 0x41000000#32),
    StableHlo.TRef.unary (TRef.of (T := ⟨S_, .f32⟩) main_call2_call0_cst_0) (TRef.of (T := ⟨S1, .f32⟩) main_call2_call0_v2) (broadcastInDim S1 ![] bcast_S_S1),
    StableHlo.TRef.binary (TRef.of (T := ⟨S1, .f32⟩) main_call2_call0_v1) (TRef.of (T := ⟨S1, .f32⟩) main_call2_call0_v2) (TRef.of (T := ⟨S1, .f32⟩) main_call2_call0_v3) Host.divf,
    StableHlo.TRef.unary (TRef.of (T := ⟨S1, .f32⟩) main_call2_call0_v3) (TRef.of (T := ⟨S8, .f32⟩) main_call2_call0_v4) (broadcastInDim S8 ![0] bcast_S1_S8_0),
    StableHlo.TRef.binary (TRef.of (T := ⟨S8, .f32⟩) main_v11) (TRef.of (T := ⟨S8, .f32⟩) main_call2_call0_v4) (TRef.of (T := ⟨S8, .f32⟩) main_call2_call0_v5) subf,
    StableHlo.TRef.binary (TRef.of (T := ⟨S8, .f32⟩) main_call2_call0_v5) (TRef.of (T := ⟨S8, .f32⟩) main_call2_call0_v5) (TRef.of (T := ⟨S8, .f32⟩) main_call2_call0_v6) mulf,
    StableHlo.TRef.unary (TRef.of (T := ⟨S_, .i32⟩) main_c_4) (TRef.of (T := ⟨S_, .f32⟩) main_call2_call0_v7) (sitofp .f32),
    StableHlo.TRef.nullary (TRef.of (T := ⟨S_, .f32⟩) main_call2_call0_cst_1) (constant S_ .f32 0x41000000#32),
    StableHlo.TRef.binary (TRef.of (T := ⟨S_, .f32⟩) main_call2_call0_cst_1) (TRef.of (T := ⟨S_, .f32⟩) main_call2_call0_v7) (TRef.of (T := ⟨S_, .f32⟩) main_call2_call0_v8) subf,
    StableHlo.TRef.nullary (TRef.of (T := ⟨S_, .f32⟩) main_call2_call0_cst_2) (constant S_ .f32 0x00000000#32),
    StableHlo.TRef.binary (TRef.of (T := ⟨S8, .f32⟩) main_call2_call0_v6) (TRef.of (T := ⟨S_, .f32⟩) main_call2_call0_cst_2) (TRef.of (T := ⟨S_, .f32⟩) main_call2_call0_v9) (fun x v => Host.reduceAdd x v reducesTo_S8_S_d0 h_S_),
    StableHlo.TRef.binary (TRef.of (T := ⟨S_, .f32⟩) main_call2_call0_v9) (TRef.of (T := ⟨S_, .f32⟩) main_call2_call0_v8) (TRef.of (T := ⟨S_, .f32⟩) main_call2_call0_v10) Host.divf,
    StableHlo.TRef.nullary (TRef.of (T := ⟨S_, .f32⟩) main_call2_call0_cst_3) (constant S_ .f32 0x00000000#32),
    StableHlo.TRef.binary (TRef.of (T := ⟨S_, .f32⟩) main_call2_call0_v8) (TRef.of (T := ⟨S_, .f32⟩) main_call2_call0_cst_3) (TRef.of (T := ⟨S_, .i1⟩) main_call2_call0_v11) (cmpf .ogt),
    StableHlo.TRef.nullary (TRef.of (T := ⟨S_, .f32⟩) main_call2_call0_cst_4) (constant S_ .f32 0x7FC00000#32),
    StableHlo.TRef.unary (TRef.of (T := ⟨S_, .f32⟩) main_call2_call0_cst_4) (TRef.of (T := ⟨S_, .f32⟩) main_call2_call0_call0_v0) id,
    StableHlo.TRef.ternary (TRef.of (T := ⟨S_, .i1⟩) main_call2_call0_v11) (TRef.of (T := ⟨S_, .f32⟩) main_call2_call0_v10) (TRef.of (T := ⟨S_, .f32⟩) main_call2_call0_call0_v0) (TRef.of (T := ⟨S_, .f32⟩) main_call2_v0) select,
    StableHlo.TRef.unary (TRef.of (T := ⟨S_, .f32⟩) main_call2_v0) (TRef.of (T := ⟨S_, .f32⟩) main_v15) Host.sqrt,
    StableHlo.binary main_v15 main_v14 main_v16 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3C23D70A#32),
    StableHlo.binary main_v16 main_cst_5 main_v17 (mulf : (⟨S_, .f32⟩ : BufTy).Contents (Elt F) → (⟨S_, .f32⟩ : BufTy).Contents (Elt F) → (⟨S_, .f32⟩ : BufTy).Contents (Elt F)),
    StableHlo.nullary main_cst_6 (constant S_ .f32 0x41000000#32),
    StableHlo.binary main_v17 main_cst_6 main_v18 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_cut (d : Dev nD) : main (F := F) d = (seq (preOps (F := F)) >>= fun _ => Prog.lift (.customCall (SparseCore.inner (Pipeline.entry 0)) ()) >>= fun _ =>
    sc.run d 0 >>= fun _ => Prog.lift (.customCall (SparseCore.inner (Pipeline.entry 1)) ()) >>= fun _ => seq (postOps (F := F)) >>= fun _ => pure ⟨⟩) := by
  simp only [main, fn_pad.body, fn_clip.body, fn_std.body, fn_var.body, fn_where.body, seq, bind_assoc, pure_bind]

theorem pre_sub : (preOps (F := F)).Forall fun op => op.bufs ⊆ tcRefs τ sig :=
  ⟨unary_bufs_sub .., nullary_bufs_sub .., unary_bufs_sub .., binary_bufs_sub ..⟩
theorem pre_fresh : (preOps (F := F)).Forall fun op => op.fresh = ∅ :=
  ⟨rfl, rfl, rfl, rfl⟩
theorem post_sub : (postOps (F := F)).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., binary_bufs_sub .., nullary_bufs_sub .., binary_bufs_sub .., nullary_bufs_sub .., binary_bufs_sub ..⟩
theorem post_fresh : (postOps (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Proof.Router

end
-- ==== Proof.Launch.lean ====
/-
  The router program's launch: the handshakes' payloads are the tiles' blocks of the logits, the gates and the differences;
  @main runs the host operations, the logits pipeline, the SparseCore call, the statistics pipeline and the host operations
  after it, from the launch's buffers to a valuation read off the launch memory; and so does every run of the program.
-/
module

public import proofs.«01_k».proof.Proof.Tile
public import proofs.«01_k».proof.Proof.Ops

@[expose] public section

noncomputable section

namespace Cert.Proof.Router

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs arrRefs arrRef afterRegion)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The valuations @main passes through -/

/-- The launch memory of device `d`, -/
def V0 (d : Dev nD) : Valuation τ sig (Elt F) := fun b => m (d, b)
/-- after the host operations before the first call, -/
def V1 (d : Dev nD) : Valuation τ sig (Elt F) := StableHlo.after preOps (V0 m d)
/-- after the logits pipeline, -/
def V2 (d : Dev nD) : Valuation τ sig (Elt F) := afterRegion (pdats (V1 m) 0 d) (V1 m d)
/-- the logits the SparseCore call reads, -/
def LT (d : Dev nD) : S8x4096.Idx → F .f32 := V2 m d main_v2
/-- after the call, whose second result is fixed in row 0 only, -/
def V3 (f : S8x4096.Idx → F .f32) (d : Dev nD) : Valuation τ sig (Elt F) :=
  Function.update (Function.update (V2 m d) (Proc.devRef .tc main_v3_0) (Wv (LT m d) : S8x4096.Idx → F .f32)) (Proc.devRef .tc main_v3_1) f
/-- after the statistics pipeline, -/
def V4 (f : S8x4096.Idx → F .f32) (d : Dev nD) : Valuation τ sig (Elt F) := afterRegion (pdats (V3 m f) 1 d) (V3 m f d)
/-- and after the host operations that follow. -/
def V5 (f : S8x4096.Idx → F .f32) (d : Dev nD) : Valuation τ sig (Elt F) := StableHlo.after postOps (V4 m f d)

/-- Row 0 of `f` holds the differences of the logits `lt`. -/
def RowOk (lt f : S8x4096.Idx → F .f32) : Prop := ∀ j, (j 0).val = 0 → f j = Dv lt (j 1)

/-! ## The payloads -/

abbrev inPiece (d : Dev nD) (k : Fin 32) : sProp 𝕄 :=
  iprop((ltLoc d ↦[colSet k]{fullShare} (LT m d)) ∗ (wLoc d ↦[colSet k]{fullShare} (V2 m d main_v3_0)) ∗ (dLoc d ↦[colSet k]{fullShare} (V2 m d main_v3_1)))
abbrev outPiece (d : Dev nD) (k : Fin 32) : sProp 𝕄 :=
  iprop((ltLoc d ↦[colSet k]{fullShare} (LT m d)) ∗ (wLoc d ↦[colSet k]{fullShare} (Wv (LT m d) : S8x4096.Idx → F .f32)) ∗ dPiece d (LT m d) k)

/-- What the call's handshakes carry: a SparseCore's sixteen blocks of the three arrays, and each tile its own. -/
def P : (K (F := F)).Pay (nD := nD) (Val := Elt F) (Name := ℕ) (U := UU) where
  st := fun q d c => match q with | 0 => bigSep Finset.univ fun i : Fin 16 => inPiece m d (blkOf (Fin.cast nCore_zero c) i)
  dn := fun q d c => match q with | 0 => bigSep Finset.univ fun i : Fin 16 => outPiece m d (blkOf (Fin.cast nCore_zero c) i)
  go := fun q d c i => match q with | 0 => inPiece m d (blkOf (Fin.cast nCore_zero c) (Fin.cast nSub_zero i))
  td := fun q d c i => match q with | 0 => outPiece m d (blkOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => inPiece m d (blkOf (Fin.cast nCore_zero c) i)))
  dn q d c := match q with
    | 0 => (inferInstance : BI.Storable (upEmb : UEmb _ 𝕄) (bigSep Finset.univ fun i : Fin 16 => outPiece m d (blkOf (Fin.cast nCore_zero c) i)))
  go q d c i := match q with
    | 0 => (inferInstance : BI.Storable (upEmb : UEmb _ 𝕄) (inPiece m d (blkOf (Fin.cast nCore_zero c) (Fin.cast nSub_zero i))))
  td q d c i := match q with
    | 0 => (inferInstance : BI.Storable (upEmb : UEmb _ 𝕄) (outPiece m d (blkOf (Fin.cast nCore_zero c) (Fin.cast nSub_zero i))))

/-! ## The tile's obligation -/

/-- The coordinates of the tile at sub-core `i` of SparseCore `c`. -/
abbrev Lof (c : Fin (grid1.bound 0)) (i : Fin (grid1.bound 1)) : grid1.Coords
  | 0 => c
  | 1 => i
  | ⟨_+2, h⟩ => absurd h (Nat.not_lt.2 (Nat.le_add_left _ _))

theorem defs₀_vector (c : Fin τ.nSC) (s : Fin τ.nSub) :
    defs₀ (F := F) (.scVector c s) 1 () = SparseCore.onTile hcore1 hsub1
      (fun c s => cc1_k (Lof c s)
        (Memref.whole main_v2_scv) (Memref.isWhole_whole _) (Memref.whole main_v3_0_scv) (Memref.isWhole_whole _) (Memref.whole main_v3_1_scv) (Memref.isWhole_whole _)
        (Memref.whole cc1_scoped0) (Memref.isWhole_whole _) cc1_scoped1 (Memref.whole cc1_scoped2) (Memref.isWhole_whole _) cc1_scoped3
        (Memref.whole cc1_scoped4) (Memref.isWhole_whole _) cc1_scoped5) ⟨⟩ c s := rfl

theorem tileObl (hF : (K (F := F)).Facts) : (K (F := F)).TileObl (D (F := F)) 𝒱 (P m) v₀ 0 := by
  intro d c i O W hO _ _
  simp only [show (P (F := F) m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have h := tile_body d (Lof ⟨_, hci.1⟩ ⟨_, hci.2⟩) (LT m d) (V2 m d main_v3_0) (V2 m d main_v3_1) hF O W hO
  rw [show kL (Lof ⟨_, hci.1⟩ ⟨_, hci.2⟩) = blkOf (Fin.cast nCore_zero c) (Fin.cast nSub_zero i) from rfl] at h
  rw [show (P m).go 0 d c i = inPiece m d (blkOf (Fin.cast nCore_zero c) (Fin.cast nSub_zero i)) from rfl,
    show (P m).td 0 d c i = outPiece m d (blkOf (Fin.cast nCore_zero c) (Fin.cast nSub_zero i)) from rfl,
    show (P m).x 0 (V d ((K (F := F)).core 0 c) ((K (F := F)).sub 0 i)) = iprop(emp) from rfl]
  exact h

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's blocks are its tiles'. -/
theorem vecSplit : (K (F := F)).VecSplit' (P m) 0 := by
  intro d c
  show (bigSep Finset.univ fun i : Fin 16 => inPiece m d (blkOf (Fin.cast nCore_zero c) i)) ⊢ |={Set.univ}=> iprop(
      (bigSep Finset.univ fun i : Fin ((K (F := F)).nSub 0) => inPiece m d (blkOf (Fin.cast nCore_zero c) (Fin.cast nSub_zero i)))
      ∗ ((bigSep Finset.univ fun i : Fin ((K (F := F)).nSub 0) => outPiece m d (blkOf (Fin.cast nCore_zero c) (Fin.cast nSub_zero i)))
          -∗ bigSep Finset.univ fun i : Fin 16 => outPiece m d (blkOf (Fin.cast nCore_zero c) i)))
  rw [bigSep_subs (fun i => inPiece m d (blkOf (Fin.cast nCore_zero c) i)), bigSep_subs (fun i => outPiece m d (blkOf (Fin.cast nCore_zero c) i))]
  iintro H; imodintro
  isplitl [H]; · iexact H
  iintro H; iexact H

/-! ## The three arrays and their blocks -/

theorem colSet_eq (k : Fin 32) : colSet k = (col k).set := by
  show ((View.whole main_v2_scv).slice (col k)).set = (col k).set
  rw [View.set_slice]; exact Finset.map_refl

/-- The blocks under the two SparseCores' sixteen tiles each. -/
abbrev blk2 (p : Fin 2 × Fin 16) : Finset S8x4096.Idx := colSet (blkOf p.1 p.2)

theorem blkOf_inj {p q : Fin 2 × Fin 16} (h : blkOf p.1 p.2 = blkOf q.1 q.2) : p = q := by
  have h' : 16 * p.1.val + p.2.val = 16 * q.1.val + q.2.val := congrArg Fin.val h
  exact Prod.ext (Fin.ext (by omega)) (Fin.ext (by omega))

theorem blk2_disjoint : ∀ p ∈ (Finset.univ : Finset (Fin 2 × Fin 16)), ∀ q ∈ Finset.univ, p ≠ q → Disjoint (blk2 p) (blk2 q) := by
  intro p _ q _ h
  unfold blk2
  rw [colSet_eq, colSet_eq]
  exact Rect.part_disjoint hdiv fun e => h (blkOf_inj e)

theorem blk2_cover : (Finset.univ : Finset (Fin 2 × Fin 16)).biUnion blk2 = Finset.univ := by
  have h := Rect.biUnion_part (s := S8x4096) (a₀ := 1) hdiv
  refine Finset.eq_univ_iff_forall.mpr fun j => ?_
  obtain ⟨k, -, hk⟩ := Finset.mem_biUnion.mp (h ▸ Finset.mem_univ j : j ∈ Finset.univ.biUnion fun k => (col k).set)
  refine Finset.mem_biUnion.mpr ⟨(⟨k.val / 16, by omega⟩, ⟨k.val % 16, by omega⟩), Finset.mem_univ _, ?_⟩
  have e : blkOf ⟨k.val / 16, by omega⟩ ⟨k.val % 16, by omega⟩ = k := Fin.ext (by unfold blkOf; dsimp only; omega)
  show j ∈ colSet (blkOf _ _)
  rw [e, colSet_eq]
  exact hk

theorem lt_blocks (d : Dev nD) (f : Buf (Elt F) (ltLoc d)) :
    (ltLoc d ↦{fullShare} f : sProp 𝕄) = bigSep Finset.univ fun p : Fin 2 × Fin 16 => ltLoc d ↦[blk2 p]{fullShare} f := by
  rw [← pointsTo_biUnion Finset.univ (ℓ := ltLoc d) blk2 blk2_disjoint, blk2_cover]; try rfl
theorem w_blocks (d : Dev nD) (f : Buf (Elt F) (wLoc d)) :
    (wLoc d ↦{fullShare} f : sProp 𝕄) = bigSep Finset.univ fun p : Fin 2 × Fin 16 => wLoc d ↦[blk2 p]{fullShare} f := by
  rw [← pointsTo_biUnion Finset.univ (ℓ := wLoc d) blk2 blk2_disjoint, blk2_cover]; try rfl
theorem d_blocks (d : Dev nD) (f : Buf (Elt F) (dLoc d)) :
    (dLoc d ↦{fullShare} f : sProp 𝕄) = bigSep Finset.univ fun p : Fin 2 × Fin 16 => dLoc d ↦[blk2 p]{fullShare} f := by
  rw [← pointsTo_biUnion Finset.univ (ℓ := dLoc d) blk2 blk2_disjoint, blk2_cover]; try rfl

/-- The differences' blocks, each right in its row 0, are the array whole, right in its row 0. -/
theorem d_join (d : Dev nD) (lt : Buf (Elt F) (ltLoc d)) :
    (bigSep Finset.univ fun p : Fin 2 × Fin 16 => dPiece d lt (blkOf p.1 p.2))
      ⊢ (iprop(∃ f : S8x4096.Idx → F .f32, ⌜RowOk lt f⌝ ∗ dLoc d ↦{fullShare} f) : sProp 𝕄) := by
  let Y : Fin 2 × Fin 16 → Type := fun p => {f : Buf (Elt F) (dLoc d) // ∀ j ∈ blk2 p, (j 0).val = 0 → f j = Dv (F := F) lt (j 1)}
  have : ∀ p, Nonempty (Y p) := fun p => ⟨⟨fun j => Dv (F := F) lt (j 1), fun _ _ _ => rfl⟩⟩
  have hmono : (bigSep Finset.univ fun p : Fin 2 × Fin 16 => dPiece d lt (blkOf p.1 p.2))
      ⊢ (bigSep Finset.univ fun p : Fin 2 × Fin 16 => iprop(∃ y : Y p, dLoc d ↦[blk2 p]{fullShare} y.1) : sProp 𝕄) :=
    bigSep_mono fun p _ => by
      change (_ : sProp 𝕄) ⊢ _
      iintro ⟨%f, %hf, H⟩
      iexists (⟨f, hf⟩ : Y p); iexact H
  refine hmono.trans ((bigSep_exists_pi Finset.univ (fun (p : Fin 2 × Fin 16) (y : Y p) => dLoc d ↦[blk2 p]{fullShare} y.1)).trans ?_)
  iintro ⟨%ys, H⟩
  ihave H' := (pointsTo_biUnion_join (ℓ := dLoc d) (q := fullShare) (Val := Elt F) Finset.univ blk2 (fun p => (ys p).1) (ys (0, 0)).1 blk2_disjoint) $$ H
  icases H' with ⟨%g, %hg, Hg⟩
  rw [blk2_cover]
  iexists g
  isplitr
  · ipureintro
    intro j hj
    obtain ⟨p, hp1, hp2⟩ := Finset.mem_biUnion.mp (blk2_cover ▸ Finset.mem_univ j : j ∈ Finset.univ.biUnion blk2)
    exact (hg p hp1 j hp2).trans ((ys p).2 j hp2 hj)
  iexact Hg

/-- The three arrays whole are the payloads the call's starts carry, -/
theorem st0_eq (d : Dev nD) :
    (bigSep Finset.univ fun c : Fin ((K (F := F)).nCore 0) => (P m).st 0 d c)
      = iprop((ltLoc d ↦{fullShare} (LT m d)) ∗ (wLoc d ↦{fullShare} (V2 m d main_v3_0)) ∗ (dLoc d ↦{fullShare} (V2 m d main_v3_1))) := by
  show (bigSep Finset.univ fun c : Fin ((K (F := F)).nCore 0) => bigSep Finset.univ fun i : Fin 16 => inPiece m d (blkOf (Fin.cast nCore_zero c) i)) = _
  rw [bigSep_cores (fun c => bigSep Finset.univ fun i : Fin 16 => inPiece m d (blkOf c i)),
    ← bigSep_univ_prod (fun p : Fin 2 × Fin 16 => inPiece m d (blkOf p.1 p.2)), bigSep_sep', bigSep_sep', lt_blocks, w_blocks, d_blocks]

/-- and what its ends bring back. -/
theorem dn0_out (d : Dev nD) :
    (bigSep Finset.univ fun c : Fin ((K (F := F)).nCore 0) => (P m).dn 0 d c)
      ⊢ (iprop((ltLoc d ↦{fullShare} (LT m d)) ∗ (wLoc d ↦{fullShare} (Wv (LT m d) : S8x4096.Idx → F .f32))
          ∗ ∃ f : S8x4096.Idx → F .f32, ⌜RowOk (LT m d) f⌝ ∗ dLoc d ↦{fullShare} f) : sProp 𝕄) := by
  show (bigSep Finset.univ fun c : Fin ((K (F := F)).nCore 0) => bigSep Finset.univ fun i : Fin 16 => outPiece m d (blkOf (Fin.cast nCore_zero c) i)) ⊢ _
  rw [bigSep_cores (fun c => bigSep Finset.univ fun i : Fin 16 => outPiece m d (blkOf c i)),
    ← bigSep_univ_prod (fun p : Fin 2 × Fin 16 => outPiece m d (blkOf p.1 p.2)), bigSep_sep', bigSep_sep', lt_blocks, w_blocks]
  iintro ⟨H1, H2, H3⟩
  isplitl [H1]; · iexact H1
  isplitl [H2]; · iexact H2
  iapply (d_join d (LT m d)); iexact H3

/-! ## The launch element -/

/-- The handshakes' rounds, and the two pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What @main is dealt: both pipelines' cells and tokens. -/
abbrev G (d : Dev nD) : sProp 𝕄 :=
  iprop((bigSep Finset.univ fun p => Pipeline.cellsGhost (Pipeline.pin (pcfgs (F := F)) adm) (EP (F := F)) p d)
    ∗ (bigSep Finset.univ fun p => Pipeline.toksInit (Pipeline.pin (pcfgs (F := F)) adm) (EP (F := F)) p d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (_ : UP × Counters)) $$ Hu
  icases H with ⟨HH, HP⟩
  ihave H := (own_pair_emb embR (initOf (Pipeline.cells (Pipeline.pin (pcfgs (F := F)) adm) cellOf_inj)
    (Pipeline.launchToks (Pipeline.pin (pcfgs (F := F)) adm) cellOf_inj)) (1 : Counters)) $$ HP
  icases H with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

variable [∀ e, Nonempty (Elt F e)]

/-- What @main leaves: every unscoped buffer at the last valuation, for a second result right in its row 0. -/
abbrev FIN (d : Dev nD) : sProp 𝕄 :=
  iprop(∃ f : S8x4096.Idx → F .f32, ⌜RowOk (LT m d) f⌝ ∗ StableHlo.held (T d) (ucRefs τ sig) (V5 m f d))

/-- The call's three arrays among the unscoped buffers. -/
abbrev three : Finset (DevRef τ sig) := {Proc.devRef .tc main_v2, Proc.devRef .tc main_v3_0, Proc.devRef .tc main_v3_1}

theorem three_sub : three ⊆ ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (W : Valuation τ sig (Elt F)) :
    (StableHlo.held (T d) three W : sProp 𝕄) = iprop((ltLoc d ↦{fullShare} W main_v2) ∗ (wLoc d ↦{fullShare} W main_v3_0) ∗ (dLoc d ↦{fullShare} W main_v3_1)) := by
  unfold StableHlo.held three
  rw [SparseCore.bigSep_insert' (by decide), SparseCore.bigSep_insert' (by decide), bigSep_singleton]

theorem V3_v2 (f : S8x4096.Idx → F .f32) (d : Dev nD) : V3 m f d main_v2 = LT m d := by
  unfold V3 LT
  rw [Function.update_of_ne (by decide), Function.update_of_ne (by decide)]
theorem V3_v3_0 (f : S8x4096.Idx → F .f32) (d : Dev nD) : V3 m f d main_v3_0 = (Wv (LT m d) : S8x4096.Idx → F .f32) := by
  unfold V3
  rw [Function.update_of_ne (by decide), Function.update_self]
theorem V3_v3_1 (f : S8x4096.Idx → F .f32) (d : Dev nD) : V3 m f d main_v3_1 = f := by
  unfold V3
  rw [Function.update_self]
theorem V3_off (f : S8x4096.Idx → F .f32) (d : Dev nD) (b : DevRef τ sig) (hb : b ∉ three) : V3 m f d b = V2 m d b := by
  simp only [three, Finset.mem_insert, Finset.mem_singleton, not_or] at hb
  unfold V3
  rw [Function.update_of_ne hb.2.2, Function.update_of_ne hb.2.1]

/-- The three arrays back, with the rest, are every unscoped buffer at the valuation after the call. -/
theorem held_V3 (f : S8x4096.Idx → F .f32) (d : Dev nD) :
    (StableHlo.held (T d) (ucRefs τ sig) (V3 m f d) : sProp 𝕄)
      = iprop(((ltLoc d ↦{fullShare} (LT m d)) ∗ (wLoc d ↦{fullShare} (Wv (LT m d) : S8x4096.Idx → F .f32)) ∗ (dLoc d ↦{fullShare} f))
          ∗ StableHlo.held (T d) (ucRefs τ sig \ three) (V2 m d)) := by
  rw [StableHlo.held_sub_split (T d) three_sub, held_three, V3_v2, V3_v3_0, V3_v3_1,
    StableHlo.held_congr (T d) fun b hb => V3_off m f d b (Finset.mem_sdiff.mp hb).2]

theorem held_V2 (d : Dev nD) :
    (StableHlo.held (T d) (ucRefs τ sig) (V2 m d) : sProp 𝕄)
      = iprop(((ltLoc d ↦{fullShare} (LT m d)) ∗ (wLoc d ↦{fullShare} (V2 m d main_v3_0)) ∗ (dLoc d ↦{fullShare} (V2 m d main_v3_1)))
          ∗ StableHlo.held (T d) (ucRefs τ sig \ three) (V2 m d)) := by
  rw [StableHlo.held_sub_split (T d) three_sub, held_three]
  rfl

/-- Both pipelines' cells and tokens, apart. -/
theorem G_split (d : Dev nD) : G (F := F) d
    ⊢ iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) := by
  unfold G
  rw [BI.bigSep_fin_two, BI.bigSep_fin_two]
  change (iprop((Pipeline.cellsGhost (Pipeline.pin (pcfgs (F := F)) adm) (EP (F := F)) 0 d ∗ Pipeline.cellsGhost (Pipeline.pin (pcfgs (F := F)) adm) (EP (F := F)) 1 d)
    ∗ (Pipeline.toksInit (Pipeline.pin (pcfgs (F := F)) adm) (EP (F := F)) 0 d ∗ Pipeline.toksInit (Pipeline.pin (pcfgs (F := F)) adm) (EP (F := F)) 1 d)) : sProp 𝕄) ⊢ _
  iintro ⟨⟨Hg0, Hg1⟩, ⟨Ht0, Ht1⟩⟩
  isplitl [Hg0 Ht0]
  · isplitl [Hg0]; · iexact Hg0
    iexact Ht0
  isplitl [Hg1]; · iexact Hg1
  iexact Ht1

/-- The TensorCore's state between calls, its tallies apart. -/
abbrev tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))
theorem tcSt_eq (d : Dev nD) (n : ℕ) : (K (F := F)).tcSt (EH (F := F)) d n = iprop(owesBelow (F := F) d n ∗ tcRest (F := F) d n) := rfl

/-- The call, from every unscoped buffer to every unscoped buffer. -/
theorem wp_call (κ : GSem nD τ sig → ℕ) (d : Dev nD) (Q : PUnit → sProp 𝕄) :
    iprop((K (F := F)).ctx (EH (F := F)) (P m) κ ∗ (K (F := F)).tcSt (EH (F := F)) d 0 ∗ StableHlo.held (T d) (ucRefs τ sig) (V2 m d)
        ∗ ((∃ f : S8x4096.Idx → F .f32, ⌜RowOk (LT m d) f⌝ ∗ (K (F := F)).tcSt (EH (F := F)) d 1 ∗ StableHlo.held (T d) (ucRefs τ sig) (V3 m f d)) -∗ Q ⟨⟩))
      ⊢ wp frame (wpE ((K (F := F)).defs (D (F := F))) 𝒱 (T d) none) Set.univ (sc.run d 0) Q := by
  rw [held_V2]
  iintro ⟨#Hctx, Hst, ⟨H3, Hrest⟩, Hk⟩
  iapply ((K (F := F)).wp_run (D (F := F)) 𝒱 (EH := EH (F := F)) (P := P m) κ d 0) $$ [Hst H3 Hrest Hk]
  isplitr; · iexact Hctx
  isplitl [Hst]; · iexact Hst
  isplitl [H3]
  · rw [st0_eq]; iexact H3
  iintro ⟨Hst, Hdn⟩
  ihave Hdn' := (dn0_out m d) $$ Hdn
  icases Hdn' with ⟨Hl, Hw, ⟨%f, %hf, Hd⟩⟩
  iapply Hk
  iexists f
  isplitr; · ipureintro; exact hf
  isplitl [Hst]; · iexact Hst
  rw [held_V3]
  isplitl [Hl Hw Hd]
  · isplitl [Hl]; · iexact Hl
    isplitl [Hw]; · iexact Hw
    iexact Hd
  iexact Hrest

/-- The launch's buffers are every unscoped buffer at the launch memory. -/
theorem start_held (d : Dev nD) :
    (unscopedBufs d (fun b => m ((SparseCore.T d).loc b)) : sProp 𝕄) = StableHlo.held (T d) (ucRefs τ sig) (V0 m d) :=
  Pipeline.unscopedBufs_held (Ix := HIx 1) (Name := ℕ) (U := UU) (Lvl := ℕ) d (V0 m d)

set_option backward.isDefEq.respectTransparency.types false in
/-- @main on device `d`'s TensorCore. -/
theorem hmain (κ : GSem nD τ sig → ℕ) (d : Dev nD) :
    iprop((K (F := F)).ctx (EH (F := F)) (P m) κ ∗ (K (F := F)).tcSt (EH (F := F)) d 0 ∗ (K (F := F)).tcRes m ρ d ∗ G (F := F) d)
      ⊢ wp frame (wpE ((K (F := F)).defs (D (F := F))) 𝒱 (T d) none) Set.univ (main d)
          fun _ => iprop((K (F := F)).tcSt (EH (F := F)) d 1 ∗ FIN m d ∗ (K (F := F)).tcEnd d) := by
  unfold SparseCore.Cfg.tcRes SparseCore.Cfg.tcEnd
  rw [main_cut]
  iintro ⟨#Hctx, Hst, ⟨Hb, Hub, Hts, -⟩, HG⟩
  ihave #Hlv := (SparseCore.Cfg.ctx_levAts κ) $$ Hctx
  ihave HG' := (G_split (F := F) d) $$ HG
  icases HG' with ⟨⟨Hg0, Ht0⟩, ⟨Hg1, Ht1⟩⟩
  ihave Hh := (Entails.of_eq (start_held m d)) $$ Hub
  -- the host operations before the first call
  iapply (StableHlo.wp_seq 𝒱 none Set.univ d (ucRefs τ sig) _ (preOps (F := F))
    (fun op hop => Pipeline.sub_ucRefs op (List.forall_iff_forall_mem.mp pre_sub op hop)) (List.forall_iff_forall_mem.mp pre_fresh) (V0 m d)) $$ [Hb Hh]
  · isplitl [Hb]; · iexact Hb
    iexact Hh
  iintro ⟨Hb, Hh⟩
  -- the logits pipeline
  ihave Hst' := (Entails.of_eq (tcSt_eq (F := F) d 0)) $$ Hst
  icases Hst' with ⟨HO, Hr⟩
  iapply (Entails.of_eq (wp_bind _ _ _ _ _ _).symm)
  iapply (wp_region (V1 m) 0 0 (seg0 (V1 m)) (fun _ => rfl) (fun _ => rfl) d) $$ [Hb Hh HO Hr Hg0 Ht0 Hg1 Ht1 Hts]
  isplitr [Hb Hh HO Hg0 Ht0]
  rotate_left
  · isplitl [Hb]; · iexact Hb
    isplitl [Hh]; · iexact Hh
    isplitl [HO]; · iexact HO
    isplitr; · iexact Hlv
    isplitl [Hg0]; · iexact Hg0
    iexact Ht0
  iintro ⟨Hb, Hh, HO⟩
  -- the SparseCore call
  iapply (Entails.of_eq (wp_bind _ _ _ _ _ _).symm)
  iapply (wp_call m κ d) $$ [Hb Hh HO Hr Hg1 Ht1 Hts]
  isplitr; · iexact Hctx
  isplitl [HO Hr]
  · rw [tcSt_eq]
    isplitl [HO]; · iexact HO
    iexact Hr
  isplitl [Hh]; · iexact Hh
  iintro ⟨%f, %hf, Hst, Hh⟩
  -- the statistics pipeline
  ihave Hst' := (Entails.of_eq (tcSt_eq (F := F) d 1)) $$ Hst
  icases Hst' with ⟨HO, Hr⟩
  iapply (Entails.of_eq (wp_bind _ _ _ _ _ _).symm)
  iapply (wp_region (V3 m f) 1 1 (seg2 (V3 m f)) (fun _ => rfl) (fun _ => rfl) d) $$ [Hb Hh HO Hr Hg1 Ht1 Hts]
  isplitr [Hb Hh HO Hg1 Ht1]
  rotate_left
  · isplitl [Hb]; · iexact Hb
    isplitl [Hh]; · iexact Hh
    isplitl [HO]; · iexact HO
    isplitr; · iexact Hlv
    isplitl [Hg1]; · iexact Hg1
    iexact Ht1
  iintro ⟨Hb, Hh, HO⟩
  -- the host operations after it
  iapply (StableHlo.wp_seq 𝒱 none Set.univ d (ucRefs τ sig) _ (postOps (F := F))
    (fun op hop => Pipeline.sub_ucRefs op (List.forall_iff_forall_mem.mp post_sub op hop)) (List.forall_iff_forall_mem.mp post_fresh) (V4 m f d)) $$ [Hb Hh]
  · isplitl [Hb]; · iexact Hb
    iexact Hh
  iintro ⟨Hb, Hh⟩
  rw [wp_pure]
  imodintro
  isplitl [HO Hr]
  · rw [tcSt_eq]
    isplitl [HO]; · iexact HO
    iexact Hr
  isplitl [Hh]
  · iexists f
    isplitr; · ipureintro; exact hf
    iexact Hh
  isplitl [Hb] <;> iassumption

/-! ## The program's run -/

/-- What a device's memory holds at the end. -/
def fq (d : Dev nD) (s' : Phys nD τ sig (Elt F)) : Prop :=
  ∃ f : S8x4096.Idx → F .f32, RowOk (LT m d) f ∧ ∀ b ∈ ucRefs τ sig, s'.mem.mem (d, b) = V5 m f d b

theorem hfin (d : Dev nD) (s' : Phys nD τ sig (Elt F)) : iprop(FIN m d ∗ SI s') ⊢ (⌜fq m d s'⌝ : sProp 𝕄) := by
  iintro ⟨⟨%f, %hf, Hh⟩, HSI⟩
  ihave H := (SI_pointsTo_bufs_agree (st := s') (c := d) (qs := fun _ => fullShare) (F := V5 m f d) (ucRefs τ sig)) $$ [HSI Hh]
  · isplitl [HSI]; · iexact HSI
    unfold StableHlo.held
    iexact Hh
  icases H with %h
  ipureintro; exact ⟨f, hf, h⟩

/-- Every run ends with each device's unscoped buffers at the last valuation and every semaphore at zero. -/
def QC : PUnit × MemSt nD τ sig (Elt F) → Prop := fun r =>
  (∀ d : Dev nD, ∃ f : S8x4096.Idx → F .f32, RowOk (LT m d) f ∧ ∀ b ∈ ucRefs τ sig, r.2.mem (d, b) = V5 m f d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Router

end
-- ==== Proof.Frames.lean ====
/-
  The argument arrays end as they began: no host operation writes them, and the pipelines only read them.
-/
module

public import proofs.«01_k».proof.Proof.Launch
public import proofs.«01_k».proof.Proof.Gen.KernelIdeal.Launch

@[expose] public section

noncomputable section

namespace Cert.Proof.Router

open Cert.KernelIdeal Cert.KernelIdeal.Gen

open Idealize.ShloMosaic
open Idealize.ShloMosaic.TcCoe Idealize.ShloMosaic.Tactic
open Idealize.SL.Sem
open Idealize.ShloMosaic.StableHlo
open Idealize.ShloMosaic.Pipeline (Dat ucRefs arrRefs arrRef afterRegion)

variable {F : FTy → Type} [FloatOps F] [Named F]
variable (m : (ℓ : Loc nD τ sig) → Buf (Elt F) ℓ) (ρ : Dev nD → PrngReg)

theorem V1_arg0 (d : Dev nD) : V1 m d main_arg0 = m (d.tc.loc main_arg0) := by
  unfold V1; simp only [preOps, TRef.binary, TRef.nullary, TRef.ternary, TRef.unary, TRef.toBuf, TRef.ofBuf, cast_eq]; after_results_simp <;> rfl
theorem V1_arg1 (d : Dev nD) : V1 m d main_arg1 = m (d.tc.loc main_arg1) := by
  unfold V1; simp only [preOps, TRef.binary, TRef.nullary, TRef.ternary, TRef.unary, TRef.toBuf, TRef.ofBuf, cast_eq]; after_results_simp <;> rfl

theorem V2_arg0 (d : Dev nD) : V2 m d main_arg0 = m (d.tc.loc main_arg0) :=
  (Pipeline.afterRegion_keeps (pdats (V1 m) 0 d) (V1 m d) launch0.win.arr_inj (fun w => rfl) main_arg0
    (show ∀ w : Fin 3, arrRef spec0 w = main_arg0 → (win0 w).isOut = false by decide)).trans (V1_arg0 m d)
theorem V2_arg1 (d : Dev nD) : V2 m d main_arg1 = m (d.tc.loc main_arg1) :=
  (Pipeline.afterRegion_of_not_arr (pdats (V1 m) 0 d) (V1 m d) (show ∀ w : Fin 3, main_arg1 ≠ arrRef spec0 w by decide)).trans (V1_arg1 m d)

variable (f : S8x4096.Idx → F .f32)

theorem V4_arg0 (d : Dev nD) : V4 m f d main_arg0 = m (d.tc.loc main_arg0) :=
  (Pipeline.afterRegion_of_not_arr (pdats (V3 m f) 1 d) (V3 m f d) (show ∀ w : Fin 4, main_arg0 ≠ arrRef spec2 w by decide)).trans ((V3_off m f d _ (by decide)).trans (V2_arg0 m d))
theorem V4_arg1 (d : Dev nD) : V4 m f d main_arg1 = m (d.tc.loc main_arg1) :=
  (Pipeline.afterRegion_of_not_arr (pdats (V3 m f) 1 d) (V3 m f d) (show ∀ w : Fin 4, main_arg1 ≠ arrRef spec2 w by decide)).trans ((V3_off m f d _ (by decide)).trans (V2_arg1 m d))

theorem V5_arg0 (d : Dev nD) : V5 m f d main_arg0 = m (d.tc.loc main_arg0) := by
  refine Eq.trans ?_ (V4_arg0 m f d)
  unfold V5; generalize V4 m f d = V
  simp only [postOps, TRef.binary, TRef.nullary, TRef.ternary, TRef.unary, TRef.toBuf, TRef.ofBuf, cast_eq]; after_results_simp <;> rfl
theorem V5_arg1 (d : Dev nD) : V5 m f d main_arg1 = m (d.tc.loc main_arg1) := by
  refine Eq.trans ?_ (V4_arg1 m f d)
  unfold V5; generalize V4 m f d = V
  simp only [postOps, TRef.binary, TRef.nullary, TRef.ternary, TRef.unary, TRef.toBuf, TRef.ofBuf, cast_eq]; after_results_simp <;> rfl

theorem mem_uc (b : Ref sig .tc) (h : ¬ (Proc.devRef .tc b : DevRef τ sig).isScoped := by decide) : (Proc.devRef .tc b : DevRef τ sig) ∈ ucRefs τ sig :=
  Finset.mem_filter.mpr ⟨StableHlo.devRef_mem_tcRefs b, h⟩

variable [∀ e, Nonempty (Elt F e)]

/-- Every run ends, the arguments unchanged and every semaphore at zero. -/
theorem run_frame : θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono (fun _ h => ⟨fun c => by
    obtain ⟨f, -, hf⟩ := h.1 c
    exact ⟨(hf _ (mem_uc main_arg0)).trans (V5_arg0 m f c), (hf _ (mem_uc main_arg1)).trans (V5_arg1 m f c)⟩, h.2⟩) (run_main m ρ)

end Cert.Proof.Router

end
-- ==== Proof.Printed.Tile.lean ====
/-
  One tile's run of the routing kernel, at a symbolic tile: the block of logits in, the eight lane groups, the block of gates
  and the block of differences out.
-/
module

public import proofs.«01_k».proof.Proof.Printed.Lanes

@[expose] public section

noncomputable section

namespace Cert.Proof.Printed

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "ltV" => (Memref.whole Cert.Kernel.main_v2_scv : Memref Cert.Kernel.sig Kind.scVector Space.hbm Cert.Kernel.S8x4096 EltTy.f32)
local notation "wV" => (Memref.whole Cert.Kernel.main_v3_0_scv : Memref Cert.Kernel.sig Kind.scVector Space.hbm Cert.Kernel.S8x4096 EltTy.f32)
local notation "dV" => (Memref.whole Cert.Kernel.main_v3_1_scv : Memref Cert.Kernel.sig Kind.scVector Space.hbm Cert.Kernel.S8x4096 EltTy.f32)
local notation "sL" => (Memref.whole Cert.Kernel.cc1_scoped0 : Memref Cert.Kernel.sig Kind.scVector Space.vmem Cert.Kernel.S2x8x128 EltTy.f32)
local notation "sW" => (Memref.whole Cert.Kernel.cc1_scoped2 : Memref Cert.Kernel.sig Kind.scVector Space.vmem Cert.Kernel.S2x8x128 EltTy.f32)
local notation "sD" => (Memref.whole Cert.Kernel.cc1_scoped4 : Memref Cert.Kernel.sig Kind.scVector Space.vmem Cert.Kernel.S2x8x128 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's block of columns. -/
abbrev kL (L : grid1.Coords) : Fin 32 := blkOf (Fin.cast bound_zero (L 0)) (Fin.cast bound_one (L 1))

/-- The tile's block as the body spells it. -/
abbrev colK (L : grid1.Coords) : Rect S8x4096 := Rect.unit (s := S8x4096) (k1_off2 L) S8x128.size (k1_off2_inb L)
abbrev ltK (L : grid1.Coords) : Memref sig .scVector .hbm S8x128 .f32 := (ltV).slice (colK L) (fun _ => rfl)
abbrev wK (L : grid1.Coords) : Memref sig .scVector .hbm S8x128 .f32 := (wV).slice (colK L) (fun _ => rfl)
abbrev dK (L : grid1.Coords) : Memref sig .scVector .hbm S8x128 .f32 := (dV).slice (colK L) (fun _ => rfl)

theorem colK_eq : colK L = col (kL L) := by
  unfold colK col Rect.part Rect.block
  congr 1 <;> funext a
  · rw [k1_off2_eq]
    match a with
    | 0 => simp [Shape.partIx, Shape.partSize]
    | 1 =>
      show 128 * (L 1).val + 2048 * (L 0).val = (16 * (L 0).val + (L 1).val) * (4096 / 32)
      omega
  · match a with
    | 0 => simp [Shape.partSize]
    | 1 => simp [Shape.partSize]

theorem set_ltK : (ltK L).view.set = colSet (kL L) := by
  show ((ltV).view.slice (colK L)).set = _
  exact colK_eq L ▸ rfl
theorem set_wK : (wK L).view.set = colSet (kL L) := by
  show ((wV).view.slice (colK L)).set = _
  exact colK_eq L ▸ rfl
theorem set_dK : (dK L).view.set = colSet (kL L) := by
  show ((dV).view.slice (colK L)).set = _
  exact colK_eq L ▸ rfl

theorem pts_ltK (f : Buf (Elt F) (ltLoc d)) :
    ((ltK L).view.loc (V d (cV L) (jV L)) ↦[(ltK L).view.set]{fullShare} f : sProp 𝕄) = ltLoc d ↦[colSet (kL L)]{fullShare} f := by
  rw [set_ltK]
theorem pts_wK (f : Buf (Elt F) (wLoc d)) :
    ((wK L).view.loc (V d (cV L) (jV L)) ↦[(wK L).view.set]{fullShare} f : sProp 𝕄) = wLoc d ↦[colSet (kL L)]{fullShare} f := by
  rw [set_wK]
theorem pts_dK (f : Buf (Elt F) (dLoc d)) :
    ((dK L).view.loc (V d (cV L) (jV L)) ↦[(dK L).view.set]{fullShare} f : sProp 𝕄) = dLoc d ↦[colSet (kL L)]{fullShare} f := by
  rw [set_dK]

/-- The three semaphore cells of the tile that the pipeline waits on. -/
abbrev semL : DmaSem sig := ((cc1_scoped1.slice (Rect.unit (s := S2) k1_off3 S1.size k1_off3_inb)).squeeze S_ squeezes_S1_S_).sem
abbrev semW : DmaSem sig := ((cc1_scoped3.slice (Rect.unit (s := S2) k1_off3 S1.size k1_off3_inb)).squeeze S_ squeezes_S1_S_).sem
abbrev semD : DmaSem sig := ((cc1_scoped5.slice (Rect.unit (s := S2) k1_off3 S1.size k1_off3_inb)).squeeze S_ squeezes_S1_S_).sem
abbrev cLcell (d : Dev nD) (c : Fin τ.nSC) (i : Fin τ.nSub) : GSem nD τ sig := (V d c i, .dma semL)
abbrev cWcell (d : Dev nD) (c : Fin τ.nSC) (i : Fin τ.nSub) : GSem nD τ sig := (V d c i, .dma semW)
abbrev cDcell (d : Dev nD) (c : Fin τ.nSC) (i : Fin τ.nSub) : GSem nD τ sig := (V d c i, .dma semD)

theorem ne_LW : cWcell d (cV L) (jV L) ≠ cLcell d (cV L) (jV L) := by
  simp only [ne_eq, Prod.mk.injEq, true_and]; decide
theorem ne_WD : cDcell d (cV L) (jV L) ≠ cWcell d (cV L) (jV L) := by
  simp only [ne_eq, Prod.mk.injEq, true_and]; decide
theorem ne_LD : cDcell d (cV L) (jV L) ≠ cLcell d (cV L) (jV L) := by
  simp only [ne_eq, Prod.mk.injEq, true_and]; decide

theorem ownSems0_V :
    (ownSems0 (V d (cV L) (jV L)) : sProp 𝕄)
      = iprop(semVal (cLcell d (cV L) (jV L)) 0 ∗ semVal (cWcell d (cV L) (jV L)) 0 ∗ semVal (cDcell d (cV L) (jV L)) 0
          ∗ bigSep ((((ownCells (V d (cV L) (jV L))).erase (cLcell d (cV L) (jV L))).erase (cWcell d (cV L) (jV L))).erase (cDcell d (cV L) (jV L)))
              fun g => semVal g 0) := by
  unfold SparseCore.Cfg.ownSems0
  rw [SparseCore.bigSep_erase' ((mem_ownCells (g := cLcell d (cV L) (jV L))).mpr ⟨rfl, by
      show (SemLoc.dma semL : SemLoc sig).isScoped .scVector = true; decide⟩),
    SparseCore.bigSep_erase' (Finset.mem_erase.mpr ⟨ne_LW d L, (mem_ownCells (g := cWcell d (cV L) (jV L))).mpr ⟨rfl, by
      show (SemLoc.dma semW : SemLoc sig).isScoped .scVector = true; decide⟩⟩),
    SparseCore.bigSep_erase' (Finset.mem_erase.mpr ⟨ne_WD d L, Finset.mem_erase.mpr ⟨ne_LD d L,
      (mem_ownCells (g := cDcell d (cV L) (jV L))).mpr ⟨rfl, by show (SemLoc.dma semD : SemLoc sig).isScoped .scVector = true; decide⟩⟩⟩)]

/-- The tile's own buffers are the three staging buffers, each at some contents, together with the rest. -/
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ (∃ f, (V d (cV L) (jV L)).loc cc1_scoped4 ↦{fullShare} f)
          ∗ bigSep ((((ownRefs (τ := τ) (.scVector (cV L) (jV L))).erase ((Proc.scVector (cV L) (jV L)).devRef cc1_scoped0)).erase
              ((Proc.scVector (cV L) (jV L)).devRef cc1_scoped2)).erase ((Proc.scVector (cV L) (jV L)).devRef cc1_scoped4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩),
    SparseCore.bigSep_erase' (Finset.mem_erase.mpr ⟨fun e => absurd (Proc.devRef_injective _ e) (show (cc1_scoped4 : Ref sig .scVector) ≠ cc1_scoped2 by decide),
      Finset.mem_erase.mpr ⟨fun e => absurd (Proc.devRef_injective _ e) (show (cc1_scoped4 : Ref sig .scVector) ≠ cc1_scoped0 by decide),
      SparseCore.Cfg.mem_ownRefs_of_owner (p := Proc.scVector (cV L) (jV L)) (b := (Proc.scVector (cV L) (jV L)).devRef cc1_scoped4) rfl⟩⟩)]

theorem pts_sL (f : Buf (Elt F) ((V d (cV L) (jV L)).loc cc1_scoped0)) :
    ((sL).view.loc (V d (cV L) (jV L)) ↦{fullShare} f : sProp 𝕄) = (V d (cV L) (jV L)).loc cc1_scoped0 ↦{fullShare} f := rfl
theorem pts_sW (f : Buf (Elt F) ((V d (cV L) (jV L)).loc cc1_scoped2)) :
    ((sW).view.loc (V d (cV L) (jV L)) ↦{fullShare} f : sProp 𝕄) = (V d (cV L) (jV L)).loc cc1_scoped2 ↦{fullShare} f := rfl
theorem pts_sD (f : Buf (Elt F) ((V d (cV L) (jV L)).loc cc1_scoped4)) :
    ((sD).view.loc (V d (cV L) (jV L)) ↦{fullShare} f : sProp 𝕄) = (V d (cV L) (jV L)).loc cc1_scoped4 ↦{fullShare} f := rfl

theorem cond1 : ∀ i : grid1.Coords, ¬ k1_cond1 i = 1#1 := by decide +kernel
theorem cond2 : ∀ i : grid1.Coords, k1_cond2 i = 1#1 := by decide +kernel
theorem cond6 : ∀ i : grid1.Coords, k1_cond6 i = 1#1 := by decide +kernel
theorem cond7 : ∀ i : grid1.Coords, k1_cond7 i = 1#1 := by decide +kernel
theorem cond9 : ∀ i : grid1.Coords, ¬ k1_cond9 i = 1#1 := by decide +kernel
theorem cond10 : ∀ i : grid1.Coords, ¬ k1_cond10 i = 1#1 := by decide +kernel

/-- The slot of each staging buffer that the tile uses. -/
abbrev slotL : Memref sig .scVector .vmem S8x128 .f32 :=
  ((sL).slice (Rect.unit (s := S2x8x128) k1_off1 S1x8x128.size k1_off1_inb) (fun _ => rfl)).squeeze S8x128 squeezes_S1x8x128_S8x128
abbrev slotW : Memref sig .scVector .vmem S8x128 .f32 :=
  ((sW).slice (Rect.unit (s := S2x8x128) k1_off1 S1x8x128.size k1_off1_inb) (fun _ => rfl)).squeeze S8x128 squeezes_S1x8x128_S8x128
abbrev slotD : Memref sig .scVector .vmem S8x128 .f32 :=
  ((sD).slice (Rect.unit (s := S2x8x128) k1_off1 S1x8x128.size k1_off1_inb) (fun _ => rfl)).squeeze S8x128 squeezes_S1x8x128_S8x128

/-- The last two waits spell the slot's semaphore by the tile's coordinates: it is slot 0's. -/
theorem sem_end (m : DmaSems sig S2) :
    ((m.slice (Rect.unit (s := S2) (k1_off23 L) S1.size (k1_off23_inb L))).squeeze S_ squeezes_S1_S_).sem
      = ((m.slice (Rect.unit (s := S2) k1_off3 S1.size k1_off3_inb)).squeeze S_ squeezes_S1_S_).sem := by
  have h : ∀ (o : Fin S2.rank → ℕ) (ho : ∀ a, o a + S1.size a ≤ S2.size a), o = k1_off3 →
      ((m.slice (Rect.unit (s := S2) o S1.size ho)).squeeze S_ squeezes_S1_S_).sem
        = ((m.slice (Rect.unit (s := S2) k1_off3 S1.size k1_off3_inb)).squeeze S_ squeezes_S1_S_).sem := by
    rintro o ho rfl; rfl
  exact h _ _ ((k1_off23_eq L).trans k1_off3_eq.symm)

/-- Slot 0 by another spelling of its offset reads the same. -/
theorem slot_read (m : Memref sig .scVector .vmem S2x8x128 .f32) (o : Fin S2x8x128.rank → ℕ) (ho : ∀ a, o a + S1x8x128.size a ≤ S2x8x128.size a)
    (e : o = k1_off1) (f : m.view.ty.Contents (Elt F)) (z : S8x128.Idx) :
    ((m.slice (Rect.unit (s := S2x8x128) o S1x8x128.size ho) (fun _ => rfl)).squeeze S8x128 squeezes_S1x8x128_S8x128).view.read (Elt F) f z
      = ((m.slice (Rect.unit (s := S2x8x128) k1_off1 S1x8x128.size k1_off1_inb) (fun _ => rfl)).squeeze S8x128 squeezes_S1x8x128_S8x128).view.read (Elt F) f z := by
  subst e; rfl

/-- The staged logits of the tile's block. -/
abbrev stage (lt : S8x4096.Idx → F .f32) : S8x128.Idx → F .f32 := fun z => lt ((ltK L).view.emb z)

theorem rowAt_stage (lt : S8x4096.Idx → F .f32) (z : S8x128.Idx) :
    rowAt (stage L lt) (z 1) = colAt lt (((wK L).view.emb z) 1) := by
  funext e
  unfold rowAt colAt stage
  congr 1
  funext a
  refine Fin.ext ?_
  match a with
  | 0 =>
    show k1_off2 L 0 + 1 * e.val = e.val
    rw [k1_off2_eq]; simp
  | 1 => rfl

theorem row_emb (z : S8x128.Idx) : (((wK L).view.emb z) 0).val = (z 0).val := by
  show k1_off2 L 0 + 1 * (z 0).val = (z 0).val
  rw [k1_off2_eq]; simp

/-- The block of gates written out holds the gates of its columns. -/
theorem out_w (lt w0 : S8x4096.Idx → F .f32) (P : S8x128.Idx → F .f32) (hP : ∀ z, P z = gW (stage L lt) z) :
    ∀ j ∈ (wK L).view.set, ((wK L).view.writes (Elt F) w0 [⟨Rect.whole S8x128, P⟩] : S8x4096.Idx → F .f32) j = Wv lt j := by
  intro j hj
  obtain ⟨z, -, rfl⟩ := Finset.mem_map.mp hj
  have h := View.read_writes_cons_emb (wK L).view (Val := Elt F) w0 (Rect.whole S8x128) P [] z
  rw [Rect.emb_whole_apply] at h
  refine Eq.trans (show _ = P z from h) ((hP z).trans ?_)
  unfold gW Wv
  rw [rowAt_stage, row_emb]

/-- The block of differences written out holds in its row 0 the differences of its columns. -/
theorem out_d (lt d0 : S8x4096.Idx → F .f32) (P : S8x128.Idx → F .f32) (hP : ∀ z, (z 0).val = 0 → P z = gD (stage L lt) z) :
    ∀ j ∈ (dK L).view.set, (j 0).val = 0 → ((dK L).view.writes (Elt F) d0 [⟨Rect.whole S8x128, P⟩] : S8x4096.Idx → F .f32) j = Dv lt (j 1) := by
  intro j hj h0
  obtain ⟨z, -, rfl⟩ := Finset.mem_map.mp hj
  have h := View.read_writes_cons_emb (dK L).view (Val := Elt F) d0 (Rect.whole S8x128) P [] z
  rw [Rect.emb_whole_apply] at h
  refine Eq.trans (show _ = P z from h) ((hP z ((row_emb L z).symm.trans h0)).trans ?_)
  unfold gD Dv
  rw [rowAt_stage]
  rfl

/-- The tile's blocks of the two results, at some contents, as the run returns them. -/
abbrev wPiece (k : Fin 32) : sProp 𝕄 := iprop(∃ f : Buf (Elt F) (wLoc d), wLoc d ↦[colSet k]{fullShare} f)
abbrev dPiece (k : Fin 32) : sProp 𝕄 := iprop(∃ f : Buf (Elt F) (dLoc d), dLoc d ↦[colSet k]{fullShare} f)

end Tile

namespace tile_body.sl
end tile_body.sl
open Cert.Proof.Printed.tile_body.sl

section Tile

variable (d : Dev nD) (L : grid1.Coords)

set_option maxHeartbeats 4000000 in
theorem tile_body (lt : Buf (Elt F) (ltLoc d)) (wi : Buf (Elt F) (wLoc d)) (di : Buf (Elt F) (dLoc d)) (hF : (K (F := F)).Facts)
    (O : CellTallies nD τ sig (HIx 1)) (W : Waits sig (HIx 1)) (hO : ∀ g, O g none = 0) :
    (iprop(levAts (K (F := F)).L (K (F := F)).lev ∗ emp
        ∗ ((ltLoc d ↦[colSet (kL L)]{fullShare} lt) ∗ (wLoc d ↦[colSet (kL L)]{fullShare} wi) ∗ (dLoc d ↦[colSet (kL L)]{fullShare} di))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_k L ltV (Memref.isWhole_whole _) wV (Memref.isWhole_whole _) dV (Memref.isWhole_whole _)
            sL (Memref.isWhole_whole _) cc1_scoped1 sW (Memref.isWhole_whole _) cc1_scoped3 sD (Memref.isWhole_whole _) cc1_scoped5)
          fun _ => iprop(((ltLoc d ↦[colSet (kL L)]{fullShare} lt) ∗ wPiece d (kL L) ∗ dPiece d (kL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hw, Hd⟩, ⟨⟨%fs, Hs⟩, ⟨%fc, Hc⟩, ⟨%fu, Hu⟩, Hbufs⟩, ⟨HsemL, HsemW, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_ltK (F := F) d L _).symm) $$ Hx
  ihave Hw' := (Entails.of_eq (pts_wK (F := F) d L _).symm) $$ Hw
  ihave Hd' := (Entails.of_eq (pts_dK (F := F) d L _).symm) $$ Hd
  ihave Hs' := (Entails.of_eq (pts_sL (F := F) d L _).symm) $$ Hs
  ihave Hc' := (Entails.of_eq (pts_sW (F := F) d L _).symm) $$ Hc
  ihave Hu' := (Entails.of_eq (pts_sD (F := F) d L _).symm) $$ Hu
  have h1 := cond1 L
  have h2 := cond2 L
  have h6 := cond6 L
  have h7 := cond7 L
  have h9 := cond9 L
  have h10 := cond10 L
  rw [cc1_k_eq_skeleton]
  sl_unfold [cc1_k_skel]
  sl_exec (disch := exact View.amount_pos _ _ (show 0 < S8x128.numel by decide))
  rw [sem_end]
  sl_exec (disch := exact View.amount_pos _ _ (show 0 < S8x128.numel by decide))
  rw [sem_end]
  sl_exec (disch := exact View.amount_pos _ _ (show 0 < S8x128.numel by decide))
  sl_step
  isplitl [Hx' Hw' Hd']
  · isplitl [Hx']; · iapply (Entails.of_eq (pts_ltK (F := F) d L _)); iexact Hx'
    isplitl [Hw']
    · iexists _
      iapply (Entails.of_eq (pts_wK (F := F) d L _)); iexact Hw'
    iexists _
    iapply (Entails.of_eq (pts_dK (F := F) d L _)); iexact Hd'
  isplitl [Hs' Hc' Hu' Hbufs]
  · isplitl [Hs']; · iexists _; iexact Hs'
    isplitl [Hc']; · iexists _; iexact Hc'
    isplitl [Hu']; · iexists _; iexact Hu'
    iexact Hbufs
  isplitl [HsemL HsemW HsemD Hsems]
  · isplitl [HsemL]; · iexact HsemL
    isplitl [HsemW]; · iexact HsemW
    isplitl [HsemD]; · iexact HsemD
    iexact Hsems
  iexists _
  isplitr
  swap
  · iexact HO
  ipureintro
  intro p _
  rcases p.2 with _ | q
  · exact .inr (.inl rfl)
  · exact .inr (.inr (congrArg some (Subsingleton.elim q 0)))

end Tile

end Cert.Proof.Printed

end
-- ==== Proof.Printed.Launch.lean ====
/-
  The router program's launch: the handshakes' payloads are the tiles' blocks of the logits, the gates and the differences;
  @main runs the host operations, the logits pipeline, the SparseCore call, the statistics pipeline and the host operations
  after it, from the launch's buffers to a valuation read off the launch memory; and so does every run of the program.
-/
module

public import proofs.«01_k».proof.Proof.Printed.Tile
public import proofs.«01_k».proof.Proof.Printed.Ops

@[expose] public section

noncomputable section

namespace Cert.Proof.Printed

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs arrRefs arrRef afterRegion)

variable {F : FTy → Type} [FloatOps F]

local notation "𝕄" => MT nD τ sig (HIx 1) (Elt F) ℕ UU ℕ

variable (m : (ℓ : Loc nD τ sig) → Buf (Elt F) ℓ) (ρ : Dev nD → PrngReg)

/-- Contents of the call's two results. -/
abbrev Two (F : FTy → Type) : Type := (S8x4096.Idx → F .f32) × (S8x4096.Idx → F .f32)

/-! ## The valuations @main passes through -/

/-- The launch memory of device `d`, -/
def V0 (d : Dev nD) : Valuation τ sig (Elt F) := fun b => m (d, b)
/-- after the host operations before the first call, -/
def V1 (d : Dev nD) : Valuation τ sig (Elt F) := StableHlo.after preOps (V0 m d)
/-- after the logits pipeline, -/
def V2 (d : Dev nD) : Valuation τ sig (Elt F) := afterRegion (pdats (V1 m) 0 d) (V1 m d)
/-- the logits the SparseCore call reads, -/
def LT (d : Dev nD) : S8x4096.Idx → F .f32 := V2 m d main_v2
/-- after the call, whose results are `f`, -/
def V3 (f : Two F) (d : Dev nD) : Valuation τ sig (Elt F) :=
  Function.update (Function.update (V2 m d) (Proc.devRef .tc main_v3_0) f.1) (Proc.devRef .tc main_v3_1) f.2
/-- after the statistics pipeline, -/
def V4 (f : Two F) (d : Dev nD) : Valuation τ sig (Elt F) := afterRegion (pdats (V3 m f) 1 d) (V3 m f d)
/-- and after the host operations that follow. -/
def V5 (f : Two F) (d : Dev nD) : Valuation τ sig (Elt F) := StableHlo.after postOps (V4 m f d)

/-! ## The payloads -/

abbrev inPiece (d : Dev nD) (k : Fin 32) : sProp 𝕄 :=
  iprop((ltLoc d ↦[colSet k]{fullShare} (LT m d)) ∗ (wLoc d ↦[colSet k]{fullShare} (V2 m d main_v3_0)) ∗ (dLoc d ↦[colSet k]{fullShare} (V2 m d main_v3_1)))
abbrev outPiece (d : Dev nD) (k : Fin 32) : sProp 𝕄 :=
  iprop((ltLoc d ↦[colSet k]{fullShare} (LT m d)) ∗ wPiece d k ∗ dPiece d k)

/-- What the call's handshakes carry: a SparseCore's sixteen blocks of the three arrays, and each tile its own. -/
def P : (K (F := F)).Pay (nD := nD) (Val := Elt F) (Name := ℕ) (U := UU) where
  st := fun q d c => match q with | 0 => bigSep Finset.univ fun i : Fin 16 => inPiece m d (blkOf (Fin.cast nCore_zero c) i)
  dn := fun q d c => match q with | 0 => bigSep Finset.univ fun i : Fin 16 => outPiece m d (blkOf (Fin.cast nCore_zero c) i)
  go := fun q d c i => match q with | 0 => inPiece m d (blkOf (Fin.cast nCore_zero c) (Fin.cast nSub_zero i))
  td := fun q d c i => match q with | 0 => outPiece m d (blkOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => inPiece m d (blkOf (Fin.cast nCore_zero c) i)))
  dn q d c := match q with
    | 0 => (inferInstance : BI.Storable (upEmb : UEmb _ 𝕄) (bigSep Finset.univ fun i : Fin 16 => outPiece m d (blkOf (Fin.cast nCore_zero c) i)))
  go q d c i := match q with
    | 0 => (inferInstance : BI.Storable (upEmb : UEmb _ 𝕄) (inPiece m d (blkOf (Fin.cast nCore_zero c) (Fin.cast nSub_zero i))))
  td q d c i := match q with
    | 0 => (inferInstance : BI.Storable (upEmb : UEmb _ 𝕄) (outPiece m d (blkOf (Fin.cast nCore_zero c) (Fin.cast nSub_zero i))))

/-! ## The tile's obligation -/

/-- The coordinates of the tile at sub-core `i` of SparseCore `c`. -/
abbrev Lof (c : Fin (grid1.bound 0)) (i : Fin (grid1.bound 1)) : grid1.Coords
  | 0 => c
  | 1 => i
  | ⟨_+2, h⟩ => absurd h (Nat.not_lt.2 (Nat.le_add_left _ _))

theorem defs₀_vector (c : Fin τ.nSC) (s : Fin τ.nSub) :
    defs₀ (F := F) (.scVector c s) 1 () = SparseCore.onTile hcore1 hsub1
      (fun c s => cc1_k (Lof c s)
        (Memref.whole main_v2_scv) (Memref.isWhole_whole _) (Memref.whole main_v3_0_scv) (Memref.isWhole_whole _) (Memref.whole main_v3_1_scv) (Memref.isWhole_whole _)
        (Memref.whole cc1_scoped0) (Memref.isWhole_whole _) cc1_scoped1 (Memref.whole cc1_scoped2) (Memref.isWhole_whole _) cc1_scoped3
        (Memref.whole cc1_scoped4) (Memref.isWhole_whole _) cc1_scoped5) ⟨⟩ c s := rfl

theorem tileObl (hF : (K (F := F)).Facts) : (K (F := F)).TileObl (D (F := F)) 𝒱 (P m) v₀ 0 := by
  intro d c i O W hO _ _
  simp only [show (P (F := F) m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have h := tile_body d (Lof ⟨_, hci.1⟩ ⟨_, hci.2⟩) (LT m d) (V2 m d main_v3_0) (V2 m d main_v3_1) hF O W hO
  rw [show kL (Lof ⟨_, hci.1⟩ ⟨_, hci.2⟩) = blkOf (Fin.cast nCore_zero c) (Fin.cast nSub_zero i) from rfl] at h
  rw [show (P m).go 0 d c i = inPiece m d (blkOf (Fin.cast nCore_zero c) (Fin.cast nSub_zero i)) from rfl,
    show (P m).td 0 d c i = outPiece m d (blkOf (Fin.cast nCore_zero c) (Fin.cast nSub_zero i)) from rfl,
    show (P m).x 0 (V d ((K (F := F)).core 0 c) ((K (F := F)).sub 0 i)) = iprop(emp) from rfl]
  exact h

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's blocks are its tiles'. -/
theorem vecSplit : (K (F := F)).VecSplit' (P m) 0 := by
  intro d c
  show (bigSep Finset.univ fun i : Fin 16 => inPiece m d (blkOf (Fin.cast nCore_zero c) i)) ⊢ |={Set.univ}=> iprop(
      (bigSep Finset.univ fun i : Fin ((K (F := F)).nSub 0) => inPiece m d (blkOf (Fin.cast nCore_zero c) (Fin.cast nSub_zero i)))
      ∗ ((bigSep Finset.univ fun i : Fin ((K (F := F)).nSub 0) => outPiece m d (blkOf (Fin.cast nCore_zero c) (Fin.cast nSub_zero i)))
          -∗ bigSep Finset.univ fun i : Fin 16 => outPiece m d (blkOf (Fin.cast nCore_zero c) i)))
  rw [bigSep_subs (fun i => inPiece m d (blkOf (Fin.cast nCore_zero c) i)), bigSep_subs (fun i => outPiece m d (blkOf (Fin.cast nCore_zero c) i))]
  iintro H; imodintro
  isplitl [H]; · iexact H
  iintro H; iexact H

/-! ## The three arrays and their blocks -/

theorem colSet_eq (k : Fin 32) : colSet k = (col k).set := by
  show ((View.whole main_v2_scv).slice (col k)).set = (col k).set
  rw [View.set_slice]; exact Finset.map_refl

/-- The blocks under the two SparseCores' sixteen tiles each. -/
abbrev blk2 (p : Fin 2 × Fin 16) : Finset S8x4096.Idx := colSet (blkOf p.1 p.2)

theorem blkOf_inj {p q : Fin 2 × Fin 16} (h : blkOf p.1 p.2 = blkOf q.1 q.2) : p = q := by
  have h' : 16 * p.1.val + p.2.val = 16 * q.1.val + q.2.val := congrArg Fin.val h
  exact Prod.ext (Fin.ext (by omega)) (Fin.ext (by omega))

theorem blk2_disjoint : ∀ p ∈ (Finset.univ : Finset (Fin 2 × Fin 16)), ∀ q ∈ Finset.univ, p ≠ q → Disjoint (blk2 p) (blk2 q) := by
  intro p _ q _ h
  unfold blk2
  rw [colSet_eq, colSet_eq]
  exact Rect.part_disjoint hdiv fun e => h (blkOf_inj e)

theorem blk2_cover : (Finset.univ : Finset (Fin 2 × Fin 16)).biUnion blk2 = Finset.univ := by
  have h := Rect.biUnion_part (s := S8x4096) (a₀ := 1) hdiv
  refine Finset.eq_univ_iff_forall.mpr fun j => ?_
  obtain ⟨k, -, hk⟩ := Finset.mem_biUnion.mp (h ▸ Finset.mem_univ j : j ∈ Finset.univ.biUnion fun k => (col k).set)
  refine Finset.mem_biUnion.mpr ⟨(⟨k.val / 16, by omega⟩, ⟨k.val % 16, by omega⟩), Finset.mem_univ _, ?_⟩
  have e : blkOf ⟨k.val / 16, by omega⟩ ⟨k.val % 16, by omega⟩ = k := Fin.ext (by unfold blkOf; dsimp only; omega)
  show j ∈ colSet (blkOf _ _)
  rw [e, colSet_eq]
  exact hk

theorem lt_blocks (d : Dev nD) (f : Buf (Elt F) (ltLoc d)) :
    (ltLoc d ↦{fullShare} f : sProp 𝕄) = bigSep Finset.univ fun p : Fin 2 × Fin 16 => ltLoc d ↦[blk2 p]{fullShare} f := by
  rw [← pointsTo_biUnion Finset.univ (ℓ := ltLoc d) blk2 blk2_disjoint, blk2_cover]; try rfl
theorem w_blocks (d : Dev nD) (f : Buf (Elt F) (wLoc d)) :
    (wLoc d ↦{fullShare} f : sProp 𝕄) = bigSep Finset.univ fun p : Fin 2 × Fin 16 => wLoc d ↦[blk2 p]{fullShare} f := by
  rw [← pointsTo_biUnion Finset.univ (ℓ := wLoc d) blk2 blk2_disjoint, blk2_cover]; try rfl
theorem d_blocks (d : Dev nD) (f : Buf (Elt F) (dLoc d)) :
    (dLoc d ↦{fullShare} f : sProp 𝕄) = bigSep Finset.univ fun p : Fin 2 × Fin 16 => dLoc d ↦[blk2 p]{fullShare} f := by
  rw [← pointsTo_biUnion Finset.univ (ℓ := dLoc d) blk2 blk2_disjoint, blk2_cover]; try rfl

/-- The first result' blocks are the array whole. -/
theorem w_join (d : Dev nD) :
    (bigSep Finset.univ fun p : Fin 2 × Fin 16 => wPiece d (blkOf p.1 p.2))
      ⊢ (iprop(∃ f : S8x4096.Idx → F .f32, wLoc d ↦{fullShare} f) : sProp 𝕄) := by
  have : ∀ _ : Fin 2 × Fin 16, Nonempty (Buf (Elt F) (wLoc d)) := fun _ => ⟨fun _ => Scalar.ofBits .f32 0#32⟩
  refine ((bigSep_exists_pi Finset.univ (fun (p : Fin 2 × Fin 16) (y : Buf (Elt F) (wLoc d)) => wLoc d ↦[blk2 p]{fullShare} y)).trans ?_)
  iintro ⟨%ys, H⟩
  ihave H' := (pointsTo_biUnion_join (ℓ := wLoc d) (q := fullShare) (Val := Elt F) Finset.univ blk2 ys (ys (0, 0)) blk2_disjoint) $$ H
  icases H' with ⟨%g, %hg, Hg⟩
  rw [blk2_cover]
  iexists g
  iexact Hg

/-- The second result' blocks are the array whole. -/
theorem d_join (d : Dev nD) :
    (bigSep Finset.univ fun p : Fin 2 × Fin 16 => dPiece d (blkOf p.1 p.2))
      ⊢ (iprop(∃ f : S8x4096.Idx → F .f32, dLoc d ↦{fullShare} f) : sProp 𝕄) := by
  have : ∀ _ : Fin 2 × Fin 16, Nonempty (Buf (Elt F) (dLoc d)) := fun _ => ⟨fun _ => Scalar.ofBits .f32 0#32⟩
  refine ((bigSep_exists_pi Finset.univ (fun (p : Fin 2 × Fin 16) (y : Buf (Elt F) (dLoc d)) => dLoc d ↦[blk2 p]{fullShare} y)).trans ?_)
  iintro ⟨%ys, H⟩
  ihave H' := (pointsTo_biUnion_join (ℓ := dLoc d) (q := fullShare) (Val := Elt F) Finset.univ blk2 ys (ys (0, 0)) blk2_disjoint) $$ H
  icases H' with ⟨%g, %hg, Hg⟩
  rw [blk2_cover]
  iexists g
  iexact Hg

/-- The three arrays whole are the payloads the call's starts carry, -/
theorem st0_eq (d : Dev nD) :
    (bigSep Finset.univ fun c : Fin ((K (F := F)).nCore 0) => (P m).st 0 d c)
      = iprop((ltLoc d ↦{fullShare} (LT m d)) ∗ (wLoc d ↦{fullShare} (V2 m d main_v3_0)) ∗ (dLoc d ↦{fullShare} (V2 m d main_v3_1))) := by
  show (bigSep Finset.univ fun c : Fin ((K (F := F)).nCore 0) => bigSep Finset.univ fun i : Fin 16 => inPiece m d (blkOf (Fin.cast nCore_zero c) i)) = _
  rw [bigSep_cores (fun c => bigSep Finset.univ fun i : Fin 16 => inPiece m d (blkOf c i)),
    ← bigSep_univ_prod (fun p : Fin 2 × Fin 16 => inPiece m d (blkOf p.1 p.2)), bigSep_sep', bigSep_sep', lt_blocks, w_blocks, d_blocks]

/-- and what its ends bring back. -/
theorem dn0_out (d : Dev nD) :
    (bigSep Finset.univ fun c : Fin ((K (F := F)).nCore 0) => (P m).dn 0 d c)
      ⊢ (iprop((ltLoc d ↦{fullShare} (LT m d)) ∗ (∃ f : S8x4096.Idx → F .f32, wLoc d ↦{fullShare} f)
          ∗ ∃ f : S8x4096.Idx → F .f32, dLoc d ↦{fullShare} f) : sProp 𝕄) := by
  show (bigSep Finset.univ fun c : Fin ((K (F := F)).nCore 0) => bigSep Finset.univ fun i : Fin 16 => outPiece m d (blkOf (Fin.cast nCore_zero c) i)) ⊢ _
  rw [bigSep_cores (fun c => bigSep Finset.univ fun i : Fin 16 => outPiece m d (blkOf c i)),
    ← bigSep_univ_prod (fun p : Fin 2 × Fin 16 => outPiece m d (blkOf p.1 p.2)), bigSep_sep', bigSep_sep', lt_blocks]
  iintro ⟨H1, H2, H3⟩
  isplitl [H1]; · iexact H1
  isplitl [H2]; · iapply (w_join d); iexact H2
  iapply (d_join d); iexact H3

/-! ## The launch element -/

/-- The handshakes' rounds, and the two pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What @main is dealt: both pipelines' cells and tokens. -/
abbrev G (d : Dev nD) : sProp 𝕄 :=
  iprop((bigSep Finset.univ fun p => Pipeline.cellsGhost (Pipeline.pin (pcfgs (F := F)) adm) (EP (F := F)) p d)
    ∗ (bigSep Finset.univ fun p => Pipeline.toksInit (Pipeline.pin (pcfgs (F := F)) adm) (EP (F := F)) p d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (_ : UP × Counters)) $$ Hu
  icases H with ⟨HH, HP⟩
  ihave H := (own_pair_emb embR (initOf (Pipeline.cells (Pipeline.pin (pcfgs (F := F)) adm) cellOf_inj)
    (Pipeline.launchToks (Pipeline.pin (pcfgs (F := F)) adm) cellOf_inj)) (1 : Counters)) $$ HP
  icases H with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

variable [∀ e, Nonempty (Elt F e)]

/-- What @main leaves: every unscoped buffer at the last valuation, for some contents of the call's results. -/
abbrev FIN (d : Dev nD) : sProp 𝕄 :=
  iprop(∃ f : Two F, StableHlo.held (T d) (ucRefs τ sig) (V5 m f d))

/-- The call's three arrays among the unscoped buffers. -/
abbrev three : Finset (DevRef τ sig) := {Proc.devRef .tc main_v2, Proc.devRef .tc main_v3_0, Proc.devRef .tc main_v3_1}

theorem three_sub : three ⊆ ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (W : Valuation τ sig (Elt F)) :
    (StableHlo.held (T d) three W : sProp 𝕄) = iprop((ltLoc d ↦{fullShare} W main_v2) ∗ (wLoc d ↦{fullShare} W main_v3_0) ∗ (dLoc d ↦{fullShare} W main_v3_1)) := by
  unfold StableHlo.held three
  rw [SparseCore.bigSep_insert' (by decide), SparseCore.bigSep_insert' (by decide), bigSep_singleton]

theorem V3_v2 (f : Two F) (d : Dev nD) : V3 m f d main_v2 = LT m d := by
  unfold V3 LT
  rw [Function.update_of_ne (by decide), Function.update_of_ne (by decide)]
theorem V3_v3_0 (f : Two F) (d : Dev nD) : V3 m f d main_v3_0 = f.1 := by
  unfold V3
  rw [Function.update_of_ne (by decide), Function.update_self]
theorem V3_v3_1 (f : Two F) (d : Dev nD) : V3 m f d main_v3_1 = f.2 := by
  unfold V3
  rw [Function.update_self]
theorem V3_off (f : Two F) (d : Dev nD) (b : DevRef τ sig) (hb : b ∉ three) : V3 m f d b = V2 m d b := by
  simp only [three, Finset.mem_insert, Finset.mem_singleton, not_or] at hb
  unfold V3
  rw [Function.update_of_ne hb.2.2, Function.update_of_ne hb.2.1]

/-- The three arrays back, with the rest, are every unscoped buffer at the valuation after the call. -/
theorem held_V3 (f : Two F) (d : Dev nD) :
    (StableHlo.held (T d) (ucRefs τ sig) (V3 m f d) : sProp 𝕄)
      = iprop(((ltLoc d ↦{fullShare} (LT m d)) ∗ (wLoc d ↦{fullShare} f.1) ∗ (dLoc d ↦{fullShare} f.2))
          ∗ StableHlo.held (T d) (ucRefs τ sig \ three) (V2 m d)) := by
  rw [StableHlo.held_sub_split (T d) three_sub, held_three, V3_v2, V3_v3_0, V3_v3_1,
    StableHlo.held_congr (T d) fun b hb => V3_off m f d b (Finset.mem_sdiff.mp hb).2]

theorem held_V2 (d : Dev nD) :
    (StableHlo.held (T d) (ucRefs τ sig) (V2 m d) : sProp 𝕄)
      = iprop(((ltLoc d ↦{fullShare} (LT m d)) ∗ (wLoc d ↦{fullShare} (V2 m d main_v3_0)) ∗ (dLoc d ↦{fullShare} (V2 m d main_v3_1)))
          ∗ StableHlo.held (T d) (ucRefs τ sig \ three) (V2 m d)) := by
  rw [StableHlo.held_sub_split (T d) three_sub, held_three]
  rfl

/-- Both pipelines' cells and tokens, apart. -/
theorem G_split (d : Dev nD) : G (F := F) d
    ⊢ iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) := by
  unfold G
  rw [BI.bigSep_fin_two, BI.bigSep_fin_two]
  change (iprop((Pipeline.cellsGhost (Pipeline.pin (pcfgs (F := F)) adm) (EP (F := F)) 0 d ∗ Pipeline.cellsGhost (Pipeline.pin (pcfgs (F := F)) adm) (EP (F := F)) 1 d)
    ∗ (Pipeline.toksInit (Pipeline.pin (pcfgs (F := F)) adm) (EP (F := F)) 0 d ∗ Pipeline.toksInit (Pipeline.pin (pcfgs (F := F)) adm) (EP (F := F)) 1 d)) : sProp 𝕄) ⊢ _
  iintro ⟨⟨Hg0, Hg1⟩, ⟨Ht0, Ht1⟩⟩
  isplitl [Hg0 Ht0]
  · isplitl [Hg0]; · iexact Hg0
    iexact Ht0
  isplitl [Hg1]; · iexact Hg1
  iexact Ht1

/-- The TensorCore's state between calls, its tallies apart. -/
abbrev tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))
theorem tcSt_eq (d : Dev nD) (n : ℕ) : (K (F := F)).tcSt (EH (F := F)) d n = iprop(owesBelow (F := F) d n ∗ tcRest (F := F) d n) := rfl

/-- The call, from every unscoped buffer to every unscoped buffer. -/
theorem wp_call (κ : GSem nD τ sig → ℕ) (d : Dev nD) (Q : PUnit → sProp 𝕄) :
    iprop((K (F := F)).ctx (EH (F := F)) (P m) κ ∗ (K (F := F)).tcSt (EH (F := F)) d 0 ∗ StableHlo.held (T d) (ucRefs τ sig) (V2 m d)
        ∗ ((∃ f : Two F, (K (F := F)).tcSt (EH (F := F)) d 1 ∗ StableHlo.held (T d) (ucRefs τ sig) (V3 m f d)) -∗ Q ⟨⟩))
      ⊢ wp frame (wpE ((K (F := F)).defs (D (F := F))) 𝒱 (T d) none) Set.univ (sc.run d 0) Q := by
  rw [held_V2]
  iintro ⟨#Hctx, Hst, ⟨H3, Hrest⟩, Hk⟩
  iapply ((K (F := F)).wp_run (D (F := F)) 𝒱 (EH := EH (F := F)) (P := P m) κ d 0) $$ [Hst H3 Hrest Hk]
  isplitr; · iexact Hctx
  isplitl [Hst]; · iexact Hst
  isplitl [H3]
  · rw [st0_eq]; iexact H3
  iintro ⟨Hst, Hdn⟩
  ihave Hdn' := (dn0_out m d) $$ Hdn
  icases Hdn' with ⟨Hl, ⟨%w, Hw⟩, ⟨%f, Hd⟩⟩
  iapply Hk
  iexists (w, f)
  isplitl [Hst]; · iexact Hst
  rw [held_V3]
  isplitl [Hl Hw Hd]
  · isplitl [Hl]; · iexact Hl
    isplitl [Hw]; · iexact Hw
    iexact Hd
  iexact Hrest

/-- The launch's buffers are every unscoped buffer at the launch memory. -/
theorem start_held (d : Dev nD) :
    (unscopedBufs d (fun b => m ((SparseCore.T d).loc b)) : sProp 𝕄) = StableHlo.held (T d) (ucRefs τ sig) (V0 m d) :=
  Pipeline.unscopedBufs_held (Ix := HIx 1) (Name := ℕ) (U := UU) (Lvl := ℕ) d (V0 m d)

set_option backward.isDefEq.respectTransparency.types false in
/-- @main on device `d`'s TensorCore. -/
theorem hmain (κ : GSem nD τ sig → ℕ) (d : Dev nD) :
    iprop((K (F := F)).ctx (EH (F := F)) (P m) κ ∗ (K (F := F)).tcSt (EH (F := F)) d 0 ∗ (K (F := F)).tcRes m ρ d ∗ G (F := F) d)
      ⊢ wp frame (wpE ((K (F := F)).defs (D (F := F))) 𝒱 (T d) none) Set.univ (main d)
          fun _ => iprop((K (F := F)).tcSt (EH (F := F)) d 1 ∗ FIN m d ∗ (K (F := F)).tcEnd d) := by
  unfold SparseCore.Cfg.tcRes SparseCore.Cfg.tcEnd
  rw [main_cut]
  iintro ⟨#Hctx, Hst, ⟨Hb, Hub, Hts, -⟩, HG⟩
  ihave #Hlv := (SparseCore.Cfg.ctx_levAts κ) $$ Hctx
  ihave HG' := (G_split (F := F) d) $$ HG
  icases HG' with ⟨⟨Hg0, Ht0⟩, ⟨Hg1, Ht1⟩⟩
  ihave Hh := (Entails.of_eq (start_held m d)) $$ Hub
  -- the host operations before the first call
  iapply (StableHlo.wp_seq 𝒱 none Set.univ d (ucRefs τ sig) _ (preOps (F := F))
    (fun op hop => Pipeline.sub_ucRefs op (List.forall_iff_forall_mem.mp pre_sub op hop)) (List.forall_iff_forall_mem.mp pre_fresh) (V0 m d)) $$ [Hb Hh]
  · isplitl [Hb]; · iexact Hb
    iexact Hh
  iintro ⟨Hb, Hh⟩
  -- the logits pipeline
  ihave Hst' := (Entails.of_eq (tcSt_eq (F := F) d 0)) $$ Hst
  icases Hst' with ⟨HO, Hr⟩
  iapply (Entails.of_eq (wp_bind _ _ _ _ _ _).symm)
  iapply (wp_region (V1 m) 0 0 (seg0 (V1 m)) (fun _ => rfl) (fun _ => rfl) d) $$ [Hb Hh HO Hr Hg0 Ht0 Hg1 Ht1 Hts]
  isplitr [Hb Hh HO Hg0 Ht0]
  rotate_left
  · isplitl [Hb]; · iexact Hb
    isplitl [Hh]; · iexact Hh
    isplitl [HO]; · iexact HO
    isplitr; · iexact Hlv
    isplitl [Hg0]; · iexact Hg0
    iexact Ht0
  iintro ⟨Hb, Hh, HO⟩
  -- the SparseCore call
  iapply (Entails.of_eq (wp_bind _ _ _ _ _ _).symm)
  iapply (wp_call m κ d) $$ [Hb Hh HO Hr Hg1 Ht1 Hts]
  isplitr; · iexact Hctx
  isplitl [HO Hr]
  · rw [tcSt_eq]
    isplitl [HO]; · iexact HO
    iexact Hr
  isplitl [Hh]; · iexact Hh
  iintro ⟨%f, Hst, Hh⟩
  -- the statistics pipeline
  ihave Hst' := (Entails.of_eq (tcSt_eq (F := F) d 1)) $$ Hst
  icases Hst' with ⟨HO, Hr⟩
  iapply (Entails.of_eq (wp_bind _ _ _ _ _ _).symm)
  iapply (wp_region (V3 m f) 1 1 (seg2 (V3 m f)) (fun _ => rfl) (fun _ => rfl) d) $$ [Hb Hh HO Hr Hg1 Ht1 Hts]
  isplitr [Hb Hh HO Hg1 Ht1]
  rotate_left
  · isplitl [Hb]; · iexact Hb
    isplitl [Hh]; · iexact Hh
    isplitl [HO]; · iexact HO
    isplitr; · iexact Hlv
    isplitl [Hg1]; · iexact Hg1
    iexact Ht1
  iintro ⟨Hb, Hh, HO⟩
  -- the host operations after it
  iapply (StableHlo.wp_seq 𝒱 none Set.univ d (ucRefs τ sig) _ (postOps (F := F))
    (fun op hop => Pipeline.sub_ucRefs op (List.forall_iff_forall_mem.mp post_sub op hop)) (List.forall_iff_forall_mem.mp post_fresh) (V4 m f d)) $$ [Hb Hh]
  · isplitl [Hb]; · iexact Hb
    iexact Hh
  iintro ⟨Hb, Hh⟩
  rw [wp_pure]
  imodintro
  isplitl [HO Hr]
  · rw [tcSt_eq]
    isplitl [HO]; · iexact HO
    iexact Hr
  isplitl [Hh]
  · iexists f
    iexact Hh
  isplitl [Hb] <;> iassumption

/-! ## The program's run -/

/-- What a device's memory holds at the end. -/
def fq (d : Dev nD) (s' : Phys nD τ sig (Elt F)) : Prop :=
  ∃ f : Two F, ∀ b ∈ ucRefs τ sig, s'.mem.mem (d, b) = V5 m f d b

theorem hfin (d : Dev nD) (s' : Phys nD τ sig (Elt F)) : iprop(FIN m d ∗ SI s') ⊢ (⌜fq m d s'⌝ : sProp 𝕄) := by
  iintro ⟨⟨%f, Hh⟩, HSI⟩
  ihave H := (SI_pointsTo_bufs_agree (st := s') (c := d) (qs := fun _ => fullShare) (F := V5 m f d) (ucRefs τ sig)) $$ [HSI Hh]
  · isplitl [HSI]; · iexact HSI
    unfold StableHlo.held
    iexact Hh
  icases H with %h
  ipureintro; exact ⟨f, h⟩

/-- Every run ends with each device's unscoped buffers at the last valuation and every semaphore at zero. -/
def QC : PUnit × MemSt nD τ sig (Elt F) → Prop := fun r =>
  (∀ d : Dev nD, ∃ f : Two F, ∀ b ∈ ucRefs τ sig, r.2.mem (d, b) = V5 m f d b) ∧ r.2.sem = fun _ => 0

theorem run_main : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH (F := F)) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Printed

end
-- ==== Proof.Printed.Frames.lean ====
/-
  The argument arrays end as they began: no host operation writes them, and the pipelines only read them.
-/
module

public import proofs.«01_k».proof.Proof.Printed.Launch
public import proofs.«01_k».proof.Proof.Gen.Kernel.Launch

@[expose] public section

noncomputable section

namespace Cert.Proof.Printed

open Cert.Kernel Cert.Kernel.Gen

open Idealize.ShloMosaic
open Idealize.ShloMosaic.TcCoe Idealize.ShloMosaic.Tactic
open Idealize.SL.Sem
open Idealize.ShloMosaic.StableHlo
open Idealize.ShloMosaic.Pipeline (Dat ucRefs arrRefs arrRef afterRegion)

variable {F : FTy → Type} [FloatOps F]
variable (m : (ℓ : Loc nD τ sig) → Buf (Elt F) ℓ) (ρ : Dev nD → PrngReg)

theorem V1_arg0 (d : Dev nD) : V1 m d main_arg0 = m (d.tc.loc main_arg0) := by
  unfold V1; simp only [preOps, TRef.binary, TRef.nullary, TRef.ternary, TRef.unary, TRef.toBuf, TRef.ofBuf, cast_eq]; after_results_simp <;> rfl
theorem V1_arg1 (d : Dev nD) : V1 m d main_arg1 = m (d.tc.loc main_arg1) := by
  unfold V1; simp only [preOps, TRef.binary, TRef.nullary, TRef.ternary, TRef.unary, TRef.toBuf, TRef.ofBuf, cast_eq]; after_results_simp <;> rfl

theorem V2_arg0 (d : Dev nD) : V2 m d main_arg0 = m (d.tc.loc main_arg0) :=
  (Pipeline.afterRegion_keeps (pdats (V1 m) 0 d) (V1 m d) launch0.win.arr_inj (fun w => rfl) main_arg0
    (show ∀ w : Fin 3, arrRef spec0 w = main_arg0 → (win0 w).isOut = false by decide)).trans (V1_arg0 m d)
theorem V2_arg1 (d : Dev nD) : V2 m d main_arg1 = m (d.tc.loc main_arg1) :=
  (Pipeline.afterRegion_of_not_arr (pdats (V1 m) 0 d) (V1 m d) (show ∀ w : Fin 3, main_arg1 ≠ arrRef spec0 w by decide)).trans (V1_arg1 m d)

variable (f : Two F)

theorem V4_arg0 (d : Dev nD) : V4 m f d main_arg0 = m (d.tc.loc main_arg0) :=
  (Pipeline.afterRegion_of_not_arr (pdats (V3 m f) 1 d) (V3 m f d) (show ∀ w : Fin 4, main_arg0 ≠ arrRef spec2 w by decide)).trans ((V3_off m f d _ (by decide)).trans (V2_arg0 m d))
theorem V4_arg1 (d : Dev nD) : V4 m f d main_arg1 = m (d.tc.loc main_arg1) :=
  (Pipeline.afterRegion_of_not_arr (pdats (V3 m f) 1 d) (V3 m f d) (show ∀ w : Fin 4, main_arg1 ≠ arrRef spec2 w by decide)).trans ((V3_off m f d _ (by decide)).trans (V2_arg1 m d))

theorem V5_arg0 (d : Dev nD) : V5 m f d main_arg0 = m (d.tc.loc main_arg0) := by
  refine Eq.trans ?_ (V4_arg0 m f d)
  unfold V5; generalize V4 m f d = V
  simp only [postOps, TRef.binary, TRef.nullary, TRef.ternary, TRef.unary, TRef.toBuf, TRef.ofBuf, cast_eq]; after_results_simp <;> rfl
theorem V5_arg1 (d : Dev nD) : V5 m f d main_arg1 = m (d.tc.loc main_arg1) := by
  refine Eq.trans ?_ (V4_arg1 m f d)
  unfold V5; generalize V4 m f d = V
  simp only [postOps, TRef.binary, TRef.nullary, TRef.ternary, TRef.unary, TRef.toBuf, TRef.ofBuf, cast_eq]; after_results_simp <;> rfl

theorem mem_uc (b : Ref sig .tc) (h : ¬ (Proc.devRef .tc b : DevRef τ sig).isScoped := by decide) : (Proc.devRef .tc b : DevRef τ sig) ∈ ucRefs τ sig :=
  Finset.mem_filter.mpr ⟨StableHlo.devRef_mem_tcRefs b, h⟩

variable [∀ e, Nonempty (Elt F e)]

/-- Every run ends, the arguments unchanged and every semaphore at zero. -/
theorem run_frame : θ_run (Cert.Kernel.defs (F := F)) (Cert.Kernel.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.Kernel.defs _ _).mono (fun _ h => ⟨fun c => by
    obtain ⟨f, hf⟩ := h.1 c
    exact ⟨(hf _ (mem_uc main_arg0)).trans (V5_arg0 m f c), (hf _ (mem_uc main_arg1)).trans (V5_arg1 m f c)⟩, h.2⟩) (run_main m ρ)

end Cert.Proof.Printed

end
-- ==== Proof.Claims.lean ====
/-
  The claims of the certificate that need no values: the three frames, and that the idealized program is the printed one with
  its mask named.
-/
module

public import proofs.«01_k».proof.Defs
public import proofs.«01_k».proof.Proof.Frames
public import proofs.«01_k».proof.Proof.Printed.Frames
public import proofs.«01_k».proof.Proof.Gen.Pre_finite
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel := fun m g _ => Printed.run_frame (F := Bits) m g

theorem frame_ideal : Cert.quiescent_KernelIdeal := fun m g _ => Router.run_frame (F := Ideal) m g

theorem frame_ideal_finite : Cert.quiescent_KernelIdeal_pre_finite := fun m g _ => Router.run_frame (F := Ideal) m g

theorem frame_reference : Cert.quiescent_ReferenceIdeal := fun m g _ =>
  (θ_run Cert.ReferenceIdeal.defs _ _).mono
    (fun r h => ⟨fun c => ⟨(h c).2.2.2.2.1, (h c).2.2.2.2.2⟩, Idealize.ShloMosaic.sem_eq_zero_of_no_sems (by decide) r.2⟩)
    (Cert.ReferenceIdeal.Value.run (F := Ideal) m g)

theorem frame_reference_finite : Cert.quiescent_ReferenceIdeal_pre_finite := fun m g _ => frame_reference m g trivial

theorem names : Cert.preserves_Kernel_KernelIdeal :=
  IdealRules.named_const.statement Cert.KernelIdeal.κ "mask" .f32 0xF149F2CA#32 ⊥ rfl

end Cert.Proof

end
-- ==== Proof.Top2.lean ====
/-
  The top two of eight real logits. `First r a b`: expert `a` is first and expert `b` second when experts are ordered by
  logit, greater first, and by number where logits are equal. The running maxima of a lane end at such a pair, and so do
  the first two positions of the stable sort.
-/
module

public import proofs.«01_k».proof.Proof.Setup
public import Idealize.ShloMosaic.Lib.SortPrefix

@[expose] public section

noncomputable section

namespace Cert.Proof.Router

open Idealize.ShloMosaic

/-! ## The order of the experts -/

/-- Expert `a` comes before expert `b`. -/
def Bef (r : Fin 8 → ℝ) (a b : Fin 8) : Prop := r b < r a ∨ (r a = r b ∧ a < b)

theorem Bef.trans {r : Fin 8 → ℝ} {a b c : Fin 8} (h : Bef r a b) (h' : Bef r b c) : Bef r a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Bef.irrefl (r : Fin 8 → ℝ) (a : Fin 8) : ¬ Bef r a a := fun h => h.elim (lt_irrefl _) fun h => lt_irrefl _ h.2

/-- `a` and `b` come first and second. -/
structure First (r : Fin 8 → ℝ) (a b : Fin 8) : Prop where
  ne : a ≠ b
  ab : Bef r a b
  rest : ∀ p, p ≠ a → p ≠ b → Bef r b p

/-! ## The running maxima -/

/-- After the experts below `n`, the running top two are `a` and `b`. -/
structure Runs (r : Fin 8 → ℝ) (n : ℕ) (s : Top Ideal) (a b : Fin 8) : Prop where
  m1 : s.m1 = ((r a : ℝ) : EReal)
  m2 : s.m2 = ((r b : ℝ) : EReal)
  i1 : s.i1 = BitVec.ofNat 32 a.val
  i2 : s.i2 = BitVec.ofNat 32 b.val
  an : a.val < n
  bn : b.val < n
  ab : Bef r a b
  rest : ∀ p : Fin 8, p.val < n → p ≠ a → p ≠ b → Bef r b p

theorem step_eq (s : Top Ideal) (e : BitVec 32) (x : EReal) : s.step (F := Ideal) e x =
    if s.m1 < x then ⟨x, s.m1, e, s.i1⟩ else if s.m2 < x then ⟨s.m1, x, s.i1, e⟩ else s := by
  have hc : ∀ m : EReal, (FloatOps.cmpf (F := Ideal) (φ := .f32) .ogt x m : BitVec 1) = BitVec.ofBool (decide (m < x)) := fun m => by
    show Ideal.cmp .ogt x m = _
    unfold Ideal.cmp; rfl
  unfold Top.step
  rw [hc, hc]
  by_cases h1 : s.m1 < x <;> by_cases h2 : s.m2 < x <;> simp [h1, h2, Scalar.select]

theorem Runs.eq {r : Fin 8 → ℝ} {n : ℕ} {s : Top Ideal} {a b : Fin 8} (h : Runs r n s a b) :
    s = ⟨((r a : ℝ) : EReal), ((r b : ℝ) : EReal), BitVec.ofNat 32 a.val, BitVec.ofNat 32 b.val⟩ := by
  rw [← h.m1, ← h.m2, ← h.i1, ← h.i2]

theorem Runs.step {r : Fin 8 → ℝ} {n : ℕ} {s : Top Ideal} {a b : Fin 8} (h : Runs r n s a b) (e : Fin 8) (he : e.val = n)
    (w : BitVec 32) (hw : w = BitVec.ofNat 32 e.val) :
    ∃ a' b', Runs r (n + 1) (s.step (F := Ideal) w ((r e : ℝ) : EReal)) a' b' := by
  subst hw
  have hlt : ∀ p : Fin 8, p.val < n + 1 → p ≠ e → p.val < n := fun p hp hne =>
    lt_of_le_of_ne (Nat.lt_succ_iff.mp hp) fun e' => hne (Fin.ext (e'.trans he.symm))
  have hen : e.val < n + 1 := he ▸ e.val.lt_succ_self
  have hlt' : ∀ p : Fin 8, p.val < n → p < e := fun p hp => Fin.lt_def.mpr (he ▸ hp)
  rw [step_eq, h.m1, h.m2]
  by_cases h1 : r a < r e
  · rw [if_pos (EReal.coe_lt_coe_iff.mpr h1)]
    refine ⟨e, a, ⟨rfl, rfl, rfl, h.i1, hen, h.an.trans n.lt_succ_self, .inl h1, ?_⟩⟩
    intro p hp hpn hpa
    by_cases hpb : p = b
    · exact hpb ▸ h.ab
    · exact h.ab.trans (h.rest p (hlt p hp hpn) hpa hpb)
  · rw [if_neg fun e' => h1 (EReal.coe_lt_coe_iff.mp e')]
    by_cases h2 : r b < r e
    · rw [if_pos (EReal.coe_lt_coe_iff.mpr h2)]
      refine ⟨a, e, ⟨rfl, rfl, h.i1, rfl, h.an.trans n.lt_succ_self, hen, ?_, ?_⟩⟩
      · rcases lt_or_eq_of_le (not_lt.mp h1) with h1 | h1
        · exact .inl h1
        · exact .inr ⟨h1.symm, hlt' _ h.an⟩
      · intro p hp hpa hpn
        by_cases hpb : p = b
        · exact hpb ▸ .inl h2
        · exact Bef.trans (.inl h2) (h.rest p (hlt p hp hpn) hpa hpb)
    · rw [if_neg fun e' => h2 (EReal.coe_lt_coe_iff.mp e')]
      refine ⟨a, b, ⟨h.m1, h.m2, h.i1, h.i2, h.an.trans n.lt_succ_self, h.bn.trans n.lt_succ_self, h.ab, ?_⟩⟩
      intro p hp hpa hpb
      by_cases hpn : p = e
      · rw [hpn]
        rcases lt_or_eq_of_le (not_lt.mp h2) with h2 | h2
        · exact .inl h2
        · exact .inr ⟨h2.symm, hlt' _ h.bn⟩
      · exact h.rest p (hlt p hp hpn) hpa hpb

theorem init_eq : (Top.init (F := Ideal)) = ⟨(⊥ : EReal), (⊥ : EReal), 0#32, 0#32⟩ := rfl

/-- The first two experts. -/
theorem runs_two (r : Fin 8 → ℝ) :
    ∃ a b, Runs r 2 (((Top.init (F := Ideal)).step (F := Ideal) 0#32 ((r 0 : ℝ) : EReal)).step (F := Ideal) 1#32 ((r 1 : ℝ) : EReal)) a b := by
  have h0 : (Top.init (F := Ideal)).step (F := Ideal) 0#32 ((r 0 : ℝ) : EReal) = ⟨((r 0 : ℝ) : EReal), (⊥ : EReal), 0#32, 0#32⟩ := by
    rw [step_eq, init_eq]
    exact if_pos (EReal.bot_lt_coe _)
  rw [h0, step_eq]
  dsimp only
  by_cases h : r 0 < r 1
  · rw [if_pos (EReal.coe_lt_coe_iff.mpr h)]
    refine ⟨1, 0, ⟨rfl, rfl, rfl, rfl, by decide, by decide, .inl h, ?_⟩⟩
    intro p hp h1 h0
    exact absurd hp (by omega)
  · rw [if_neg fun e => h (EReal.coe_lt_coe_iff.mp e), if_pos (EReal.bot_lt_coe _)]
    refine ⟨0, 1, ⟨rfl, rfl, rfl, rfl, by decide, by decide, ?_, ?_⟩⟩
    · rcases lt_or_eq_of_le (not_lt.mp h) with h | h
      · exact .inl h
      · exact .inr ⟨h.symm, by decide⟩
    · intro p hp h1 h0
      exact absurd hp (by omega)

/-- A lane's running maxima end at the first and the second expert. -/
theorem topOf_real (r : Fin 8 → ℝ) :
    ∃ a b, First r a b ∧ topOf (F := Ideal) (fun e => ((r e : ℝ) : EReal)) =
      ⟨((r a : ℝ) : EReal), ((r b : ℝ) : EReal), BitVec.ofNat 32 a.val, BitVec.ofNat 32 b.val⟩ := by
  obtain ⟨_, _, h⟩ := runs_two r
  obtain ⟨_, _, h⟩ := h.step 2 rfl 2#32 rfl
  obtain ⟨_, _, h⟩ := h.step 3 rfl 3#32 rfl
  obtain ⟨_, _, h⟩ := h.step 4 rfl 4#32 rfl
  obtain ⟨_, _, h⟩ := h.step 5 rfl 5#32 rfl
  obtain ⟨_, _, h⟩ := h.step 6 rfl 6#32 rfl
  obtain ⟨a, b, h⟩ := h.step 7 rfl 7#32 rfl
  refine ⟨a, b, ⟨fun e => Bef.irrefl r b (e ▸ h.ab), h.ab, fun p => h.rest p p.isLt⟩, ?_⟩
  exact h.eq

/-! ## The stable sort -/

/-- Two relations that agree on every later element of a list against an earlier one sort it alike. -/
theorem stableSort_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

instance (r : Fin 8 → ℝ) (a b : Fin 8) : Decidable (Bef r a b) := Classical.propDecidable _

/-- The order of the experts, decided. -/
def befB (r : Fin 8 → ℝ) (a b : Fin 8) : Bool := decide (Bef r a b)

theorem befB_total (r : Fin 8 → ℝ) : StrictTotalBefore (befB r) where
  irrefl a := by unfold befB; exact decide_eq_false (Bef.irrefl r a)
  trans a b c h h' := by
    unfold befB at *
    exact decide_eq_true ((of_decide_eq_true h).trans (of_decide_eq_true h'))
  total a b hne := by
    unfold befB
    rcases lt_trichotomy (r a) (r b) with h | h | h
    · exact .inr (decide_eq_true (.inl h))
    · rcases lt_or_gt_of_ne hne with h' | h'
      · exact .inl (decide_eq_true (.inr ⟨h, h'⟩))
      · exact .inr (decide_eq_true (.inr ⟨h.symm, h'⟩))
    · exact .inl (decide_eq_true (.inl h))

/-- A stable sort by logit alone orders the experts. -/
theorem sortedFrom_logit (r : Fin 8 → ℝ) (R : Fin 8 → Fin 8 → Bool) (hR : ∀ k k', R k k' = decide (r k' < r k)) :
    sortedFrom R = sortedFrom (befB r) := by
  have h : sortPositions 8 R = sortPositions 8 (befB r) := by
    unfold sortPositions
    refine stableSort_congr _ _ _ ((List.pairwise_lt_finRange 8).imp fun {a b} hab => ?_)
    rw [hR]
    unfold befB
    refine decide_eq_decide.mpr ⟨fun h => .inl h, fun h => h.elim id fun h => absurd h.2 (not_lt.mpr hab.le)⟩
  funext k
  exact List.get_of_eq h _

/-- Its first two positions hold the first and the second expert. -/
theorem sortedFrom_first {r : Fin 8 → ℝ} {a b : Fin 8} (h : First r a b) (R : Fin 8 → Fin 8 → Bool)
    (hR : ∀ k k', R k k' = decide (r k' < r k)) : sortedFrom R 0 = a ∧ sortedFrom R 1 = b := by
  rw [sortedFrom_logit r R hR]
  have hB := befB_total r
  have key := hB.sortedFrom_eq_of_prefix (k := 2) (by decide) ![a, b]
    (by
      intro i j e
      match i, j with
      | 0, 0 => rfl
      | 0, 1 => exact absurd e h.ne
      | 1, 0 => exact absurd e.symm h.ne
      | 1, 1 => rfl)
    (by
      intro i j hij
      match i, j with
      | 0, 1 => exact hB.asymm a b (decide_eq_true h.ab)
      | 0, 0 => exact absurd hij (by decide)
      | 1, 0 => exact absurd hij (by decide)
      | 1, 1 => exact absurd hij (by decide))
    (by
      intro i p hp
      have hb := h.rest p (fun e => hp 0 e.symm) (fun e => hp 1 e.symm)
      match i with
      | 0 => exact hB.asymm a p (decide_eq_true (h.ab.trans hb))
      | 1 => exact hB.asymm b p (decide_eq_true hb))
  exact ⟨key 0, key 1⟩

end Cert.Proof.Router

end
-- ==== Proof.RefValue.lean ====
/-
  The reference as functions of its logits, read at one token: the two largest logits and their experts, the gates, and
  the token's share of the load and of the entropy, all real numbers when the logits are.
-/
module

public import proofs.«01_k».proof.Proof.Top2
public import proofs.«01_k».proof.Proof.Gen.ReferenceIdeal
public import Idealize.ShloMosaic.Lib.Pointwise
public import Idealize.ShloMosaic.Lib.IdealHost
public import Idealize.ShloMosaic.Lib.Routing.OpsPair

@[expose] public section

set_option maxRecDepth 16384

noncomputable section

namespace Cert.Proof.Plain

open Cert.ReferenceIdeal Cert.ReferenceIdeal.Gen Cert.Proof.Router
open Idealize.ShloMosaic

section Defs
variable {F : FTy → Type} [FloatOps F]

/-- The logits, -/
def logits (x : FVec F S2x2048x1024 .f32) (w : FVec F S8x1024 .f32) : FVec F S2x2048x8 .f32 :=
  Host.dotGeneral dot_S2x2048x1024_S1024x8_S2x2048x8_2_0_01_1_n_n none x (transpose S1024x8 [1, 0] w transposes_S8x1024_S1024x8_1_0)
/-- the two largest of each token -/
def tops (L : FVec F S2x2048x8 .f32) : FVec F S2x2048x2 .f32 :=
  (Host.topK S2x2048x2 2 (FloatOps.cmpfTotal .gt) L sliceFits_S2x2048x8_S2x2048x2).1
/-- and their experts. -/
def idxs (L : FVec F S2x2048x8 .f32) : IVec S2x2048x2 32 :=
  (Host.topK S2x2048x2 2 (FloatOps.cmpfTotal .gt) L sliceFits_S2x2048x8_S2x2048x2).2
/-- The two less the larger, -/
def shifted (v : FVec F S2x2048x2 .f32) : FVec F S2x2048x2 .f32 :=
  subf v (broadcastInDim S2x2048x2 ![0, 1, 2] bcast_S2x2048x1_S2x2048x2_0_1_2
    (broadcastInDim S2x2048x1 ![0, 1] bcast_S2x2048_S2x2048x1_0_1
      (maximumf (broadcastInDim S2x2048 ![] bcast_S_S2x2048 (constant S_ .f32 0xFF800000#32))
        (Host.reduce FloatOps.maximumf v (constant S_ .f32 0xFF800000#32) reducesTo_S2x2048x2_S2x2048_d2 h_S_))))
/-- the sum of their exponentials, -/
def total (z : FVec F S2x2048x2 .f32) : FVec F S2x2048x1 .f32 :=
  broadcastInDim S2x2048x1 ![0, 1] bcast_S2x2048_S2x2048x1_0_1
    (Host.reduceAdd (Host.exp z) (constant S_ .f32 0x00000000#32) reducesTo_S2x2048x2_S2x2048_d2 h_S_)
/-- the gates -/
def gates (z : FVec F S2x2048x2 .f32) : FVec F S2x2048x2 .f32 :=
  Host.divf (Host.exp z) (broadcastInDim S2x2048x2 ![0, 1, 2] bcast_S2x2048x1_S2x2048x2_0_1_2 (total z))
/-- and their logarithms. -/
def logGates (z : FVec F S2x2048x2 .f32) : FVec F S2x2048x2 .f32 :=
  subf z (broadcastInDim S2x2048x2 ![0, 1, 2] bcast_S2x2048x1_S2x2048x2_0_1_2 (Host.log (total z)))
/-- The mean entropy. -/
def entropy (z : FVec F S2x2048x2 .f32) : FVec F S_ .f32 :=
  Host.negf (Host.divf
    (Host.reduceAdd
      (Host.reduceAdd (mulf (gates z) (logGates z)) (constant S_ .f32 0x00000000#32) reducesTo_S2x2048x2_S2x2048_d2 h_S_)
      (constant S_ .f32 0x00000000#32) reducesTo_S2x2048_S_d0_1 h_S_) (constant S_ .f32 0x45800000#32))
/-- One of the two columns of experts as scatter indices, -/
def places (i : IVec S2x2048x1 32) : IVec S4096x1 32 :=
  broadcastInDim S4096x1 ![0] bcast_S4096_S4096x1_0
    (select
      (cmpi .slt (shapeCast _ (shapeCast _ i shapeCasts_S2x2048x1_S2x2048) shapeCasts_S2x2048_S4096)
        (broadcastInDim S4096 ![] bcast_S_S4096 (constantI S_ 32 0#32)))
      (addi (shapeCast _ (shapeCast _ i shapeCasts_S2x2048x1_S2x2048) shapeCasts_S2x2048_S4096)
        (broadcastInDim S4096 ![] bcast_S_S4096 (constantI S_ 32 8#32)))
      (shapeCast _ (shapeCast _ i shapeCasts_S2x2048x1_S2x2048) shapeCasts_S2x2048_S4096))
/-- and one of the two columns of gates as updates. -/
def updates (g : FVec F S2x2048x1 .f32) : FVec F S4096 .f32 :=
  shapeCast _ (shapeCast _ g shapeCasts_S2x2048x1_S2x2048) shapeCasts_S2x2048_S4096
/-- The load: both columns of gates added at their experts. -/
def load (i : IVec S2x2048x2 32) (g : FVec F S2x2048x2 .f32) : FVec F S8 .f32 :=
  Host.scatterAdd scatter_S8_S4096x1_S4096_n_0_0_1
    (Host.scatterAdd scatter_S8_S4096x1_S4096_n_0_0_1 (broadcastInDim S8 ![] bcast_S_S8 (constant S_ .f32 0x00000000#32))
      (places (extractStridedSlice S2x2048x1 ![0, 0, 0] i slices_S2x2048x2_S2x2048x1_0_0_0))
      (updates (extractStridedSlice S2x2048x1 ![0, 0, 0] g slices_S2x2048x2_S2x2048x1_0_0_0)))
    (places (extractStridedSlice S2x2048x1 ![0, 0, 1] i slices_S2x2048x2_S2x2048x1_0_0_1))
    (updates (extractStridedSlice S2x2048x1 ![0, 0, 1] g slices_S2x2048x2_S2x2048x1_0_0_1))

end Defs

/-! ## At real numbers -/

/-- The larger gate of two logits whose difference is `d`, the smaller one, and their entropy. -/
def gateA (d : ℝ) : ℝ := 1 / (1 + Real.exp d)
def gateB (d : ℝ) : ℝ := Real.exp d * (1 / (1 + Real.exp d))
def entR (d : ℝ) : ℝ := Real.log (1 + Real.exp d) - gateB d * d

theorem ogt_apply (x y : EReal) : FloatOps.cmpfTotal (F := Ideal) (φ := .f32) .gt x y = BitVec.ofBool (decide (y < x)) := by
  show Ideal.cmpTotal .gt x y = _
  unfold Ideal.cmpTotal Ideal.cmp; rfl

theorem along_ix3 (b : Fin 2) (l : Fin 2048) (e k : Fin 8) : Shape.Idx.along (s := S2x2048x8) (ix3 b l e) 2 k = ix3 b l k := by
  funext a
  match a with
  | ⟨0, _⟩ => rfl
  | ⟨1, _⟩ => rfl
  | ⟨2, _⟩ => rfl

/-- The expert whose logit a token's sort puts at `k`. -/
def place (L : FVec Ideal S2x2048x8 .f32) (b : Fin 2) (l : Fin 2048) : Fin 8 → Fin 8 :=
  sortedFrom (fun k k' => FloatOps.cmpfTotal (F := Ideal) (φ := .f32) .gt (L (ix3 b l k)) (L (ix3 b l k')) == 1#1)

theorem topK_src (L : FVec Ideal S2x2048x8 .f32) (b : Fin 2) (l : Fin 2048) (k : Fin 2) :
    tops L (ix3 b l k) = L (ix3 b l (place L b l ⟨k.val, by omega⟩))
    ∧ idxs L (ix3 b l k) = BitVec.ofNat 32 (place L b l ⟨k.val, by omega⟩).val := by
  have hsrc : extractStridedSlice S2x2048x2 (fun _ => 0) (fun j : S2x2048x8.Idx => j) sliceFits_S2x2048x8_S2x2048x2 (ix3 b l k)
      = ix3 b l (⟨k.val, by omega⟩ : Fin 8) := by
    funext a
    match a with
    | ⟨0, _⟩ => exact Fin.ext (Nat.zero_add _)
    | ⟨1, _⟩ => exact Fin.ext (Nat.zero_add _)
    | ⟨2, _⟩ => exact Fin.ext (Nat.zero_add _)
  have hv : (Host.sort2 S2x2048x8 2 (fun l r : EReal × BitVec 32 => FloatOps.cmpfTotal (F := Ideal) (φ := .f32) .gt l.1 r.1) L
      (iotaInDim S2x2048x8 32 2)).1 (ix3 b l (⟨k.val, by omega⟩ : Fin 8)) = L (ix3 b l (place L b l ⟨k.val, by omega⟩))
    ∧ (Host.sort2 S2x2048x8 2 (fun l r : EReal × BitVec 32 => FloatOps.cmpfTotal (F := Ideal) (φ := .f32) .gt l.1 r.1) L
      (iotaInDim S2x2048x8 32 2)).2 (ix3 b l (⟨k.val, by omega⟩ : Fin 8)) = BitVec.ofNat 32 (place L b l ⟨k.val, by omega⟩).val := by
    unfold Host.sort2
    rw [dif_pos (show 2 < S2x2048x8.rank by decide)]
    have hp : ∀ k k' : Fin 8, (FloatOps.cmpfTotal (F := Ideal) (φ := .f32) .gt (L ((ix3 b l k' : S2x2048x8.Idx).along 2 k)) (L ((ix3 b l k' : S2x2048x8.Idx).along 2 k)) == 1#1) = (FloatOps.cmpfTotal (F := Ideal) (φ := .f32) .gt (L (ix3 b l k)) (L (ix3 b l k)) == 1#1) :=
      fun k k' => by rw [along_ix3]
    constructor
    · refine congrArg L (Eq.trans (along_ix3 b l _ _) (congrArg (ix3 b l) ?_))
      unfold place
      refine congrArg (fun R => sortedFrom R _) (funext fun p => funext fun q => ?_)
      exact congrArg₂ (fun x y => FloatOps.cmpfTotal (F := Ideal) (φ := .f32) .gt (L x) (L y) == 1#1) (along_ix3 b l _ p) (along_ix3 b l _ q)
    · refine congrArg (fun i : Fin 8 => BitVec.ofNat 32 i.val) ?_
      unfold place
      refine Eq.trans (congrFun (along_ix3 b l _ _) 2) ?_
      refine congrArg (fun R => sortedFrom R _) (funext fun p => funext fun q => ?_)
      exact congrArg₂ (fun x y => FloatOps.cmpfTotal (F := Ideal) (φ := .f32) .gt (L x) (L y) == 1#1) (along_ix3 b l _ p) (along_ix3 b l _ q)
  constructor
  · refine Eq.trans ?_ hv.1
    exact congrArg (Host.sort2 S2x2048x8 2 (fun l r : EReal × BitVec 32 => FloatOps.cmpfTotal (F := Ideal) (φ := .f32) .gt l.1 r.1) L
      (iotaInDim S2x2048x8 32 2)).1 hsrc
  · refine Eq.trans ?_ hv.2
    exact congrArg (Host.sort2 S2x2048x8 2 (fun l r : EReal × BitVec 32 => FloatOps.cmpfTotal (F := Ideal) (φ := .f32) .gt l.1 r.1) L
      (iotaInDim S2x2048x8 32 2)).2 hsrc

/-- The sorted positions of a token's logits. -/
theorem tops_apply (L : FVec Ideal S2x2048x8 .f32) (b : Fin 2) (l : Fin 2048) (r : Fin 8 → ℝ) (hr : ∀ e, L (ix3 b l e) = ((r e : ℝ) : EReal))
    {p q : Fin 8} (h : First r p q) :
    (tops L (ix3 b l 0) = ((r p : ℝ) : EReal) ∧ tops L (ix3 b l 1) = ((r q : ℝ) : EReal))
    ∧ idxs L (ix3 b l 0) = BitVec.ofNat 32 p.val ∧ idxs L (ix3 b l 1) = BitVec.ofNat 32 q.val := by
  have hs : place L b l 0 = p ∧ place L b l 1 = q := sortedFrom_first h _ fun k k' => by
    rw [ogt_apply, hr, hr]
    by_cases hk : r k' < r k <;> simp [hk]
  have h0 := topK_src L b l 0
  have h1 := topK_src L b l 1
  have e0 : place L b l ⟨(0 : Fin 2).val, by omega⟩ = p := hs.1
  have e1 : place L b l ⟨(1 : Fin 2).val, by omega⟩ = q := hs.2
  rw [e0] at h0
  rw [e1] at h1
  exact ⟨⟨h0.1.trans (hr p), h1.1.trans (hr q)⟩, h0.2, h1.2⟩

theorem ofBits_inf : Ideal.ofBits .f32 0xFF800000#32 = ⊥ := by
  simp [Ideal.ofBits, Ideal.ieee]

theorem shifted_apply (v : FVec Ideal S2x2048x2 .f32) (b : Fin 2) (l : Fin 2048) (s t : ℝ) (hst : t ≤ s)
    (h0 : v (ix3 b l 0) = (s : EReal)) (h1 : v (ix3 b l 1) = (t : EReal)) :
    shifted v (ix3 b l 0) = ((0 : ℝ) : EReal) ∧ shifted v (ix3 b l 1) = ((t - s : ℝ) : EReal) := by
  have hm : max (Ideal.ofBits FTy.f32 0xFF800000#32)
      (Finset.fold max (Ideal.ofBits FTy.f32 0xFF800000#32) (fun x => v (ix3 b l x)) (Finset.univ : Finset (Fin 2))) = (s : EReal) := by
    rw [ofBits_inf, show (Finset.univ : Finset (Fin 2)) = {0, 1} from rfl, Finset.fold_insert (by decide), Finset.fold_singleton, h0, h1]
    simp [hst]
  constructor
  · pointwise [shifted]
    rw [hm, h0, ← EReal.coe_sub, sub_self]
  · pointwise [shifted]
    rw [hm, h1, ← EReal.coe_sub]

theorem total_apply (z : FVec Ideal S2x2048x2 .f32) (b : Fin 2) (l : Fin 2048) (d : ℝ)
    (h0 : z (ix3 b l 0) = ((0 : ℝ) : EReal)) (h1 : z (ix3 b l 1) = (d : EReal)) :
    total z (ix3 b l 0) = ((1 + Real.exp d : ℝ) : EReal) := by
  pointwise [total]
  rw [Fin.sum_univ_two, h0, h1, Ideal.exp_coe, Ideal.exp_coe, Real.exp_zero, ← EReal.coe_add]

theorem one_add_pos (d : ℝ) : 0 < 1 + Real.exp d := add_pos one_pos (Real.exp_pos d)

theorem gates_apply (z : FVec Ideal S2x2048x2 .f32) (b : Fin 2) (l : Fin 2048) (d : ℝ)
    (h0 : z (ix3 b l 0) = ((0 : ℝ) : EReal)) (h1 : z (ix3 b l 1) = (d : EReal)) :
    gates z (ix3 b l 0) = ((gateA d : ℝ) : EReal) ∧ gates z (ix3 b l 1) = ((gateB d : ℝ) : EReal) := by
  have ht := total_apply z b l d h0 h1
  constructor
  · pointwise [gates]
    rw [ht, h0, Ideal.exp_coe, Real.exp_zero, Ideal.div_coe (one_add_pos d).ne', ← EReal.coe_mul, one_mul]
    rfl
  · pointwise [gates]
    rw [ht, h1, Ideal.exp_coe, Ideal.div_coe (one_add_pos d).ne', ← EReal.coe_mul]
    rfl

theorem logGates_apply (z : FVec Ideal S2x2048x2 .f32) (b : Fin 2) (l : Fin 2048) (d : ℝ)
    (h0 : z (ix3 b l 0) = ((0 : ℝ) : EReal)) (h1 : z (ix3 b l 1) = (d : EReal)) :
    logGates z (ix3 b l 0) = ((0 - Real.log (1 + Real.exp d) : ℝ) : EReal)
    ∧ logGates z (ix3 b l 1) = ((d - Real.log (1 + Real.exp d) : ℝ) : EReal) := by
  have ht := total_apply z b l d h0 h1
  constructor
  · pointwise [logGates]
    rw [ht, h0, Ideal.log_coe, if_neg (one_add_pos d).not_ge, ← EReal.coe_sub]
  · pointwise [logGates]
    rw [ht, h1, Ideal.log_coe, if_neg (one_add_pos d).not_ge, ← EReal.coe_sub]

/-- A token's two terms of the entropy. -/
theorem terms_apply (z : FVec Ideal S2x2048x2 .f32) (b : Fin 2) (l : Fin 2048) (d : ℝ)
    (h0 : z (ix3 b l 0) = ((0 : ℝ) : EReal)) (h1 : z (ix3 b l 1) = (d : EReal)) :
    ∑ k : Fin 2, gates z (ix3 b l k) * logGates z (ix3 b l k) = ((-entR d : ℝ) : EReal) := by
  obtain ⟨g0, g1⟩ := gates_apply z b l d h0 h1
  obtain ⟨l0, l1⟩ := logGates_apply z b l d h0 h1
  rw [Fin.sum_univ_two, g0, g1, l0, l1, ← EReal.coe_mul, ← EReal.coe_mul, ← EReal.coe_add]
  refine congrArg _ ?_
  have hp := (one_add_pos d).ne'
  unfold entR gateA gateB
  field_simp
  ring

theorem ofBits_4096 : Ideal.ofBits .f32 0x45800000#32 = ((4096 : ℝ) : EReal) := by
  simp [Ideal.ofBits, Ideal.ieee, -EReal.coe_mul]; norm_num

/-- A real sum, coerced. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem entropy_apply (z : FVec Ideal S2x2048x2 .f32) (d : Fin 2 → Fin 2048 → ℝ)
    (h0 : ∀ b l, z (ix3 b l 0) = ((0 : ℝ) : EReal)) (h1 : ∀ b l, z (ix3 b l 1) = (d b l : EReal)) (j : S_.Idx) :
    entropy z j = (((∑ b, ∑ l, entR (d b l)) * (1 / 4096) : ℝ) : EReal) := by
  pointwise [entropy]
  have hs : (∑ b : Fin 2, ∑ l : Fin 2048, ∑ k : Fin 2, gates z (ix3 b l k) * logGates z (ix3 b l k))
      = ((∑ b, ∑ l, -entR (d b l) : ℝ) : EReal) := by
    rw [← coe_sum]
    refine Finset.sum_congr rfl fun b _ => ?_
    rw [← coe_sum]
    exact Finset.sum_congr rfl fun l _ => terms_apply z b l (d b l) (h0 b l) (h1 b l)
  rw [hs, ofBits_4096, Ideal.div_coe (by norm_num), ← EReal.coe_mul, ← EReal.coe_neg]
  refine congrArg _ ?_
  simp only [Finset.sum_neg_distrib]
  ring

/-! ## The load -/

theorem places_apply (i : IVec S2x2048x1 32) (t : Fin 4096) (b : Fin 2) (l : Fin 2048) (ht : t.val = b.val * 2048 + l.val) (e : Fin 8)
    (he : i (ix3 b l 0) = BitVec.ofNat 32 e.val) : places i (ix2 t 0) = BitVec.ofNat 32 e.val := by
  pointwise [places]
  have hb : (⟨t.val / 2048, by omega⟩ : Fin 2) = b := Fin.ext (by show t.val / 2048 = b.val; omega)
  have hl : (⟨t.val % 2048, by omega⟩ : Fin 2048) = l := Fin.ext (by show t.val % 2048 = l.val; omega)
  rw [hb, hl, he]
  clear he
  revert e
  decide

theorem updates_apply (g : FVec Ideal S2x2048x1 .f32) (t : Fin 4096) (b : Fin 2) (l : Fin 2048) (ht : t.val = b.val * 2048 + l.val) :
    updates g (ix1 t) = g (ix3 b l 0) := by
  pointwise [updates]
  have hb : (⟨t.val / 2048, by omega⟩ : Fin 2) = b := Fin.ext (by show t.val / 2048 = b.val; omega)
  have hl : (⟨t.val % 2048, by omega⟩ : Fin 2048) = l := Fin.ext (by show t.val % 2048 = l.val; omega)
  rw [hb, hl]

/-- Where an update lands. -/
theorem lands (i : IVec S4096x1 32) (t : Fin 4096) (e : Fin 8) :
    scatter_S8_S4096x1_S4096_n_0_0_1.resultIdx? (ix1 t) i = some (ix1 e) ↔ (i (ix2 t 0)).toInt = e.val := by
  have hst : scatter_S8_S4096x1_S4096_n_0_0_1.start (ix1 t) i 0 = (i (ix2 t 0)).toInt := by
    unfold ScatterDims.start
    rw [dif_pos (by decide)]
    refine congrArg (fun j => (i j).toInt) (funext fun b => ?_)
    match b with
    | ⟨0, _⟩ => exact Fin.ext rfl
    | ⟨1, _⟩ => exact Fin.ext rfl
  have hw : scatter_S8_S4096x1_S4096_n_0_0_1.window (ix1 t) 0 = 0 := by
    unfold ScatterDims.window
    rw [dif_neg (by decide)]
  rw [Routing.resultIdx?_eq_some]
  constructor
  · intro h
    have h := h 0
    rw [hst, hw] at h
    exact (Int.add_zero _).symm.trans h
  · intro h a
    match a with
    | ⟨0, _⟩ =>
      show scatter_S8_S4096x1_S4096_n_0_0_1.start (ix1 t) i 0 + (scatter_S8_S4096x1_S4096_n_0_0_1.window (ix1 t) 0 : Int) = _
      rw [hst, hw]
      exact (Int.add_zero _).trans h

theorem scatter_apply (x : FVec Ideal S8 .f32) (i : IVec S4096x1 32) (u : FVec Ideal S4096 .f32) (e : Fin 8) :
    Host.scatterAdd scatter_S8_S4096x1_S4096_n_0_0_1 x i u (ix1 e)
      = x (ix1 e) + ∑ t : Fin 4096, if (i (ix2 t 0)).toInt = e.val then u (ix1 t) else 0 := by
  show Ideal.hostScatterAdd _ x i u (ix1 e) = _
  unfold Ideal.hostScatterAdd
  refine congrArg (x (ix1 e) + ·) ?_
  rw [Finset.sum_filter, sum_idx1]
  exact Finset.sum_congr rfl fun t _ => if_congr (lands i t e) rfl rfl

/-- The load at an expert: each token's two gates, where the token's experts are the expert. -/
theorem load_apply (i : IVec S2x2048x2 32) (g : FVec Ideal S2x2048x2 .f32) (tok : Fin 4096 → Fin 2 × Fin 2048)
    (htok : ∀ t, t.val = (tok t).1.val * 2048 + (tok t).2.val) (p q : Fin 4096 → Fin 8)
    (hp : ∀ t, i (ix3 (tok t).1 (tok t).2 0) = BitVec.ofNat 32 (p t).val)
    (hq : ∀ t, i (ix3 (tok t).1 (tok t).2 1) = BitVec.ofNat 32 (q t).val) (e : Fin 8) :
    load i g (ix1 e) = (∑ t : Fin 4096, if p t = e then g (ix3 (tok t).1 (tok t).2 0) else 0)
      + ∑ t : Fin 4096, if q t = e then g (ix3 (tok t).1 (tok t).2 1) else 0 := by
  have hint : ∀ a b : Fin 8, ((BitVec.ofNat 32 a.val).toInt = (b.val : Int)) ↔ a = b := by decide
  have h0 : broadcastInDim S8 ![] bcast_S_S8 (constant (F := Ideal) S_ .f32 0x00000000#32) (ix1 e) = (0 : EReal) := by
    pointwise
  unfold load
  rw [scatter_apply, scatter_apply, h0, zero_add]
  refine congrArg₂ (· + ·) (Finset.sum_congr rfl fun t _ => ?_) (Finset.sum_congr rfl fun t _ => ?_)
  · rw [places_apply _ t _ _ (htok t) (p t) (by pointwise; exact hp t), updates_apply _ t _ _ (htok t)]
    refine if_congr (hint _ _) ?_ rfl
    pointwise
  · rw [places_apply _ t _ _ (htok t) (q t) (by pointwise; exact hq t), updates_apply _ t _ _ (htok t)]
    refine if_congr (hint _ _) ?_ rfl
    pointwise

/-! ## The logits -/

theorem logits_apply (x : FVec Ideal S2x2048x1024 .f32) (w : FVec Ideal S8x1024 .f32) (b : Fin 2) (l : Fin 2048) (e : Fin 8) :
    logits x w (ix3 b l e) = ∑ k : Fin 1024, x (ix3 b l k) * w (ix2 e k) := by
  pointwise [logits]

end Cert.Proof.Plain

end
-- ==== Proof.KerValue.lean ====
/-
  What the TensorCore kernels leave in their result arrays, read at an index, on extended reals: the logits' transpose, the
  row sums of the gates and the sum of the entropies; and the program's four results, the gates among them.
-/
module

public import proofs.«01_k».proof.Proof.Frames
public import Idealize.ShloMosaic.Lib.Pointwise
public import Idealize.ShloMosaic.Lib.Pipeline.ValueKit
public import Idealize.ShloMosaic.Lib.IdealHost

@[expose] public section

set_option maxRecDepth 16384

noncomputable section

namespace Cert.Proof.Router

open Cert.KernelIdeal Cert.KernelIdeal.Gen

open Idealize.ShloMosaic
open Idealize.ShloMosaic.TcCoe Idealize.ShloMosaic.Tactic
open Idealize.SL.Sem
open Idealize.ShloMosaic.StableHlo
open Idealize.ShloMosaic.Pipeline (Dat ucRefs arrRefs arrRef afterRegion)

/-! ## The blocks at an index -/

theorem logitsBlk_apply (X : FVec Ideal S1x256x1024 .f32) (G : FVec Ideal S1024x128 .f32) (e : Fin 8) (t : Fin 256) :
    logitsBlk X G (ix2 e t) = ∑ k : Fin 1024, X (ix3 0 t k) * G (ix2 k ⟨e.val, by omega⟩) := by
  pointwise [logitsBlk]

theorem loadBlk_apply (W : FVec Ideal S8x4096 .f32) (e : Fin 8) (c : Fin 128) :
    loadBlk W (ix2 e c) = ∑ t : Fin 4096, W (ix2 e t) := by
  pointwise [loadBlk]

/-- The entropy of a difference. -/
def entE (r : EReal) : EReal := Ideal.log1p (Ideal.exp r) - Ideal.div (Ideal.exp r) (1 + Ideal.exp r) * r

theorem entBlk_apply (D : FVec Ideal S8x4096 .f32) (j : S8x128.Idx) :
    entBlk D j = ∑ t : Fin 4096, entE (D (ix2 0 t)) := by
  unfold entE
  pointwise [entBlk]
  have hw : ∀ x : Fin 4096, VecWindow.window D ![0, 0] ![1, 4096] inb_S8x4096_S1x4096_0_0 (ix2 0 x) = D (ix2 0 x) := fun x => by
    refine congrArg D (funext fun a => ?_)
    match a with
    | ⟨0, _⟩ => exact Fin.ext (by simp)
    | ⟨1, _⟩ => exact Fin.ext (by simp)
  simp only [hw]

/-! ## The logits' transpose -/

variable (Vl : Dev nD → Valuation τ sig (Elt Ideal))

/-- The logits of the padded gate, transposed. -/
def LTof (X : S2x2048x1024.Idx → EReal) (G : S1024x128.Idx → EReal) : S8x4096.Idx → EReal := fun j =>
  ∑ k : Fin 1024, X (ix3 ⟨(j 1).val / 2048, by have := (j 1).isLt; have : (j 1).val < 4096 := this; omega⟩ ⟨(j 1).val % 2048, by omega⟩ k) * G (ix2 k ⟨(j 0).val, by have : (j 0).val < 8 := (j 0).isLt; omega⟩)

theorem idx0_0 : ∀ t : Fin cfg0.N, win0_0.index t = ![t.val / 8, t.val % 8, 0] := by decide +kernel
theorem idx0_1 : ∀ t : Fin cfg0.N, win0_1.index t = ![0, 0] := by decide +kernel
theorem idx0_2 : ∀ t : Fin cfg0.N, win0_2.index t = ![0, t.val] := by decide +kernel

theorem lt_point (d : Dev nD) (t : Fin cfg0.N) (e : Fin 8) (c : Fin 256) :
    logitsBlk (F := Ideal) (iblk0 Vl d 0 t) (iblk0 Vl d 1 t) (ix2 e c)
      = LTof (Vl d main_arg0) (Vl d main_v1) (((cfg0.win 2).blk t).view.emb (ix2 e c : S8x256.Idx)) := by
  rw [logitsBlk_apply]
  unfold LTof
  refine Finset.sum_congr rfl fun k _ => ?_
  congr 1
  · blk_ext [iblk0, idx0_0, idx0_2]
  · blk_ext [iblk0, idx0_1, idx0_2]

theorem lt_arr (d : Dev nD) :
    (dat0 Vl d).arrAt 2 cfg0.N = LTof (Vl d main_arg0) (Vl d main_v1) := by
  refine (dat0 Vl d).arrAt_eq_of_covers 2 _ (by decide +kernel) fun t hf y => ?_
  blk_simp
  have hy : y = (ix2 (y 0) (y 1) : S8x256.Idx) := eq_ix2 y
  rw [hy]
  exact lt_point Vl d t (y 0) (y 1)

theorem idx2_0 : ∀ t : Fin cfg2.N, win2_0.index t = ![0, 0] := by decide +kernel
theorem idx2_1 : ∀ t : Fin cfg2.N, win2_1.index t = ![0, 0] := by decide +kernel
theorem idx2_2 : ∀ t : Fin cfg2.N, win2_2.index t = ![0, 0] := by decide +kernel
theorem idx2_3 : ∀ t : Fin cfg2.N, win2_3.index t = ![0, 0] := by decide +kernel

theorem whole2_0 (d : Dev nD) (t : Fin cfg2.N) (j : S8x4096.Idx) : (iblk2 Vl d 0 t : S8x4096.Idx → EReal) j = Vl d main_v3_0 j := by
  obtain ⟨a, b, rfl⟩ : ∃ a b, j = ix2 a b := ⟨j 0, j 1, eq_ix2 j⟩
  blk_ext [iblk2, idx2_0]
theorem whole2_1 (d : Dev nD) (t : Fin cfg2.N) (j : S8x4096.Idx) : (iblk2 Vl d 1 t : S8x4096.Idx → EReal) j = Vl d main_v3_1 j := by
  obtain ⟨a, b, rfl⟩ : ∃ a b, j = ix2 a b := ⟨j 0, j 1, eq_ix2 j⟩
  blk_ext [iblk2, idx2_1]

theorem emb2_2 (t : Fin cfg2.N) (y : S8x128.Idx) : ((cfg2.win 2).blk t).view.emb y = y := by
  obtain ⟨a, b, rfl⟩ : ∃ a b, y = ix2 a b := ⟨y 0, y 1, eq_ix2 y⟩
  blk_ext [idx2_2]
theorem emb2_3 (t : Fin cfg2.N) (y : S8x128.Idx) : ((cfg2.win 3).blk t).view.emb y = y := by
  obtain ⟨a, b, rfl⟩ : ∃ a b, y = ix2 a b := ⟨y 0, y 1, eq_ix2 y⟩
  blk_ext [idx2_3]

theorem load_arr (d : Dev nD) : (dat2 Vl d).arrAt 2 cfg2.N = loadBlk (F := Ideal) (Vl d main_v3_0) := by
  refine (dat2 Vl d).arrAt_eq_of_covers 2 _ (by decide +kernel) fun t hf y => ?_
  blk_simp
  refine Eq.trans ?_ (congrArg (loadBlk (F := Ideal) (Vl d main_v3_0)) (emb2_2 t y).symm)
  exact congrFun (congrArg (loadBlk (F := Ideal)) (funext (whole2_0 Vl d t))) y

theorem ent_arr (d : Dev nD) : (dat2 Vl d).arrAt 3 cfg2.N = entBlk (F := Ideal) (Vl d main_v3_1) := by
  refine (dat2 Vl d).arrAt_eq_of_covers 3 _ (by decide +kernel) fun t hf y => ?_
  blk_simp
  refine Eq.trans ?_ (congrArg (entBlk (F := Ideal) (Vl d main_v3_1)) (emb2_3 t y).symm)
  exact congrFun (congrArg (entBlk (F := Ideal)) (funext (whole2_1 Vl d t))) y

/-! ## The arrays of the run -/

variable (m : (ℓ : Loc nD τ sig) → Buf (Elt Ideal) ℓ) (f : S8x4096.Idx → EReal)

/-- The gate transposed and padded to 128 columns. -/
def wpad (w : FVec Ideal S8x1024 .f32) : FVec Ideal S1024x128 .f32 :=
  pad S1024x128 ![0, 0] ![0, 120] ![0, 0] (transpose S1024x8 [1, 0] w transposes_S8x1024_S1024x8_1_0)
    (sitofp .f32 (constantI S_ 32 0#32)) pads_S1024x8_S1024x128_000_01200 h_S_

theorem wpad_apply (w : FVec Ideal S8x1024 .f32) (k : Fin 1024) (e : Fin 8) : wpad w (ix2 k ⟨e.val, by omega⟩) = w (ix2 e k) := by
  pointwise [wpad]

theorem V1_v1 (d : Dev nD) : V1 m d main_v1 = wpad (m (d.tc.loc main_arg1)) := by
  unfold V1; simp only [preOps, TRef.binary, TRef.nullary, TRef.ternary, TRef.unary, TRef.toBuf, TRef.ofBuf, cast_eq]; after_results_simp <;> rfl

theorem LT_eq (d : Dev nD) : LT m d = LTof (m (d.tc.loc main_arg0)) (wpad (m (d.tc.loc main_arg1))) := by
  have h := Pipeline.afterRegion_arr (pdats (V1 m) 0 d) (V1 m d) launch0.win.arr_inj (2 : Fin 3)
  unfold LT V2
  refine Eq.trans h (Eq.trans (lt_arr (V1 m) d) ?_)
  rw [V1_arg0, V1_v1]

/-- The logit of a token at an expert. -/
def dotAt (X : S2x2048x1024.Idx → EReal) (W : S8x1024.Idx → EReal) (b : Fin 2) (l : Fin 2048) (e : Fin 8) : EReal :=
  ∑ k : Fin 1024, X (ix3 b l k) * W (ix2 e k)

/-- The sequence and the position of a token. -/
def tok (t : Fin 4096) : Fin 2 × Fin 2048 := (⟨t.val / 2048, by omega⟩, ⟨t.val % 2048, by omega⟩)

theorem colAt_LT (d : Dev nD) (t : Fin 4096) (e : Fin 8) :
    colAt (LT m d) t e = dotAt (m (d.tc.loc main_arg0)) (m (d.tc.loc main_arg1)) (tok t).1 (tok t).2 e := by
  unfold colAt dotAt
  rw [LT_eq]
  unfold LTof
  refine Finset.sum_congr rfl fun k _ => ?_
  exact congrArg _ (wpad_apply _ k e)

theorem V4_v4_0 (d : Dev nD) : V4 m f d main_v4_0 = loadBlk (F := Ideal) (Wv (LT m d)) := by
  have h := Pipeline.afterRegion_arr (pdats (V3 m f) 1 d) (V3 m f d) launch2.win.arr_inj (2 : Fin 4)
  unfold V4
  refine Eq.trans h (Eq.trans (load_arr (V3 m f) d) ?_)
  rw [V3_v3_0]
theorem V4_v4_1 (d : Dev nD) : V4 m f d main_v4_1 = entBlk (F := Ideal) f := by
  have h := Pipeline.afterRegion_arr (pdats (V3 m f) 1 d) (V3 m f d) launch2.win.arr_inj (3 : Fin 4)
  unfold V4
  refine Eq.trans h (Eq.trans (ent_arr (V3 m f) d) ?_)
  rw [V3_v3_1]

/-! ## The results -/

/-- The load off the first statistics block, -/
def loadOf (B : FVec Ideal S8x128 .f32) : FVec Ideal S8 .f32 :=
  shapeCast S8 (extractStridedSlice S8x1 ![0, 0] B slices_S8x128_S8x1_0_0) shapeCasts_S8x1_S8
/-- the mean entropy off the second. -/
def meanOf (B : FVec Ideal S8x128 .f32) : FVec Ideal S_ .f32 :=
  Host.divf (shapeCast S_ (extractStridedSlice S1x1 ![0, 0] B slices_S8x128_S1x1_0_0) shapeCasts_S1x1_S_) (constant S_ .f32 0x45800000#32)

theorem loadOf_apply (B : FVec Ideal S8x128 .f32) (e : Fin 8) : loadOf B (ix1 e) = B (ix2 e 0) := by
  pointwise [loadOf]
theorem meanOf_apply (B : FVec Ideal S8x128 .f32) (j : S_.Idx) : meanOf B j = Ideal.div (B (ix2 0 0)) (Ideal.ofBits .f32 0x45800000#32) := by
  pointwise [meanOf]

theorem V5_v6 (d : Dev nD) : V5 m f d main_v6 = loadOf (loadBlk (F := Ideal) (Wv (LT m d))) := by
  rw [← V4_v4_0 m f d]
  unfold V5; generalize V4 m f d = V
  simp only [postOps, TRef.binary, TRef.nullary, TRef.ternary, TRef.unary, TRef.toBuf, TRef.ofBuf, cast_eq]; after_results_simp <;> rfl
theorem V5_v9 (d : Dev nD) : V5 m f d main_v9 = meanOf (entBlk (F := Ideal) f) := by
  rw [← V4_v4_1 m f d]
  unfold V5; generalize V4 m f d = V
  simp only [postOps, TRef.binary, TRef.nullary, TRef.ternary, TRef.unary, TRef.toBuf, TRef.ofBuf, cast_eq]; after_results_simp <;> rfl

/-- The statistics call and what follows leave the gates alone. -/
theorem V4_v3_0 (d : Dev nD) : V4 m f d main_v3_0 = (Wv (LT m d) : S8x4096.Idx → EReal) :=
  (Pipeline.afterRegion_keeps (pdats (V3 m f) 1 d) (V3 m f d) launch2.win.arr_inj (fun w => rfl) main_v3_0
    (show ∀ w : Fin 4, arrRef spec2 w = main_v3_0 → (win2 w).isOut = false by decide)).trans (V3_v3_0 m f d)
theorem V5_v3_0 (d : Dev nD) : V5 m f d main_v3_0 = (Wv (LT m d) : S8x4096.Idx → EReal) := by
  refine Eq.trans ?_ (V4_v3_0 m f d)
  unfold V5; generalize V4 m f d = V
  simp only [postOps, TRef.binary, TRef.nullary, TRef.ternary, TRef.unary, TRef.toBuf, TRef.ofBuf, cast_eq]; after_results_simp <;> rfl

/-- The balance loss off the load. -/
def lossOf (x : FVec Ideal S8 .f32) : FVec Ideal S_ .f32 :=
  let y : FVec Ideal S8 .f32 := Host.divf x (broadcastInDim S8 ![] bcast_S_S8 (constant S_ .f32 0x44800000#32))
  let z : FVec Ideal S8 .f32 := subf y (broadcastInDim S8 ![0] bcast_S1_S8_0
    (Host.divf (broadcastInDim S1 ![] bcast_S_S1 (Host.reduceAdd y (constant S_ .f32 0x00000000#32) reducesTo_S8_S_d0 h_S_))
      (broadcastInDim S1 ![] bcast_S_S1 (constant S_ .f32 0x41000000#32))))
  let n : FVec Ideal S_ .f32 := subf (constant S_ .f32 0x41000000#32) (sitofp .f32 (constantI S_ 32 1#32))
  mulf (mulf (Host.divf
    (Host.sqrt (select (cmpf .ogt n (constant S_ .f32 0x00000000#32))
      (Host.divf (Host.reduceAdd (mulf z z) (constant S_ .f32 0x00000000#32) reducesTo_S8_S_d0 h_S_) n)
      (id (constant S_ .f32 0x7FC00000#32))))
    (maximumf (id (constant S_ .f32 0x322BCC77#32))
      (Host.divf (Host.reduceAdd y (constant S_ .f32 0x00000000#32) reducesTo_S8_S_d0 h_S_) (constant S_ .f32 0x41000000#32))))
    (constant S_ .f32 0x3C23D70A#32)) (constant S_ .f32 0x41000000#32)

theorem V5_v18 (d : Dev nD) : V5 m f d main_v18 = lossOf (loadOf (loadBlk (F := Ideal) (Wv (LT m d)))) := by
  rw [← V4_v4_0 m f d]
  unfold V5; generalize V4 m f d = V
  simp only [postOps, TRef.binary, TRef.nullary, TRef.ternary, TRef.unary, TRef.toBuf, TRef.ofBuf, cast_eq]; after_results_simp <;> rfl

end Cert.Proof.Router

end
-- ==== Proof.RefRun.lean ====
/-
  The reference's four results as functions of its logits.
-/
module

public import proofs.«01_k».proof.Proof.RefValue
public import proofs.«01_k».proof.Proof.KerValue
public import proofs.«01_k».proof.Proof.Gen.ReferenceIdeal.Run

@[expose] public section

set_option maxRecDepth 16384

noncomputable section

namespace Cert.Proof.Plain

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The logits of the reference's run. -/
def runLogits : FVec Ideal S2x2048x8 .f32 := logits (F := Ideal) (m ((c.tc : Thread nD τ).loc main_arg0)) (m ((c.tc : Thread nD τ).loc main_arg1))

/-- The gates of each expert and token: of the token's two gates, those whose expert is the expert. -/
def spread (i : IVec S2x2048x2 32) (g : FVec Ideal S2x2048x2 .f32) : FVec Ideal S8x4096 .f32 :=
  shapeCast S8x4096 (Host.reduceAdd
    (mulf
      (uitofp .f32 (cmpi .eq
        (broadcastInDim S8x2x2048x2 ![0, 1, 2, 3] bcast_S1x2x2048x2_S8x2x2048x2_0_1_2_3
          (broadcastInDim S1x2x2048x2 ![1, 2, 3] bcast_S2x2048x2_S1x2x2048x2_1_2_3 i))
        (broadcastInDim S8x2x2048x2 ![0, 1, 2, 3] bcast_S8x1x1x1_S8x2x2048x2_0_1_2_3
          (broadcastInDim S8x1x1x1 ![0] bcast_S8_S8x1x1x1_0 (iotaInDim S8 32 0)))))
      (broadcastInDim S8x2x2048x2 ![0, 1, 2, 3] bcast_S1x2x2048x2_S8x2x2048x2_0_1_2_3
        (broadcastInDim S1x2x2048x2 ![1, 2, 3] bcast_S2x2048x2_S1x2x2048x2_1_2_3 g)))
    (constant S_ .f32 0x00000000#32) reducesTo_S8x2x2048x2_S8x2x2048_d3 h_S_) shapeCasts_S8x2x2048_S8x4096

theorem spread_apply (i : IVec S2x2048x2 32) (g : FVec Ideal S2x2048x2 .f32) (e : Fin 8) (t : Fin 4096) (b : Fin 2) (l : Fin 2048)
    (ht : t.val = b.val * 2048 + l.val) :
    spread i g (ix2 e t)
      = FloatOps.uitofp (F := Ideal) .f32 (IntOp.cmpi .eq (i (ix3 b l 0)) (BitVec.ofNat 32 e.val)) * g (ix3 b l 0)
      + FloatOps.uitofp (F := Ideal) .f32 (IntOp.cmpi .eq (i (ix3 b l 1)) (BitVec.ofNat 32 e.val)) * g (ix3 b l 1) := by
  have hb : (⟨t.val / 2048, by omega⟩ : Fin 2) = b := Fin.ext (by show t.val / 2048 = b.val; omega)
  have hl : (⟨t.val % 2048, by omega⟩ : Fin 2048) = l := Fin.ext (by show t.val % 2048 = l.val; omega)
  pointwise [spread]
  rw [Fin.sum_univ_two, hb, hl]

theorem res_load : Cert.ReferenceIdeal.Value.res_main_v39 (F := Ideal) m c
    = load (idxs (runLogits m c)) (gates (shifted (tops (runLogits m c)))) := by
  unfold Cert.ReferenceIdeal.Value.res_main_v39; rfl

theorem res_entropy : Cert.ReferenceIdeal.Value.res_main_v65 (F := Ideal) m c
    = entropy (shifted (tops (runLogits m c))) := by
  unfold Cert.ReferenceIdeal.Value.res_main_v65; rfl

theorem res_loss : Cert.ReferenceIdeal.Value.res_main_v48 (F := Ideal) m c
    = Router.lossOf (Cert.ReferenceIdeal.Value.res_main_v39 (F := Ideal) m c) := by
  unfold Cert.ReferenceIdeal.Value.res_main_v48 Cert.ReferenceIdeal.Value.res_main_v39; rfl

end Cert.Proof.Plain

end
-- ==== Proof.Equal.lean ====
/-
  The two programs' results are one: the load, its balance loss and the entropy, off finite arguments.
-/
module

public import proofs.«01_k».proof.Proof.RefRun
public import proofs.«01_k».proof.Proof.Claims
public import Idealize.ShloMosaic.Lib.ReduceAll

@[expose] public section

set_option maxRecDepth 16384

noncomputable section

namespace Cert.Proof.Equal

open Idealize.ShloMosaic Idealize.ShloMosaic.TcCoe Idealize.SL.Sem
open Cert.Proof.Router Cert.Proof.Plain

/-! ## Finite arguments -/

theorem ofBits_top : Ideal.ofBits .f32 0x7F800000#32 = ⊤ := by simp [Ideal.ofBits, Ideal.ieee]

/-- An entry whose absolute value is below infinity is a real. -/
theorem real_of_abs_lt (x : EReal) (h : Ideal.cmp .olt (max x (-x)) ⊤ = 1#1) : ∃ r : ℝ, x = (r : EReal) := by
  have hlt : max x (-x) < ⊤ := by
    by_contra hn
    unfold Ideal.cmp at h
    simp [hn] at h
  rw [max_lt_iff] at hlt
  have hb : x ≠ ⊥ := by
    rintro rfl
    simp at hlt
  exact ⟨x.toReal, (EReal.coe_toReal hlt.1.ne hb).symm⟩

theorem and_one (x y : BitVec 1) (h : IntOp.andi x y = 1#1) : x = 1#1 ∧ y = 1#1 := by
  revert x y; decide

theorem reals_of_finite (x : FVec Ideal Cert.Pre_finite.S2x2048x1024 .f32) (w : FVec Ideal Cert.Pre_finite.S8x1024 .f32)
    (h : Cert.Pre_finite.fn (F := Ideal) x w = fun _ => 1#1) :
    (∀ i, ∃ r : ℝ, x i = (r : EReal)) ∧ ∀ i, ∃ r : ℝ, w i = (r : EReal) := by
  have h0 := congrFun h finZeroElim
  have h1 := and_one _ _ h0
  constructor
  · intro i
    have := Host.reduce_andi_all _ _ _ _ _ h1.1 i
    apply real_of_abs_lt
    rw [← ofBits_top]; exact this
  · intro i
    have := Host.reduce_andi_all _ _ _ _ _ h1.2 i
    apply real_of_abs_lt
    rw [← ofBits_top]; exact this

theorem dot_real (X : Cert.KernelIdeal.S2x2048x1024.Idx → EReal) (W : Cert.KernelIdeal.S8x1024.Idx → EReal)
    (hX : ∀ i, ∃ r : ℝ, X i = (r : EReal)) (hW : ∀ i, ∃ r : ℝ, W i = (r : EReal)) :
    ∃ R : Fin 2 → Fin 2048 → Fin 8 → ℝ, ∀ b l e, dotAt X W b l e = ((R b l e : ℝ) : EReal) := by
  choose u hu using hX
  choose v hv using hW
  refine ⟨fun b l e => ∑ k : Fin 1024, u (ix3 b l k) * v (ix2 e k), fun b l e => ?_⟩
  unfold dotAt
  rw [← coe_sum]
  refine Finset.sum_congr rfl fun k _ => ?_
  rw [hu, hv, EReal.coe_mul]

/-! ## One token -/

theorem one_add_exp (d : ℝ) : (1 : EReal) + Ideal.exp ((d : ℝ) : EReal) = ((1 + Real.exp d : ℝ) : EReal) := by
  rw [Ideal.exp_coe, EReal.coe_add, EReal.coe_one]

section
variable (r : Fin 8 → ℝ) (a b : Fin 8)
  (h : topOf (F := Ideal) (fun e => ((r e : ℝ) : EReal)) =
      ⟨((r a : ℝ) : EReal), ((r b : ℝ) : EReal), BitVec.ofNat 32 a.val, BitVec.ofNat 32 b.val⟩)
include h

theorem dOf_real : dOf (F := Ideal) (fun e => ((r e : ℝ) : EReal)) = ((r b - r a : ℝ) : EReal) := by
  unfold dOf; rw [h]; exact (EReal.coe_sub _ _).symm

theorem g1Of_real : g1Of (F := Ideal) (fun e => ((r e : ℝ) : EReal)) = ((gateA (r b - r a) : ℝ) : EReal) := by
  unfold g1Of; rw [dOf_real r a b h]
  show Ideal.div (Ideal.ofBits .f32 0x3F800000#32) (Ideal.ofBits .f32 0x3F800000#32 + Ideal.exp ((r b - r a : ℝ) : EReal)) = _
  rw [Ideal.ofBits_one_f32, one_add_exp, Ideal.div_coe (one_add_pos _).ne', one_mul]; rfl

theorem g2Of_real : g2Of (F := Ideal) (fun e => ((r e : ℝ) : EReal)) = ((gateB (r b - r a) : ℝ) : EReal) := by
  unfold g2Of; rw [g1Of_real r a b h, dOf_real r a b h]
  show Ideal.exp ((r b - r a : ℝ) : EReal) * _ = _
  rw [Ideal.exp_coe, ← EReal.coe_mul]; rfl

theorem wOf_real (e : Fin 8) : wOf (F := Ideal) (fun e => ((r e : ℝ) : EReal)) (BitVec.ofNat 32 e.val) =
    ((if a = e then ((gateA (r b - r a) : ℝ) : EReal) else 0) + (if b = e then ((gateB (r b - r a) : ℝ) : EReal) else 0) : EReal) := by
  have hc : ∀ p q : Fin 8, IntOp.cmpi .eq (BitVec.ofNat 32 p.val) (BitVec.ofNat 32 q.val) = if p = q then 1#1 else 0#1 := by decide
  unfold wOf; rw [g1Of_real r a b h, g2Of_real r a b h, h]
  show (Scalar.select (IntOp.cmpi .eq (BitVec.ofNat 32 a.val) (BitVec.ofNat 32 e.val)) ((gateA (r b - r a) : ℝ) : EReal) (Ideal.ofBits .f32 0x00000000#32)
    + Scalar.select (IntOp.cmpi .eq (BitVec.ofNat 32 b.val) (BitVec.ofNat 32 e.val)) ((gateB (r b - r a) : ℝ) : EReal) (Ideal.ofBits .f32 0x00000000#32) : EReal) = _
  rw [hc, hc, Ideal.ofBits_zero_f32]
  congr 1
  · by_cases hh : a = e <;> simp [hh, Scalar.select]
  · by_cases hh : b = e <;> simp [hh, Scalar.select]
end

theorem entE_real (d : ℝ) : entE ((d : ℝ) : EReal) = ((entR d : ℝ) : EReal) := by
  unfold entE Ideal.log1p
  rw [one_add_exp, Ideal.log_coe, if_neg (not_le.mpr (one_add_pos d)), Ideal.exp_coe, Ideal.div_coe (one_add_pos d).ne',
    ← EReal.coe_mul, ← EReal.coe_mul, ← EReal.coe_sub]
  rfl

/-! ## Every token -/

theorem tok_val (t : Fin 4096) : t.val = (tok t).1.val * 2048 + (tok t).2.val := by
  show t.val = t.val / 2048 * 2048 + t.val % 2048
  omega

theorem tok_at (b : Fin 2) (l : Fin 2048) (h : b.val * 2048 + l.val < 4096) : tok ⟨b.val * 2048 + l.val, h⟩ = (b, l) := by
  refine Prod.ext (Fin.ext ?_) (Fin.ext ?_)
  · show (b.val * 2048 + l.val) / 2048 = b.val
    omega
  · show (b.val * 2048 + l.val) % 2048 = l.val
    omega

section
variable (m : (ℓ : Loc Cert.KernelIdeal.nD Cert.KernelIdeal.τ Cert.KernelIdeal.sig) → Buf (Elt Ideal) ℓ) (c : Dev Cert.KernelIdeal.nD)
variable (L : FVec Ideal Cert.ReferenceIdeal.S2x2048x8 .f32) (R : Fin 2 → Fin 2048 → Fin 8 → ℝ)
  (hK : ∀ t, colAt (LT (F := Ideal) m c) t = fun e => ((R (tok t).1 (tok t).2 e : ℝ) : EReal))
  (hL : ∀ b l e, L (ix3 b l e) = ((R b l e : ℝ) : EReal))
  (p q : Fin 2 → Fin 2048 → Fin 8) (hpq : ∀ b l, First (R b l) (p b l) (q b l))
  (htop : ∀ b l, topOf (F := Ideal) (fun e => ((R b l e : ℝ) : EReal)) =
      ⟨((R b l (p b l) : ℝ) : EReal), ((R b l (q b l) : ℝ) : EReal), BitVec.ofNat 32 (p b l).val, BitVec.ofNat 32 (q b l).val⟩)
include hL hpq

/-- The difference of the second from the first, at a token. -/
theorem shifted_at (b : Fin 2) (l : Fin 2048) : shifted (tops L) (ix3 b l 0) = ((0 : ℝ) : EReal)
    ∧ shifted (tops L) (ix3 b l 1) = ((R b l (q b l) - R b l (p b l) : ℝ) : EReal) := by
  have ht := tops_apply L b l (R b l) (hL b l) (hpq b l)
  refine shifted_apply (tops L) b l _ _ ?_ ht.1.1 ht.1.2
  have := (hpq b l).ab
  unfold Bef at this
  rcases this with h | h
  · exact le_of_lt h
  · exact le_of_eq h.1.symm

include hK htop

theorem load_eq : loadOf (loadBlk (F := Ideal) (Wv (LT (F := Ideal) m c))) = load (idxs L) (gates (shifted (tops L))) := by
  funext j
  obtain ⟨e, rfl⟩ : ∃ e, j = ix1 e := ⟨j 0, eq_ix1 j⟩
  rw [loadOf_apply, loadBlk_apply,
    load_apply (idxs L) _ tok tok_val (fun t => p (tok t).1 (tok t).2) (fun t => q (tok t).1 (tok t).2)
      (fun t => (tops_apply L _ _ _ (hL _ _) (hpq _ _)).2.1) (fun t => (tops_apply L _ _ _ (hL _ _) (hpq _ _)).2.2),
    ← Finset.sum_add_distrib]
  refine Finset.sum_congr rfl fun t _ => ?_
  have hs := shifted_at L R hL p q hpq (tok t).1 (tok t).2
  have hg := gates_apply _ _ _ _ hs.1 hs.2
  rw [hg.1, hg.2]
  show wOf (colAt (LT (F := Ideal) m c) t) (BitVec.ofNat 32 e.val) = _
  rw [hK]
  exact wOf_real _ _ _ (htop _ _) e

/-- The gates of every expert and token. -/
theorem spread_eq : (Wv (LT (F := Ideal) m c) : Cert.KernelIdeal.S8x4096.Idx → EReal) = spread (idxs L) (gates (shifted (tops L))) := by
  have hc : ∀ a e : Fin 8, IntOp.cmpi .eq (BitVec.ofNat 32 a.val) (BitVec.ofNat 32 e.val) = if a = e then 1#1 else 0#1 := by decide
  have hsel : ∀ (a e : Fin 8) (x : EReal), FloatOps.uitofp (F := Ideal) .f32 (IntOp.cmpi .eq (BitVec.ofNat 32 a.val) (BitVec.ofNat 32 e.val)) * x
      = if a = e then x else 0 := fun a e x => by
    rw [hc]
    show (((if a = e then 1#1 else 0#1 : BitVec 1).toNat : ℝ) : EReal) * x = _
    by_cases hh : a = e <;> simp [hh]
  funext j
  obtain ⟨e, t, rfl⟩ : ∃ (e : Fin 8) (t : Fin 4096), j = ix2 e t := ⟨j 0, j 1, eq_ix2 j⟩
  have ht := tops_apply L (tok t).1 (tok t).2 (R (tok t).1 (tok t).2) (hL _ _) (hpq _ _)
  have hs := shifted_at L R hL p q hpq (tok t).1 (tok t).2
  have hg := gates_apply _ _ _ _ hs.1 hs.2
  rw [spread_apply _ _ e t _ _ (tok_val t), ht.2.1, ht.2.2, hg.1, hg.2, hsel, hsel]
  show wOf (colAt (LT (F := Ideal) m c) t) (BitVec.ofNat 32 e.val) = _
  rw [hK]
  exact wOf_real _ _ _ (htop _ _) e

theorem entropy_eq (f : Cert.KernelIdeal.S8x4096.Idx → EReal) (hf : RowOk (F := Ideal) (LT (F := Ideal) m c) f) :
    meanOf (entBlk (F := Ideal) f) = entropy (shifted (tops L)) := by
  funext j
  rw [meanOf_apply, entBlk_apply,
    entropy_apply (shifted (tops L)) (fun b l => R b l (q b l) - R b l (p b l))
      (fun b l => (shifted_at L R hL p q hpq b l).1) (fun b l => (shifted_at L R hL p q hpq b l).2),
    ofBits_4096, Ideal.div_coe (by norm_num), EReal.coe_mul]
  congr 1
  have ht : ∀ t : Fin 4096, entE (f (ix2 0 t))
      = ((entR (R (tok t).1 (tok t).2 (q (tok t).1 (tok t).2) - R (tok t).1 (tok t).2 (p (tok t).1 (tok t).2)) : ℝ) : EReal) := fun t => by
    rw [← entE_real]
    refine congrArg entE ((hf (ix2 0 t) rfl).trans ?_)
    show dOf (colAt (LT (F := Ideal) m c) t) = _
    rw [hK]
    exact dOf_real _ _ _ (htop _ _)
  rw [Finset.sum_congr rfl fun t _ => ht t, coe_sum, Fin.sum_univ_tiles 2 2048 rfl]
  congr 1
  refine Finset.sum_congr rfl fun b _ => Finset.sum_congr rfl fun l _ => ?_
  rw [tok_at]
end

/-! ## The two runs -/

theorem value : Cert.algebraic_KernelIdeal_ReferenceIdeal_pre_finite := by
  intro m g m' g' hfin hargs
  refine ⟨fun c => Cert.ReferenceIdeal.Value.res_main_v48 (F := Ideal) m' c,
    fun c => Cert.ReferenceIdeal.Value.res_main_v39 (F := Ideal) m' c,
    fun c => Cert.ReferenceIdeal.Value.res_main_v65 (F := Ideal) m' c,
    fun c => spread (idxs (runLogits m' c)) (gates (shifted (tops (runLogits m' c)))), ?_,
    (θ_run Cert.ReferenceIdeal.defs _ _).mono (fun r h c => ⟨(h c).1, (h c).2.1, (h c).2.2.1, (h c).2.2.2.1.trans rfl, (h c).2.2.2.2⟩)
      (Cert.ReferenceIdeal.Value.run (F := Ideal) m' g')⟩
  refine (θ_run Cert.KernelIdeal.defs _ _).mono (fun r h c => ?_) (run_main (F := Ideal) m g)
  obtain ⟨f, hf, hb⟩ := h.1 c
  obtain ⟨hX, hW⟩ := reals_of_finite _ _ (hfin c)
  obtain ⟨R, hR⟩ := dot_real _ _ hX hW
  have hK : ∀ t, colAt (LT (F := Ideal) m c) t = fun e => ((R (tok t).1 (tok t).2 e : ℝ) : EReal) := fun t => by
    funext e
    rw [colAt_LT]
    exact hR _ _ _
  have hL : ∀ b l e, runLogits m' c (ix3 b l e) = ((R b l e : ℝ) : EReal) := fun b l e => by
    rw [← hR]
    unfold runLogits
    rw [logits_apply, (hargs c).1, (hargs c).2]
    rfl
  have hex : ∀ b l, ∃ p q, First (R b l) p q ∧ topOf (F := Ideal) (fun e => ((R b l e : ℝ) : EReal)) =
      ⟨((R b l p : ℝ) : EReal), ((R b l q : ℝ) : EReal), BitVec.ofNat 32 p.val, BitVec.ofNat 32 q.val⟩ := fun b l => topOf_real (R b l)
  choose p q hpq htop using hex
  have hload := load_eq m c (runLogits m' c) R hK hL p q hpq htop
  refine ⟨?_, ?_, ?_, ?_, ?_, ?_⟩
  · refine (hb _ (mem_uc Cert.KernelIdeal.main_v18)).trans ((V5_v18 m f c).trans ?_)
    exact ((res_loss m' c).trans (congrArg lossOf ((res_load m' c).trans hload.symm))).symm
  · refine (hb _ (mem_uc Cert.KernelIdeal.main_v6)).trans ((V5_v6 m f c).trans ?_)
    exact ((res_load m' c).trans hload.symm).symm
  · refine (hb _ (mem_uc Cert.KernelIdeal.main_v9)).trans ((V5_v9 m f c).trans ?_)
    exact (entropy_eq m c (runLogits m' c) R hK hL p q hpq htop f hf).trans (res_entropy m' c).symm
  · exact (hb _ (mem_uc Cert.KernelIdeal.main_v3_0)).trans ((V5_v3_0 m f c).trans (spread_eq m c (runLogits m' c) R hK hL p q hpq htop))
  · exact (hb _ (mem_uc Cert.KernelIdeal.main_arg0)).trans (V5_arg0 m f c)
  · exact (hb _ (mem_uc Cert.KernelIdeal.main_arg1)).trans (V5_arg1 m f c)

end Cert.Proof.Equal

end
-- ==== Proof.Moe.Trip.lean ====
/-
  The experts' kernel: loads and stores of a held array, and the selective scan's counted loop over the 256 rows of a chunk,
  four rows a trip.
-/
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.VecWindow
public import Idealize.ShloMosaic.Lib.ValueIdx
public import Idealize.ShloMosaic.Lib.Tactic

@[expose] public section

noncomputable section

namespace Cert.Proof.Moe

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

abbrev 𝒱₀ : Variants := Variants.none

/-! ## Loads and stores of a held array -/

/-- A load at a rectangle reads its window. -/
theorem ld {α : Type} {c : Dev nD} {s : Shape} {e : EltTy} {m : Memref sig .tc .vmem s e} {off size : Fin s.rank → ℕ}
    {inb : ∀ a, off a + size a ≤ s.size a} {hl} {X : s.Idx → Elt F e}
    {k : ((Rect.unit off size inb).shape.Idx → Elt F e) → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ (c : Thread nD τ) none) Set.univ (k (window X off size inb)) Q)
        -∗ wp frame (wpE (defs₀ (F := F)) 𝒱₀ (c : Thread nD τ) none) Set.univ (.op (.load m (Rect.unit off size inb).toLoadRect hl) k) Q) := by
  unfold owns
  iintro ⟨%f, %e, H⟩ Hk
  subst e
  iapply (wp_load 𝒱₀ (c : Thread nD τ) none Set.univ (m := m) (View.setOn_subset_set _ _)) $$ H
  iintro H
  iapply Hk
  iexists f
  isplitr; · ipureintro; rfl
  iexact H

/-- A store at a rectangle puts the payload there. -/
theorem st {α : Type} {c : Dev nD} {s : Shape} {e : EltTy} {m : Memref sig .tc .vmem s e} {off size : Fin s.rank → ℕ}
    {inb : ∀ a, off a + size a ≤ s.size a} {w : (Rect.unit off size inb).shape.Idx → Elt F e} {hx hm} {X : s.Idx → Elt F e}
    {k : PUnit → Prog (TpuEff nD τ sig (Elt F) Λ₀ .tc) α} {Q : α → sProp 𝕄} :
    (owns (c : Thread nD τ) m fullShare X : sProp 𝕄)
      ⊢ iprop((owns (c : Thread nD τ) m fullShare (put X off size w) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  unfold owns
  iintro ⟨%f, %e, H⟩ Hk
  subst e
  iapply (wp_store 𝒱₀ (c : Thread nD τ) none Set.univ (m := m) (r := Rect.unit off size inb) (Mk := Finset.univ) (S := m.view.set) (f := f) ((View.setOn_subset_set _ _).trans (View.set_slice_subset _ _))) $$ H
  iintro H
  iapply Hk
  iexists _
  isplitr; swap; · iexact H
  ipureintro
  exact View.read_writes_cons_put m.view f inb w [] rfl

/-! ## The rows of a chunk -/

/-- Row `n` of an array of 264 rows, as one row. -/
def row {w : ℕ} {ty : Type} (D : (⟨2, ![264, w]⟩ : Shape).Idx → ty) (n : ℕ) : (⟨2, ![1, w]⟩ : Shape).Idx → ty :=
  fun j => D (ValueIdx.ix2 (Fin.ofNat 264 n) (j 1))

theorem window_row {w : ℕ} {ty : Type} (D : (⟨2, ![264, w]⟩ : Shape).Idx → ty) (off : Fin 2 → ℕ)
    (inb : ∀ a, off a + (⟨2, ![1, w]⟩ : Shape).size a ≤ (⟨2, ![264, w]⟩ : Shape).size a) (n : ℕ) (h : off = ![n, 0]) :
    window D off (⟨2, ![1, w]⟩ : Shape).size inb = row D n := by
  subst h
  have h0 := inb 0
  change n + 1 ≤ 264 at h0
  funext j
  refine congrArg D (funext fun a => Fin.ext ?_)
  match a with
  | 0 =>
    have hj : (j 0).val < 1 := (j 0).isLt
    show n + 1 * (j 0).val = n % 264
    rw [Nat.mod_eq_of_lt (by omega)]; omega
  | 1 =>
    show 0 + 1 * (j 1).val = (j 1).val
    omega

/-! ## The recurrence, a row at a time -/

/-- The state after one more row: decayed by the row's step, the row's input times its input weights added. -/
def stepH (A : FVec F S16x2048 .f32) (DT U : S264x2048.Idx → F .f32) (BP : S264x16.Idx → F .f32) (n : ℕ) (h : FVec F S16x2048 .f32) :
    FVec F S16x2048 .f32 :=
  k0_pay1 (k0_pay32) A h (row DT n) (row U n) (row BP n)

/-- The states before each row, from the one before row 0. -/
def stH (A : FVec F S16x2048 .f32) (DT U : S264x2048.Idx → F .f32) (BP : S264x16.Idx → F .f32) (h0 : FVec F S16x2048 .f32) :
    ℕ → FVec F S16x2048 .f32
  | 0 => h0
  | n + 1 => stepH A DT U BP n (stH A DT U BP h0 n)

/-- Row `n` of the scan's output. -/
def yRow (A : FVec F S16x2048 .f32) (DT U : S264x2048.Idx → F .f32) (BP CP : S264x16.Idx → F .f32) (h0 : FVec F S16x2048 .f32) (n : ℕ) :
    FVec F S1x2048 .f32 :=
  k0_pay2 (k0_pay32) A (stH A DT U BP h0 n) (row DT n) (row U n) (row BP n) (row CP n)

/-- The scan's output, all rows. -/
def yAll (A : FVec F S16x2048 .f32) (DT U : S264x2048.Idx → F .f32) (BP CP : S264x16.Idx → F .f32) (h0 : FVec F S16x2048 .f32) :
    S256x2048.Idx → F .f32 :=
  fun i => yRow A DT U BP CP h0 (i 0).val (ValueIdx.ix2 0 (i 1))

theorem off_toNat (k : Fin k0_t1_loop.trips) (r : ℕ) (hr : r < 4) :
    (Scalar.indexCast (Scalar.addi (Scalar.muli 4#32 (Scf.iv 0#32 1#32 k)) (BitVec.ofNat 32 r)) : Index).toNat = 4 * k.val + r := by
  have hk : k.val < 64 := Nat.lt_of_lt_of_le k.isLt k0_t1_abs.2.1
  simp [Scalar.indexCast, Scalar.addi, Scalar.muli, Scf.iv, IntOp.addi, IntOp.muli]
  omega

theorem off1_eq (k : Fin k0_t1_loop.trips) (r : ℕ) (hr : r < 4) : k0_off1 k (BitVec.ofNat 32 r) = ![4 * k.val + r, 0] := by
  unfold k0_off1; dsimp only; rw [off_toNat k r hr]
theorem off2_eq (k : Fin k0_t1_loop.trips) (r : ℕ) (hr : r < 4) : k0_off2 k (BitVec.ofNat 32 r) = ![4 * k.val + r, 0] := by
  unfold k0_off2; dsimp only; rw [off_toNat k r hr]
theorem off3_eq (k : Fin k0_t1_loop.trips) (r : ℕ) (hr : r < 4) : k0_off3 k (BitVec.ofNat 32 r) = ![4 * k.val + r, 0] := by
  unfold k0_off3; dsimp only; rw [off_toNat k r hr]

/-- Rows below `n` of the output buffer hold the scan's output. -/
def rowsUpTo (Y G : S256x2048.Idx → F .f32) (n : ℕ) : Prop := ∀ i : S256x2048.Idx, (i 0).val < n → Y i = G i

theorem rowsUpTo_put (A : FVec F S16x2048 .f32) (DT U : S264x2048.Idx → F .f32) (BP CP : S264x16.Idx → F .f32) (h0 : FVec F S16x2048 .f32)
    (Y : S256x2048.Idx → F .f32) (n : ℕ) (off : Fin 2 → ℕ) (hoff : off = ![n, 0])
    (h : rowsUpTo Y (yAll A DT U BP CP h0) n) :
    rowsUpTo (put Y off S1x2048.size (yRow A DT U BP CP h0 n)) (yAll A DT U BP CP h0) (n + 1) := by
  subst hoff
  intro i hi
  by_cases hn : (i 0).val = n
  · have hm : ∀ a, (![n, 0] : Fin 2 → ℕ) a ≤ (i a).val ∧ (i a).val < (![n, 0] : Fin 2 → ℕ) a + S1x2048.size a := fun a => by
      match a with
      | 0 => exact ⟨hn.ge, by show (i 0).val < n + 1; omega⟩
      | 1 => exact ⟨Nat.zero_le _, by have := (i 1).isLt; show (i 1).val < 0 + 2048; change (i 1).val < 2048 at this; omega⟩
    unfold put yAll
    rw [dif_pos hm, hn]
    refine congrArg _ (funext fun a => Fin.ext ?_)
    match a with
    | 0 => show (i 0).val - n = 0; omega
    | 1 => show (i 1).val - 0 = (i 1).val; omega
  · unfold put
    rw [dif_neg (fun hm => by have h0 := hm 0; change n ≤ (i 0).val ∧ _ at h0; omega)]
    exact h i (by omega)

/-! ## One trip: four rows -/

/-- Before row `4 k`: the carried state is the recurrence's, the four inputs are held and the output's rows below are the scan's. -/
def inv (c : Dev nD) (arg16 arg17 : Memref sig .tc .vmem S264x2048 .f32) (arg18 arg19 : Memref sig .tc .vmem S264x16 .f32)
    (arg20 : Memref sig .tc .vmem S256x2048 .f32) (A : FVec F S16x2048 .f32) (DT U : S264x2048.Idx → F .f32)
    (BP CP : S264x16.Idx → F .f32) (h0 : FVec F S16x2048 .f32) (k : ℕ) (h : Vec F S16x2048 .f32) : sProp 𝕄 :=
  iprop(⌜h = stH A DT U BP h0 (4 * k)⌝ ∗ owns (c : Thread nD τ) arg16 fullShare DT ∗ owns (c : Thread nD τ) arg17 fullShare U
    ∗ owns (c : Thread nD τ) arg18 fullShare BP ∗ owns (c : Thread nD τ) arg19 fullShare CP
    ∗ ∃ Y : S256x2048.Idx → F .f32, ⌜rowsUpTo Y (yAll A DT U BP CP h0) (4 * k)⌝ ∗ owns (c : Thread nD τ) arg20 fullShare Y)

set_option maxHeartbeats 2000000 in
theorem trip (c : Dev nD) (i : grid0.Coords)
    (arg3 : Memref sig .tc .vmem S1x256x1024 .bf16) (harg3 : arg3.IsWhole) (arg4 : Memref sig .tc .vmem S1x1024x4096 .bf16) (harg4 : arg4.IsWhole) (arg5 : Memref sig .tc .vmem S1x8x2048 .f32) (harg5 : arg5.IsWhole)
    (arg6 : Memref sig .tc .vmem S1x1x2048 .f32) (harg6 : arg6.IsWhole) (arg7 : Memref sig .tc .vmem S1x2048x384 .bf16) (harg7 : arg7.IsWhole) (arg8 : Memref sig .tc .vmem S1x128x2048 .bf16) (harg8 : arg8.IsWhole)
    (arg9 : Memref sig .tc .vmem S1x1x2048 .f32) (harg9 : arg9.IsWhole) (arg10 : Memref sig .tc .vmem S1x16x2048 .f32) (harg10 : arg10.IsWhole) (arg11 : Memref sig .tc .vmem S1x1x2048 .f32) (harg11 : arg11.IsWhole)
    (arg12 : Memref sig .tc .vmem S1x2048x1024 .bf16) (harg12 : arg12.IsWhole) (arg13 : Memref sig .tc .vmem S1x8x256 .f32) (harg13 : arg13.IsWhole) (arg14 : Memref sig .tc .vmem S2x2048x1024 .f32) (harg14 : arg14.IsWhole)
    (arg15 : Memref sig .tc .vmem S264x2048 .f32) (harg15 : arg15.IsWhole) (arg16 : Memref sig .tc .vmem S264x2048 .f32) (harg16 : arg16.IsWhole) (arg17 : Memref sig .tc .vmem S264x2048 .f32) (harg17 : arg17.IsWhole)
    (arg18 : Memref sig .tc .vmem S264x16 .f32) (harg18 : arg18.IsWhole) (arg19 : Memref sig .tc .vmem S264x16 .f32) (harg19 : arg19.IsWhole) (arg20 : Memref sig .tc .vmem S256x2048 .f32) (harg20 : arg20.IsWhole)
    (arg21 : Memref sig .tc .vmem S16x2048 .f32) (harg21 : arg21.IsWhole)
    (arg0 arg1 arg2 : BitVec 32) (v6 v45 : FVec F S256x2048 .f32) (v96 v97 : FVec F S16x2048 .f32) (DT U : S264x2048.Idx → F .f32) (BP CP : S264x16.Idx → F .f32) (h0 : FVec F S16x2048 .f32)
    (k : Fin k0_t1_loop.trips) (h : Vec F S16x2048 .f32) :
    inv c arg16 arg17 arg18 arg19 arg20 (k0_pay35 v96 v97) DT U BP CP h0 k.val h
      ⊢ wp frame (wpE (defs₀ (F := F)) 𝒱₀ (c : Thread nD τ) none) Set.univ
          (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 arg2 v6 v45 (k0_pay32) v96 v97 k h)
          (inv c arg16 arg17 arg18 arg19 arg20 (k0_pay35 v96 v97) DT U BP CP h0 (k.val + 1)) := by
  unfold k0_t1_body
  simp only [k0_part1_eq_skeleton, k0_part2_eq_skeleton, k0_part3_eq_skeleton]
  unfold k0_part1_skel k0_part2_skel k0_part3_skel
  simp only [Prog.lift, Prog.bind_op, Prog.bind_ret, Prog.pure_eq_ret]
  unfold inv
  iintro ⟨%hh, H16, H17, H18, H19, %Y, %hY, H20⟩
  subst hh
  -- row 4k
  iapply ld $$ H16; iintro H16
  iapply ld $$ H17; iintro H17
  iapply ld $$ H18; iintro H18
  iapply ld $$ H19; iintro H19
  iapply ld $$ H20; iintro H20
  iapply st $$ H20; iintro H20
  -- row 4k + 1
  iapply ld $$ H16; iintro H16
  iapply ld $$ H17; iintro H17
  iapply ld $$ H18; iintro H18
  iapply ld $$ H19; iintro H19
  iapply ld $$ H20; iintro H20
  iapply st $$ H20; iintro H20
  -- row 4k + 2
  iapply ld $$ H16; iintro H16
  iapply ld $$ H17; iintro H17
  iapply ld $$ H18; iintro H18
  iapply ld $$ H19; iintro H19
  iapply ld $$ H20; iintro H20
  iapply st $$ H20; iintro H20
  -- row 4k + 3
  iapply ld $$ H16; iintro H16
  iapply ld $$ H17; iintro H17
  iapply ld $$ H18; iintro H18
  iapply ld $$ H19; iintro H19
  iapply ld $$ H20; iintro H20
  iapply st $$ H20; iintro H20
  rw [wp_ret]; imodintro
  have e0 := off1_eq k 0 (by omega)
  have e1 := off1_eq k 1 (by omega)
  have e2 := off1_eq k 2 (by omega)
  have e3 := off1_eq k 3 (by omega)
  have g0 := off2_eq k 0 (by omega)
  have g1 := off2_eq k 1 (by omega)
  have g2 := off2_eq k 2 (by omega)
  have g3 := off2_eq k 3 (by omega)
  rw [window_row DT _ _ _ e0, window_row DT _ _ _ e1, window_row DT _ _ _ e2, window_row DT _ _ _ e3,
    window_row U _ _ _ e0, window_row U _ _ _ e1, window_row U _ _ _ e2, window_row U _ _ _ e3,
    window_row BP _ _ _ g0, window_row BP _ _ _ g1, window_row BP _ _ _ g2, window_row BP _ _ _ g3,
    window_row CP _ _ _ g0, window_row CP _ _ _ g1, window_row CP _ _ _ g2, window_row CP _ _ _ g3]
  isplitr
  · ipureintro; rfl
  isplitl [H16]; · iexact H16
  isplitl [H17]; · iexact H17
  isplitl [H18]; · iexact H18
  isplitl [H19]; · iexact H19
  iexists _
  isplitr; swap; · iexact H20
  ipureintro
  have y0 := rowsUpTo_put (k0_pay35 v96 v97) DT U BP CP h0 Y (4 * k.val) _ (off3_eq k 0 (by omega)) hY
  have y1 := rowsUpTo_put (k0_pay35 v96 v97) DT U BP CP h0 _ (4 * k.val + 1) _ (off3_eq k 1 (by omega)) y0
  have y2 := rowsUpTo_put (k0_pay35 v96 v97) DT U BP CP h0 _ (4 * k.val + 2) _ (off3_eq k 2 (by omega)) y1
  have y3 := rowsUpTo_put (k0_pay35 v96 v97) DT U BP CP h0 _ (4 * k.val + 3) _ (off3_eq k 3 (by omega)) y2
  exact y3

end Cert.Proof.Moe

end
-- ==== Proof.Moe.Body.lean ====
/-
  The experts' kernel at one grid point: from the blocks, the convolution's last three rows and the scan's state, the
  contribution it puts or adds into the output and what it leaves for the next point.
-/
module

public import proofs.«01_k».proof.Proof.Moe.Trip

@[expose] public section

noncomputable section

namespace Cert.Proof.Moe

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## Whole windows -/

theorem window_zero {α : Type} {s : Shape} (X : s.Idx → α) (off : Fin s.rank → ℕ) (inb : ∀ a, off a + s.size a ≤ s.size a) :
    window X off s.size inb = X := by
  funext y
  refine congrArg X (funext fun a => Fin.ext ?_)
  have := inb a
  show off a + 1 * (y a).val = (y a).val
  omega

theorem put_zero {α : Type} {s : Shape} (X : s.Idx → α) (off : Fin s.rank → ℕ) (inb : ∀ a, off a + s.size a ≤ s.size a) (w : s.Idx → α) :
    put X off s.size w = w := by
  rw [← window_zero (put X off s.size w) off inb]
  exact VecWindow.window_put_same X off s.size inb w

/-! ## The values -/

/-- The blocks of one grid point. -/
structure Blk (F : FTy → Type) where
  x : Vec F S1x256x1024 .bf16
  win : Vec F S1x1024x4096 .bf16
  wct : Vec F S1x8x2048 .f32
  bconv : Vec F S1x1x2048 .f32
  wxp : Vec F S1x2048x384 .bf16
  wdt : Vec F S1x128x2048 .bf16
  bdt : Vec F S1x1x2048 .f32
  at_ : Vec F S1x16x2048 .f32
  dsk : Vec F S1x1x2048 .f32
  wout : Vec F S1x2048x1024 .bf16

/-- Rows `r` to `r + 256` of the three rows `t` followed by the rows `w`. -/
def cwin (t : FVec F S3x2048 .f32) (w : FVec F S256x2048 .f32) (r : ℕ) : FVec F S256x2048 .f32 := fun i =>
  if (i 0).val + r < 3 then t (ValueIdx.ix2 (Fin.ofNat 3 ((i 0).val + r)) (i 1)) else w (ValueIdx.ix2 (Fin.ofNat 256 ((i 0).val + r - 3)) (i 1))

theorem window_cwin (Z : S264x2048.Idx → F .f32) (w : FVec F S256x2048 .f32) (r : ℕ) (hr : r ≤ 3) (off : Fin 2 → ℕ) (hoff : off = ![5 + r, 0])
    (inb : ∀ a, off a + S256x2048.size a ≤ S264x2048.size a) (inb3) :
    window (put Z ![8, 0] S256x2048.size w) off S256x2048.size inb = cwin (window Z ![5, 0] S3x2048.size inb3) w r := by
  subst hoff
  funext i
  have hi0 : (i 0).val < 256 := (i 0).isLt
  have hi1 : (i 1).val < 2048 := (i 1).isLt
  unfold cwin
  by_cases h : (i 0).val + r < 3
  · rw [if_pos h]
    show put Z ![8, 0] S256x2048.size w ((Rect.unit (s := S264x2048) ![5 + r, 0] S256x2048.size inb).emb i) = _
    unfold put
    rw [dif_neg (fun hm => by have h0 := (hm 0).1; change 8 ≤ 5 + r + 1 * (i 0).val at h0; omega)]
    refine congrArg Z (funext fun a => Fin.ext ?_)
    match a with
    | 0 => show 5 + r + 1 * (i 0).val = 5 + 1 * (((i 0).val + r) % 3); rw [Nat.mod_eq_of_lt h]; omega
    | 1 => rfl
  · rw [if_neg h]
    show put Z ![8, 0] S256x2048.size w ((Rect.unit (s := S264x2048) ![5 + r, 0] S256x2048.size inb).emb i) = _
    have hm : ∀ a, (![8, 0] : Fin 2 → ℕ) a ≤ ((Rect.unit (s := S264x2048) ![5 + r, 0] S256x2048.size inb).emb i a).val
        ∧ ((Rect.unit (s := S264x2048) ![5 + r, 0] S256x2048.size inb).emb i a).val < (![8, 0] : Fin 2 → ℕ) a + S256x2048.size a := fun a => by
      match a with
      | 0 => exact ⟨by show 8 ≤ 5 + r + 1 * (i 0).val; omega, by show 5 + r + 1 * (i 0).val < 8 + 256; omega⟩
      | 1 => exact ⟨by show 0 ≤ _; omega, by show 0 + 1 * (i 1).val < 0 + 2048; omega⟩
    unfold put
    rw [dif_pos hm]
    refine congrArg w (funext fun a => Fin.ext ?_)
    match a with
    | 0 => show 5 + r + 1 * (i 0).val - 8 = ((i 0).val + r - 3) % 256; rw [Nat.mod_eq_of_lt (by omega)]; omega
    | 1 => show 0 + 1 * (i 1).val - 0 = (i 1).val; omega

section Values

variable (B : Blk F) (t : FVec F S3x2048 .f32) (h : FVec F S16x2048 .f32)

def bTap (k : Fin 4) : Vec F S1x1x2048 .f32 :=
  window B.wct ![0, k.val, 0] S1x1x2048.size (fun a => by fin_cases k <;> revert a <;> decide)
def bXr : FVec F S256x2048 .f32 := k0_pay16 B.x B.win
def bZ : FVec F S256x2048 .f32 := k0_pay14 B.x B.win
def bC2 : FVec F S256x2048 .f32 := k0_pay17 B.bconv (cwin t (bXr B) 0) (bTap B 0) (cwin t (bXr B) 1) (bTap B 1)
def bXi : FVec F S256x2048 .f32 := k0_pay19 (bC2 B t) (cwin t (bXr B) 2) (bTap B 2) (cwin t (bXr B) 3) (bTap B 3)
def bDbl : FVec F S256x384 .f32 := k0_pay20 (bC2 B t) (cwin t (bXr B) 2) (bTap B 2) (cwin t (bXr B) 3) (bTap B 3) B.wxp
def bPre : FVec F S256x2048 .f32 := k0_pay21 (bC2 B t) (cwin t (bXr B) 2) (bTap B 2) (cwin t (bXr B) 3) (bTap B 3) B.wxp B.wdt B.bdt
def bGt : IVec S256x2048 1 := k0_pay22 (bC2 B t) (cwin t (bXr B) 2) (bTap B 2) (cwin t (bXr B) 3) (bTap B 3) B.wxp B.wdt B.bdt
def bLog : FVec F S256x2048 .f32 := k0_pay23 (bC2 B t) (cwin t (bXr B) 2) (bTap B 2) (cwin t (bXr B) 3) (bTap B 3) B.wxp B.wdt B.bdt
def bDt : FVec F S256x2048 .f32 := k0_pay25 (bPre B t) (bGt B t) (bLog B t)
def bU : FVec F S256x2048 .f32 := k0_pay26 (bXi B t) (bPre B t) (bGt B t) (bLog B t)
def bB : FVec F S256x16 .f32 := k0_pay29 (bDbl B t)
def bC : FVec F S256x16 .f32 := k0_pay30 (bDbl B t)
def bA : FVec F S16x2048 .f32 := k0_pay35 (k0_pay33 B.at_) k0_pay34

/-- The first 256 rows of 264. -/
def pad {w : ℕ} (D : (⟨2, ![256, w]⟩ : Shape).Idx → F .f32) : (⟨2, ![264, w]⟩ : Shape).Idx → F .f32 :=
  fun i => D (ValueIdx.ix2 (Fin.ofNat 256 (i 0).val) (i 1))

/-- The scan's state before row `n` of the chunk. -/
def bH (n : ℕ) : FVec F S16x2048 .f32 := stH (bA B) (pad (bDt B t)) (pad (bU B t)) (pad (bB B t)) h n
/-- The scan's output over the chunk. -/
def bY : FVec F S256x2048 .f32 := yAll (bA B) (pad (bDt B t)) (pad (bU B t)) (pad (bB B t)) (pad (bC B t)) h

/-- The last three rows before the convolution, which the next point reads. -/
def bTail : FVec F S3x2048 .f32 := k0_pay18 (k0_pay13 B.x B.win)
/-- The state after the chunk. -/
def bNext : FVec F S16x2048 .f32 := k0_pay38 (bH B t h 256)

end Values

/-- The rows a point's convolution starts from: zeros at a sequence's start. -/
def t0 (i : grid0.Coords) (t : FVec F S3x2048 .f32) : FVec F S3x2048 .f32 :=
  if Scalar.cmpi .ne (Scalar.extui (Scalar.cmpi .eq (BitVec.ofNat 32 (i 2).val) 0#32)) 0#32 = 1#1 then k0_pay15 else t
/-- The state a point's scan starts from: zeros at a sequence's start. -/
def s0 (i : grid0.Coords) (h : FVec F S16x2048 .f32) : FVec F S16x2048 .f32 :=
  if Scalar.cmpi .ne (Scalar.extui (Scalar.cmpi .eq (BitVec.ofNat 32 (i 2).val) 0#32)) 0#32 = 1#1 then k0_pay31 else h

/-- The output after a point: its contribution put (the first expert) or added (the others). -/
def outAt (i : grid0.Coords) (B : Blk F) (w : Vec F S1x8x256 .f32) (t : FVec F S3x2048 .f32) (h : FVec F S16x2048 .f32)
    (X : S2x2048x1024.Idx → F .f32) : S2x2048x1024.Idx → F .f32 :=
  let wr := window w (k0_off4 i) S1x1x256.size (k0_off4_inb i)
  let X1 := if k0_cond3 i = 1#1 then put X (k0_off5 i) S1x256x1024.size (k0_pay40 (bZ B) (bXi B t) (bY B t h) B.dsk wr B.wout) else X
  if h4 : k0_cond4 i = 1#1 then
    put X1 (k0_off6 i) S1x256x1024.size
      (k0_pay41 (bZ B) (bXi B t) (bY B t h) B.dsk wr B.wout (window X1 (k0_off6 i) S1x256x1024.size (k0_off6_inb i h4)))
  else X1

/-! ## The loop does not read past row 256 -/

theorem stH_congr {A : FVec F S16x2048 .f32} {DT DT' U U' : S264x2048.Idx → F .f32} {BP BP' : S264x16.Idx → F .f32} {h : FVec F S16x2048 .f32}
    (hd : ∀ n < 256, row DT n = row DT' n) (hu : ∀ n < 256, row U n = row U' n) (hb : ∀ n < 256, row BP n = row BP' n) :
    ∀ n ≤ 256, stH A DT U BP h n = stH A DT' U' BP' h n
  | 0, _ => rfl
  | n + 1, hn => by
    unfold stH stepH
    rw [stH_congr hd hu hb n (by omega), hd n (by omega), hu n (by omega), hb n (by omega)]

theorem yAll_congr {A : FVec F S16x2048 .f32} {DT DT' U U' : S264x2048.Idx → F .f32} {BP BP' CP CP' : S264x16.Idx → F .f32} {h : FVec F S16x2048 .f32}
    (hd : ∀ n < 256, row DT n = row DT' n) (hu : ∀ n < 256, row U n = row U' n) (hb : ∀ n < 256, row BP n = row BP' n)
    (hc : ∀ n < 256, row CP n = row CP' n) : yAll A DT U BP CP h = yAll A DT' U' BP' CP' h := by
  funext i
  have hi : (i 0).val < 256 := (i 0).isLt
  unfold yAll yRow
  rw [stH_congr hd hu hb _ hi.le, hd _ hi, hu _ hi, hb _ hi, hc _ hi]

theorem row_put {w : ℕ} (Z : (⟨2, ![264, w]⟩ : Shape).Idx → F .f32) (D : (⟨2, ![256, w]⟩ : Shape).Idx → F .f32) (n : ℕ) (hn : n < 256) :
    row (put Z ![0, 0] (⟨2, ![256, w]⟩ : Shape).size D) n = row (pad D) n := by
  funext j
  unfold row put
  have hj : (j 1).val < w := (j 1).isLt
  rw [dif_pos (fun a => by
    match a with
    | 0 => exact ⟨Nat.zero_le _, by show n % 264 < 0 + 256; omega⟩
    | 1 => exact ⟨Nat.zero_le _, by show (j 1).val < 0 + w; omega⟩)]
  refine congrArg D (funext fun a => Fin.ext ?_)
  match a with
  | 0 => show n % 264 - 0 = n % 264 % 256; omega
  | 1 => show (j 1).val - 0 = (j 1).val; omega

theorem row_put_above {w : ℕ} (Z : (⟨2, ![264, w]⟩ : Shape).Idx → F .f32) (D : (⟨2, ![8, w]⟩ : Shape).Idx → F .f32) (n : ℕ) (hn : n < 256) :
    row (put Z ![256, 0] (⟨2, ![8, w]⟩ : Shape).size D) n = row Z n := by
  funext j
  unfold row put
  rw [dif_neg (fun hm => by have h0 := (hm 0).1; change 256 ≤ n % 264 at h0; omega)]

/-! ## The body -/

set_option maxHeartbeats 4000000 in
theorem body (c : Dev nD) (i : grid0.Coords)
    (arg3 : Memref sig .tc .vmem S1x256x1024 .bf16) (harg3 : arg3.IsWhole) (arg4 : Memref sig .tc .vmem S1x1024x4096 .bf16) (harg4 : arg4.IsWhole) (arg5 : Memref sig .tc .vmem S1x8x2048 .f32) (harg5 : arg5.IsWhole)
    (arg6 : Memref sig .tc .vmem S1x1x2048 .f32) (harg6 : arg6.IsWhole) (arg7 : Memref sig .tc .vmem S1x2048x384 .bf16) (harg7 : arg7.IsWhole) (arg8 : Memref sig .tc .vmem S1x128x2048 .bf16) (harg8 : arg8.IsWhole)
    (arg9 : Memref sig .tc .vmem S1x1x2048 .f32) (harg9 : arg9.IsWhole) (arg10 : Memref sig .tc .vmem S1x16x2048 .f32) (harg10 : arg10.IsWhole) (arg11 : Memref sig .tc .vmem S1x1x2048 .f32) (harg11 : arg11.IsWhole)
    (arg12 : Memref sig .tc .vmem S1x2048x1024 .bf16) (harg12 : arg12.IsWhole) (arg13 : Memref sig .tc .vmem S1x8x256 .f32) (harg13 : arg13.IsWhole) (arg14 : Memref sig .tc .vmem S2x2048x1024 .f32) (harg14 : arg14.IsWhole)
    (arg15 : Memref sig .tc .vmem S264x2048 .f32) (harg15 : arg15.IsWhole) (arg16 : Memref sig .tc .vmem S264x2048 .f32) (harg16 : arg16.IsWhole) (arg17 : Memref sig .tc .vmem S264x2048 .f32) (harg17 : arg17.IsWhole)
    (arg18 : Memref sig .tc .vmem S264x16 .f32) (harg18 : arg18.IsWhole) (arg19 : Memref sig .tc .vmem S264x16 .f32) (harg19 : arg19.IsWhole) (arg20 : Memref sig .tc .vmem S256x2048 .f32) (harg20 : arg20.IsWhole)
    (arg21 : Memref sig .tc .vmem S16x2048 .f32) (harg21 : arg21.IsWhole)
    (B : Blk F) (w : Vec F S1x8x256 .f32) (X : S2x2048x1024.Idx → F .f32) (T Z16 Z17 : S264x2048.Idx → F .f32) (Z18 Z19 : S264x16.Idx → F .f32)
    (Z20 : S256x2048.Idx → F .f32) (H : S16x2048.Idx → F .f32) {Q : PUnit → sProp 𝕄} :
    iprop((owns (c : Thread nD τ) arg3 fullShare B.x ∗ owns (c : Thread nD τ) arg4 fullShare B.win ∗ owns (c : Thread nD τ) arg5 fullShare B.wct
      ∗ owns (c : Thread nD τ) arg6 fullShare B.bconv ∗ owns (c : Thread nD τ) arg7 fullShare B.wxp ∗ owns (c : Thread nD τ) arg8 fullShare B.wdt
      ∗ owns (c : Thread nD τ) arg9 fullShare B.bdt ∗ owns (c : Thread nD τ) arg10 fullShare B.at_ ∗ owns (c : Thread nD τ) arg11 fullShare B.dsk
      ∗ owns (c : Thread nD τ) arg12 fullShare B.wout ∗ owns (c : Thread nD τ) arg13 fullShare w ∗ owns (c : Thread nD τ) arg14 fullShare X)
      ∗ (owns (c : Thread nD τ) arg15 fullShare T ∗ owns (c : Thread nD τ) arg16 fullShare Z16 ∗ owns (c : Thread nD τ) arg17 fullShare Z17
      ∗ owns (c : Thread nD τ) arg18 fullShare Z18 ∗ owns (c : Thread nD τ) arg19 fullShare Z19 ∗ owns (c : Thread nD τ) arg20 fullShare Z20
      ∗ owns (c : Thread nD τ) arg21 fullShare H)
      ∗ ((owns (c : Thread nD τ) arg3 fullShare B.x ∗ owns (c : Thread nD τ) arg4 fullShare B.win ∗ owns (c : Thread nD τ) arg5 fullShare B.wct
      ∗ owns (c : Thread nD τ) arg6 fullShare B.bconv ∗ owns (c : Thread nD τ) arg7 fullShare B.wxp ∗ owns (c : Thread nD τ) arg8 fullShare B.wdt
      ∗ owns (c : Thread nD τ) arg9 fullShare B.bdt ∗ owns (c : Thread nD τ) arg10 fullShare B.at_ ∗ owns (c : Thread nD τ) arg11 fullShare B.dsk
      ∗ owns (c : Thread nD τ) arg12 fullShare B.wout ∗ owns (c : Thread nD τ) arg13 fullShare w
      ∗ owns (c : Thread nD τ) arg14 fullShare (outAt i B w (t0 i (window T ![5, 0] S3x2048.size inb_S264x2048_S3x2048_5_0)) (s0 i H) X))
      -∗ (∃ T' : S264x2048.Idx → F .f32, ⌜window T' ![5, 0] S3x2048.size inb_S264x2048_S3x2048_5_0 = bTail B⌝ ∗ owns (c : Thread nD τ) arg15 fullShare T')
      -∗ (∃ Z : S264x2048.Idx → F .f32, owns (c : Thread nD τ) arg16 fullShare Z)
      -∗ (∃ Z : S264x2048.Idx → F .f32, owns (c : Thread nD τ) arg17 fullShare Z)
      -∗ (∃ Z : S264x16.Idx → F .f32, owns (c : Thread nD τ) arg18 fullShare Z)
      -∗ (∃ Z : S264x16.Idx → F .f32, owns (c : Thread nD τ) arg19 fullShare Z)
      -∗ (∃ Z : S256x2048.Idx → F .f32, owns (c : Thread nD τ) arg20 fullShare Z)
      -∗ owns (c : Thread nD τ) arg21 fullShare (bNext B (t0 i (window T ![5, 0] S3x2048.size inb_S264x2048_S3x2048_5_0)) (s0 i H))
      -∗ Q ⟨⟩))
      ⊢ wp frame (wpE (defs₀ (F := F)) 𝒱₀ (c : Thread nD τ) none) Set.univ
          (cc0__moe_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          Q := by
  rw [cc0__moe_kernel_eq_skeleton]
  unfold cc0__moe_kernel_skel
  simp only [k0_part4_eq_skeleton, k0_part5_eq_skeleton, k0_part6_eq_skeleton, k0_part7_eq_skeleton]
  unfold k0_part4_skel k0_part5_skel k0_part6_skel k0_part7_skel
  iintro ⟨⟨H3, H4, H5, H6, H7, H8, H9, H10, H11, H12, H13, H14⟩, ⟨H15, H16, H17, H18, H19, H20, H21⟩, Hk⟩
  have e_x : window B.x ![0, 0, 0] ![1, 256, 1024] inb_S1x256x1024_S1x256x1024_0_0_0 = B.x := window_zero (s := S1x256x1024) _ _ _
  have e_win : window B.win ![0, 0, 0] ![1, 1024, 4096] inb_S1x1024x4096_S1x1024x4096_0_0_0 = B.win := window_zero (s := S1x1024x4096) _ _ _
  have e_bconv : window B.bconv ![0, 0, 0] ![1, 1, 2048] inb_S1x1x2048_S1x1x2048_0_0_0 = B.bconv := window_zero (s := S1x1x2048) _ _ _
  have e_wxp : window B.wxp ![0, 0, 0] ![1, 2048, 384] inb_S1x2048x384_S1x2048x384_0_0_0 = B.wxp := window_zero (s := S1x2048x384) _ _ _
  have e_wdt : window B.wdt ![0, 0, 0] ![1, 128, 2048] inb_S1x128x2048_S1x128x2048_0_0_0 = B.wdt := window_zero (s := S1x128x2048) _ _ _
  have e_bdt : window B.bdt ![0, 0, 0] ![1, 1, 2048] inb_S1x1x2048_S1x1x2048_0_0_0 = B.bdt := window_zero (s := S1x1x2048) _ _ _
  have e_at_ : window B.at_ ![0, 0, 0] ![1, 16, 2048] inb_S1x16x2048_S1x16x2048_0_0_0 = B.at_ := window_zero (s := S1x16x2048) _ _ _
  have e_dsk : window B.dsk ![0, 0, 0] ![1, 1, 2048] inb_S1x1x2048_S1x1x2048_0_0_0 = B.dsk := window_zero (s := S1x1x2048) _ _ _
  have e_wout : window B.wout ![0, 0, 0] ![1, 2048, 1024] inb_S1x2048x1024_S1x2048x1024_0_0_0 = B.wout := window_zero (s := S1x2048x1024) _ _ _
  have e_t0 : window B.wct ![0, 0, 0] ![1, 1, 2048] inb_S1x8x2048_S1x1x2048_0_0_0 = bTap B 0 := rfl
  have e_t1 : window B.wct ![0, 1, 0] ![1, 1, 2048] inb_S1x8x2048_S1x1x2048_0_1_0 = bTap B 1 := rfl
  have e_t2 : window B.wct ![0, 2, 0] ![1, 1, 2048] inb_S1x8x2048_S1x1x2048_0_2_0 = bTap B 2 := rfl
  have e_t3 : window B.wct ![0, 3, 0] ![1, 1, 2048] inb_S1x8x2048_S1x1x2048_0_3_0 = bTap B 3 := rfl
  by_cases h1 : Scalar.cmpi .ne (Scalar.extui (Scalar.cmpi .eq (BitVec.ofNat 32 (i 2).val) 0#32)) 0#32 = 1#1
  · simp only [Prog.lift, Prog.bind_op, Prog.bind_ret, Prog.pure_eq_ret, h1, dite_true, dite_false]
    iapply ld $$ H3; iintro H3
    iapply ld $$ H4; iintro H4
    iapply ld $$ H15; iintro H15
    iapply st $$ H15; iintro H15
    iapply ld $$ H15; iintro H15
    iapply st $$ H15; iintro H15
    iapply ld $$ H6; iintro H6
    iapply ld $$ H15; iintro H15
    iapply ld $$ H5; iintro H5
    iapply ld $$ H15; iintro H15
    iapply ld $$ H5; iintro H5
    iapply ld $$ H15; iintro H15
    iapply ld $$ H5; iintro H5
    iapply ld $$ H15; iintro H15
    iapply ld $$ H5; iintro H5
    iapply ld $$ H15; iintro H15
    iapply st $$ H15; iintro H15
    iapply ld $$ H7; iintro H7
    iapply ld $$ H8; iintro H8
    iapply ld $$ H9; iintro H9
    iapply ld $$ H16; iintro H16
    iapply st $$ H16; iintro H16
    iapply ld $$ H17; iintro H17
    iapply st $$ H17; iintro H17
    iapply ld $$ H16; iintro H16
    iapply st $$ H16; iintro H16
    iapply ld $$ H17; iintro H17
    iapply st $$ H17; iintro H17
    iapply ld $$ H18; iintro H18
    iapply st $$ H18; iintro H18
    iapply ld $$ H19; iintro H19
    iapply st $$ H19; iintro H19
    iapply ld $$ H21; iintro H21
    iapply st $$ H21; iintro H21
    iapply ld $$ H10; iintro H10
    iapply ld $$ H21; iintro H21
    have e_t : window (put T ![5, 0] ![3, 2048] k0_pay15) ![5, 0] ![3, 2048] inb_S264x2048_S3x2048_5_0 = t0 i (window T ![5, 0] S3x2048.size inb_S264x2048_S3x2048_5_0) := by
      unfold t0; rw [if_pos h1]; exact VecWindow.window_put_same _ _ _ _ _
    have e_s : window (put H ![0, 0] ![16, 2048] k0_pay31) ![0, 0] ![16, 2048] inb_S16x2048_S16x2048_0_0 = s0 i H := by
      unfold s0; rw [if_pos h1]; exact VecWindow.window_put_same _ _ _ _ _
    generalize t0 i (window T ![5, 0] S3x2048.size inb_S264x2048_S3x2048_5_0) = t at e_t ⊢
    generalize s0 i H = h0 at e_s ⊢
    simp only [e_x, e_win, e_bconv, e_wxp, e_wdt, e_bdt, e_at_, e_t0, e_t1, e_t2, e_t3, e_s]
    have e_c0 : window (put (put T ![5, 0] ![3, 2048] k0_pay15) ![8, 0] ![256, 2048] (k0_pay16 B.x B.win)) ![5, 0] ![256, 2048] inb_S264x2048_S256x2048_5_0 = cwin t (bXr B) 0 := by
      rw [← e_t]; exact window_cwin _ _ 0 (by omega) _ rfl _ _
    have e_c1 : window (put (put T ![5, 0] ![3, 2048] k0_pay15) ![8, 0] ![256, 2048] (k0_pay16 B.x B.win)) ![6, 0] ![256, 2048] inb_S264x2048_S256x2048_6_0 = cwin t (bXr B) 1 := by
      rw [← e_t]; exact window_cwin _ _ 1 (by omega) _ rfl _ _
    have e_c2 : window (put (put T ![5, 0] ![3, 2048] k0_pay15) ![8, 0] ![256, 2048] (k0_pay16 B.x B.win)) ![7, 0] ![256, 2048] inb_S264x2048_S256x2048_7_0 = cwin t (bXr B) 2 := by
      rw [← e_t]; exact window_cwin _ _ 2 (by omega) _ rfl _ _
    have e_c3 : window (put (put T ![5, 0] ![3, 2048] k0_pay15) ![8, 0] ![256, 2048] (k0_pay16 B.x B.win)) ![8, 0] ![256, 2048] inb_S264x2048_S256x2048_8_0 = cwin t (bXr B) 3 := by
      rw [← e_t]; exact window_cwin _ _ 3 (by omega) _ rfl _ _
    simp only [e_c0, e_c1, e_c2, e_c3]
    simp only [Prog.bind_assoc, Prog.bind_ret]
    iapply (Scf.wp_for_bind frame (wpE (defs₀ (F := F)) 𝒱₀ (c : Thread nD τ) none) Set.univ (0#32) (Scalar.addi 0#32 64#32) (1#32) k0_t1_ok _ _
      (inv c arg16 arg17 arg18 arg19 arg20 (bA B) (put (put Z16 ![0, 0] S256x2048.size (bDt B t)) ![256, 0] S8x2048.size k0_pay27) (put (put Z17 ![0, 0] S256x2048.size (bU B t)) ![256, 0] S8x2048.size k0_pay28) (put Z18 ![0, 0] S256x16.size (bB B t)) (put Z19 ![0, 0] S256x16.size (bC B t)) h0)
      (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
        (BitVec.ofNat 32 (i 0).val) (BitVec.ofNat 32 (i 1).val) (BitVec.ofNat 32 (i 2).val) _ _ (k0_pay33 B.at_) k0_pay34 (put (put Z16 ![0, 0] S256x2048.size (bDt B t)) ![256, 0] S8x2048.size k0_pay27) (put (put Z17 ![0, 0] S256x2048.size (bU B t)) ![256, 0] S8x2048.size k0_pay28) (put Z18 ![0, 0] S256x16.size (bB B t)) (put Z19 ![0, 0] S256x16.size (bC B t)) h0)) $$ [H16 H17 H18 H19 H20]
    · unfold inv
      isplitr; · ipureintro; rfl
      isplitl [H16]; · iexact H16
      isplitl [H17]; · iexact H17
      isplitl [H18]; · iexact H18
      isplitl [H19]; · iexact H19
      iexists Z20
      isplitr; · ipureintro; intro j hj; omega
      iexact H20
    iintro %h Hinv
    unfold inv; icases Hinv with ⟨%hh, H16, H17, H18, H19, %Y, %hY, H20⟩
    subst hh
    have e_n : 4 * Scf.trips (0#32) (Scalar.addi 0#32 64#32) 1#32 = 256 := by rw [show Scf.trips (0#32) (Scalar.addi 0#32 64#32) 1#32 = 64 from by decide]
    have r16 : ∀ n < 256, row (put (put Z16 ![0, 0] S256x2048.size (bDt B t)) ![256, 0] S8x2048.size k0_pay27) n = row (pad (bDt B t)) n := fun n hn => (row_put_above _ _ n hn).trans (row_put _ _ n hn)
    have r17 : ∀ n < 256, row (put (put Z17 ![0, 0] S256x2048.size (bU B t)) ![256, 0] S8x2048.size k0_pay28) n = row (pad (bU B t)) n := fun n hn => (row_put_above _ _ n hn).trans (row_put _ _ n hn)
    have r18 : ∀ n < 256, row (put Z18 ![0, 0] S256x16.size (bB B t)) n = row (pad (bB B t)) n := fun n hn => row_put _ _ n hn
    have r19 : ∀ n < 256, row (put Z19 ![0, 0] S256x16.size (bC B t)) n = row (pad (bC B t)) n := fun n hn => row_put _ _ n hn
    have e_h : stH (bA B) (put (put Z16 ![0, 0] S256x2048.size (bDt B t)) ![256, 0] S8x2048.size k0_pay27) (put (put Z17 ![0, 0] S256x2048.size (bU B t)) ![256, 0] S8x2048.size k0_pay28) (put Z18 ![0, 0] S256x16.size (bB B t)) h0 (4 * Scf.trips (0#32) (Scalar.addi 0#32 64#32) 1#32) = bH B t h0 256 := by
      rw [e_n]; exact stH_congr r16 r17 r18 256 le_rfl
    have e_y : Y = bY B t h0 := by
      rw [e_n] at hY
      funext j
      rw [hY j (j 0).isLt, yAll_congr r16 r17 r18 r19]; rfl
    subst e_y
    simp only [e_h]
    iapply ld $$ H21; iintro H21
    iapply st $$ H21; iintro H21
    iapply ld $$ H20; iintro H20
    iapply ld $$ H11; iintro H11
    iapply ld $$ H13; iintro H13
    iapply ld $$ H12; iintro H12
    have e_21 : ∀ Z : S16x2048.Idx → F .f32, put Z ![0, 0] ![16, 2048] (k0_pay38 (bH B t h0 256)) = bNext B t h0 := fun Z =>
      put_zero (s := S16x2048) Z ![0, 0] inb_S16x2048_S16x2048_0_0 _
    have e_20 : window (bY B t h0) ![0, 0] ![256, 2048] inb_S256x2048_S256x2048_0_0 = bY B t h0 := window_zero (s := S256x2048) _ _ _
    have e_15 : ∀ Z : S264x2048.Idx → F .f32, window (put Z ![5, 0] ![3, 2048] (k0_pay18 (k0_pay13 B.x B.win))) ![5, 0] S3x2048.size inb_S264x2048_S3x2048_5_0 = bTail B :=
      fun Z => VecWindow.window_put_same _ _ _ _ _
    simp only [e_21, e_20, e_dsk, e_wout]
    by_cases h3 : k0_cond3 i = 1#1 <;> by_cases h4 : k0_cond4 i = 1#1
    · simp only [h3, h4, dite_true, dite_false, Prog.bind_op, Prog.bind_ret, Prog.pure_eq_ret]
      iapply ld $$ H14; iintro H14
      iapply st $$ H14; iintro H14
      iapply ld $$ H14; iintro H14
      iapply ld $$ H14; iintro H14
      iapply st $$ H14; iintro H14
      erw [wp_ret]; imodintro
      unfold outAt; dsimp only; rw [if_pos h3, dif_pos h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
    · simp only [h3, h4, dite_true, dite_false, Prog.bind_op, Prog.bind_ret, Prog.pure_eq_ret]
      iapply ld $$ H14; iintro H14
      iapply st $$ H14; iintro H14
      erw [wp_ret]; imodintro
      unfold outAt; dsimp only; rw [if_pos h3, dif_neg h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
    · simp only [h3, h4, dite_true, dite_false, Prog.bind_op, Prog.bind_ret, Prog.pure_eq_ret]
      iapply ld $$ H14; iintro H14
      iapply ld $$ H14; iintro H14
      iapply st $$ H14; iintro H14
      erw [wp_ret]; imodintro
      unfold outAt; dsimp only; rw [if_neg h3, dif_pos h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
    · simp only [h3, h4, dite_true, dite_false, Prog.bind_op, Prog.bind_ret, Prog.pure_eq_ret]
      erw [wp_ret]; imodintro
      unfold outAt; dsimp only; rw [if_neg h3, dif_neg h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
  · simp only [Prog.lift, Prog.bind_op, Prog.bind_ret, Prog.pure_eq_ret, h1, dite_true, dite_false]
    iapply ld $$ H3; iintro H3
    iapply ld $$ H4; iintro H4
    iapply ld $$ H15; iintro H15
    iapply st $$ H15; iintro H15
    iapply ld $$ H6; iintro H6
    iapply ld $$ H15; iintro H15
    iapply ld $$ H5; iintro H5
    iapply ld $$ H15; iintro H15
    iapply ld $$ H5; iintro H5
    iapply ld $$ H15; iintro H15
    iapply ld $$ H5; iintro H5
    iapply ld $$ H15; iintro H15
    iapply ld $$ H5; iintro H5
    iapply ld $$ H15; iintro H15
    iapply st $$ H15; iintro H15
    iapply ld $$ H7; iintro H7
    iapply ld $$ H8; iintro H8
    iapply ld $$ H9; iintro H9
    iapply ld $$ H16; iintro H16
    iapply st $$ H16; iintro H16
    iapply ld $$ H17; iintro H17
    iapply st $$ H17; iintro H17
    iapply ld $$ H16; iintro H16
    iapply st $$ H16; iintro H16
    iapply ld $$ H17; iintro H17
    iapply st $$ H17; iintro H17
    iapply ld $$ H18; iintro H18
    iapply st $$ H18; iintro H18
    iapply ld $$ H19; iintro H19
    iapply st $$ H19; iintro H19
    iapply ld $$ H10; iintro H10
    iapply ld $$ H21; iintro H21
    have e_t : window T ![5, 0] ![3, 2048] inb_S264x2048_S3x2048_5_0 = t0 i (window T ![5, 0] S3x2048.size inb_S264x2048_S3x2048_5_0) := by
      unfold t0; rw [if_neg h1]
    have e_s : window H ![0, 0] ![16, 2048] inb_S16x2048_S16x2048_0_0 = s0 i H := by
      unfold s0; rw [if_neg h1]; exact window_zero (s := S16x2048) _ _ _
    generalize t0 i (window T ![5, 0] S3x2048.size inb_S264x2048_S3x2048_5_0) = t at e_t ⊢
    generalize s0 i H = h0 at e_s ⊢
    simp only [e_x, e_win, e_bconv, e_wxp, e_wdt, e_bdt, e_at_, e_t0, e_t1, e_t2, e_t3, e_s]
    have e_c0 : window (put T ![8, 0] ![256, 2048] (k0_pay16 B.x B.win)) ![5, 0] ![256, 2048] inb_S264x2048_S256x2048_5_0 = cwin t (bXr B) 0 := by
      rw [← e_t]; exact window_cwin _ _ 0 (by omega) _ rfl _ _
    have e_c1 : window (put T ![8, 0] ![256, 2048] (k0_pay16 B.x B.win)) ![6, 0] ![256, 2048] inb_S264x2048_S256x2048_6_0 = cwin t (bXr B) 1 := by
      rw [← e_t]; exact window_cwin _ _ 1 (by omega) _ rfl _ _
    have e_c2 : window (put T ![8, 0] ![256, 2048] (k0_pay16 B.x B.win)) ![7, 0] ![256, 2048] inb_S264x2048_S256x2048_7_0 = cwin t (bXr B) 2 := by
      rw [← e_t]; exact window_cwin _ _ 2 (by omega) _ rfl _ _
    have e_c3 : window (put T ![8, 0] ![256, 2048] (k0_pay16 B.x B.win)) ![8, 0] ![256, 2048] inb_S264x2048_S256x2048_8_0 = cwin t (bXr B) 3 := by
      rw [← e_t]; exact window_cwin _ _ 3 (by omega) _ rfl _ _
    simp only [e_c0, e_c1, e_c2, e_c3]
    simp only [Prog.bind_assoc, Prog.bind_ret]
    iapply (Scf.wp_for_bind frame (wpE (defs₀ (F := F)) 𝒱₀ (c : Thread nD τ) none) Set.univ (0#32) (Scalar.addi 0#32 64#32) (1#32) k0_t1_ok _ _
      (inv c arg16 arg17 arg18 arg19 arg20 (bA B) (put (put Z16 ![0, 0] S256x2048.size (bDt B t)) ![256, 0] S8x2048.size k0_pay27) (put (put Z17 ![0, 0] S256x2048.size (bU B t)) ![256, 0] S8x2048.size k0_pay28) (put Z18 ![0, 0] S256x16.size (bB B t)) (put Z19 ![0, 0] S256x16.size (bC B t)) h0)
      (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
        (BitVec.ofNat 32 (i 0).val) (BitVec.ofNat 32 (i 1).val) (BitVec.ofNat 32 (i 2).val) _ _ (k0_pay33 B.at_) k0_pay34 (put (put Z16 ![0, 0] S256x2048.size (bDt B t)) ![256, 0] S8x2048.size k0_pay27) (put (put Z17 ![0, 0] S256x2048.size (bU B t)) ![256, 0] S8x2048.size k0_pay28) (put Z18 ![0, 0] S256x16.size (bB B t)) (put Z19 ![0, 0] S256x16.size (bC B t)) h0)) $$ [H16 H17 H18 H19 H20]
    · unfold inv
      isplitr; · ipureintro; rfl
      isplitl [H16]; · iexact H16
      isplitl [H17]; · iexact H17
      isplitl [H18]; · iexact H18
      isplitl [H19]; · iexact H19
      iexists Z20
      isplitr; · ipureintro; intro j hj; omega
      iexact H20
    iintro %h Hinv
    unfold inv; icases Hinv with ⟨%hh, H16, H17, H18, H19, %Y, %hY, H20⟩
    subst hh
    have e_n : 4 * Scf.trips (0#32) (Scalar.addi 0#32 64#32) 1#32 = 256 := by rw [show Scf.trips (0#32) (Scalar.addi 0#32 64#32) 1#32 = 64 from by decide]
    have r16 : ∀ n < 256, row (put (put Z16 ![0, 0] S256x2048.size (bDt B t)) ![256, 0] S8x2048.size k0_pay27) n = row (pad (bDt B t)) n := fun n hn => (row_put_above _ _ n hn).trans (row_put _ _ n hn)
    have r17 : ∀ n < 256, row (put (put Z17 ![0, 0] S256x2048.size (bU B t)) ![256, 0] S8x2048.size k0_pay28) n = row (pad (bU B t)) n := fun n hn => (row_put_above _ _ n hn).trans (row_put _ _ n hn)
    have r18 : ∀ n < 256, row (put Z18 ![0, 0] S256x16.size (bB B t)) n = row (pad (bB B t)) n := fun n hn => row_put _ _ n hn
    have r19 : ∀ n < 256, row (put Z19 ![0, 0] S256x16.size (bC B t)) n = row (pad (bC B t)) n := fun n hn => row_put _ _ n hn
    have e_h : stH (bA B) (put (put Z16 ![0, 0] S256x2048.size (bDt B t)) ![256, 0] S8x2048.size k0_pay27) (put (put Z17 ![0, 0] S256x2048.size (bU B t)) ![256, 0] S8x2048.size k0_pay28) (put Z18 ![0, 0] S256x16.size (bB B t)) h0 (4 * Scf.trips (0#32) (Scalar.addi 0#32 64#32) 1#32) = bH B t h0 256 := by
      rw [e_n]; exact stH_congr r16 r17 r18 256 le_rfl
    have e_y : Y = bY B t h0 := by
      rw [e_n] at hY
      funext j
      rw [hY j (j 0).isLt, yAll_congr r16 r17 r18 r19]; rfl
    subst e_y
    simp only [e_h]
    iapply ld $$ H21; iintro H21
    iapply st $$ H21; iintro H21
    iapply ld $$ H20; iintro H20
    iapply ld $$ H11; iintro H11
    iapply ld $$ H13; iintro H13
    iapply ld $$ H12; iintro H12
    have e_21 : ∀ Z : S16x2048.Idx → F .f32, put Z ![0, 0] ![16, 2048] (k0_pay38 (bH B t h0 256)) = bNext B t h0 := fun Z =>
      put_zero (s := S16x2048) Z ![0, 0] inb_S16x2048_S16x2048_0_0 _
    have e_20 : window (bY B t h0) ![0, 0] ![256, 2048] inb_S256x2048_S256x2048_0_0 = bY B t h0 := window_zero (s := S256x2048) _ _ _
    have e_15 : ∀ Z : S264x2048.Idx → F .f32, window (put Z ![5, 0] ![3, 2048] (k0_pay18 (k0_pay13 B.x B.win))) ![5, 0] S3x2048.size inb_S264x2048_S3x2048_5_0 = bTail B :=
      fun Z => VecWindow.window_put_same _ _ _ _ _
    simp only [e_21, e_20, e_dsk, e_wout]
    by_cases h3 : k0_cond3 i = 1#1 <;> by_cases h4 : k0_cond4 i = 1#1
    · simp only [h3, h4, dite_true, dite_false, Prog.bind_op, Prog.bind_ret, Prog.pure_eq_ret]
      iapply ld $$ H14; iintro H14
      iapply st $$ H14; iintro H14
      iapply ld $$ H14; iintro H14
      iapply ld $$ H14; iintro H14
      iapply st $$ H14; iintro H14
      erw [wp_ret]; imodintro
      unfold outAt; dsimp only; rw [if_pos h3, dif_pos h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
    · simp only [h3, h4, dite_true, dite_false, Prog.bind_op, Prog.bind_ret, Prog.pure_eq_ret]
      iapply ld $$ H14; iintro H14
      iapply st $$ H14; iintro H14
      erw [wp_ret]; imodintro
      unfold outAt; dsimp only; rw [if_pos h3, dif_neg h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
    · simp only [h3, h4, dite_true, dite_false, Prog.bind_op, Prog.bind_ret, Prog.pure_eq_ret]
      iapply ld $$ H14; iintro H14
      iapply ld $$ H14; iintro H14
      iapply st $$ H14; iintro H14
      erw [wp_ret]; imodintro
      unfold outAt; dsimp only; rw [if_neg h3, dif_pos h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21
    · simp only [h3, h4, dite_true, dite_false, Prog.bind_op, Prog.bind_ret, Prog.pure_eq_ret]
      erw [wp_ret]; imodintro
      unfold outAt; dsimp only; rw [if_neg h3, dif_neg h4]
      iapply Hk $$ [H3 H4 H5 H6 H7 H8 H9 H10 H11 H12 H13 H14] [H15] [H16] [H17] [H18] [H19] [H20] [H21]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · iexists _
        isplitr; swap; · iexact H15
        ipureintro; exact e_15 _
      · iexists _; iexact H16
      · iexists _; iexact H17
      · iexists _; iexact H18
      · iexists _; iexact H19
      · iexists _; iexact H20
      · iexact H21

end Cert.Proof.Moe

end
-- ==== Proof.Moe.Run.lean ====
/-
  The experts' kernel over its grid: what each point finds in the scratch buffers, the relation between what a point finds
  in the output and what it leaves there, and the program's runs up to the contents of the result.
-/
module

public import proofs.«01_k».proof.Proof.Moe.Body
public import proofs.«01_k».proof.Proof.Gen.ExpertsIdeal.Launch
public import proofs.«01_k».proof.Proof.Gen.ExpertsIdeal.Points
public import Idealize.ShloMosaic.Lib.Pipeline.FrameBody
public import Idealize.ShloMosaic.Lib.Pipeline.Regions

@[expose] public section

noncomputable section

namespace Cert.Proof.Moe

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open VecWindow (window put)

variable {F : FTy → Type} [FloatOps F] [Named F]

local notation "𝕄" => MT nD τ sig Unit (Elt F) ℕ (UR sig nD τ) ℕ

variable (Vl : Dev nD → Valuation τ sig (Elt F)) (c : Dev nD)

/-- A window's block at a point, of the arrays at the entry valuation. -/
def iblk (w : Fin cfg0.W) (t : Fin cfg0.N) : ((cfg0.win w).xblock (cfg0.grid.coords t)).Idx → Elt F (cfg0.win w).elt :=
  ((cfg0.win w).blk t).view.read (Elt F) (Vl c (Pipeline.arrRef spec0 w))

/-- The blocks a point reads, the weights of the experts apart; -/
def blk (t : Fin cfg0.N) : Blk F where
  x := iblk Vl c 0 t
  win := iblk Vl c 1 t
  wct := iblk Vl c 2 t
  bconv := iblk Vl c 3 t
  wxp := iblk Vl c 4 t
  wdt := iblk Vl c 5 t
  bdt := iblk Vl c 6 t
  at_ := iblk Vl c 7 t
  dsk := iblk Vl c 8 t
  wout := iblk Vl c 9 t
/-- the weights. -/
def wts (t : Fin cfg0.N) : Vec F S1x8x256 .f32 := iblk Vl c 10 t

/-- The grid's point `n`. -/
def pt (n : ℕ) : Fin cfg0.N := ⟨n % 128, by rw [show cfg0.N = 128 from N_0]; omega⟩

/-- The convolution's last rows before point `n`; -/
def tailAt : ℕ → FVec F S3x2048 .f32
  | 0 => k0_pay15
  | n + 1 => bTail (blk Vl c (pt n))
/-- the scan's state there. -/
def hAt : ℕ → FVec F S16x2048 .f32
  | 0 => k0_pay31
  | n + 1 => bNext (blk Vl c (pt n)) (t0 (grid0.coords (pt n)) (tailAt Vl c n)) (s0 (grid0.coords (pt n)) (hAt n))

/-- What point `t` leaves in the output for what it finds. -/
def outOf (t : Fin cfg0.N) (X : S2x2048x1024.Idx → F .f32) : S2x2048x1024.Idx → F .f32 :=
  outAt (grid0.coords t) (blk Vl c t) (wts Vl c t) (t0 (grid0.coords t) (tailAt Vl c t.val)) (s0 (grid0.coords t) (hAt Vl c t.val)) X

/-- The scratch buffers before point `n`. -/
def scr (n : ℕ) : sProp 𝕄 :=
  iprop(∃ (T Z16 Z17 : S264x2048.Idx → F .f32) (Z18 Z19 : S264x16.Idx → F .f32) (Z20 : S256x2048.Idx → F .f32) (H : S16x2048.Idx → F .f32),
    ⌜n ≠ 0 → window T ![5, 0] S3x2048.size inb_S264x2048_S3x2048_5_0 = tailAt Vl c n ∧ H = hAt Vl c n⌝
    ∗ (owns (c : Thread nD τ) (Memref.whole cc0_scratch0) fullShare T ∗ owns (c : Thread nD τ) (Memref.whole cc0_scratch1) fullShare Z16
      ∗ owns (c : Thread nD τ) (Memref.whole cc0_scratch2) fullShare Z17 ∗ owns (c : Thread nD τ) (Memref.whole cc0_scratch3) fullShare Z18
      ∗ owns (c : Thread nD τ) (Memref.whole cc0_scratch4) fullShare Z19 ∗ owns (c : Thread nD τ) (Memref.whole cc0_scratch5) fullShare Z20
      ∗ owns (c : Thread nD τ) (Memref.whole cc0_scratch6) fullShare H)
    ∗ ∃ r, prngReg c r)

/-- The pipeline's proof data: the blocks kept, the output changed as `outOf` says. -/
def rdat (c : Dev nD) : RDat τ (Elt F) Unit ℕ (UR sig nD τ) ℕ cfg0 c where
  A w := Vl c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = outOf Vl c t Y
  Φ t := scr Vl c t.val
  q _ := fullShare
  owed _ := 0

theorem finds0 (t : Fin cfg0.N) (Y) (h : (rdat Vl c).Finds 0 t Y) : Y = iblk Vl c 0 t := by
  obtain ⟨d, hd⟩ := (rdat Vl c).finds_in_eq_fetched 0 rfl (fun _ _ _ => rfl) (fun _ _ _ h => h) t Y h
  exact hd.trans rfl
theorem finds1 (t : Fin cfg0.N) (Y) (h : (rdat Vl c).Finds 1 t Y) : Y = iblk Vl c 1 t := by
  obtain ⟨d, hd⟩ := (rdat Vl c).finds_in_eq_fetched 1 rfl (fun _ _ _ => rfl) (fun _ _ _ h => h) t Y h
  exact hd.trans rfl
theorem finds2 (t : Fin cfg0.N) (Y) (h : (rdat Vl c).Finds 2 t Y) : Y = iblk Vl c 2 t := by
  obtain ⟨d, hd⟩ := (rdat Vl c).finds_in_eq_fetched 2 rfl (fun _ _ _ => rfl) (fun _ _ _ h => h) t Y h
  exact hd.trans rfl
theorem finds3 (t : Fin cfg0.N) (Y) (h : (rdat Vl c).Finds 3 t Y) : Y = iblk Vl c 3 t := by
  obtain ⟨d, hd⟩ := (rdat Vl c).finds_in_eq_fetched 3 rfl (fun _ _ _ => rfl) (fun _ _ _ h => h) t Y h
  exact hd.trans rfl
theorem finds4 (t : Fin cfg0.N) (Y) (h : (rdat Vl c).Finds 4 t Y) : Y = iblk Vl c 4 t := by
  obtain ⟨d, hd⟩ := (rdat Vl c).finds_in_eq_fetched 4 rfl (fun _ _ _ => rfl) (fun _ _ _ h => h) t Y h
  exact hd.trans rfl
theorem finds5 (t : Fin cfg0.N) (Y) (h : (rdat Vl c).Finds 5 t Y) : Y = iblk Vl c 5 t := by
  obtain ⟨d, hd⟩ := (rdat Vl c).finds_in_eq_fetched 5 rfl (fun _ _ _ => rfl) (fun _ _ _ h => h) t Y h
  exact hd.trans rfl
theorem finds6 (t : Fin cfg0.N) (Y) (h : (rdat Vl c).Finds 6 t Y) : Y = iblk Vl c 6 t := by
  obtain ⟨d, hd⟩ := (rdat Vl c).finds_in_eq_fetched 6 rfl (fun _ _ _ => rfl) (fun _ _ _ h => h) t Y h
  exact hd.trans rfl
theorem finds7 (t : Fin cfg0.N) (Y) (h : (rdat Vl c).Finds 7 t Y) : Y = iblk Vl c 7 t := by
  obtain ⟨d, hd⟩ := (rdat Vl c).finds_in_eq_fetched 7 rfl (fun _ _ _ => rfl) (fun _ _ _ h => h) t Y h
  exact hd.trans rfl
theorem finds8 (t : Fin cfg0.N) (Y) (h : (rdat Vl c).Finds 8 t Y) : Y = iblk Vl c 8 t := by
  obtain ⟨d, hd⟩ := (rdat Vl c).finds_in_eq_fetched 8 rfl (fun _ _ _ => rfl) (fun _ _ _ h => h) t Y h
  exact hd.trans rfl
theorem finds9 (t : Fin cfg0.N) (Y) (h : (rdat Vl c).Finds 9 t Y) : Y = iblk Vl c 9 t := by
  obtain ⟨d, hd⟩ := (rdat Vl c).finds_in_eq_fetched 9 rfl (fun _ _ _ => rfl) (fun _ _ _ h => h) t Y h
  exact hd.trans rfl
theorem finds10 (t : Fin cfg0.N) (Y) (h : (rdat Vl c).Finds 10 t Y) : Y = iblk Vl c 10 t := by
  obtain ⟨d, hd⟩ := (rdat Vl c).finds_in_eq_fetched 10 rfl (fun _ _ _ => rfl) (fun _ _ _ h => h) t Y h
  exact hd.trans rfl

theorem pt_val (t : Fin cfg0.N) : pt t.val = t :=
  Fin.ext (Nat.mod_eq_of_lt (t.isLt.trans_eq N_0))

theorem first (t : Fin cfg0.N) (h : t.val = 0) :
    Scalar.cmpi .ne (Scalar.extui (Scalar.cmpi .eq (BitVec.ofNat 32 (grid0.coords t 2).val) 0#32)) 0#32 = 1#1 := by
  have : t = pt 0 := Fin.ext h
  subst this; decide

/-- The rows and the state a point starts from do not depend on what the first point finds. -/
theorem start (t : Fin cfg0.N) (T : S264x2048.Idx → F .f32) (H : S16x2048.Idx → F .f32)
    (h : t.val ≠ 0 → window T ![5, 0] S3x2048.size inb_S264x2048_S3x2048_5_0 = tailAt Vl c t.val ∧ H = hAt Vl c t.val) :
    t0 (grid0.coords t) (window T ![5, 0] S3x2048.size inb_S264x2048_S3x2048_5_0) = t0 (grid0.coords t) (tailAt Vl c t.val)
      ∧ s0 (grid0.coords t) H = s0 (grid0.coords t) (hAt Vl c t.val) := by
  by_cases h0 : t.val = 0
  · unfold t0 s0
    rw [if_pos (first t h0), if_pos (first t h0), if_pos (first t h0), if_pos (first t h0)]
    exact ⟨rfl, rfl⟩
  · rw [(h h0).1, (h h0).2]; exact ⟨rfl, rfl⟩

theorem body_obligation (c : Dev nD) : (rdat Vl c).BodyObligation (defs₀ (F := F)) 𝒱₀ () Set.univ := fun t Y hY => by
  rw [bigSep_W0, bigSep_W0]
  rw [show (rdat Vl c).owesAt () t.succ = (rdat Vl c).owesAt () t.castSucc from rfl]
  rw [finds0 Vl c t _ (hY 0), finds1 Vl c t _ (hY 1), finds2 Vl c t _ (hY 2), finds3 Vl c t _ (hY 3), finds4 Vl c t _ (hY 4), finds5 Vl c t _ (hY 5),
    finds6 Vl c t _ (hY 6), finds7 Vl c t _ (hY 7), finds8 Vl c t _ (hY 8), finds9 Vl c t _ (hY 9), finds10 Vl c t _ (hY 10)]
  rw [show (rdat Vl c).Φ t.castSucc = scr Vl c t.val from rfl, show (rdat Vl c).Φ t.succ = scr Vl c (t.val + 1) from rfl]
  unfold scr
  iintro ⟨⟨%T, %Z16, %Z17, %Z18, %Z19, %Z20, %H, %hinv, ⟨H15, H16, H17, H18, H19, H20, H21⟩, Hp⟩, Howes, H3, H4, H5, H6, H7, H8, H9, H10, H11, H12, H13, H14⟩
  iapply (body (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9))
    (st0_10 t) (hstage0_10 ((cfg0.slots t 10).cast nbuf0_10)) (st0_11 t) (hstage0_11 ((cfg0.slots t 11).cast nbuf0_11))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    (blk Vl c t) (wts Vl c t) (Y 11) T Z16 Z17 Z18 Z19 Z20 H)
  isplitl [H3 H4 H5 H6 H7 H8 H9 H10 H11 H12 H13 H14]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15 H16 H17 H18 H19 H20 H21]
  · isplitl [H15]; · iexact H15
    isplitl [H16]; · iexact H16
    isplitl [H17]; · iexact H17
    isplitl [H18]; · iexact H18
    isplitl [H19]; · iexact H19
    isplitl [H20]; · iexact H20
    iexact H21
  iintro ⟨H3, H4, H5, H6, H7, H8, H9, H10, H11, H12, H13, H14⟩ ⟨%T', %hT, H15⟩ ⟨%Z1, H16⟩ ⟨%Z2, H17⟩ ⟨%Z3, H18⟩ ⟨%Z4, H19⟩ ⟨%Z5, H20⟩ H21
  rw [(start Vl c t T H hinv).1, (start Vl c t T H hinv).2]
  isplitl [H15 H16 H17 H18 H19 H20 H21 Hp]
  · iexists T', Z1, Z2, Z3, Z4, Z5, _
    isplitr
    swap
    · isplitr [Hp]; swap; · iexact Hp
      isplitl [H15]; · iexact H15
      isplitl [H16]; · iexact H16
      isplitl [H17]; · iexact H17
      isplitl [H18]; · iexact H18
      isplitl [H19]; · iexact H19
      isplitl [H20]; · iexact H20
      iexact H21
    ipureintro
    intro _
    show _ = bTail (blk Vl c (pt t.val)) ∧ _ = bNext (blk Vl c (pt t.val)) (t0 (grid0.coords (pt t.val)) (tailAt Vl c t.val)) (s0 (grid0.coords (pt t.val)) (hAt Vl c t.val))
    rw [pt_val]
    exact ⟨hT, rfl⟩
  isplitl [Howes]; · iexact Howes
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  isplitl [H12]; · iexists _; isplitr; swap; · iexact H12
                   ipureintro; rfl
  isplitl [H13]; · iexists _; isplitr; swap; · iexact H13
                   ipureintro; rfl
  iexists _; isplitr; swap; · iexact H14
  ipureintro; rfl

/-! ## The run -/

variable (m : (ℓ : Loc nD τ sig) → Buf (Elt F) ℓ) (g : Dev nD → PrngReg)

/-- The operations before the call. -/
abbrev stretches : List (List (HloOp τ sig (Elt F))) :=
  [hostOps0, hostOps0_1, hostOps0_2, hostOps0_3, hostOps0_4, hostOps0_5, hostOps0_6, hostOps0_7, hostOps0_8, hostOps0_9, hostOps0_10]

/-- The buffers at the call. -/
def V₁ (c : Dev nD) : Valuation τ sig (Elt F) := StableHlo.after (stretches (F := F)).flatten (fun b => m (c, b))

theorem run : θ_run (defs (F := F)) (onTc (τ := τ) (main (F := F))) (s₀ m g)
    (fun r => RDat.FramePost cfg0 (rdat (V₁ m)) (fun c b => V₁ m c b) r ∧ r.2.sem = fun _ => 0) :=
  RDat.θ_run_frame_track (cfgs) (0 : Fin 1) launch0 defs₀ 𝒱₀ (rdat (V₁ m)) m g main
    (hbody := body_obligation (V₁ m)) (hshare := fun c w => (rdat (V₁ m) c).share_full (fun _ => rfl) w) (howed := fun _ _ => rfl)
    (V := fun c b => V₁ m c b)
    (hmain := Pipeline.hmain_prefixes cfgs 0 defs₀ 𝒱₀ m main stretches
      ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
      (by simp only [stretches, List.Forall]; repeat' constructor)
      (fun c => main_chain c))
    (hA := fun _ _ => rfl)
    (hin := fun c => by
      unfold Pipeline.ΦA
      rw [show (rdat (V₁ m) c).Φ 0 = scr (V₁ m) c 0 from rfl, scopedRest0_eq]
      unfold scr
      simp only [owns_whole_eq]
      iintro ⟨⟨⟨%T, H15⟩, ⟨%Z1, H16⟩, ⟨%Z2, H17⟩, ⟨%Z3, H18⟩, ⟨%Z4, H19⟩, ⟨%Z5, H20⟩, ⟨%H, H21⟩⟩, Hp⟩
      iexists T, Z1, Z2, Z3, Z4, Z5, H
      isplitr
      · ipureintro; intro h; exact absurd rfl h
      isplitr [Hp]; swap; · iexact Hp
      isplitl [H15]; · iexists T; isplitr; · ipureintro; rfl
                       iexact H15
      isplitl [H16]; · iexists Z1; isplitr; · ipureintro; rfl
                       iexact H16
      isplitl [H17]; · iexists Z2; isplitr; · ipureintro; rfl
                       iexact H17
      isplitl [H18]; · iexists Z3; isplitr; · ipureintro; rfl
                       iexact H18
      isplitl [H19]; · iexists Z4; isplitr; · ipureintro; rfl
                       iexact H19
      isplitl [H20]; · iexists Z5; isplitr; · ipureintro; rfl
                       iexact H20
      iexists H; isplitr; · ipureintro; rfl
      iexact H21)
    (hout := fun c => by
      unfold Pipeline.ΦA
      rw [show (rdat (V₁ m) c).Φ (Fin.last cfg0.N) = scr (V₁ m) c cfg0.N from rfl, scopedRest0_eq]
      unfold scr
      simp only [owns_whole_eq]
      iintro ⟨%T, %Z16, %Z17, %Z18, %Z19, %Z20, %H, %hinv, ⟨⟨%f15, %e15, H15⟩, ⟨%f16, %e16, H16⟩, ⟨%f17, %e17, H17⟩, ⟨%f18, %e18, H18⟩, ⟨%f19, %e19, H19⟩, ⟨%f20, %e20, H20⟩, ⟨%f21, %e21, H21⟩⟩, Hp⟩
      isplitr [Hp]; swap; · iexact Hp
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iexists _; iexact H21)
    (Q' := fun r => RDat.FramePost cfg0 (rdat (V₁ m)) (fun c b => V₁ m c b) r ∧ r.2.sem = fun _ => 0)
    (hQ' := fun _ h => h)

end Cert.Proof.Moe

end
-- ==== Proof.Moe.Spec.lean ====
/-
  The experts' mixture over the reals: the gated projection, the short causal convolution, the selective scan's recurrence
  and the projection back, per expert, and their sum weighted by the gates.
-/
module

public import Mathlib.Analysis.SpecialFunctions.Log.Basic
public import Mathlib.Data.Fin.Tuple.Basic

@[expose] public section

noncomputable section

namespace Cert.Proof.Moe

/-- The real arguments; positions in a sequence are natural numbers. -/
structure Args where
  x : Fin 2 → ℕ → Fin 1024 → ℝ
  w : Fin 8 → Fin 2 → ℕ → ℝ
  win : Fin 8 → Fin 1024 → Fin 4096 → ℝ
  wconv : Fin 8 → Fin 2048 → Fin 4 → ℝ
  bconv : Fin 8 → Fin 2048 → ℝ
  wx : Fin 8 → Fin 2048 → Fin 96 → ℝ
  wdt : Fin 8 → Fin 64 → Fin 2048 → ℝ
  bdt : Fin 8 → Fin 2048 → ℝ
  alog : Fin 8 → Fin 2048 → Fin 16 → ℝ
  dsk : Fin 8 → Fin 2048 → ℝ
  wout : Fin 8 → Fin 2048 → Fin 1024 → ℝ

namespace Args

variable (a : Args) (e : Fin 8) (b : Fin 2)

/-- `r` times its logistic. -/
def silu (r : ℝ) : ℝ := r * (1 + Real.exp (-r))⁻¹

def xz (l : ℕ) (f : Fin 4096) : ℝ := ∑ d, a.x b l d * a.win e d f
/-- The rows before the convolution, three zero rows in front. -/
def xpad (p : ℕ) (f : Fin 2048) : ℝ := if p < 3 then 0 else a.xz e b (p - 3) ⟨f.val, by omega⟩
def z (l : ℕ) (f : Fin 2048) : ℝ := a.xz e b l ⟨2048 + f.val, by omega⟩
def conv (l : ℕ) (f : Fin 2048) : ℝ :=
  a.bconv e f + a.xpad e b l f * a.wconv e f 0 + a.xpad e b (l + 1) f * a.wconv e f 1 + a.xpad e b (l + 2) f * a.wconv e f 2
    + a.xpad e b (l + 3) f * a.wconv e f 3
def xi (l : ℕ) (f : Fin 2048) : ℝ := silu (a.conv e b l f)
def dbl (l : ℕ) (r : Fin 96) : ℝ := ∑ f, a.xi e b l f * a.wx e f r
/-- The steps before their softplus; -/
def pre (l : ℕ) (f : Fin 2048) : ℝ := ∑ r : Fin 64, a.dbl e b l ⟨r.val, by omega⟩ * a.wdt e r f + a.bdt e f
/-- the steps. -/
def dt (l : ℕ) (f : Fin 2048) : ℝ := Real.log (1 + Real.exp (a.pre e b l f))
def Bc (l : ℕ) (n : Fin 16) : ℝ := a.dbl e b l ⟨64 + n.val, by omega⟩
def Cc (l : ℕ) (n : Fin 16) : ℝ := a.dbl e b l ⟨80 + n.val, by omega⟩
/-- The state before position `l`. -/
def H : ℕ → Fin 16 → Fin 2048 → ℝ
  | 0, _, _ => 0
  | l + 1, n, f => Real.exp (a.dt e b l f * -Real.exp (a.alog e f n)) * H l n f + a.dt e b l f * a.Bc e b l n * a.xi e b l f
def Y (l : ℕ) (f : Fin 2048) : ℝ := ∑ n, a.H e b (l + 1) n f * a.Cc e b l n
def O (l : ℕ) (f : Fin 2048) : ℝ := (a.Y e b l f + a.xi e b l f * a.dsk e f) * silu (a.z e b l f)
def eo (l : ℕ) (d : Fin 1024) : ℝ := ∑ f, a.O e b l f * a.wout e f d
/-- The mixture. -/
def res (l : ℕ) (d : Fin 1024) : ℝ := ∑ e, a.w e b l * a.eo e b l d

end Args

end Cert.Proof.Moe

end
-- ==== Proof.Moe.Chunk.lean ====
/-
  The experts' kernel at one grid point over the extended reals: its blocks coerced from the real arguments, every array it
  computes is the coercion of the mixture's arrays over the chunk's rows.
-/
module

public import proofs.«01_k».proof.Proof.Moe.Body
public import proofs.«01_k».proof.Proof.Moe.Spec
public import proofs.«01_k».proof.Proof.RefValue
public import Idealize.ShloMosaic.Lib.Pointwise

@[expose] public section

noncomputable section

namespace Cert.Proof.Moe

open Cert.ExpertsIdeal Cert.ExpertsIdeal.Gen

open Idealize.ShloMosaic
open Idealize.ShloMosaic.TcCoe Idealize.ShloMosaic.Tactic
open VecWindow (window put)
open Cert.Proof.Plain (coe_sum)

/-! ## The payloads at an index -/

theorem pay12_apply (x : Vec Ideal S1x256x1024 .bf16) (w : Vec Ideal S1x1024x4096 .bf16) (r : Fin 256) (f : Fin 4096) :
    k0_pay12 (F := Ideal) x w (ix2 r f) = ∑ d : Fin 1024, (x (ix3 0 r d) * w (ix3 0 d f) : EReal) := by
  pointwise [k0_pay12]

theorem pay16_apply (x : Vec Ideal S1x256x1024 .bf16) (w : Vec Ideal S1x1024x4096 .bf16) (r : Fin 256) (f : Fin 2048) :
    k0_pay16 (F := Ideal) x w (ix2 r f) = k0_pay12 (F := Ideal) x w (ix2 r ⟨f.val, by omega⟩) := by
  pointwise [k0_pay16, k0_pay13]

theorem pay14_apply (x : Vec Ideal S1x256x1024 .bf16) (w : Vec Ideal S1x1024x4096 .bf16) (r : Fin 256) (f : Fin 2048) :
    k0_pay14 (F := Ideal) x w (ix2 r f) = k0_pay12 (F := Ideal) x w (ix2 r ⟨2048 + f.val, by omega⟩) := by
  pointwise [k0_pay14]

theorem pay18_apply (x : Vec Ideal S1x256x1024 .bf16) (w : Vec Ideal S1x1024x4096 .bf16) (r : Fin 3) (f : Fin 2048) :
    k0_pay18 (k0_pay13 (F := Ideal) x w) (ix2 r f) = k0_pay12 (F := Ideal) x w (ix2 ⟨253 + r.val, by omega⟩ ⟨f.val, by omega⟩) := by
  pointwise [k0_pay18, k0_pay13]

theorem pay17_apply (bc t0 t1 : FVec Ideal S1x1x2048 .f32) (x0 x1 : FVec Ideal S256x2048 .f32) (r : Fin 256) (f : Fin 2048) :
    k0_pay17 bc x0 t0 x1 t1 (ix2 r f) = bc (ix3 0 0 f) + x0 (ix2 r f) * t0 (ix3 0 0 f) + x1 (ix2 r f) * t1 (ix3 0 0 f) := by
  pointwise [k0_pay17]

theorem pay19_apply (v : FVec Ideal S256x2048 .f32) (t2 t3 : FVec Ideal S1x1x2048 .f32) (x2 x3 : FVec Ideal S256x2048 .f32) (r : Fin 256) (f : Fin 2048) :
    k0_pay19 v x2 t2 x3 t3 (ix2 r f) = (v (ix2 r f) + x2 (ix2 r f) * t2 (ix3 0 0 f) + x3 (ix2 r f) * t3 (ix3 0 0 f))
      * Ideal.logistic (v (ix2 r f) + x2 (ix2 r f) * t2 (ix3 0 0 f) + x3 (ix2 r f) * t3 (ix3 0 0 f)) := by
  pointwise [k0_pay19]

theorem pay20_apply (v : FVec Ideal S256x2048 .f32) (t2 t3 : FVec Ideal S1x1x2048 .f32) (x2 x3 : FVec Ideal S256x2048 .f32)
    (wx : FVec Ideal S1x2048x384 .bf16) (r : Fin 256) (k : Fin 384) :
    k0_pay20 v x2 t2 x3 t3 wx (ix2 r k) = ∑ f : Fin 2048, k0_pay19 v x2 t2 x3 t3 (ix2 r f) * wx (ix3 0 f k) := by
  pointwise [k0_pay20]

theorem pay21_apply (v : FVec Ideal S256x2048 .f32) (t2 t3 : FVec Ideal S1x1x2048 .f32) (x2 x3 : FVec Ideal S256x2048 .f32)
    (wx : FVec Ideal S1x2048x384 .bf16) (wdt : FVec Ideal S1x128x2048 .bf16) (bdt : FVec Ideal S1x1x2048 .f32) (r : Fin 256) (f : Fin 2048) :
    k0_pay21 v x2 t2 x3 t3 wx wdt bdt (ix2 r f)
      = (∑ k : Fin 128, k0_pay20 v x2 t2 x3 t3 wx (ix2 r ⟨k.val, by omega⟩) * wdt (ix3 0 k f)) + bdt (ix3 0 0 f) := by
  pointwise [k0_pay21]

theorem pay29_apply (D : FVec Ideal S256x384 .f32) (r : Fin 256) (n : Fin 16) :
    k0_pay29 D (ix2 r n) = D (ix2 r ⟨128 + n.val, by omega⟩) := by
  pointwise [k0_pay29]

theorem pay30_apply (D : FVec Ideal S256x384 .f32) (r : Fin 256) (n : Fin 16) :
    k0_pay30 D (ix2 r n) = D (ix2 r ⟨256 + n.val, by omega⟩) := by
  pointwise [k0_pay30]

theorem pay39_apply (z xi y : FVec Ideal S256x2048 .f32) (dsk : FVec Ideal S1x1x2048 .f32) (w : FVec Ideal S1x1x256 .f32)
    (wo : FVec Ideal S1x2048x1024 .bf16) (r : Fin 256) (d : Fin 1024) :
    k0_pay39 z xi y dsk w wo (ix2 r d)
      = ∑ f : Fin 2048, (y (ix2 r f) + xi (ix2 r f) * dsk (ix3 0 0 f)) * (z (ix2 r f) * Ideal.logistic (z (ix2 r f))) * w (ix3 0 0 r) * wo (ix3 0 f d) := by
  pointwise [k0_pay39]

theorem eye_apply (n x : Fin 16) : k0_pay32 (ix2 n x) = if n = x then 1#1 else 0#1 := by
  have h : k0_pay32 (ix2 n x) = IntOp.cmpi CmpIPredicate.eq (BitVec.ofNat 32 n.val) (BitVec.ofNat 32 x.val) := by
    pointwise [k0_pay32]
  rw [h]
  revert n x
  decide +kernel

/-- The row of a matrix whose diagonal is `v`, summed. -/
theorem eye_sum (v : Fin 16 → EReal) (n : Fin 16) : ∑ x, Scalar.select (k0_pay32 (ix2 n x)) (v x) (0 : EReal) = v n := by
  simp only [eye_apply]
  rw [Finset.sum_eq_single n]
  · rw [if_pos rfl]; rfl
  · intro x _ hx; rw [if_neg (fun h => hx h.symm)]; rfl
  · intro h; exact absurd (Finset.mem_univ n) h

theorem pay1_apply (A h : FVec Ideal S16x2048 .f32) (dt u : FVec Ideal S1x2048 .f32) (bp : FVec Ideal S1x16 .f32) (n : Fin 16) (f : Fin 2048) :
    k0_pay1 k0_pay32 A h dt u bp (ix2 n f) = Ideal.exp2 (A (ix2 n f) * dt (ix2 0 f)) * h (ix2 n f) + u (ix2 0 f) * bp (ix2 0 n) := by
  pointwise [k0_pay1]
  rw [eye_sum (fun x => bp (ix2 0 x))]
  rfl

theorem pay2_apply (A h : FVec Ideal S16x2048 .f32) (dt u : FVec Ideal S1x2048 .f32) (bp cp : FVec Ideal S1x16 .f32) (f : Fin 2048) :
    k0_pay2 k0_pay32 A h dt u bp cp (ix2 0 f) = ∑ n : Fin 16, k0_pay1 k0_pay32 A h dt u bp (ix2 n f) * cp (ix2 0 n) := by
  pointwise [k0_pay2]
  exact Finset.sum_congr rfl fun n _ => by rw [eye_sum (fun x => cp (ix2 0 x))]

/-! ## The chunk -/

/-- The blocks of one point are the arguments' at expert `e`, sequence `b`, rows `256 c` on. -/
structure Blk.Of (B : Blk Ideal) (a : Args) (e : Fin 8) (b : Fin 2) (c : ℕ) : Prop where
  x : ∀ r d, B.x (ix3 0 r d) = ((a.x b (256 * c + r.val) d : ℝ) : EReal)
  win : ∀ d f, B.win (ix3 0 d f) = ((a.win e d f : ℝ) : EReal)
  wct : ∀ (k : Fin 4) f, B.wct (ix3 0 ⟨k.val, by omega⟩ f) = ((a.wconv e f k : ℝ) : EReal)
  bconv : ∀ f, B.bconv (ix3 0 0 f) = ((a.bconv e f : ℝ) : EReal)
  wxdt : ∀ f (r : Fin 64), B.wxp (ix3 0 f ⟨r.val, by omega⟩) = ((a.wx e f ⟨r.val, by omega⟩ : ℝ) : EReal)
  wx0 : ∀ f (r : Fin 64), B.wxp (ix3 0 f ⟨64 + r.val, by omega⟩) = ((0 : ℝ) : EReal)
  wxB : ∀ f (n : Fin 16), B.wxp (ix3 0 f ⟨128 + n.val, by omega⟩) = ((a.wx e f ⟨64 + n.val, by omega⟩ : ℝ) : EReal)
  wxC : ∀ f (n : Fin 16), B.wxp (ix3 0 f ⟨256 + n.val, by omega⟩) = ((a.wx e f ⟨80 + n.val, by omega⟩ : ℝ) : EReal)
  wdt : ∀ (r : Fin 64) f, B.wdt (ix3 0 ⟨r.val, by omega⟩ f) = ((a.wdt e r f : ℝ) : EReal)
  wdt0 : ∀ (r : Fin 64) f, B.wdt (ix3 0 ⟨64 + r.val, by omega⟩ f) = ((0 : ℝ) : EReal)
  bdt : ∀ f, B.bdt (ix3 0 0 f) = ((a.bdt e f : ℝ) : EReal)
  at_ : ∀ n f, B.at_ (ix3 0 n f) = ((-Real.exp (a.alog e f n) : ℝ) : EReal)
  dsk : ∀ f, B.dsk (ix3 0 0 f) = ((a.dsk e f : ℝ) : EReal)
  wout : ∀ f d, B.wout (ix3 0 f d) = ((a.wout e f d : ℝ) : EReal)

section Chunk

variable {B : Blk Ideal} {a : Args} {e : Fin 8} {b : Fin 2} {c : ℕ} (hB : B.Of a e b c)

include hB

theorem xz_eq (r : Fin 256) (f : Fin 4096) : k0_pay12 (F := Ideal) B.x B.win (ix2 r f) = ((a.xz e b (256 * c + r.val) f : ℝ) : EReal) := by
  rw [pay12_apply]
  simp only [hB.x, hB.win]
  unfold Args.xz
  rw [← coe_sum]
  simp only [EReal.coe_mul]

theorem z_eq (r : Fin 256) (f : Fin 2048) : bZ B (ix2 r f) = ((a.z e b (256 * c + r.val) f : ℝ) : EReal) := by
  unfold bZ
  rw [pay14_apply, xz_eq hB]; rfl

theorem xr_eq (r : Fin 256) (f : Fin 2048) : bXr B (ix2 r f) = ((a.xpad e b (256 * c + r.val + 3) f : ℝ) : EReal) := by
  unfold bXr
  rw [pay16_apply, xz_eq hB]
  unfold Args.xpad
  rw [if_neg (by omega)]; rfl

theorem tail_eq (k : Fin 3) (f : Fin 2048) : bTail B (ix2 k f) = ((a.xpad e b (256 * (c + 1) + k.val) f : ℝ) : EReal) := by
  unfold bTail
  rw [pay18_apply, xz_eq hB]
  unfold Args.xpad
  rw [if_neg (by omega)]
  have : 256 * (c + 1) + k.val - 3 = 256 * c + (253 + k.val) := by omega
  rw [this]

variable {t : FVec Ideal S3x2048 .f32} (ht : ∀ (k : Fin 3) f, t (ix2 k f) = ((a.xpad e b (256 * c + k.val) f : ℝ) : EReal))

include ht

theorem cwin_eq (k : ℕ) (hk : k ≤ 3) (r : Fin 256) (f : Fin 2048) :
    cwin t (bXr B) k (ix2 r f) = ((a.xpad e b (256 * c + r.val + k) f : ℝ) : EReal) := by
  unfold cwin
  show (if r.val + k < 3 then t (ValueIdx.ix2 (Fin.ofNat 3 (r.val + k)) f) else bXr B (ValueIdx.ix2 (Fin.ofNat 256 (r.val + k - 3)) f)) = _
  split
  · rename_i h
    refine (ht (Fin.ofNat 3 (r.val + k)) f).trans ?_
    have : 256 * c + (Fin.ofNat 3 (r.val + k)).val = 256 * c + r.val + k := by
      show 256 * c + (r.val + k) % 3 = _
      rw [Nat.mod_eq_of_lt h]; omega
    rw [this]
  · rename_i h
    refine (xr_eq hB (Fin.ofNat 256 (r.val + k - 3)) f).trans ?_
    have : 256 * c + (Fin.ofNat 256 (r.val + k - 3)).val + 3 = 256 * c + r.val + k := by
      show 256 * c + (r.val + k - 3) % 256 + 3 = _
      rw [Nat.mod_eq_of_lt (by omega)]; omega
    rw [this]

omit ht in
theorem tap_eq (k : Fin 4) (f : Fin 2048) : bTap B k (ix3 0 0 f) = ((a.wconv e f k : ℝ) : EReal) := by
  rw [← hB.wct]
  refine congrArg B.wct (funext fun x => Fin.ext ?_)
  match x with
  | 0 => rfl
  | 1 => show k.val + 1 * 0 = k.val; omega
  | 2 => show 0 + 1 * f.val = f.val; omega

theorem c2_eq (r : Fin 256) (f : Fin 2048) : bC2 B t (ix2 r f)
    = ((a.bconv e f + a.xpad e b (256 * c + r.val) f * a.wconv e f 0 + a.xpad e b (256 * c + r.val + 1) f * a.wconv e f 1 : ℝ) : EReal) := by
  unfold bC2
  rw [pay17_apply, hB.bconv, cwin_eq hB ht 0 (by omega), cwin_eq hB ht 1 (by omega), tap_eq hB, tap_eq hB]
  simp only [EReal.coe_add, EReal.coe_mul, Nat.add_zero]

omit hB ht in
theorem silu_coe (r : ℝ) : (r : EReal) * Ideal.logistic (r : EReal) = ((Args.silu r : ℝ) : EReal) := by
  rw [Ideal.logistic_coe, ← EReal.coe_mul]; rfl

theorem xi_eq (r : Fin 256) (f : Fin 2048) : bXi B t (ix2 r f) = ((a.xi e b (256 * c + r.val) f : ℝ) : EReal) := by
  unfold bXi
  rw [pay19_apply, c2_eq hB ht, cwin_eq hB ht 2 (by omega), cwin_eq hB ht 3 (by omega), tap_eq hB, tap_eq hB]
  simp only [← EReal.coe_add, ← EReal.coe_mul]
  rw [silu_coe]; rfl

theorem dbl_eq (r : Fin 256) (k : Fin 384) (g : Fin 2048 → ℝ) (hg : ∀ f, B.wxp (ix3 0 f k) = ((g f : ℝ) : EReal)) :
    bDbl B t (ix2 r k) = ((∑ f, a.xi e b (256 * c + r.val) f * g f : ℝ) : EReal) := by
  unfold bDbl
  rw [pay20_apply, ← coe_sum]
  refine Finset.sum_congr rfl fun f _ => ?_
  rw [EReal.coe_mul, ← xi_eq hB ht r f, ← hg]; rfl

theorem pre_eq (r : Fin 256) (f : Fin 2048) : bPre B t (ix2 r f) = ((a.pre e b (256 * c + r.val) f : ℝ) : EReal) := by
  unfold bPre
  rw [pay21_apply, hB.bdt]
  unfold Args.pre
  rw [EReal.coe_add]
  refine congrArg (· + _) ?_
  rw [Fin.sum_univ_add (a := 64) (b := 64), ← coe_sum]
  have h2 : (∑ i : Fin 64, k0_pay20 (bC2 B t) (cwin t (bXr B) 2) (bTap B 2) (cwin t (bXr B) 3) (bTap B 3) B.wxp (ix2 r ⟨(Fin.natAdd 64 i : Fin 128).val, by omega⟩)
      * (B.wdt (ix3 0 (Fin.natAdd 64 i) f) : EReal)) = 0 := by
    refine Finset.sum_eq_zero fun i _ => ?_
    have h0 := hB.wdt0 i f
    have : B.wdt (ix3 0 (Fin.natAdd 64 i) f) = ((0 : ℝ) : EReal) := h0
    rw [this, EReal.coe_zero, mul_zero]
  refine (congrArg (_ + ·) h2).trans ?_
  rw [add_zero]
  refine Finset.sum_congr rfl fun i _ => ?_
  rw [EReal.coe_mul]
  refine congrArg₂ (· * ·) ?_ (hB.wdt i f)
  exact dbl_eq hB ht r ⟨i.val, by omega⟩ _ (fun f => hB.wxdt f i)

theorem b_eq (r : Fin 256) (n : Fin 16) : bB B t (ix2 r n) = ((a.Bc e b (256 * c + r.val) n : ℝ) : EReal) := by
  unfold bB
  rw [pay29_apply]
  exact dbl_eq hB ht r _ _ (fun f => hB.wxB f n)

theorem c_eq (r : Fin 256) (n : Fin 16) : bC B t (ix2 r n) = ((a.Cc e b (256 * c + r.val) n : ℝ) : EReal) := by
  unfold bC
  rw [pay30_apply]
  exact dbl_eq hB ht r _ _ (fun f => hB.wxC f n)

omit hB ht in
theorem dt_apply (r : Fin 256) (f : Fin 2048) : bDt B t (ix2 r f)
    = if Ideal.ofBits FTy.f32 0x41A00000#32 < bPre B t (ix2 r f) then bPre B t (ix2 r f)
      else Ideal.log1p (Ideal.exp (min (bPre B t (ix2 r f)) (Ideal.ofBits FTy.f32 0x41A00000#32))) := by
  unfold bDt
  pointwise [k0_pay25, k0_pay24, bGt, bLog, k0_pay22, k0_pay23]
  rfl

theorem dt_eq (hpre : ∀ (r : Fin 256) f, a.pre e b (256 * c + r.val) f ≤ 20) (r : Fin 256) (f : Fin 2048) :
    bDt B t (ix2 r f) = ((a.dt e b (256 * c + r.val) f : ℝ) : EReal) := by
  have h20 : Ideal.ofBits FTy.f32 0x41A00000#32 = ((20 : ℝ) : EReal) := by
    simp [Ideal.ofBits, Ideal.ieee, -EReal.coe_mul]; norm_num
  rw [dt_apply, h20, pre_eq hB ht, if_neg (by rw [EReal.coe_lt_coe_iff]; exact not_lt.mpr (hpre _ _)),
    min_eq_left (by rw [EReal.coe_le_coe_iff]; exact hpre _ _)]
  unfold Args.dt
  have hp : 0 < 1 + Real.exp (a.pre e b (256 * c + r.val) f) := by positivity
  rw [Ideal.exp_coe]
  unfold Ideal.log1p
  rw [← EReal.coe_one, ← EReal.coe_add, Ideal.log_coe, if_neg (not_le.mpr hp)]

omit hB ht in
theorem u_apply (r : Fin 256) (f : Fin 2048) : bU B t (ix2 r f) = bDt B t (ix2 r f) * bXi B t (ix2 r f) := by
  unfold bU bDt
  pointwise [k0_pay26, k0_pay25]

omit ht in
theorem a_eq (n : Fin 16) (f : Fin 2048) : bA B (ix2 n f) = ((-Real.exp (a.alog e f n) * (Real.log 2)⁻¹ : ℝ) : EReal) := by
  unfold bA
  pointwise [k0_pay35, k0_pay33, k0_pay34]
  rw [hB.at_, EReal.coe_mul]
  rfl

omit hB ht in
theorem row_pad {w : ℕ} (D : (⟨2, ![256, w]⟩ : Shape).Idx → EReal) (r : Fin 256) (f : Fin w) :
    row (pad (F := Ideal) D) r.val (ix2 0 f) = D (ix2 r f) := by
  unfold row pad
  refine congrArg D (funext fun x => ?_)
  match x with
  | 0 =>
    refine Fin.ext ?_
    show (r.val % 264) % 256 = r.val
    omega
  | 1 => rfl

omit hB ht in
theorem exp2_log2 (A d : ℝ) : Ideal.exp2 (((-A * (Real.log 2)⁻¹ : ℝ) : EReal) * ((d : ℝ) : EReal)) = ((Real.exp (d * -A) : ℝ) : EReal) := by
  rw [← EReal.coe_mul, Ideal.exp2_coe]
  refine congrArg _ ?_
  have h2 : Real.log 2 ≠ 0 := Real.log_ne_zero_of_pos_of_ne_one (by norm_num) (by norm_num)
  show (2 : ℝ) ^ (-A * (Real.log 2)⁻¹ * d) = _
  rw [Real.rpow_def_of_pos (by norm_num)]
  refine congrArg _ ?_
  field_simp

variable (hpre : ∀ (r : Fin 256) f, a.pre e b (256 * c + r.val) f ≤ 20) {h : FVec Ideal S16x2048 .f32} (hh : ∀ n f, h (ix2 n f) = ((a.H e b (256 * c) n f : ℝ) : EReal))

include hpre hh

theorem st_eq (k : ℕ) (hk : k ≤ 256) (n : Fin 16) (f : Fin 2048) : bH B t h k (ix2 n f) = ((a.H e b (256 * c + k) n f : ℝ) : EReal) := by
  induction k generalizing n f with
  | zero => exact hh n f
  | succ k ih =>
    have hk' : k < 256 := hk
    show k0_pay1 k0_pay32 (bA B) (bH B t h k) (row (pad (bDt B t)) k) (row (pad (bU B t)) k) (row (pad (bB B t)) k) (ix2 n f) = _
    rw [pay1_apply, ih (by omega), row_pad (bDt B t) ⟨k, hk'⟩, row_pad (bU B t) ⟨k, hk'⟩, row_pad (bB B t) ⟨k, hk'⟩, u_apply, dt_eq hB ht hpre,
      xi_eq hB ht, b_eq hB ht, a_eq hB, exp2_log2]
    show _ = ((Real.exp (a.dt e b (256 * c + k) f * -Real.exp (a.alog e f n)) * a.H e b (256 * c + k) n f
      + a.dt e b (256 * c + k) f * a.Bc e b (256 * c + k) n * a.xi e b (256 * c + k) f : ℝ) : EReal)
    rw [← EReal.coe_mul, ← EReal.coe_mul, ← EReal.coe_mul, ← EReal.coe_add]
    refine congrArg _ ?_
    ring

theorem next_eq (n : Fin 16) (f : Fin 2048) : bNext B t h (ix2 n f) = ((a.H e b (256 * (c + 1)) n f : ℝ) : EReal) := by
  have : bNext B t h (ix2 n f) = bH B t h 256 (ix2 n f) := by
    unfold bNext
    pointwise [k0_pay38]
  rw [this, st_eq hB ht hpre hh 256 le_rfl]
  have : 256 * c + 256 = 256 * (c + 1) := by ring
  rw [this]

theorem y_eq (r : Fin 256) (f : Fin 2048) : bY B t h (ix2 r f) = ((a.Y e b (256 * c + r.val) f : ℝ) : EReal) := by
  show k0_pay2 k0_pay32 (bA B) (bH B t h r.val) (row (pad (bDt B t)) r.val) (row (pad (bU B t)) r.val) (row (pad (bB B t)) r.val)
    (row (pad (bC B t)) r.val) (ix2 0 f) = _
  rw [pay2_apply]
  unfold Args.Y
  rw [← coe_sum]
  refine Finset.sum_congr rfl fun n _ => ?_
  rw [row_pad (bC B t) r, c_eq hB ht, EReal.coe_mul]
  refine congrArg (· * _) ?_
  exact st_eq hB ht hpre hh (r.val + 1) (by omega) n f

variable {w : Vec Ideal S1x1x256 .f32} (hw : ∀ r : Fin 256, w (ix3 0 0 r) = ((a.w e b (256 * c + r.val) : ℝ) : EReal))

include hw

theorem contrib_eq (r : Fin 256) (d : Fin 1024) : k0_pay39 (F := Ideal) (bZ B) (bXi B t) (bY B t h) B.dsk w B.wout (ix2 r d)
    = ((a.w e b (256 * c + r.val) * a.eo e b (256 * c + r.val) d : ℝ) : EReal) := by
  rw [pay39_apply]
  unfold Args.eo
  rw [Finset.mul_sum, ← coe_sum]
  refine Finset.sum_congr rfl fun f _ => ?_
  rw [y_eq hB ht hpre hh, xi_eq hB ht, hB.dsk, z_eq hB, silu_coe, hw, hB.wout]
  simp only [← EReal.coe_mul, ← EReal.coe_add]
  refine congrArg _ ?_
  unfold Args.O
  ring

end Chunk

end Cert.Proof.Moe

end
-- ==== Proof.Moe.ArgsOf.lean ====
/-
  The experts' arguments, arrays of coerced reals, and the mixture's real arguments read off them.
-/
module

public import proofs.«01_k».proof.Proof.Moe.Spec
public import Idealize.ShloMosaic.Lib.ValueIdx
public import Idealize.ShloMosaic.Lib.Pointwise
public import Idealize.ShloMosaic.PureOps.Ideal

@[expose] public section

noncomputable section

namespace Cert.Proof.Moe

open Idealize.ShloMosaic

/-- An array of the shape `s` over the extended reals. -/
abbrev Arr (s : Shape) : Type := s.Idx → EReal

/-- Every element is a real. -/
def Fin' {s : Shape} (x : Arr s) : Prop := ∀ j, x j = ((x j).toReal : EReal)

/-- The eleven arguments are the real ones, coerced. -/
structure ArgsOf (a : Args) (x : Arr ⟨3, ![2, 2048, 1024]⟩) (w : Arr ⟨2, ![8, 4096]⟩) (win : Arr ⟨3, ![8, 1024, 4096]⟩) (wconv : Arr ⟨3, ![8, 2048, 4]⟩)
    (bconv : Arr ⟨2, ![8, 2048]⟩) (wx : Arr ⟨3, ![8, 2048, 96]⟩) (wdt : Arr ⟨3, ![8, 64, 2048]⟩) (bdt : Arr ⟨2, ![8, 2048]⟩)
    (alog : Arr ⟨3, ![8, 2048, 16]⟩) (dsk : Arr ⟨2, ![8, 2048]⟩) (wout : Arr ⟨3, ![8, 2048, 1024]⟩) : Prop where
  x : ∀ b (l : Fin 2048) d, x (ix3 b l d) = ((a.x b l.val d : ℝ) : EReal)
  w : ∀ e (b : Fin 2) (l : Fin 2048), w (ix2 e ⟨b.val * 2048 + l.val, by omega⟩) = ((a.w e b l.val : ℝ) : EReal)
  win : ∀ e d f, win (ix3 e d f) = ((a.win e d f : ℝ) : EReal)
  wconv : ∀ e f k, wconv (ix3 e f k) = ((a.wconv e f k : ℝ) : EReal)
  bconv : ∀ e f, bconv (ix2 e f) = ((a.bconv e f : ℝ) : EReal)
  wx : ∀ e f r, wx (ix3 e f r) = ((a.wx e f r : ℝ) : EReal)
  wdt : ∀ e r f, wdt (ix3 e r f) = ((a.wdt e r f : ℝ) : EReal)
  bdt : ∀ e f, bdt (ix2 e f) = ((a.bdt e f : ℝ) : EReal)
  alog : ∀ e f n, alog (ix3 e f n) = ((a.alog e f n : ℝ) : EReal)
  dsk : ∀ e f, dsk (ix2 e f) = ((a.dsk e f : ℝ) : EReal)
  wout : ∀ e f d, wout (ix3 e f d) = ((a.wout e f d : ℝ) : EReal)

section

variable (x : Arr ⟨3, ![2, 2048, 1024]⟩) (w : Arr ⟨2, ![8, 4096]⟩) (win : Arr ⟨3, ![8, 1024, 4096]⟩) (wconv : Arr ⟨3, ![8, 2048, 4]⟩)
    (bconv : Arr ⟨2, ![8, 2048]⟩) (wx : Arr ⟨3, ![8, 2048, 96]⟩) (wdt : Arr ⟨3, ![8, 64, 2048]⟩) (bdt : Arr ⟨2, ![8, 2048]⟩)
    (alog : Arr ⟨3, ![8, 2048, 16]⟩) (dsk : Arr ⟨2, ![8, 2048]⟩) (wout : Arr ⟨3, ![8, 2048, 1024]⟩)

/-- The arguments' reals. -/
def realArgs : Args where
  x b l d := (x (ix3 b (Fin.ofNat 2048 l) d)).toReal
  w e b l := (w (ix2 e ⟨b.val * 2048 + l % 2048, by omega⟩)).toReal
  win e d f := (win (ix3 e d f)).toReal
  wconv e f k := (wconv (ix3 e f k)).toReal
  bconv e f := (bconv (ix2 e f)).toReal
  wx e f r := (wx (ix3 e f r)).toReal
  wdt e r f := (wdt (ix3 e r f)).toReal
  bdt e f := (bdt (ix2 e f)).toReal
  alog e f n := (alog (ix3 e f n)).toReal
  dsk e f := (dsk (ix2 e f)).toReal
  wout e f d := (wout (ix3 e f d)).toReal

theorem realArgs_of (h0 : Fin' x) (h1 : Fin' w) (h2 : Fin' win) (h3 : Fin' wconv) (h4 : Fin' bconv) (h5 : Fin' wx) (h6 : Fin' wdt) (h7 : Fin' bdt)
    (h8 : Fin' alog) (h9 : Fin' dsk) (h10 : Fin' wout) :
    ArgsOf (realArgs x w win wconv bconv wx wdt bdt alog dsk wout) x w win wconv bconv wx wdt bdt alog dsk wout where
  x b l d := by
    refine (h0 _).trans ?_
    show _ = ((x (ix3 b (Fin.ofNat 2048 l.val) d)).toReal : EReal)
    rw [show Fin.ofNat 2048 l.val = l from Fin.ext (Nat.mod_eq_of_lt l.isLt)]
  w e b l := by
    refine (h1 _).trans ?_
    show _ = ((w (ix2 e ⟨b.val * 2048 + l.val % 2048, by omega⟩)).toReal : EReal)
    simp only [Nat.mod_eq_of_lt l.isLt]
  win e d f := h2 _
  wconv e f k := h3 _
  bconv e f := h4 _
  wx e f r := h5 _
  wdt e r f := h6 _
  bdt e f := h7 _
  alog e f n := h8 _
  dsk e f := h9 _
  wout e f d := h10 _

end

end Cert.Proof.Moe

end
-- ==== Proof.Moe.Host.lean ====
/-
  The experts' kernel: what its host operations hand the call, and the blocks of a grid point, of the arguments' reals.
-/
module

public import proofs.«01_k».proof.Proof.Moe.Run
public import proofs.«01_k».proof.Proof.Moe.Chunk
public import proofs.«01_k».proof.Proof.Moe.ArgsOf
public import Idealize.ShloMosaic.Lib.Pipeline.ValueKit
public import Idealize.ShloMosaic.Lib.IdealHost

@[expose] public section

noncomputable section

namespace Cert.Proof.Moe

open Cert.ExpertsIdeal Cert.ExpertsIdeal.Gen

open Idealize.ShloMosaic
open Idealize.ShloMosaic.TcCoe Idealize.ShloMosaic.Tactic
open Idealize.SL.Sem
open Idealize.ShloMosaic.StableHlo
open VecWindow (window put)

/-! ## The host's arrays -/

/-- The convolution's taps as rows, padded to eight. -/
def hWct (W : FVec Ideal S8x2048x4 .f32) : FVec Ideal S8x8x2048 .f32 :=
  Idealize.ShloMosaic.pad S8x8x2048 ![0, 0, 0] ![0, 4, 0] ![0, 0, 0] (transpose S8x4x2048 [0, 2, 1] W transposes_S8x2048x4_S8x4x2048_0_2_1)
    (sitofp .f32 (constantI S_ 32 0#32)) pads_S8x4x2048_S8x8x2048_000_040_000 h_S_
/-- The three parts of the projection, each padded to 128 columns. -/
def hWx (W : FVec Ideal S8x2048x96 .f32) : FVec Ideal S8x2048x384 .bf16 :=
  truncf .bf16 (concatenate S8x2048x384 2
    [⟨S8x2048x128, Idealize.ShloMosaic.pad S8x2048x128 ![0, 0, 0] ![0, 0, 64] ![0, 0, 0] (extractStridedSlice S8x2048x64 ![0, 0, 0] W slices_S8x2048x96_S8x2048x64_0_0_0)
        (sitofp .f32 (constantI S_ 32 0#32)) pads_S8x2048x64_S8x2048x128_000_000_0640 h_S_⟩,
     ⟨S8x2048x128, Idealize.ShloMosaic.pad S8x2048x128 ![0, 0, 0] ![0, 0, 112] ![0, 0, 0] (extractStridedSlice S8x2048x16 ![0, 0, 64] W slices_S8x2048x96_S8x2048x16_0_0_64)
        (sitofp .f32 (constantI S_ 32 0#32)) pads_S8x2048x16_S8x2048x128_000_000_01120 h_S_⟩,
     ⟨S8x2048x128, Idealize.ShloMosaic.pad S8x2048x128 ![0, 0, 0] ![0, 0, 112] ![0, 0, 0] (extractStridedSlice S8x2048x16 ![0, 0, 80] W slices_S8x2048x96_S8x2048x16_0_0_80)
        (sitofp .f32 (constantI S_ 32 0#32)) pads_S8x2048x16_S8x2048x128_000_000_01120 h_S_⟩]
    concatenates_S8x2048x128_S8x2048x128_S8x2048x128_S8x2048x384_d2) bitsLt_bf16_f32
/-- The steps' projection, padded to 128 rows. -/
def hWdt (W : FVec Ideal S8x64x2048 .f32) : FVec Ideal S8x128x2048 .bf16 :=
  truncf .bf16 (Idealize.ShloMosaic.pad S8x128x2048 ![0, 0, 0] ![0, 64, 0] ![0, 0, 0] W (sitofp .f32 (constantI S_ 32 0#32)) pads_S8x64x2048_S8x128x2048_000_0640_000 h_S_)
    bitsLt_bf16_f32
/-- The decays' logarithms negated, a row per state. -/
def hDec (W : FVec Ideal S8x2048x16 .f32) : FVec Ideal S8x16x2048 .f32 :=
  transpose S8x16x2048 [0, 2, 1] (Host.negf (Host.exp W)) transposes_S8x2048x16_S8x16x2048_0_2_1
/-- The gates by sequence. -/
def hW (W : FVec Ideal S8x4096 .f32) : FVec Ideal S2x8x2048 .f32 :=
  transpose S2x8x2048 [1, 0, 2] (shapeCast S8x2x2048 W shapeCasts_S8x4096_S8x2x2048) transposes_S8x2x2048_S2x8x2048_1_0_2
/-- A vector per expert, as one row. -/
def hRow (W : FVec Ideal S8x2048 .f32) : FVec Ideal S8x1x2048 .f32 :=
  broadcastInDim S8x1x2048 ![0, 2] bcast_S8x2048_S8x1x2048_0_2 W

theorem sitofp_zero : (FloatOps.sitofp (F := Ideal) FTy.f32 (0#32) : EReal) = ((0 : ℝ) : EReal) := by
  show (((((0#32 : BitVec 32).toInt : ℤ) : ℝ)) : EReal) = _
  norm_num

theorem hWct_apply (W : FVec Ideal S8x2048x4 .f32) (e : Fin 8) (k : Fin 4) (f : Fin 2048) : hWct W (ix3 e ⟨k.val, by omega⟩ f) = W (ix3 e f k) := by
  pointwise [hWct]
theorem hWdt_apply (W : FVec Ideal S8x64x2048 .f32) (e : Fin 8) (r : Fin 64) (f : Fin 2048) : hWdt W (ix3 e ⟨r.val, by omega⟩ f) = W (ix3 e r f) := by
  pointwise [hWdt]
theorem hWdt_zero (W : FVec Ideal S8x64x2048 .f32) (e : Fin 8) (r : Fin 64) (f : Fin 2048) : hWdt W (ix3 e ⟨64 + r.val, by omega⟩ f) = ((0 : ℝ) : EReal) := by
  pointwise [hWdt]
  exact sitofp_zero
theorem hDec_apply (W : FVec Ideal S8x2048x16 .f32) (e : Fin 8) (n : Fin 16) (f : Fin 2048) : hDec W (ix3 e n f) = -Ideal.exp (W (ix3 e f n)) := by
  pointwise [hDec]
theorem hW_apply (W : FVec Ideal S8x4096 .f32) (e : Fin 8) (b : Fin 2) (l : Fin 2048) : hW W (ix3 b e l) = W (ix2 e ⟨b.val * 2048 + l.val, by omega⟩) := by
  pointwise [hW]
theorem hRow_apply (W : FVec Ideal S8x2048 .f32) (e : Fin 8) (f : Fin 2048) : hRow W (ix3 e 0 f) = W (ix2 e f) := by
  pointwise [hRow]
theorem hWx_dt (W : FVec Ideal S8x2048x96 .f32) (e : Fin 8) (f : Fin 2048) (r : Fin 64) : hWx W (ix3 e f ⟨r.val, by omega⟩) = W (ix3 e f ⟨r.val, by omega⟩) := by
  pointwise [hWx]
  rw [dif_pos (by omega)]
theorem hWx_zero (W : FVec Ideal S8x2048x96 .f32) (e : Fin 8) (f : Fin 2048) (r : Fin 64) : hWx W (ix3 e f ⟨64 + r.val, by omega⟩) = ((0 : ℝ) : EReal) := by
  pointwise [hWx]
  rw [dif_pos (by omega)]
  exact sitofp_zero
theorem hWx_B (W : FVec Ideal S8x2048x96 .f32) (e : Fin 8) (f : Fin 2048) (n : Fin 16) : hWx W (ix3 e f ⟨128 + n.val, by omega⟩) = W (ix3 e f ⟨64 + n.val, by omega⟩) := by
  pointwise [hWx]
  rw [dif_pos (by omega)]
theorem hWx_C (W : FVec Ideal S8x2048x96 .f32) (e : Fin 8) (f : Fin 2048) (n : Fin 16) : hWx W (ix3 e f ⟨256 + n.val, by omega⟩) = W (ix3 e f ⟨80 + n.val, by omega⟩) := by
  pointwise [hWx]
  rw [dif_neg (by omega), dif_neg (by omega), dif_pos (by omega)]
  congr 2
  exact Fin.ext (by show 80 + (256 + n.val - 128 - 128) = 80 + n.val; omega)

theorem concat3 {a a' b b' c c' : FVec Ideal S8x2048x128 .f32} (h1 : a = a') (h2 : b = b') (h3 : c = c') :
    concatenate S8x2048x384 2 [⟨S8x2048x128, a⟩, ⟨S8x2048x128, b⟩, ⟨S8x2048x128, c⟩] concatenates_S8x2048x128_S8x2048x128_S8x2048x128_S8x2048x384_d2
      = concatenate S8x2048x384 2 [⟨S8x2048x128, a'⟩, ⟨S8x2048x128, b'⟩, ⟨S8x2048x128, c'⟩] concatenates_S8x2048x128_S8x2048x128_S8x2048x128_S8x2048x384_d2 := by
  subst h1 h2 h3; rfl

section Vals

variable (m : (ℓ : Loc nD τ sig) → Buf (Elt Ideal) ℓ) (d : Dev nD)

theorem V_v20 : V₁ m d main_v20 = (truncf .bf16 (m (d.tc.loc main_arg0) : FVec Ideal S2x2048x1024 .f32) bitsLt_bf16_f32 : FVec Ideal S2x2048x1024 .bf16) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v11 : V₁ m d main_v11 = hWx (m (d.tc.loc main_arg5)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp
  refine congrArg (fun y => truncf .bf16 y bitsLt_bf16_f32) (concat3 ?_ ?_ ?_) <;> dsimp only [Matrix.cons_val] <;> after_results_simp <;> rfl
theorem V_v0 : V₁ m d main_v0 = (truncf .bf16 (m (d.tc.loc main_arg2) : FVec Ideal S8x1024x4096 .f32) bitsLt_bf16_f32 : FVec Ideal S8x1024x4096 .bf16) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v2 : V₁ m d main_v2 = hWct (m (d.tc.loc main_arg3)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v3 : V₁ m d main_v3 = hRow (m (d.tc.loc main_arg4)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v13 : V₁ m d main_v13 = hWdt (m (d.tc.loc main_arg6)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v14 : V₁ m d main_v14 = hRow (m (d.tc.loc main_arg7)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v17 : V₁ m d main_v17 = hDec (m (d.tc.loc main_arg8)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v18 : V₁ m d main_v18 = hRow (m (d.tc.loc main_arg9)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v19 : V₁ m d main_v19 = (truncf .bf16 (m (d.tc.loc main_arg10) : FVec Ideal S8x2048x1024 .f32) bitsLt_bf16_f32 : FVec Ideal S8x2048x1024 .bf16) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl
theorem V_v22 : V₁ m d main_v22 = hW (m (d.tc.loc main_arg1)) := by
  unfold V₁; simp only [stretches, hostOps0, hostOps0_1, hostOps0_2, hostOps0_3, hostOps0_4, hostOps0_5, hostOps0_6, hostOps0_7, hostOps0_8, hostOps0_9, hostOps0_10, List.flatten_cons, List.flatten_nil, List.cons_append, List.nil_append, TRef.binary, TRef.nullary, TRef.ternary, TRef.unary, TRef.toBuf, TRef.ofBuf, cast_eq]; after_results_simp <;> rfl

end Vals

end Cert.Proof.Moe

end
-- ==== Proof.Moe.Blocks.lean ====
/-
  The experts' kernel: the blocks of a grid point, of the arguments' reals.
-/
module

public import proofs.«01_k».proof.Proof.Moe.Host

@[expose] public section

noncomputable section

namespace Cert.Proof.Moe

open Cert.ExpertsIdeal Cert.ExpertsIdeal.Gen

open Idealize.ShloMosaic
open Idealize.ShloMosaic.TcCoe Idealize.ShloMosaic.Tactic
open Idealize.SL.Sem
open Idealize.ShloMosaic.StableHlo
open VecWindow (window put)

/-! ## The windows' blocks -/

theorem idx0_0 : ∀ t : Fin cfg0.N, win0_0.index t = ![t.val / 8 % 2, t.val % 8, 0] := by decide +kernel
theorem idx0_1 : ∀ t : Fin cfg0.N, win0_1.index t = ![t.val / 16, 0, 0] := by decide +kernel
theorem idx0_2 : ∀ t : Fin cfg0.N, win0_2.index t = ![t.val / 16, 0, 0] := by decide +kernel
theorem idx0_3 : ∀ t : Fin cfg0.N, win0_3.index t = ![t.val / 16, 0, 0] := by decide +kernel
theorem idx0_4 : ∀ t : Fin cfg0.N, win0_4.index t = ![t.val / 16, 0, 0] := by decide +kernel
theorem idx0_5 : ∀ t : Fin cfg0.N, win0_5.index t = ![t.val / 16, 0, 0] := by decide +kernel
theorem idx0_6 : ∀ t : Fin cfg0.N, win0_6.index t = ![t.val / 16, 0, 0] := by decide +kernel
theorem idx0_7 : ∀ t : Fin cfg0.N, win0_7.index t = ![t.val / 16, 0, 0] := by decide +kernel
theorem idx0_8 : ∀ t : Fin cfg0.N, win0_8.index t = ![t.val / 16, 0, 0] := by decide +kernel
theorem idx0_9 : ∀ t : Fin cfg0.N, win0_9.index t = ![t.val / 16, 0, 0] := by decide +kernel
theorem idx0_10 : ∀ t : Fin cfg0.N, win0_10.index t = ![t.val / 8 % 2, 0, t.val % 8] := by decide +kernel

section Blocks

variable {m : (ℓ : Loc nD τ sig) → Buf (Elt Ideal) ℓ} {d : Dev nD} {a : Args}

/-- The experts' arguments at the entry are the real ones. -/
def Entry (m : (ℓ : Loc nD τ sig) → Buf (Elt Ideal) ℓ) (d : Dev nD) (a : Args) : Prop :=
  ArgsOf a (m (d.tc.loc main_arg0)) (m (d.tc.loc main_arg1)) (m (d.tc.loc main_arg2)) (m (d.tc.loc main_arg3)) (m (d.tc.loc main_arg4))
    (m (d.tc.loc main_arg5)) (m (d.tc.loc main_arg6)) (m (d.tc.loc main_arg7)) (m (d.tc.loc main_arg8)) (m (d.tc.loc main_arg9))
    (m (d.tc.loc main_arg10))

theorem x_of (hE : Entry m d a) (t : Fin cfg0.N) (e : Fin 8) (b : Fin 2) (c : Fin 8) (he : t.val / 16 = e.val) (hb : t.val / 8 % 2 = b.val)
    (hc : t.val % 8 = c.val) :
    ∀ (r : Fin 256) (f : Fin 1024), (blk (V₁ m) d t).x (ix3 0 r f) = ((a.x b (256 * c.val + r.val) f : ℝ) : EReal) := fun r f => by
    refine Eq.trans (b := (V₁ m d main_v20 : S2x2048x1024.Idx → EReal) (ix3 b ⟨256 * c.val + r.val, by omega⟩ f)) ?_ ?_
    · show (iblk (V₁ m) d 0 t : S1x256x1024.Idx → EReal) (ix3 0 r f) = _
      blk_ext [iblk, idx0_0]
    · rw [V_v20]; exact hE.x b ⟨256 * c.val + r.val, by omega⟩ f

theorem win_of (hE : Entry m d a) (t : Fin cfg0.N) (e : Fin 8) (b : Fin 2) (c : Fin 8) (he : t.val / 16 = e.val) (hb : t.val / 8 % 2 = b.val)
    (hc : t.val % 8 = c.val) :
    ∀ r f, (blk (V₁ m) d t).win (ix3 0 r f) = ((a.win e r f : ℝ) : EReal) := fun r f => by
    refine Eq.trans (b := (V₁ m d main_v0 : S8x1024x4096.Idx → EReal) (ix3 e r f)) ?_ ?_
    · show (iblk (V₁ m) d 1 t : S1x1024x4096.Idx → EReal) (ix3 0 r f) = _
      blk_ext [iblk, idx0_1]
    · rw [V_v0]; exact hE.win e r f

theorem wct_of (hE : Entry m d a) (t : Fin cfg0.N) (e : Fin 8) (b : Fin 2) (c : Fin 8) (he : t.val / 16 = e.val) (hb : t.val / 8 % 2 = b.val)
    (hc : t.val % 8 = c.val) :
    ∀ (k : Fin 4) f, (blk (V₁ m) d t).wct (ix3 0 ⟨k.val, by omega⟩ f) = ((a.wconv e f k : ℝ) : EReal) := fun k f => by
    refine Eq.trans (b := (V₁ m d main_v2 : S8x8x2048.Idx → EReal) (ix3 e ⟨k.val, by omega⟩ f)) ?_ ?_
    · show (iblk (V₁ m) d 2 t : S1x8x2048.Idx → EReal) (ix3 0 ⟨k.val, by omega⟩ f) = _
      blk_ext [iblk, idx0_2]
    · rw [V_v2]; exact (hWct_apply _ e k f).trans (hE.wconv e f k)

theorem bconv_of (hE : Entry m d a) (t : Fin cfg0.N) (e : Fin 8) (b : Fin 2) (c : Fin 8) (he : t.val / 16 = e.val) (hb : t.val / 8 % 2 = b.val)
    (hc : t.val % 8 = c.val) :
    ∀ f : Fin 2048, (blk (V₁ m) d t).bconv (ix3 0 0 f) = ((a.bconv e f : ℝ) : EReal) := fun f => by
    refine Eq.trans (b := (V₁ m d main_v3 : S8x1x2048.Idx → EReal) (ix3 e 0 f)) ?_ ?_
    · show (iblk (V₁ m) d 3 t : S1x1x2048.Idx → EReal) (ix3 0 0 f) = _
      blk_ext [iblk, idx0_3]
    · rw [V_v3]; exact (hRow_apply _ e f).trans (hE.bconv e f)

theorem wxdt_of (hE : Entry m d a) (t : Fin cfg0.N) (e : Fin 8) (b : Fin 2) (c : Fin 8) (he : t.val / 16 = e.val) (hb : t.val / 8 % 2 = b.val)
    (hc : t.val % 8 = c.val) :
    ∀ f (r : Fin 64), (blk (V₁ m) d t).wxp (ix3 0 f ⟨r.val, by omega⟩) = ((a.wx e f ⟨r.val, by omega⟩ : ℝ) : EReal) := fun f r => by
    refine Eq.trans (b := (V₁ m d main_v11 : S8x2048x384.Idx → EReal) (ix3 e f ⟨r.val, by omega⟩)) ?_ ?_
    · show (iblk (V₁ m) d 4 t : S1x2048x384.Idx → EReal) (ix3 0 f ⟨r.val, by omega⟩) = _
      blk_ext [iblk, idx0_4]
    · rw [V_v11]; exact (hWx_dt _ e f r).trans (hE.wx e f _)

theorem wx0_of (hE : Entry m d a) (t : Fin cfg0.N) (e : Fin 8) (b : Fin 2) (c : Fin 8) (he : t.val / 16 = e.val) (hb : t.val / 8 % 2 = b.val)
    (hc : t.val % 8 = c.val) :
    ∀ f (r : Fin 64), (blk (V₁ m) d t).wxp (ix3 0 f ⟨64 + r.val, by omega⟩) = ((0 : ℝ) : EReal) := fun f r => by
    refine Eq.trans (b := (V₁ m d main_v11 : S8x2048x384.Idx → EReal) (ix3 e f ⟨64 + r.val, by omega⟩)) ?_ ?_
    · show (iblk (V₁ m) d 4 t : S1x2048x384.Idx → EReal) (ix3 0 f ⟨64 + r.val, by omega⟩) = _
      blk_ext [iblk, idx0_4]
    · rw [V_v11]; exact hWx_zero _ e f r

theorem wxB_of (hE : Entry m d a) (t : Fin cfg0.N) (e : Fin 8) (b : Fin 2) (c : Fin 8) (he : t.val / 16 = e.val) (hb : t.val / 8 % 2 = b.val)
    (hc : t.val % 8 = c.val) :
    ∀ f (n : Fin 16), (blk (V₁ m) d t).wxp (ix3 0 f ⟨128 + n.val, by omega⟩) = ((a.wx e f ⟨64 + n.val, by omega⟩ : ℝ) : EReal) := fun f r => by
    refine Eq.trans (b := (V₁ m d main_v11 : S8x2048x384.Idx → EReal) (ix3 e f ⟨128 + r.val, by omega⟩)) ?_ ?_
    · show (iblk (V₁ m) d 4 t : S1x2048x384.Idx → EReal) (ix3 0 f ⟨128 + r.val, by omega⟩) = _
      blk_ext [iblk, idx0_4]
    · rw [V_v11]; exact (hWx_B _ e f r).trans (hE.wx e f _)

theorem wxC_of (hE : Entry m d a) (t : Fin cfg0.N) (e : Fin 8) (b : Fin 2) (c : Fin 8) (he : t.val / 16 = e.val) (hb : t.val / 8 % 2 = b.val)
    (hc : t.val % 8 = c.val) :
    ∀ f (n : Fin 16), (blk (V₁ m) d t).wxp (ix3 0 f ⟨256 + n.val, by omega⟩) = ((a.wx e f ⟨80 + n.val, by omega⟩ : ℝ) : EReal) := fun f r => by
    refine Eq.trans (b := (V₁ m d main_v11 : S8x2048x384.Idx → EReal) (ix3 e f ⟨256 + r.val, by omega⟩)) ?_ ?_
    · show (iblk (V₁ m) d 4 t : S1x2048x384.Idx → EReal) (ix3 0 f ⟨256 + r.val, by omega⟩) = _
      blk_ext [iblk, idx0_4]
    · rw [V_v11]; exact (hWx_C _ e f r).trans (hE.wx e f _)

theorem wdt_of (hE : Entry m d a) (t : Fin cfg0.N) (e : Fin 8) (b : Fin 2) (c : Fin 8) (he : t.val / 16 = e.val) (hb : t.val / 8 % 2 = b.val)
    (hc : t.val % 8 = c.val) :
    ∀ (r : Fin 64) f, (blk (V₁ m) d t).wdt (ix3 0 ⟨r.val, by omega⟩ f) = ((a.wdt e r f : ℝ) : EReal) := fun r f => by
    refine Eq.trans (b := (V₁ m d main_v13 : S8x128x2048.Idx → EReal) (ix3 e ⟨r.val, by omega⟩ f)) ?_ ?_
    · show (iblk (V₁ m) d 5 t : S1x128x2048.Idx → EReal) (ix3 0 ⟨r.val, by omega⟩ f) = _
      blk_ext [iblk, idx0_5]
    · rw [V_v13]; exact (hWdt_apply _ e r f).trans (hE.wdt e r f)

theorem wdt0_of (hE : Entry m d a) (t : Fin cfg0.N) (e : Fin 8) (b : Fin 2) (c : Fin 8) (he : t.val / 16 = e.val) (hb : t.val / 8 % 2 = b.val)
    (hc : t.val % 8 = c.val) :
    ∀ (r : Fin 64) f, (blk (V₁ m) d t).wdt (ix3 0 ⟨64 + r.val, by omega⟩ f) = ((0 : ℝ) : EReal) := fun r f => by
    refine Eq.trans (b := (V₁ m d main_v13 : S8x128x2048.Idx → EReal) (ix3 e ⟨64 + r.val, by omega⟩ f)) ?_ ?_
    · show (iblk (V₁ m) d 5 t : S1x128x2048.Idx → EReal) (ix3 0 ⟨64 + r.val, by omega⟩ f) = _
      blk_ext [iblk, idx0_5]
    · rw [V_v13]; exact hWdt_zero _ e r f

theorem bdt_of (hE : Entry m d a) (t : Fin cfg0.N) (e : Fin 8) (b : Fin 2) (c : Fin 8) (he : t.val / 16 = e.val) (hb : t.val / 8 % 2 = b.val)
    (hc : t.val % 8 = c.val) :
    ∀ f : Fin 2048, (blk (V₁ m) d t).bdt (ix3 0 0 f) = ((a.bdt e f : ℝ) : EReal) := fun f => by
    refine Eq.trans (b := (V₁ m d main_v14 : S8x1x2048.Idx → EReal) (ix3 e 0 f)) ?_ ?_
    · show (iblk (V₁ m) d 6 t : S1x1x2048.Idx → EReal) (ix3 0 0 f) = _
      blk_ext [iblk, idx0_6]
    · rw [V_v14]; exact (hRow_apply _ e f).trans (hE.bdt e f)

theorem at__of (hE : Entry m d a) (t : Fin cfg0.N) (e : Fin 8) (b : Fin 2) (c : Fin 8) (he : t.val / 16 = e.val) (hb : t.val / 8 % 2 = b.val)
    (hc : t.val % 8 = c.val) :
    ∀ n f, (blk (V₁ m) d t).at_ (ix3 0 n f) = ((-Real.exp (a.alog e f n) : ℝ) : EReal) := fun n f => by
    refine Eq.trans (b := (V₁ m d main_v17 : S8x16x2048.Idx → EReal) (ix3 e n f)) ?_ ?_
    · show (iblk (V₁ m) d 7 t : S1x16x2048.Idx → EReal) (ix3 0 n f) = _
      blk_ext [iblk, idx0_7]
    · rw [V_v17]; refine (hDec_apply _ e n f).trans ?_; rw [hE.alog e f n, Ideal.exp_coe]; exact (EReal.coe_neg _).symm

theorem dsk_of (hE : Entry m d a) (t : Fin cfg0.N) (e : Fin 8) (b : Fin 2) (c : Fin 8) (he : t.val / 16 = e.val) (hb : t.val / 8 % 2 = b.val)
    (hc : t.val % 8 = c.val) :
    ∀ f : Fin 2048, (blk (V₁ m) d t).dsk (ix3 0 0 f) = ((a.dsk e f : ℝ) : EReal) := fun f => by
    refine Eq.trans (b := (V₁ m d main_v18 : S8x1x2048.Idx → EReal) (ix3 e 0 f)) ?_ ?_
    · show (iblk (V₁ m) d 8 t : S1x1x2048.Idx → EReal) (ix3 0 0 f) = _
      blk_ext [iblk, idx0_8]
    · rw [V_v18]; exact (hRow_apply _ e f).trans (hE.dsk e f)

theorem wout_of (hE : Entry m d a) (t : Fin cfg0.N) (e : Fin 8) (b : Fin 2) (c : Fin 8) (he : t.val / 16 = e.val) (hb : t.val / 8 % 2 = b.val)
    (hc : t.val % 8 = c.val) :
    ∀ r f, (blk (V₁ m) d t).wout (ix3 0 r f) = ((a.wout e r f : ℝ) : EReal) := fun r f => by
    refine Eq.trans (b := (V₁ m d main_v19 : S8x2048x1024.Idx → EReal) (ix3 e r f)) ?_ ?_
    · show (iblk (V₁ m) d 9 t : S1x2048x1024.Idx → EReal) (ix3 0 r f) = _
      blk_ext [iblk, idx0_9]
    · rw [V_v19]; exact hE.wout e r f

/-- The blocks of the point of an expert, a sequence and a chunk. -/
theorem blk_of (hE : Entry m d a) (t : Fin cfg0.N) (e : Fin 8) (b : Fin 2) (c : Fin 8) (he : t.val / 16 = e.val) (hb : t.val / 8 % 2 = b.val)
    (hc : t.val % 8 = c.val) : (blk (V₁ m) d t).Of a e b c.val where
  x := x_of hE t e b c he hb hc
  win := win_of hE t e b c he hb hc
  wct := wct_of hE t e b c he hb hc
  bconv := bconv_of hE t e b c he hb hc
  wxdt := wxdt_of hE t e b c he hb hc
  wx0 := wx0_of hE t e b c he hb hc
  wxB := wxB_of hE t e b c he hb hc
  wxC := wxC_of hE t e b c he hb hc
  wdt := wdt_of hE t e b c he hb hc
  wdt0 := wdt0_of hE t e b c he hb hc
  bdt := bdt_of hE t e b c he hb hc
  at_ := at__of hE t e b c he hb hc
  dsk := dsk_of hE t e b c he hb hc
  wout := wout_of hE t e b c he hb hc

/-- The gates the point of an expert, a sequence and a chunk reads. -/
theorem wts_of (hE : Entry m d a) (t : Fin cfg0.N) (b : Fin 2) (c : Fin 8) (hb : t.val / 8 % 2 = b.val) (hc : t.val % 8 = c.val) (e : Fin 8) (r : Fin 256) :
    (wts (V₁ m) d t : S1x8x256.Idx → EReal) (ix3 0 e r) = ((a.w e b (256 * c.val + r.val) : ℝ) : EReal) := by
  refine Eq.trans (b := (V₁ m d main_v22 : S2x8x2048.Idx → EReal) (ix3 b e ⟨256 * c.val + r.val, by omega⟩)) ?_ ?_
  · show (iblk (V₁ m) d 10 t : S1x8x256.Idx → EReal) (ix3 0 e r) = _
    blk_ext [iblk, idx0_10]
  · rw [V_v22]; exact (hW_apply _ e b _).trans (hE.w e b ⟨256 * c.val + r.val, by omega⟩)

end Blocks

end Cert.Proof.Moe

end
-- ==== Proof.Moe.Points.lean ====
/-
  The experts' kernel, point by point: what a point finds in the scratch buffers, and what it adds to the output, of the
  arguments' reals; the result after the last point.
-/
module

public import proofs.«01_k».proof.Proof.Moe.Blocks
public import Idealize.ShloMosaic.Lib.Pipeline.ArrRel

@[expose] public section

noncomputable section

namespace Cert.Proof.Moe

open Cert.ExpertsIdeal Cert.ExpertsIdeal.Gen

open Idealize.ShloMosaic
open Idealize.ShloMosaic.TcCoe Idealize.ShloMosaic.Tactic
open Idealize.SL.Sem
open Idealize.ShloMosaic.StableHlo
open Idealize.ShloMosaic.Pipeline (RDat)
open VecWindow (window put)

/-! ## The grid -/

theorem c0_iff : ∀ t : Fin cfg0.N, (Scalar.cmpi .ne (Scalar.extui (Scalar.cmpi .eq (BitVec.ofNat 32 (grid0.coords t 2).val) 0#32)) 0#32 = 1#1) ↔ t.val % 8 = 0 := by
  decide +kernel
theorem c3_iff : ∀ t : Fin cfg0.N, (k0_cond3 (grid0.coords t) = 1#1) ↔ t.val < 16 := by decide +kernel
theorem c4_iff : ∀ t : Fin cfg0.N, (k0_cond4 (grid0.coords t) = 1#1) ↔ ¬ t.val < 16 := by decide +kernel
theorem off4_eq : ∀ t : Fin cfg0.N, k0_off4 (grid0.coords t) = ![0, t.val / 16, 0] := by decide +kernel
theorem off5_eq : ∀ t : Fin cfg0.N, k0_off5 (grid0.coords t) = ![t.val / 8 % 2, 256 * (t.val % 8), 0] := by decide +kernel
theorem off6_eq : ∀ t : Fin cfg0.N, k0_off6 (grid0.coords t) = ![t.val / 8 % 2, 256 * (t.val % 8), 0] := by decide +kernel

/-- A position of a sequence, by its chunk and row. -/
abbrev pos (c : Fin 8) (r : Fin 256) : Fin 2048 := ⟨256 * c.val + r.val, by omega⟩

theorem put_block (X : S2x2048x1024.Idx → EReal) (off : Fin 3 → ℕ) (b b' : Fin 2) (c c' : Fin 8) (hoff : off = ![b.val, 256 * c.val, 0])
    (w : S1x256x1024.Idx → EReal) (r : Fin 256) (f : Fin 1024) :
    put X off S1x256x1024.size w (ix3 b' (pos c' r) f) = if b' = b ∧ c' = c then w (ix3 0 r f) else X (ix3 b' (pos c' r) f) := by
  subst hoff
  unfold put
  by_cases h : b' = b ∧ c' = c
  · obtain ⟨rfl, rfl⟩ := h
    rw [if_pos ⟨rfl, rfl⟩, dif_pos (show ∀ a : Fin 3, _ from fun a => by
      fin_cases a
      · exact ⟨le_rfl, Nat.lt_succ_self _⟩
      · show 256 * c'.val ≤ 256 * c'.val + r.val ∧ 256 * c'.val + r.val < 256 * c'.val + 256; omega
      · exact ⟨Nat.zero_le _, by show f.val < 0 + 1024; omega⟩)]
    refine congrArg w (funext fun a => Fin.ext ?_)
    fin_cases a
    · show b'.val - b'.val = 0; omega
    · show 256 * c'.val + r.val - 256 * c'.val = r.val; omega
    · show f.val - 0 = f.val; omega
  · rw [if_neg h, dif_neg]
    intro hall
    have h0 : b.val ≤ b'.val ∧ b'.val < b.val + 1 := hall 0
    have h1 : 256 * c.val ≤ 256 * c'.val + r.val ∧ 256 * c'.val + r.val < 256 * c.val + 256 := hall 1
    exact h ⟨Fin.ext (by omega), Fin.ext (by omega)⟩

theorem window_block (X : S2x2048x1024.Idx → EReal) (off : Fin 3 → ℕ) (inb : ∀ a, off a + S1x256x1024.size a ≤ S2x2048x1024.size a) (b : Fin 2) (c : Fin 8)
    (hoff : off = ![b.val, 256 * c.val, 0]) (r : Fin 256) (f : Fin 1024) :
    (window (s := S2x2048x1024) X off S1x256x1024.size inb : S1x256x1024.Idx → EReal) (ix3 0 r f) = X (ix3 b (pos c r) f) := by
  subst hoff
  refine congrArg X (funext fun a => Fin.ext ?_)
  fin_cases a
  · show b.val + 1 * 0 = b.val; omega
  · show 256 * c.val + 1 * r.val = 256 * c.val + r.val; omega
  · show 0 + 1 * f.val = f.val; omega

theorem window_gate (X : S1x8x256.Idx → EReal) (off : Fin 3 → ℕ) (inb : ∀ a, off a + S1x1x256.size a ≤ S1x8x256.size a) (e : Fin 8)
    (hoff : off = ![0, e.val, 0]) (r : Fin 256) :
    (window (s := S1x8x256) X off S1x1x256.size inb : S1x1x256.Idx → EReal) (ix3 0 0 r) = X (ix3 0 e r) := by
  subst hoff
  refine congrArg X (funext fun a => Fin.ext ?_)
  fin_cases a
  · show 0 + 1 * 0 = 0; omega
  · show e.val + 1 * 0 = e.val; omega
  · show 0 + 1 * r.val = r.val; omega

/-! ## The payloads of the output -/

theorem pay15_apply (k : Fin 3) (f : Fin 2048) : k0_pay15 (F := Ideal) (ix2 k f) = ((0 : ℝ) : EReal) := by
  pointwise [k0_pay15]
  exact EReal.coe_zero.symm
theorem pay31_apply (n : Fin 16) (f : Fin 2048) : k0_pay31 (F := Ideal) (ix2 n f) = ((0 : ℝ) : EReal) := by
  pointwise [k0_pay31]
  exact EReal.coe_zero.symm
theorem pay40_apply (z xi y : FVec Ideal S256x2048 .f32) (dsk : FVec Ideal S1x1x2048 .f32) (w : FVec Ideal S1x1x256 .f32)
    (wo : Vec Ideal S1x2048x1024 .bf16) (r : Fin 256) (f : Fin 1024) :
    k0_pay40 (F := Ideal) z xi y dsk w wo (ix3 0 r f) = k0_pay39 (F := Ideal) z xi y dsk w wo (ix2 r f) := by
  unfold k0_pay40
  generalize k0_pay39 (F := Ideal) z xi y dsk w wo = p
  pointwise
theorem pay41_apply (z xi y : FVec Ideal S256x2048 .f32) (dsk : FVec Ideal S1x1x2048 .f32) (w : FVec Ideal S1x1x256 .f32)
    (wo : Vec Ideal S1x2048x1024 .bf16) (old : FVec Ideal S1x256x1024 .f32) (r : Fin 256) (f : Fin 1024) :
    k0_pay41 (F := Ideal) z xi y dsk w wo old (ix3 0 r f) = old (ix3 0 r f) + k0_pay39 (F := Ideal) z xi y dsk w wo (ix2 r f) := by
  unfold k0_pay41
  generalize k0_pay39 (F := Ideal) z xi y dsk w wo = p
  pointwise

/-! ## The points -/

section Points

variable {m : (ℓ : Loc nD τ sig) → Buf (Elt Ideal) ℓ} {d : Dev nD} {a : Args}

/-- What point `n` starts from: the three rows before the chunk, and the state before it. -/
def Starts (m : (ℓ : Loc nD τ sig) → Buf (Elt Ideal) ℓ) (d : Dev nD) (a : Args) (n : ℕ) (e : Fin 8) (b : Fin 2) (c : Fin 8) : Prop :=
  (∀ (k : Fin 3) f, t0 (F := Ideal) (grid0.coords (pt n)) (tailAt (V₁ m) d n) (ix2 k f) = ((a.xpad e b (256 * c.val + k.val) f : ℝ) : EReal))
    ∧ ∀ (k : Fin 16) f, s0 (F := Ideal) (grid0.coords (pt n)) (hAt (V₁ m) d n) (ix2 k f) = ((a.H e b (256 * c.val) k f : ℝ) : EReal)

theorem starts_zero {n : ℕ} (hn : n < 128) (hc : n % 8 = 0) (e : Fin 8) (b : Fin 2) : Starts m d a n e b 0 := by
  have h : (Scalar.cmpi .ne (Scalar.extui (Scalar.cmpi .eq (BitVec.ofNat 32 (grid0.coords (pt n) 2).val) 0#32)) 0#32 = 1#1) :=
    (c0_iff (pt n)).mpr (by show n % 128 % 8 = 0; omega)
  refine ⟨fun k f => ?_, fun k f => ?_⟩
  · unfold t0; rw [if_pos h, pay15_apply]
    unfold Args.xpad; rw [if_pos (by show 256 * 0 + k.val < 3; omega)]
  · unfold s0; rw [if_pos h, pay31_apply]; rfl

theorem starts (hE : Entry m d a) (hpre : ∀ e b l f, l < 2048 → a.pre e b l f ≤ 20) : ∀ (n : ℕ) (_ : n < 128) (e : Fin 8) (b : Fin 2) (c : Fin 8),
    n / 16 = e.val → n / 8 % 2 = b.val → n % 8 = c.val → Starts m d a n e b c
  | 0, hn, e, b, c, _, _, hc => by
    obtain rfl : c = 0 := Fin.ext hc.symm
    exact starts_zero hn rfl e b
  | n + 1, hn, e, b, c, he, hb, hc => by
    by_cases h0 : (n + 1) % 8 = 0
    · obtain rfl : c = 0 := Fin.ext (hc.symm.trans h0)
      exact starts_zero hn h0 e b
    · have ih := starts hE hpre n (by omega) e b ⟨n % 8, by omega⟩ (by omega) (by omega) rfl
      have hv : (pt n).val = n := Nat.mod_eq_of_lt (by omega)
      have hB : (blk (V₁ m) d (pt n)).Of a e b (n % 8) :=
        blk_of hE (pt n) e b ⟨n % 8, by omega⟩ (by rw [hv]; omega) (by rw [hv]; omega) (by rw [hv])
      have h : ¬ (Scalar.cmpi .ne (Scalar.extui (Scalar.cmpi .eq (BitVec.ofNat 32 (grid0.coords (pt (n + 1)) 2).val) 0#32)) 0#32 = 1#1) := fun hh =>
        h0 (by have := (c0_iff (pt (n + 1))).mp hh; rw [show (pt (n + 1)).val = n + 1 from Nat.mod_eq_of_lt hn] at this; exact this)
      have ec : c.val = n % 8 + 1 := by omega
      refine ⟨fun k f => ?_, fun k f => ?_⟩
      · unfold t0; rw [if_neg h, ec]
        exact tail_eq hB k f
      · unfold s0; rw [if_neg h, ec]
        exact next_eq hB ih.1 (fun r f => hpre e b _ f (by omega)) ih.2 k f

/-- What a point leaves in the output. -/
theorem outOf_apply (hE : Entry m d a) (hpre : ∀ e b l f, l < 2048 → a.pre e b l f ≤ 20) (t : Fin cfg0.N) (e : Fin 8) (b : Fin 2) (c : Fin 8)
    (he : t.val / 16 = e.val) (hb : t.val / 8 % 2 = b.val) (hc : t.val % 8 = c.val) (X : S2x2048x1024.Idx → EReal) (b' : Fin 2) (c' : Fin 8) (r : Fin 256)
    (f : Fin 1024) :
    outOf (F := Ideal) (V₁ m) d t X (ix3 b' (pos c' r) f)
      = if b' = b ∧ c' = c then (if t.val < 16 then ((0 : ℝ) : EReal) else X (ix3 b' (pos c' r) f)) + ((a.w e b (256 * c.val + r.val) * a.eo e b (256 * c.val + r.val) f : ℝ) : EReal)
        else X (ix3 b' (pos c' r) f) := by
  have ht : t.val < 128 := t.isLt.trans_eq N_0
  have hs := starts hE hpre t.val ht e b c he hb hc
  have hB := blk_of hE t e b c he hb hc
  unfold Starts at hs
  rw [pt_val] at hs
  have hw : ∀ r : Fin 256, (window (s := S1x8x256) (wts (V₁ m) d t) (k0_off4 (grid0.coords t)) S1x1x256.size (k0_off4_inb (grid0.coords t)) : S1x1x256.Idx → EReal) (ix3 0 0 r)
      = ((a.w e b (256 * c.val + r.val) : ℝ) : EReal) := fun r => by
    rw [window_gate _ _ _ e ((off4_eq t).trans (by rw [he]))]
    exact wts_of hE t b c hb hc e r
  have hcon := contrib_eq hB hs.1 (fun r f => hpre e b _ f (by omega)) hs.2 hw
  unfold outOf outAt
  dsimp only
  by_cases h : t.val < 16
  · rw [if_pos ((c3_iff t).mpr h), dif_neg (fun hh => (c4_iff t).mp hh h),
      put_block X _ b b' c c' ((off5_eq t).trans (by rw [hb, hc])), pay40_apply, hcon, if_pos h]
    norm_num
  · rw [if_neg (fun hh => h ((c3_iff t).mp hh)), dif_pos ((c4_iff t).mpr h),
      put_block X _ b b' c c' ((off6_eq t).trans (by rw [hb, hc])), pay41_apply, hcon, if_neg h,
      window_block X _ _ b c ((off6_eq t).trans (by rw [hb, hc]))]
    by_cases hh : b' = b ∧ c' = c
    · rw [if_pos hh, if_pos hh, hh.1, hh.2]
    · rw [if_neg hh, if_neg hh]

/-! ## The output -/

/-- The experts' terms of a position that the points below `n` have added. -/
def upTo (a : Args) (n : ℕ) (b : Fin 2) (c : Fin 8) (r : Fin 256) (f : Fin 1024) : ℝ :=
  ∑ e ∈ Finset.univ.filter (fun e : Fin 8 => 16 * e.val + 8 * b.val + c.val < n), a.w e b (256 * c.val + r.val) * a.eo e b (256 * c.val + r.val) f

/-- What is known of the output before point `n`: the terms added so far, at each block that a point has written. -/
def Sofar (a : Args) (n : ℕ) (X : S2x2048x1024.Idx → EReal) : Prop :=
  ∀ (b : Fin 2) (c : Fin 8) (r : Fin 256) (f : Fin 1024), 8 * b.val + c.val < n → X (ix3 b (pos c r) f) = ((upTo a n b c r f : ℝ) : EReal)

theorem sofar_step (hE : Entry m d a) (hpre : ∀ e b l f, l < 2048 → a.pre e b l f ≤ 20) (t : Fin cfg0.N) (X : S2x2048x1024.Idx → EReal)
    (hX : Sofar a t.val X) : Sofar a (t.val + 1) (outOf (F := Ideal) (V₁ m) d t X) := by
  intro b' c' r f hlt
  have ht : t.val < 128 := t.isLt.trans_eq N_0
  obtain ⟨e, he⟩ : ∃ e : Fin 8, t.val / 16 = e.val := ⟨⟨t.val / 16, by omega⟩, rfl⟩
  obtain ⟨b, hb⟩ : ∃ b : Fin 2, t.val / 8 % 2 = b.val := ⟨⟨t.val / 8 % 2, by omega⟩, rfl⟩
  obtain ⟨c, hc⟩ : ∃ c : Fin 8, t.val % 8 = c.val := ⟨⟨t.val % 8, by omega⟩, rfl⟩
  rw [outOf_apply hE hpre t e b c he hb hc]
  by_cases hh : b' = b ∧ c' = c
  · obtain ⟨rfl, rfl⟩ := hh
    rw [if_pos ⟨rfl, rfl⟩]
    have hs : (Finset.univ.filter (fun e' : Fin 8 => 16 * e'.val + 8 * b'.val + c'.val < t.val + 1))
        = insert e (Finset.univ.filter (fun e' : Fin 8 => 16 * e'.val + 8 * b'.val + c'.val < t.val)) := by
      ext e'
      simp only [Finset.mem_insert, Finset.mem_filter, Finset.mem_univ, true_and]
      constructor
      · intro h
        by_cases h' : e' = e
        · exact .inl h'
        · refine .inr ?_
          have : e'.val ≠ e.val := fun h2 => h' (Fin.ext h2)
          omega
      · rintro (rfl | h) <;> omega
    have hu : upTo a (t.val + 1) b' c' r f = upTo a t.val b' c' r f + a.w e b' (256 * c'.val + r.val) * a.eo e b' (256 * c'.val + r.val) f := by
      unfold upTo
      rw [hs, Finset.sum_insert (by simp only [Finset.mem_filter, Finset.mem_univ, true_and]; omega), add_comm]
    rw [hu, EReal.coe_add]
    refine congrArg (· + _) ?_
    by_cases h16 : t.val < 16
    · rw [if_pos h16]
      unfold upTo
      rw [Finset.filter_false_of_mem (fun e' _ => by omega), Finset.sum_empty]
    · rw [if_neg h16]
      exact hX b' c' r f (by omega)
  · rw [if_neg hh]
    have hne : ∀ e' : ℕ, 16 * e' + 8 * b'.val + c'.val ≠ t.val := fun e' h => hh ⟨Fin.ext (by omega), Fin.ext (by omega)⟩
    rw [hX b' c' r f (by have := hne 0; omega)]
    unfold upTo
    refine congrArg _ (Finset.sum_congr (Finset.filter_congr fun e' _ => ?_) fun _ _ => rfl)
    have := hne e'.val
    omega

theorem sofar_finds (hE : Entry m d a) (hpre : ∀ e b l f, l < 2048 → a.pre e b l f ≤ 20) : ∀ (n : ℕ) (t : Fin cfg0.N), t.val = n →
    ∀ X : S2x2048x1024.Idx → EReal, (rdat (F := Ideal) (V₁ m) d).Finds 11 t X → Sofar a n X
  | 0, t, ht, X, _ => fun b c r f h => absurd h (Nat.not_lt_zero _)
  | n + 1, t, ht, X, hX => by
    have hf : (cfg0.win 11).fetch t = false := by
      unfold Pipeline.Window.fetch; rfl
    have hlt : t.val < 128 := t.isLt.trans_eq N_0
    rcases ((rdat (F := Ideal) (V₁ m) d).finds_of_pos hf (by omega) X).mp hX with h | ⟨Y, hY, hYX⟩
    · have := (flush0_11 _).mp h
      have h2 : (t.val - 1) % 128 = 127 := this
      omega
    · have hn : t.val - 1 = n := by omega
      have := sofar_step hE hpre ⟨t.val - 1, Nat.lt_of_le_of_lt (Nat.sub_le _ _) t.isLt⟩ Y
        (by show Sofar a (t.val - 1) Y; rw [hn]; exact sofar_finds hE hpre n _ hn Y hY)
      have e : X = outOf (F := Ideal) (V₁ m) d ⟨t.val - 1, Nat.lt_of_le_of_lt (Nat.sub_le _ _) t.isLt⟩ Y := hYX
      rw [e]
      exact (show t.val - 1 + 1 = n + 1 by omega) ▸ this

theorem whole11 : (cfg0.win 11).WholeAt (pt 127) := by
  decide +kernel

/-- The result's array after the call. -/
theorem out_arr (hE : Entry m d a) (hpre : ∀ e b l f, l < 2048 → a.pre e b l f ≤ 20) (G : S2x2048x1024.Idx → EReal)
    (hG : (rdat (F := Ideal) (V₁ m) d).ArrAt 11 cfg0.N G) (b : Fin 2) (l : Fin 2048) (f : Fin 1024) :
    G (ix3 b l f) = ((a.res b l.val f : ℝ) : EReal) := by
  obtain ⟨X, ⟨Y, hY, hYX⟩, hX⟩ := hG.emb_eq_of_wholeAt whole11
  have hs : Sofar a 128 X := by
    have e : X = outOf (F := Ideal) (V₁ m) d (pt 127) Y := hYX
    rw [e]
    exact sofar_step hE hpre (pt 127) Y (sofar_finds hE hpre 127 (pt 127) rfl Y hY)
  have hc : l = pos ⟨l.val / 256, by omega⟩ ⟨l.val % 256, by omega⟩ := Fin.ext (by show l.val = 256 * (l.val / 256) + l.val % 256; omega)
  refine (hX (ix3 b l f : S2x2048x1024.Idx)).trans ?_
  refine Eq.trans (b := X (ix3 b l f)) rfl ?_
  rw [hc, hs b _ _ f (by show 8 * b.val + l.val / 256 < 128; omega)]
  unfold upTo Args.res
  rw [Finset.filter_true_of_mem (fun e _ => by show 16 * e.val + 8 * b.val + l.val / 256 < 128; omega)]

end Points

end Cert.Proof.Moe

end
-- ==== Proof.Moe.Frame.lean ====
/-
  The experts' program leaves its arguments.
-/
module

public import proofs.«01_k».proof.Proof.Moe.Run

@[expose] public section

set_option maxRecDepth 16384
set_option maxHeartbeats 1000000

noncomputable section

namespace Cert.Proof.Moe

open Cert.ExpertsIdeal Cert.ExpertsIdeal.Gen

open Idealize.ShloMosaic
open Idealize.ShloMosaic.TcCoe Idealize.ShloMosaic.Tactic
open Idealize.SL.Sem
open Idealize.ShloMosaic.StableHlo
open Idealize.ShloMosaic.Pipeline (RDat)

variable {F : FTy → Type} [FloatOps F] [Named F]

variable (m : (ℓ : Loc nD τ sig) → Buf (Elt F) ℓ) (g : Dev nD → PrngReg)

/-- The arguments' buffers. -/
abbrev argRefs : List (Ref sig .tc) :=
  [main_arg0, main_arg1, main_arg2, main_arg3, main_arg4, main_arg5, main_arg6, main_arg7, main_arg8, main_arg9, main_arg10]

theorem args_rest : ∀ r ∈ argRefs, r ∈ Pipeline.restRefs sig cfg0.spec := by
  decide +kernel

/-- The host leaves them. -/
theorem host_keeps (c : Dev nD) : ∀ r ∈ argRefs, V₁ m c (Proc.devRef .tc r) = m (c.tc.loc r) := by
  intro r hr
  unfold V₁
  simp only [stretches, List.flatten_cons, List.flatten_nil, List.cons_append, List.nil_append, List.append_nil]
  simp only [argRefs, List.mem_cons, List.not_mem_nil, or_false] at hr
  rcases hr with rfl | rfl | rfl | rfl | rfl | rfl | rfl | rfl | rfl | rfl | rfl <;> after_results_simp <;> rfl

/-- An argument after a run is the argument. -/
theorem arg_kept {r : PUnit × MemSt nD τ sig (Elt F)} (h : RDat.FramePost cfg0 (rdat (V₁ m)) (fun c b => V₁ m c b) r) (c : Dev nD)
    (b : Ref sig .tc) (hb : b ∈ argRefs) : r.2.mem (c.tc.loc b) = m (c.tc.loc b) :=
  ((h c).2 b (args_rest b hb)).trans (host_keeps m c b hb)

theorem run_frame : θ_run (defs (F := F)) (onTc (τ := τ) (main (F := F))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10))
      ∧ r.2.sem = fun _ => 0) := by
  refine (θ_run _ _ _).mono (fun r h => ⟨fun c => ?_, h.2⟩) (run m g)
  have hk := arg_kept m h.1 c
  exact ⟨hk _ (by decide), hk _ (by decide), hk _ (by decide), hk _ (by decide), hk _ (by decide), hk _ (by decide), hk _ (by decide),
    hk _ (by decide), hk _ (by decide), hk _ (by decide), hk _ (by decide)⟩

end Cert.Proof.Moe

end
-- ==== Proof.Moe.MixValue.lean ====
/-
  The reference mixture's stages, of the arguments' reals.
-/
module

public import proofs.«01_k».proof.Proof.Moe.ArgsOf
public import proofs.«01_k».proof.Proof.RefValue
public import proofs.«01_k».proof.Proof.Gen.MixtureIdeal.Run
public import Idealize.ShloMosaic.Lib.Pointwise
public import Idealize.ShloMosaic.Lib.IdealHost

@[expose] public section

noncomputable section

namespace Cert.Proof.Moe.Mix

open Cert.MixtureIdeal Cert.MixtureIdeal.Gen
open Cert.Proof.Plain (coe_sum)
open Idealize.ShloMosaic Idealize.ShloMosaic.TcCoe Idealize.ShloMosaic.Tactic Idealize.SL.Sem

/-! ## The stages before the loop -/

/-- The projection of the inputs. -/
def xzT (x : FVec Ideal S2x2048x1024 .f32) (w : FVec Ideal S8x1024x4096 .f32) : FVec Ideal S8x2x2048x4096 .f32 :=
  transpose S8x2x2048x4096 [0, 2, 3, 1] (Host.dotGeneral dot_S8x1024x4096_S2x2048x1024_S8x4096x2x2048_1_2_02_01_n_n none w x) transposes_S8x4096x2x2048_S8x2x2048x4096_0_2_3_1
def padT (y : FVec Ideal S8x2x2048x4096 .f32) : FVec Ideal S8x2x2051x2048 .f32 :=
  Idealize.ShloMosaic.pad S8x2x2051x2048 ![0, 0, 3, 0] ![0, 0, 0, 0] ![0, 0, 0, 0] (extractStridedSlice S8x2x2048x2048 ![0, 0, 0, 0] y slices_S8x2x2048x4096_S8x2x2048x2048_0_0_0_0)
    (sitofp .f32 (constantI S_ 32 0#32)) pads_S8x2x2048x2048_S8x2x2051x2048_000_000_300_000 h_S_
def zT (y : FVec Ideal S8x2x2048x4096 .f32) : FVec Ideal S8x2x2048x2048 .f32 :=
  extractStridedSlice S8x2x2048x2048 ![0, 0, 0, 2048] y slices_S8x2x2048x4096_S8x2x2048x2048_0_0_0_2048
/-- A vector per expert over all positions. -/
def rowT (v : FVec Ideal S8x2048 .f32) : FVec Ideal S8x2x2048x2048 .f32 :=
  broadcastInDim S8x2x2048x2048 ![0, 1, 2, 3] bcast_S8x1x1x2048_S8x2x2048x2048_0_1_2_3 (broadcastInDim S8x1x1x2048 ![0, 3] bcast_S8x2048_S8x1x1x2048_0_3 v)
def convT (p : FVec Ideal S8x2x2051x2048 .f32) (w : FVec Ideal S8x2048x4 .f32) (v : FVec Ideal S8x2048 .f32) : FVec Ideal S8x2x2048x2048 .f32 :=
  addf (addf (addf (addf (rowT v)
    (mulf (extractStridedSlice S8x2x2048x2048 ![0, 0, 0, 0] p slices_S8x2x2051x2048_S8x2x2048x2048_0_0_0_0)
      (rowT (shapeCast S8x2048 (extractStridedSlice S8x2048x1 ![0, 0, 0] w slices_S8x2048x4_S8x2048x1_0_0_0) shapeCasts_S8x2048x1_S8x2048))))
    (mulf (extractStridedSlice S8x2x2048x2048 ![0, 0, 1, 0] p slices_S8x2x2051x2048_S8x2x2048x2048_0_0_1_0)
      (rowT (shapeCast S8x2048 (extractStridedSlice S8x2048x1 ![0, 0, 1] w slices_S8x2048x4_S8x2048x1_0_0_1) shapeCasts_S8x2048x1_S8x2048))))
    (mulf (extractStridedSlice S8x2x2048x2048 ![0, 0, 2, 0] p slices_S8x2x2051x2048_S8x2x2048x2048_0_0_2_0)
      (rowT (shapeCast S8x2048 (extractStridedSlice S8x2048x1 ![0, 0, 2] w slices_S8x2048x4_S8x2048x1_0_0_2) shapeCasts_S8x2048x1_S8x2048))))
    (mulf (extractStridedSlice S8x2x2048x2048 ![0, 0, 3, 0] p slices_S8x2x2051x2048_S8x2x2048x2048_0_0_3_0)
      (rowT (shapeCast S8x2048 (extractStridedSlice S8x2048x1 ![0, 0, 3] w slices_S8x2048x4_S8x2048x1_0_0_3) shapeCasts_S8x2048x1_S8x2048)))
/-- Times its logistic. -/
def siluT (y : FVec Ideal S8x2x2048x2048 .f32) : FVec Ideal S8x2x2048x2048 .f32 :=
  mulf y (Host.divf (broadcastInDim S8x2x2048x2048 ![] bcast_S_S8x2x2048x2048 (constant S_ .f32 0x3F800000#32))
    (addf (broadcastInDim S8x2x2048x2048 ![] bcast_S_S8x2x2048x2048 (constant S_ .f32 0x3F800000#32)) (Host.exp (Host.negf y))))
def dblT (y : FVec Ideal S8x2x2048x2048 .f32) (w : FVec Ideal S8x2048x96 .f32) : FVec Ideal S8x2x2048x96 .f32 :=
  Host.dotGeneral dot_S8x2x2048x2048_S8x2048x96_S8x2x2048x96_3_1_12_2_0_0 none y w
def preT (y : FVec Ideal S8x2x2048x96 .f32) (w : FVec Ideal S8x64x2048 .f32) (v : FVec Ideal S8x2048 .f32) : FVec Ideal S8x2x2048x2048 .f32 :=
  addf (Host.dotGeneral dot_S8x2x2048x64_S8x64x2048_S8x2x2048x2048_3_1_12_2_0_0 none
    (extractStridedSlice S8x2x2048x64 ![0, 0, 0, 0] y slices_S8x2x2048x96_S8x2x2048x64_0_0_0_0) w) (rowT v)
def softT (y : FVec Ideal S8x2x2048x2048 .f32) : FVec Ideal S8x2x2048x2048 .f32 :=
  let o : FVec Ideal S8x2x2048x2048 .f32 := broadcastInDim S8x2x2048x2048 ![] bcast_S_S8x2x2048x2048 (constant S_ .f32 0x00000000#32)
  select (cmpf .une (subf y o) (subf y o)) (addf y o)
    (addf (maximumf y o) (Host.log1p (Host.exp (Host.negf (Host.absf (subf y o))))))

theorem xzT_apply (x : FVec Ideal S2x2048x1024 .f32) (w : FVec Ideal S8x1024x4096 .f32) (e : Fin 8) (b : Fin 2) (l : Fin 2048) (f : Fin 4096) :
    xzT x w (ix4 e b l f) = ∑ d : Fin 1024, w (ix3 e d f) * x (ix3 b l d) := by
  pointwise [xzT]
theorem zT_apply (y : FVec Ideal S8x2x2048x4096 .f32) (e : Fin 8) (b : Fin 2) (l : Fin 2048) (f : Fin 2048) :
    zT y (ix4 e b l f) = y (ix4 e b l ⟨2048 + f.val, by omega⟩) := by
  pointwise [zT]
theorem padT_apply (y : FVec Ideal S8x2x2048x4096 .f32) (e : Fin 8) (b : Fin 2) (p : Fin 2051) (f : Fin 2048) :
    padT y (ix4 e b p f) = if h : p.val < 3 then ((0 : ℝ) : EReal) else y (ix4 e b ⟨p.val - 3, by omega⟩ ⟨f.val, by omega⟩) := by
  pointwise [padT]
  by_cases h : p.val < 3
  · rw [dif_neg (by omega), dif_pos h]
    show (((((0#32 : BitVec 32).toInt : ℤ) : ℝ)) : EReal) = _
    norm_num
  · rw [dif_pos (by omega), dif_neg h]
theorem rowT_apply (v : FVec Ideal S8x2048 .f32) (e : Fin 8) (b : Fin 2) (l : Fin 2048) (f : Fin 2048) : rowT v (ix4 e b l f) = v (ix2 e f) := by
  pointwise [rowT]
theorem convT_apply (p : FVec Ideal S8x2x2051x2048 .f32) (w : FVec Ideal S8x2048x4 .f32) (v : FVec Ideal S8x2048 .f32) (e : Fin 8) (b : Fin 2) (l : Fin 2048) (f : Fin 2048) :
    convT p w v (ix4 e b l f) = v (ix2 e f) + p (ix4 e b ⟨l.val, by omega⟩ f) * w (ix3 e f 0) + p (ix4 e b ⟨1 + l.val, by omega⟩ f) * w (ix3 e f 1)
      + p (ix4 e b ⟨2 + l.val, by omega⟩ f) * w (ix3 e f 2) + p (ix4 e b ⟨3 + l.val, by omega⟩ f) * w (ix3 e f 3) := by
  pointwise [convT, rowT]
theorem siluT_apply (y : FVec Ideal S8x2x2048x2048 .f32) (e : Fin 8) (b : Fin 2) (l : Fin 2048) (f : Fin 2048) :
    siluT y (ix4 e b l f) = y (ix4 e b l f) * Ideal.div (Ideal.ofBits .f32 0x3F800000#32) (Ideal.ofBits .f32 0x3F800000#32 + Ideal.exp (-(y (ix4 e b l f)))) := by
  pointwise [siluT]
theorem dblT_apply (y : FVec Ideal S8x2x2048x2048 .f32) (w : FVec Ideal S8x2048x96 .f32) (e : Fin 8) (b : Fin 2) (l : Fin 2048) (r : Fin 96) :
    dblT y w (ix4 e b l r) = ∑ f : Fin 2048, y (ix4 e b l f) * w (ix3 e f r) := by
  pointwise [dblT]
theorem preT_apply (y : FVec Ideal S8x2x2048x96 .f32) (w : FVec Ideal S8x64x2048 .f32) (v : FVec Ideal S8x2048 .f32) (e : Fin 8) (b : Fin 2) (l : Fin 2048) (f : Fin 2048) :
    preT y w v (ix4 e b l f) = (∑ r : Fin 64, y (ix4 e b l ⟨r.val, by omega⟩) * w (ix3 e r f)) + v (ix2 e f) := by
  pointwise [preT, rowT]
/-- The greater of two reals, coerced. -/
theorem coe_max (r t : ℝ) : max (r : EReal) (t : EReal) = ((max r t : ℝ) : EReal) := ((EReal.coe_strictMono.monotone).map_max).symm

theorem softT_apply (y : FVec Ideal S8x2x2048x2048 .f32) (e : Fin 8) (b : Fin 2) (l : Fin 2048) (f : Fin 2048) (r : ℝ)
    (hr : y (ix4 e b l f) = (r : EReal)) :
    softT y (ix4 e b l f) = ((Real.log (1 + Real.exp r) : ℝ) : EReal) := by
  pointwise [softT]
  rw [if_neg (by simp), hr]
  show max (r : EReal) 0 + Ideal.log1p (Ideal.exp (-(max (r : EReal) (-(r : EReal))))) = _
  unfold Ideal.log1p
  rw [← EReal.coe_neg, ← EReal.coe_zero, coe_max, coe_max, ← EReal.coe_neg, Ideal.exp_coe, ← EReal.coe_one, ← EReal.coe_add,
    Ideal.log_coe, if_neg (not_le.mpr (by positivity)), ← EReal.coe_add]
  refine congrArg _ ?_
  rcases le_total 0 r with h | h
  · rw [max_eq_left h, max_eq_left (by linarith), ← Real.log_exp r, ← Real.log_mul (Real.exp_pos _).ne' (by positivity), Real.log_exp, mul_add, mul_one,
      ← Real.exp_add, add_neg_cancel, Real.exp_zero, add_comm]
  · rw [max_eq_right h, max_eq_right (by linarith), neg_neg, zero_add]

theorem silu_val (r : ℝ) : (r : EReal) * Ideal.div (Ideal.ofBits .f32 0x3F800000#32) (Ideal.ofBits .f32 0x3F800000#32 + Ideal.exp (-(r : EReal))) = ((Args.silu r : ℝ) : EReal) := by
  rw [Ideal.ofBits_one_f32, ← EReal.coe_neg, Ideal.exp_coe, ← EReal.coe_one, ← EReal.coe_add, Ideal.div_coe (by positivity), ← EReal.coe_mul, ← EReal.coe_mul,
    one_mul, one_div]
  rfl

/-! ## The stages at the arguments -/

section

variable {a : Args} {x : FVec Ideal S2x2048x1024 .f32} {w : FVec Ideal S8x4096 .f32} {win : FVec Ideal S8x1024x4096 .f32} {wconv : FVec Ideal S8x2048x4 .f32}
    {bconv : FVec Ideal S8x2048 .f32} {wx : FVec Ideal S8x2048x96 .f32} {wdt : FVec Ideal S8x64x2048 .f32} {bdt : FVec Ideal S8x2048 .f32}
    {alog : FVec Ideal S8x2048x16 .f32} {dsk : FVec Ideal S8x2048 .f32} {wout : FVec Ideal S8x2048x1024 .f32}
    (hA : ArgsOf a x w win wconv bconv wx wdt bdt alog dsk wout)

include hA

theorem xz_val (e : Fin 8) (b : Fin 2) (l : Fin 2048) (f : Fin 4096) : xzT x win (ix4 e b l f) = ((a.xz e b l.val f : ℝ) : EReal) := by
  rw [xzT_apply]
  unfold Args.xz
  rw [← coe_sum]
  exact Finset.sum_congr rfl fun d _ => by rw [hA.win, hA.x, mul_comm, EReal.coe_mul]

theorem z_val (e : Fin 8) (b : Fin 2) (l : Fin 2048) (f : Fin 2048) : zT (xzT x win) (ix4 e b l f) = ((a.z e b l.val f : ℝ) : EReal) := by
  rw [zT_apply, xz_val hA]; rfl

theorem pad_val (e : Fin 8) (b : Fin 2) (p : Fin 2051) (f : Fin 2048) : padT (xzT x win) (ix4 e b p f) = ((a.xpad e b p.val f : ℝ) : EReal) := by
  rw [padT_apply]
  unfold Args.xpad
  by_cases h : p.val < 3
  · rw [dif_pos h, if_pos h]
  · rw [dif_neg h, if_neg h, xz_val hA]

/-- The convolved rows. -/
def xiT (x : FVec Ideal S2x2048x1024 .f32) (win : FVec Ideal S8x1024x4096 .f32) (wconv : FVec Ideal S8x2048x4 .f32) (bconv : FVec Ideal S8x2048 .f32) : FVec Ideal S8x2x2048x2048 .f32 :=
  siluT (convT (padT (xzT x win)) wconv bconv)

theorem xi_val (e : Fin 8) (b : Fin 2) (l : Fin 2048) (f : Fin 2048) : xiT x win wconv bconv (ix4 e b l f) = ((a.xi e b l.val f : ℝ) : EReal) := by
  have hc : convT (padT (xzT x win)) wconv bconv (ix4 e b l f) = ((a.conv e b l.val f : ℝ) : EReal) := by
    rw [convT_apply]
    simp only [pad_val hA, hA.bconv, hA.wconv, ← EReal.coe_mul, ← EReal.coe_add]
    unfold Args.conv
    simp only [Nat.add_comm l.val]
  unfold xiT
  rw [siluT_apply, hc, silu_val]; rfl

theorem dbl_val (e : Fin 8) (b : Fin 2) (l : Fin 2048) (r : Fin 96) : dblT (xiT x win wconv bconv) wx (ix4 e b l r) = ((a.dbl e b l.val r : ℝ) : EReal) := by
  rw [dblT_apply]
  unfold Args.dbl
  rw [← coe_sum]
  exact Finset.sum_congr rfl fun f _ => by rw [xi_val hA, hA.wx, EReal.coe_mul]

theorem pre_val (e : Fin 8) (b : Fin 2) (l : Fin 2048) (f : Fin 2048) :
    preT (dblT (xiT x win wconv bconv) wx) wdt bdt (ix4 e b l f) = ((a.pre e b l.val f : ℝ) : EReal) := by
  rw [preT_apply]
  unfold Args.pre
  rw [EReal.coe_add, ← coe_sum, hA.bdt]
  refine congrArg (· + _) (Finset.sum_congr rfl fun r _ => ?_)
  rw [dbl_val hA, hA.wdt, EReal.coe_mul]

theorem dt_val (e : Fin 8) (b : Fin 2) (l : Fin 2048) (f : Fin 2048) :
    softT (preT (dblT (xiT x win wconv bconv) wx) wdt bdt) (ix4 e b l f) = ((a.dt e b l.val f : ℝ) : EReal) :=
  softT_apply _ e b l f _ (pre_val hA e b l f)

end

end Cert.Proof.Moe.Mix

end
-- ==== Proof.Moe.MixStage.lean ====
/-
  What each stretch of the reference mixture's host operations leaves in the buffers read later, from any contents.
-/
module

public import proofs.«01_k».proof.Proof.Moe.MixValue

@[expose] public section

set_option maxRecDepth 8192
set_option maxHeartbeats 2000000

noncomputable section

namespace Cert.Proof.Moe.Mix

open Cert.MixtureIdeal Cert.MixtureIdeal.Gen Cert.MixtureIdeal.Value
open Idealize.ShloMosaic Idealize.ShloMosaic.TcCoe Idealize.ShloMosaic.Tactic Idealize.SL.Sem
open Idealize.ShloMosaic.StableHlo

/-- Contents of the program's buffers over the extended reals. -/
abbrev Val : Type := Valuation τ sig (Elt Ideal)

variable (W : Val)

/-! ## The projection -/

theorem s0_v2 : after hostOps0 W (Proc.devRef .tc main_v2) = extractStridedSlice S8x2x2048x2048 ![0, 0, 0, 0]
    (xzT (W (Proc.devRef .tc main_arg0)) (W (Proc.devRef .tc main_arg2))) slices_S8x2x2048x4096_S8x2x2048x2048_0_0_0_0 := by
  unfold xzT; after_results_simp <;> rfl
theorem s0_v3 : after hostOps0 W (Proc.devRef .tc main_v3) = zT (xzT (W (Proc.devRef .tc main_arg0)) (W (Proc.devRef .tc main_arg2))) := by
  unfold xzT zT; after_results_simp <;> rfl
theorem s0_c : after hostOps0 W (Proc.devRef .tc main_c) = constantI S_ 32 0#32 := by
  after_results_simp <;> rfl

theorem s1_v4 : after hostOps0_1 W (Proc.devRef .tc main_v4) = Idealize.ShloMosaic.pad S8x2x2051x2048 ![0, 0, 3, 0] ![0, 0, 0, 0] ![0, 0, 0, 0]
    (W (Proc.devRef .tc main_v2)) (sitofp (F := Ideal) .f32 (W (Proc.devRef .tc main_c))) pads_S8x2x2048x2048_S8x2x2051x2048_000_000_300_000 h_S_ := by
  after_results_simp <;> rfl

/-! ## The convolution and the steps -/

theorem s2_v41 : after hostOps0_2 W (Proc.devRef .tc main_v41)
    = siluT (convT (W (Proc.devRef .tc main_v4)) (W (Proc.devRef .tc main_arg3)) (W (Proc.devRef .tc main_arg4))) := by
  after_results_simp <;> rfl
theorem s2_v47 : after hostOps0_2 W (Proc.devRef .tc main_v47)
    = preT (dblT (siluT (convT (W (Proc.devRef .tc main_v4)) (W (Proc.devRef .tc main_arg3)) (W (Proc.devRef .tc main_arg4)))) (W (Proc.devRef .tc main_arg5)))
      (W (Proc.devRef .tc main_arg6)) (W (Proc.devRef .tc main_arg7)) := by
  after_results_simp <;> rfl
theorem s2_v48 : after hostOps0_2 W (Proc.devRef .tc main_v48)
    = extractStridedSlice S8x2x2048x16 ![0, 0, 0, 64] (dblT (siluT (convT (W (Proc.devRef .tc main_v4)) (W (Proc.devRef .tc main_arg3)) (W (Proc.devRef .tc main_arg4))))
      (W (Proc.devRef .tc main_arg5))) slices_S8x2x2048x96_S8x2x2048x16_0_0_0_64 := by
  after_results_simp <;> rfl
theorem s2_v49 : after hostOps0_2 W (Proc.devRef .tc main_v49)
    = extractStridedSlice S8x2x2048x16 ![0, 0, 0, 80] (dblT (siluT (convT (W (Proc.devRef .tc main_v4)) (W (Proc.devRef .tc main_arg3)) (W (Proc.devRef .tc main_arg4))))
      (W (Proc.devRef .tc main_arg5))) slices_S8x2x2048x96_S8x2x2048x16_0_0_0_80 := by
  after_results_simp <;> rfl

theorem s3_v50 : after hostOps0_3 W (Proc.devRef .tc main_v50) = softT (W (Proc.devRef .tc main_v47)) := by
  unfold softT
  simp only [TRef.binary, TRef.nullary, TRef.ternary, TRef.unary, TRef.toBuf, TRef.ofBuf, cast_eq]
  after_results_simp <;> rfl

/-! ## The loop's entry -/

theorem s4_0 : after hostOps0_4 W (Proc.devRef .tc main_v59_0) = transpose S2048x8x2x2048 [2, 0, 1, 3] (W (Proc.devRef .tc main_v50)) transposes_S8x2x2048x2048_S2048x8x2x2048_2_0_1_3 := by
  after_results_simp <;> rfl
theorem s4_1 : after hostOps0_4 W (Proc.devRef .tc main_v59_1) = transpose S2048x8x2x16 [2, 0, 1, 3] (W (Proc.devRef .tc main_v48)) transposes_S8x2x2048x16_S2048x8x2x16_2_0_1_3 := by
  after_results_simp <;> rfl
theorem s4_2 : after hostOps0_4 W (Proc.devRef .tc main_v59_2) = transpose S2048x8x2x16 [2, 0, 1, 3] (W (Proc.devRef .tc main_v49)) transposes_S8x2x2048x16_S2048x8x2x16_2_0_1_3 := by
  after_results_simp <;> rfl
theorem s4_3 : after hostOps0_4 W (Proc.devRef .tc main_v59_3) = transpose S2048x8x2x2048 [2, 0, 1, 3] (W (Proc.devRef .tc main_v41)) transposes_S8x2x2048x2048_S2048x8x2x2048_2_0_1_3 := by
  after_results_simp <;> rfl
theorem s4_4 : after hostOps0_4 W (Proc.devRef .tc main_v59_4) = (Host.negf (F := Ideal) (φ := .f32) (Host.exp (F := Ideal) (φ := .f32) (W (Proc.devRef .tc main_arg8))) : FVec Ideal S8x2048x16 .f32) := by
  after_results_simp <;> rfl
theorem s4_6 : after hostOps0_4 W (Proc.devRef .tc main_v59_6) = (broadcastInDim S8x2x2048x16 ![] bcast_S_S8x2x2048x16 (constant (F := Ideal) S_ .f32 0x00000000#32) : FVec Ideal S8x2x2048x16 .f32) := by
  after_results_simp <;> rfl
theorem s4_7 : after hostOps0_4 W (Proc.devRef .tc main_v59_7) = (broadcastInDim S2048x8x2x2048 ![] bcast_S_S2048x8x2x2048 (constant (F := Ideal) S_ .f32 0x00000000#32) : FVec Ideal S2048x8x2x2048 .f32) := by
  after_results_simp <;> rfl

/-! ## After the loop -/

/-- The gated rows. -/
def outT (Y : FVec Ideal S2048x8x2x2048 .f32) (xi z : FVec Ideal S8x2x2048x2048 .f32) (dsk : FVec Ideal S8x2048 .f32) : FVec Ideal S8x2x2048x2048 .f32 :=
  mulf (addf (transpose S8x2x2048x2048 [1, 2, 0, 3] Y transposes_S2048x8x2x2048_S8x2x2048x2048_1_2_0_3) (mulf xi (rowT dsk))) (siluT z)
/-- The experts' rows, weighted and summed. -/
def mixT (O : FVec Ideal S8x2x2048x2048 .f32) (w : FVec Ideal S8x4096 .f32) (wout : FVec Ideal S8x2048x1024 .f32) : FVec Ideal S2x2048x1024 .f32 :=
  Host.reduceAdd (mulf (broadcastInDim S8x2x2048x1024 ![0, 1, 2, 3] bcast_S8x2x2048x1_S8x2x2048x1024_0_1_2_3 (broadcastInDim S8x2x2048x1 ![0, 1, 2] bcast_S8x2x2048_S8x2x2048x1_0_1_2
      (shapeCast S8x2x2048 w shapeCasts_S8x4096_S8x2x2048)))
    (Host.dotGeneral dot_S8x2x2048x2048_S8x2048x1024_S8x2x2048x1024_3_1_12_2_0_0 none O wout)) (constant S_ .f32 0x00000000#32) reducesTo_S8x2x2048x1024_S2x2048x1024_d0 h_S_

theorem s5_v78 : after hostOps0_5 W (Proc.devRef .tc main_v78)
    = mixT (outT (W (Proc.devRef .tc main_v59_7)) (W (Proc.devRef .tc main_v41)) (W (Proc.devRef .tc main_v3)) (W (Proc.devRef .tc main_arg9)))
      (W (Proc.devRef .tc main_arg1)) (W (Proc.devRef .tc main_arg10)) := by
  after_results_simp <;> rfl

theorem outT_apply (Y : FVec Ideal S2048x8x2x2048 .f32) (xi z : FVec Ideal S8x2x2048x2048 .f32) (dsk : FVec Ideal S8x2048 .f32) (e : Fin 8) (b : Fin 2) (l : Fin 2048) (f : Fin 2048) :
    outT Y xi z dsk (ix4 e b l f) = (Y (ix4 l e b f) + xi (ix4 e b l f) * dsk (ix2 e f)) * siluT z (ix4 e b l f) := by
  pointwise [outT, rowT]
theorem mixT_apply (O : FVec Ideal S8x2x2048x2048 .f32) (w : FVec Ideal S8x4096 .f32) (wout : FVec Ideal S8x2048x1024 .f32) (b : Fin 2) (l : Fin 2048) (d : Fin 1024) :
    mixT O w wout (ix3 b l d) = ∑ e : Fin 8, w (ix2 e ⟨b.val * 2048 + l.val, by omega⟩) * ∑ f : Fin 2048, O (ix4 e b l f) * wout (ix3 e f d) := by
  pointwise [mixT]

end Cert.Proof.Moe.Mix

end
-- ==== Proof.Moe.MixLoop.lean ====
/-
  One trip of the reference mixture's loop, from the buffers it carries.
-/
module

public import proofs.«01_k».proof.Proof.Moe.MixValue
public import Idealize.ShloMosaic.Lib.DynamicIndex

@[expose] public section

set_option maxRecDepth 8192
set_option maxHeartbeats 2000000

noncomputable section

namespace Cert.Proof.Moe.Mix

open Cert.MixtureIdeal Cert.MixtureIdeal.Gen Cert.MixtureIdeal.Value
open Idealize.ShloMosaic Idealize.ShloMosaic.TcCoe Idealize.ShloMosaic.Tactic Idealize.SL.Sem
open Idealize.ShloMosaic.StableHlo

/-- The start of a trip's row: the counter, and zero on the other axes. -/
abbrev rowStart (c : IVec S_ 32) : Fin 4 → Int := fun k =>
  ((![c, constantI S_ 32 0#32, constantI S_ 32 0#32, constantI S_ 32 0#32] : Fin 4 → IVec S_ 32) k (Shape.Idx.first h_S_)).toInt

theorem rowStart_eq {c : IVec S_ 32} {k : ℕ} (hk : k < 2048) (hc : c = fun _ => Scf.iv 0#32 1#32 k) (i : Fin 4) :
    rowStart c i = ((![k, 0, 0, 0] : Fin 4 → ℕ) i : Int) := by
  subst hc
  fin_cases i
  · show (0#32 + BitVec.ofNat 32 k * 1#32 : BitVec 32).toInt = (k : Int)
    rw [BitVec.zero_add, BitVec.mul_one]
    exact toInt_ofNat_of_lt (by omega)
  · rfl
  · rfl
  · rfl

theorem slices_row (k : ℕ) (hk : k < 2048) : S2048x8x2x2048.Slices ![k, 0, 0, 0] S1x8x2x2048 :=
  ⟨rfl, fun a => by fin_cases a <;> first | (show k + 1 ≤ 2048; omega) | (show 0 + _ ≤ _; decide)⟩
theorem slices_row16 (k : ℕ) (hk : k < 2048) : S2048x8x2x16.Slices ![k, 0, 0, 0] S1x8x2x16 :=
  ⟨rfl, fun a => by fin_cases a <;> first | (show k + 1 ≤ 2048; omega) | (show 0 + _ ≤ _; decide)⟩

/-- A trip's row of an array. -/
def rowOf (x : FVec Ideal S2048x8x2x2048 .f32) (c : IVec S_ 32) : FVec Ideal S8x2x2048 .f32 :=
  shapeCast S8x2x2048 (Host.dynamicSlice S1x8x2x2048 x (rowStart c) sliceFits_S2048x8x2x2048_S1x8x2x2048) shapeCasts_S1x8x2x2048_S8x2x2048
def rowOf16 (x : FVec Ideal S2048x8x2x16 .f32) (c : IVec S_ 32) : FVec Ideal S8x2x16 .f32 :=
  shapeCast S8x2x16 (Host.dynamicSlice S1x8x2x16 x (rowStart c) sliceFits_S2048x8x2x16_S1x8x2x16) shapeCasts_S1x8x2x16_S8x2x16

section

variable {c : IVec S_ 32} {k : ℕ} (hk : k < 2048) (hc : c = fun _ => Scf.iv 0#32 1#32 k)

include hk hc

theorem rowOf_apply (x : FVec Ideal S2048x8x2x2048 .f32) (e : Fin 8) (b : Fin 2) (f : Fin 2048) : rowOf x c (ix3 e b f) = x (ix4 ⟨k, hk⟩ e b f) := by
  unfold rowOf
  rw [Host.dynamicSlice_eq_extractStridedSlice S1x8x2x2048 x (rowStart c) ![k, 0, 0, 0] _ (slices_row k hk) (rowStart_eq hk hc)]
  pointwise
theorem rowOf16_apply (x : FVec Ideal S2048x8x2x16 .f32) (e : Fin 8) (b : Fin 2) (n : Fin 16) : rowOf16 x c (ix3 e b n) = x (ix4 ⟨k, hk⟩ e b n) := by
  unfold rowOf16
  rw [Host.dynamicSlice_eq_extractStridedSlice S1x8x2x16 x (rowStart c) ![k, 0, 0, 0] _ (slices_row16 k hk) (rowStart_eq hk hc)]
  pointwise

/-- A row written into an array: the row at its position, the array elsewhere. -/
theorem put_apply (x : FVec Ideal S2048x8x2x2048 .f32) (u : FVec Ideal S1x8x2x2048 .f32) (l : Fin 2048) (e : Fin 8) (b : Fin 2) (f : Fin 2048) :
    Host.dynamicUpdateSlice x u (rowStart c) updateFits_S2048x8x2x2048_S1x8x2x2048 (ix4 l e b f)
      = if l.val = k then u (ix4 0 e b f) else x (ix4 l e b f) := by
  have hs : ∀ a : Fin 4, Host.clampedStart S2048x8x2x2048 S1x8x2x2048 rfl (rowStart c) a = (![k, 0, 0, 0] : Fin 4 → ℕ) a := fun a =>
    Host.clampedStart_of_le (s := S2048x8x2x2048) (t := S1x8x2x2048) rfl (rowStart c) a _ (rowStart_eq hk hc a) ((slices_row k hk).2 a)
  rw [Host.dynamicUpdateSlice_apply]
  by_cases h : l.val = k
  · rw [if_pos h, dif_pos (by
      intro a
      rw [hs]
      fin_cases a
      · show k ≤ l.val ∧ l.val < k + 1; omega
      · show 0 ≤ e.val ∧ e.val < 0 + 8; omega
      · show 0 ≤ b.val ∧ b.val < 0 + 2; omega
      · show 0 ≤ f.val ∧ f.val < 0 + 2048; omega)]
    refine congrArg u (funext fun a => Fin.ext ?_)
    fin_cases a
    · show l.val - Host.clampedStart S2048x8x2x2048 S1x8x2x2048 rfl (rowStart c) 0 = 0
      rw [hs]; show l.val - k = 0; omega
    · show e.val - Host.clampedStart S2048x8x2x2048 S1x8x2x2048 rfl (rowStart c) 1 = e.val
      rw [hs]; rfl
    · show b.val - Host.clampedStart S2048x8x2x2048 S1x8x2x2048 rfl (rowStart c) 2 = b.val
      rw [hs]; rfl
    · show f.val - Host.clampedStart S2048x8x2x2048 S1x8x2x2048 rfl (rowStart c) 3 = f.val
      rw [hs]; rfl
  · rw [if_neg h, dif_neg (by
      intro hh
      have h0 := hh 0
      rw [hs] at h0
      have h1 : k ≤ l.val ∧ l.val < k + 1 := h0
      omega)]

end

/-! ## The state and the read-out -/

def stT (dt xi : FVec Ideal S8x2x2048 .f32) (B : FVec Ideal S8x2x16 .f32) (A : FVec Ideal S8x2048x16 .f32) (h : FVec Ideal S8x2x2048x16 .f32) : FVec Ideal S8x2x2048x16 .f32 :=
  addf (mulf (Host.exp (mulf (broadcastInDim S8x2x2048x16 ![0, 1, 2, 3] bcast_S8x2x2048x1_S8x2x2048x16_0_1_2_3 (broadcastInDim S8x2x2048x1 ![0, 1, 2] bcast_S8x2x2048_S8x2x2048x1_0_1_2 dt))
      (broadcastInDim S8x2x2048x16 ![0, 1, 2, 3] bcast_S8x1x2048x16_S8x2x2048x16_0_1_2_3 (broadcastInDim S8x1x2048x16 ![0, 2, 3] bcast_S8x2048x16_S8x1x2048x16_0_2_3 A)))) h)
    (mulf (mulf (broadcastInDim S8x2x2048x16 ![0, 1, 2, 3] bcast_S8x2x2048x1_S8x2x2048x16_0_1_2_3 (broadcastInDim S8x2x2048x1 ![0, 1, 2] bcast_S8x2x2048_S8x2x2048x1_0_1_2 dt))
        (broadcastInDim S8x2x2048x16 ![0, 1, 2, 3] bcast_S8x2x1x16_S8x2x2048x16_0_1_2_3 (broadcastInDim S8x2x1x16 ![0, 1, 3] bcast_S8x2x16_S8x2x1x16_0_1_3 B)))
      (broadcastInDim S8x2x2048x16 ![0, 1, 2, 3] bcast_S8x2x2048x1_S8x2x2048x16_0_1_2_3 (broadcastInDim S8x2x2048x1 ![0, 1, 2] bcast_S8x2x2048_S8x2x2048x1_0_1_2 xi)))
def rdT (h : FVec Ideal S8x2x2048x16 .f32) (C : FVec Ideal S8x2x16 .f32) : FVec Ideal S1x8x2x2048 .f32 :=
  broadcastInDim S1x8x2x2048 ![1, 2, 3] bcast_S8x2x2048_S1x8x2x2048_1_2_3 (Host.reduceAdd (mulf h (broadcastInDim S8x2x2048x16 ![0, 1, 2, 3] bcast_S8x2x1x16_S8x2x2048x16_0_1_2_3
    (broadcastInDim S8x2x1x16 ![0, 1, 3] bcast_S8x2x16_S8x2x1x16_0_1_3 C))) (constant S_ .f32 0x00000000#32) reducesTo_S8x2x2048x16_S8x2x2048_d3 h_S_)

theorem stT_apply (dt xi : FVec Ideal S8x2x2048 .f32) (B : FVec Ideal S8x2x16 .f32) (A : FVec Ideal S8x2048x16 .f32) (h : FVec Ideal S8x2x2048x16 .f32)
    (e : Fin 8) (b : Fin 2) (f : Fin 2048) (n : Fin 16) :
    stT dt xi B A h (ix4 e b f n) = Ideal.exp (dt (ix3 e b f) * A (ix3 e f n)) * h (ix4 e b f n) + dt (ix3 e b f) * B (ix3 e b n) * xi (ix3 e b f) := by
  pointwise [stT]
theorem rdT_apply (h : FVec Ideal S8x2x2048x16 .f32) (C : FVec Ideal S8x2x16 .f32) (e : Fin 8) (b : Fin 2) (f : Fin 2048) :
    rdT h C (ix4 0 e b f) = ∑ n : Fin 16, h (ix4 e b f n) * C (ix3 e b n) := by
  pointwise [rdT]

section

variable (V : Valuation τ sig (Elt Ideal))

theorem step6 : step_main_v59_6 V = stT (rowOf (V (Proc.devRef .tc main_v59_0)) (V (Proc.devRef .tc main_v59_5)))
    (rowOf (V (Proc.devRef .tc main_v59_3)) (V (Proc.devRef .tc main_v59_5))) (rowOf16 (V (Proc.devRef .tc main_v59_1)) (V (Proc.devRef .tc main_v59_5)))
    (V (Proc.devRef .tc main_v59_4)) (V (Proc.devRef .tc main_v59_6)) := rfl
theorem step7 : step_main_v59_7 V = Host.dynamicUpdateSlice (V (Proc.devRef .tc main_v59_7)) (rdT (step_main_v59_6 V) (rowOf16 (V (Proc.devRef .tc main_v59_2)) (V (Proc.devRef .tc main_v59_5))))
    (rowStart (V (Proc.devRef .tc main_v59_5))) updateFits_S2048x8x2x2048_S1x8x2x2048 := rfl

end

end Cert.Proof.Moe.Mix

end
-- ==== Proof.Moe.MixRun.lean ====
/-
  The reference mixture's program: its result of the arguments' reals.
-/
module

public import proofs.«01_k».proof.Proof.Moe.MixStage
public import proofs.«01_k».proof.Proof.Moe.MixLoop

@[expose] public section

set_option maxRecDepth 8192
set_option maxHeartbeats 1000000

noncomputable section

namespace Cert.Proof.Moe.Mix

open Cert.MixtureIdeal Cert.MixtureIdeal.Gen Cert.MixtureIdeal.Value
open Cert.Proof.Plain (coe_sum)
open Idealize.ShloMosaic Idealize.ShloMosaic.TcCoe Idealize.ShloMosaic.Tactic Idealize.SL.Sem
open Idealize.ShloMosaic.StableHlo

/-- The mixture's arguments among a program's buffers are the real ones. -/
abbrev EntryOf (a : Args) (L : Val) : Prop :=
  ArgsOf a (L (Proc.devRef .tc main_arg0)) (L (Proc.devRef .tc main_arg1)) (L (Proc.devRef .tc main_arg2)) (L (Proc.devRef .tc main_arg3))
    (L (Proc.devRef .tc main_arg4)) (L (Proc.devRef .tc main_arg5)) (L (Proc.devRef .tc main_arg6)) (L (Proc.devRef .tc main_arg7))
    (L (Proc.devRef .tc main_arg8)) (L (Proc.devRef .tc main_arg9)) (L (Proc.devRef .tc main_arg10))

/-! ## Buffers a stretch leaves -/

section

variable (W : Val) (r : Ref sig .tc)

theorem keep0 (h : r ∉ hostOps0_W) : after hostOps0 W (Proc.devRef .tc r) = W (Proc.devRef .tc r) := after_of_writes_sub hostOps0 W hostOps0_writes h
theorem keep1 (h : r ∉ hostOps0_1_W) : after hostOps0_1 W (Proc.devRef .tc r) = W (Proc.devRef .tc r) := after_of_writes_sub hostOps0_1 W hostOps0_1_writes h
theorem keep2 (h : r ∉ hostOps0_2_W) : after hostOps0_2 W (Proc.devRef .tc r) = W (Proc.devRef .tc r) := after_of_writes_sub hostOps0_2 W hostOps0_2_writes h
theorem keep3 (h : r ∉ hostOps0_3_W) : after hostOps0_3 W (Proc.devRef .tc r) = W (Proc.devRef .tc r) := after_of_writes_sub hostOps0_3 W hostOps0_3_writes h
theorem keep4 (h : r ∉ hostOps0_4_W) : after hostOps0_4 W (Proc.devRef .tc r) = W (Proc.devRef .tc r) := after_of_writes_sub hostOps0_4 W hostOps0_4_writes h

/-- A buffer the condition and the body leave. -/
abbrev Free : Prop := r ∉ condOps_W ∧ r ∉ while0Ops0_W ∧ r ∉ while0Ops0_1_W ∧ r ∉ while0Ops0_2_W ∧ r ∉ while0Ops0_3_W ∧ r ∉ while0Ops0_4_W
  ∧ r ∉ while0Ops0_5_W ∧ r ∉ while0Ops0_6_W

theorem keepTrip (h : Free r) : afterL bodyI (after condOps W) (Proc.devRef .tc r) = W (Proc.devRef .tc r) := by
  obtain ⟨hc, h0, h1, h2, h3, h4, h5, h6⟩ := h
  simp only [bodyI, afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

end

/-! ## The loop's entry -/

section

variable (L : Val)

abbrev U1 : Val := after hostOps0 L
abbrev U2 : Val := after hostOps0_1 (U1 L)
abbrev U3 : Val := after hostOps0_2 (U2 L)
abbrev U4 : Val := after hostOps0_3 (U3 L)
abbrev U5 : Val := after hostOps0_4 (U4 L)

theorem keep_arg (r : Ref sig .tc) (h : r ∉ hostOps0_W ∧ r ∉ hostOps0_1_W) : U2 L (Proc.devRef .tc r) = L (Proc.devRef .tc r) := by
  unfold U2 U1
  rw [keep1 _ r h.2, keep0 _ r h.1]
theorem keep_all (r : Ref sig .tc) (h : r ∉ hostOps0_W ∧ r ∉ hostOps0_1_W ∧ r ∉ hostOps0_2_W ∧ r ∉ hostOps0_3_W ∧ r ∉ hostOps0_4_W) :
    U5 L (Proc.devRef .tc r) = L (Proc.devRef .tc r) := by
  unfold U5 U4 U3 U2 U1
  rw [keep4 _ r h.2.2.2.2, keep3 _ r h.2.2.2.1, keep2 _ r h.2.2.1, keep1 _ r h.2.1, keep0 _ r h.1]

/-- The convolved rows of the launch's arguments, and the rows projected of them. -/
abbrev lXi : FVec Ideal S8x2x2048x2048 .f32 := xiT (L (Proc.devRef .tc main_arg0)) (L (Proc.devRef .tc main_arg2)) (L (Proc.devRef .tc main_arg3)) (L (Proc.devRef .tc main_arg4))
abbrev lDbl : FVec Ideal S8x2x2048x96 .f32 := dblT (lXi L) (L (Proc.devRef .tc main_arg5))

theorem u2_v4 : U2 L (Proc.devRef .tc main_v4) = padT (xzT (L (Proc.devRef .tc main_arg0)) (L (Proc.devRef .tc main_arg2))) := by
  unfold U2 U1
  rw [s1_v4, s0_v2, s0_c]; rfl
theorem u3_v41 : U3 L (Proc.devRef .tc main_v41) = lXi L := by
  unfold U3
  rw [s2_v41, u2_v4, keep_arg L main_arg3 (by decide +kernel), keep_arg L main_arg4 (by decide +kernel)]; rfl
theorem u3_v47 : U3 L (Proc.devRef .tc main_v47) = preT (lDbl L) (L (Proc.devRef .tc main_arg6)) (L (Proc.devRef .tc main_arg7)) := by
  unfold U3
  rw [s2_v47, u2_v4, keep_arg L main_arg3 (by decide +kernel), keep_arg L main_arg4 (by decide +kernel), keep_arg L main_arg5 (by decide +kernel),
    keep_arg L main_arg6 (by decide +kernel), keep_arg L main_arg7 (by decide +kernel)]; rfl
theorem u3_v48 : U3 L (Proc.devRef .tc main_v48) = extractStridedSlice S8x2x2048x16 ![0, 0, 0, 64] (lDbl L) slices_S8x2x2048x96_S8x2x2048x16_0_0_0_64 := by
  unfold U3
  rw [s2_v48, u2_v4, keep_arg L main_arg3 (by decide +kernel), keep_arg L main_arg4 (by decide +kernel), keep_arg L main_arg5 (by decide +kernel)]; rfl
theorem u3_v49 : U3 L (Proc.devRef .tc main_v49) = extractStridedSlice S8x2x2048x16 ![0, 0, 0, 80] (lDbl L) slices_S8x2x2048x96_S8x2x2048x16_0_0_0_80 := by
  unfold U3
  rw [s2_v49, u2_v4, keep_arg L main_arg3 (by decide +kernel), keep_arg L main_arg4 (by decide +kernel), keep_arg L main_arg5 (by decide +kernel)]; rfl
theorem u5_v41 : U5 L (Proc.devRef .tc main_v41) = lXi L := by
  unfold U5 U4
  rw [keep4 _ main_v41 (by decide +kernel), keep3 _ main_v41 (by decide +kernel), u3_v41]
theorem u5_v3 : U5 L (Proc.devRef .tc main_v3) = zT (xzT (L (Proc.devRef .tc main_arg0)) (L (Proc.devRef .tc main_arg2))) := by
  unfold U5 U4 U3 U2 U1
  rw [keep4 _ main_v3 (by decide +kernel), keep3 _ main_v3 (by decide +kernel), keep2 _ main_v3 (by decide +kernel), keep1 _ main_v3 (by decide +kernel), s0_v3]

theorem tr_apply (y : FVec Ideal S8x2x2048x2048 .f32) (l : Fin 2048) (e : Fin 8) (b : Fin 2) (f : Fin 2048) :
    transpose S2048x8x2x2048 [2, 0, 1, 3] y transposes_S8x2x2048x2048_S2048x8x2x2048_2_0_1_3 (ix4 l e b f) = y (ix4 e b l f) := by
  pointwise
theorem trB_apply (y : FVec Ideal S8x2x2048x96 .f32) (l : Fin 2048) (e : Fin 8) (b : Fin 2) (n : Fin 16) :
    transpose S2048x8x2x16 [2, 0, 1, 3] (extractStridedSlice S8x2x2048x16 ![0, 0, 0, 64] y slices_S8x2x2048x96_S8x2x2048x16_0_0_0_64)
      transposes_S8x2x2048x16_S2048x8x2x16_2_0_1_3 (ix4 l e b n) = y (ix4 e b l ⟨64 + n.val, by omega⟩) := by
  pointwise
theorem trC_apply (y : FVec Ideal S8x2x2048x96 .f32) (l : Fin 2048) (e : Fin 8) (b : Fin 2) (n : Fin 16) :
    transpose S2048x8x2x16 [2, 0, 1, 3] (extractStridedSlice S8x2x2048x16 ![0, 0, 0, 80] y slices_S8x2x2048x96_S8x2x2048x16_0_0_0_80)
      transposes_S8x2x2048x16_S2048x8x2x16_2_0_1_3 (ix4 l e b n) = y (ix4 e b l ⟨80 + n.val, by omega⟩) := by
  pointwise
theorem neg_exp_apply (y : FVec Ideal S8x2048x16 .f32) (e : Fin 8) (f : Fin 2048) (n : Fin 16) :
    (Host.negf (F := Ideal) (φ := .f32) (Host.exp (F := Ideal) (φ := .f32) y) : FVec Ideal S8x2048x16 .f32) (ix3 e f n) = -Ideal.exp (y (ix3 e f n)) := by
  pointwise
theorem zero_apply (e : Fin 8) (b : Fin 2) (f : Fin 2048) (n : Fin 16) :
    (broadcastInDim S8x2x2048x16 ![] bcast_S_S8x2x2048x16 (constant (F := Ideal) S_ .f32 0x00000000#32) : FVec Ideal S8x2x2048x16 .f32) (ix4 e b f n) = ((0 : ℝ) : EReal) := by
  pointwise
  exact EReal.coe_zero.symm

end

/-! ## The loop -/

section

variable {a : Args} {m : (ℓ : Loc nD τ sig) → Buf (Elt Ideal) ℓ} {c : Dev nD} (hL : EntryOf a (launchContents m c))

/-- What the loop carries before trip `k`. -/
structure Carried (a : Args) (k : ℕ) (V : Val) : Prop where
  dt : ∀ e b (l : Fin 2048) f, V (Proc.devRef .tc main_v59_0) (ix4 l e b f) = ((a.dt e b l.val f : ℝ) : EReal)
  B : ∀ e b (l : Fin 2048) n, V (Proc.devRef .tc main_v59_1) (ix4 l e b n) = ((a.Bc e b l.val n : ℝ) : EReal)
  C : ∀ e b (l : Fin 2048) n, V (Proc.devRef .tc main_v59_2) (ix4 l e b n) = ((a.Cc e b l.val n : ℝ) : EReal)
  xi : ∀ e b (l : Fin 2048) f, V (Proc.devRef .tc main_v59_3) (ix4 l e b f) = ((a.xi e b l.val f : ℝ) : EReal)
  A : ∀ e f n, V (Proc.devRef .tc main_v59_4) (ix3 e f n) = ((-Real.exp (a.alog e f n) : ℝ) : EReal)
  H : ∀ e b f n, V (Proc.devRef .tc main_v59_6) (ix4 e b f n) = ((a.H e b k n f : ℝ) : EReal)
  Y : ∀ e b (l : Fin 2048) f, l.val < k → V (Proc.devRef .tc main_v59_7) (ix4 l e b f) = ((a.Y e b l.val f : ℝ) : EReal)

include hL

theorem entry_carried : Carried a 0 (U5 (launchContents m c)) where
  dt e b l f := by
    unfold U5 U4
    rw [s4_0, s3_v50, u3_v47, tr_apply]
    exact dt_val hL e b l f
  B e b l n := by
    unfold U5 U4
    rw [s4_1, keep3 _ main_v48 (by decide +kernel), u3_v48, trB_apply]
    exact dbl_val hL e b l _
  C e b l n := by
    unfold U5 U4
    rw [s4_2, keep3 _ main_v49 (by decide +kernel), u3_v49, trC_apply]
    exact dbl_val hL e b l _
  xi e b l f := by
    unfold U5 U4
    rw [s4_3, keep3 _ main_v41 (by decide +kernel), u3_v41, tr_apply]
    exact xi_val hL e b l f
  A e f n := by
    unfold U5 U4
    rw [s4_4, neg_exp_apply, keep3 _ main_arg8 (by decide +kernel), show U3 _ _ = after hostOps0_2 _ _ from rfl, keep2 _ main_arg8 (by decide +kernel), keep_arg _ main_arg8 (by decide +kernel), hL.alog,
      Ideal.exp_coe, EReal.coe_neg]
  H e b f n := by
    unfold U5 U4
    rw [s4_6, zero_apply]; rfl
  Y e b l f h := absurd h (Nat.not_lt_zero _)

omit hL in
theorem step_carried {k : ℕ} (hk : k < 2048) {V : Val} (hc : V (Proc.devRef .tc main_v59_5) = fun _ => Scf.iv 0#32 1#32 k) (hV : Carried a k V) :
    Carried a (k + 1) (STEP V) := by
  have h6 : ∀ e b f n, step_main_v59_6 V (ix4 e b f n) = ((a.H e b (k + 1) n f : ℝ) : EReal) := fun e b f n => by
    rw [step6, stT_apply, rowOf_apply hk hc, rowOf_apply hk hc, rowOf16_apply hk hc, hV.dt, hV.xi, hV.B, hV.A, hV.H]
    simp only [← EReal.coe_mul, ← EReal.coe_add, Ideal.exp_coe]
    rfl
  exact
  { dt := fun e b l f => by rw [STEP_main_v59_0]; exact hV.dt e b l f
    B := fun e b l n => by rw [STEP_main_v59_1]; exact hV.B e b l n
    C := fun e b l n => by rw [STEP_main_v59_2]; exact hV.C e b l n
    xi := fun e b l f => by rw [STEP_main_v59_3]; exact hV.xi e b l f
    A := fun e f n => by rw [STEP_main_v59_4]; exact hV.A e f n
    H := fun e b f n => by rw [STEP_main_v59_6]; exact h6 e b f n
    Y := fun e b l f hl => by
      rw [STEP_main_v59_7, step7, put_apply hk hc]
      by_cases h : l.val = k
      · rw [if_pos h, rdT_apply]
        unfold Args.Y
        refine @Eq.trans EReal _ _ _ ?_ (coe_sum _ _)
        refine Finset.sum_congr rfl fun n _ => ?_
        rw [h6, rowOf16_apply hk hc, hV.C, EReal.coe_mul, h]
      · rw [if_neg h]
        exact hV.Y e b l f (by omega) }

omit hL in
theorem Carried.congr {k : ℕ} {V V' : Val} (h : Agree V V') (hV : Carried a k V') : Carried a k V where
  dt e b l f := by rw [h main_v59_0 (by decide)]; exact hV.dt e b l f
  B e b l n := by rw [h main_v59_1 (by decide)]; exact hV.B e b l n
  C e b l n := by rw [h main_v59_2 (by decide)]; exact hV.C e b l n
  xi e b l f := by rw [h main_v59_3 (by decide)]; exact hV.xi e b l f
  A e f n := by rw [h main_v59_4 (by decide)]; exact hV.A e f n
  H e b f n := by rw [h main_v59_6 (by decide)]; exact hV.H e b f n
  Y e b l f hl := by rw [h main_v59_7 (by decide)]; exact hV.Y e b l f hl

theorem loop_carried (k : ℕ) (hk : k ≤ 2048) : Carried a k (atK m k c) := by
  induction k with
  | zero => exact entry_carried hL
  | succ k ih => exact Carried.congr (trip_agree (atK m k c)) (step_carried (by omega) (atK_ctr m c k) (ih (by omega)))

omit hL in
theorem loop_keeps (r : Ref sig .tc) (h : Free r) (k : ℕ) : atK m k c (Proc.devRef .tc r) = U5 (launchContents m c) (Proc.devRef .tc r) := by
  induction k with
  | zero => rfl
  | succ k ih => exact (keepTrip _ r h).trans ih

/-! ## After the loop -/

/-- The program's result. -/
theorem final_v78 (b : Fin 2) (l : Fin 2048) (d : Fin 1024) :
    finalContents condOps preI bodyI postI 2048 m c (Proc.devRef .tc main_v78) (ix3 b l d) = ((a.res b l.val d : ℝ) : EReal) := by
  have hC := Carried.congr (cond_keeps (atK m 2048 c)) (loop_carried hL 2048 le_rfl)
  have hk : ∀ r : Ref sig .tc, Free r → after condOps (atK m 2048 c) (Proc.devRef .tc r) = U5 (launchContents m c) (Proc.devRef .tc r) := fun r h =>
    (after_of_writes_sub condOps _ condOps_writes h.1).trans (loop_keeps r h 2048)
  show after hostOps0_5 (after condOps (atK m 2048 c)) (Proc.devRef .tc main_v78) (ix3 b l d) = _
  rw [s5_v78, mixT_apply, hk main_v41 (by decide +kernel), hk main_v3 (by decide +kernel), hk main_arg9 (by decide +kernel), hk main_arg1 (by decide +kernel),
    hk main_arg10 (by decide +kernel), u5_v41, u5_v3, keep_all _ main_arg9 (by decide +kernel), keep_all _ main_arg1 (by decide +kernel),
    keep_all _ main_arg10 (by decide +kernel)]
  unfold Args.res
  refine @Eq.trans EReal _ _ _ ?_ (coe_sum _ _)
  refine Finset.sum_congr rfl fun e _ => ?_
  rw [hL.w, EReal.coe_mul]
  refine congrArg _ ?_
  unfold Args.eo
  rw [← coe_sum]
  refine Finset.sum_congr rfl fun f _ => ?_
  rw [hL.wout, EReal.coe_mul]
  have hx : lXi (launchContents m c) (ix4 e b l f) = ((a.xi e b l.val f : ℝ) : EReal) := xi_val hL e b l f
  rw [outT_apply, hC.Y e b l f l.isLt, hx, siluT_apply, z_val hL, silu_val, hL.dsk]
  unfold Args.O
  rw [EReal.coe_mul, EReal.coe_add, EReal.coe_mul]

end

end Cert.Proof.Moe.Mix

end
-- ==== Proof.Moe.MixFrame.lean ====
/-
  The reference mixture's program leaves its arguments.
-/
module

public import proofs.«01_k».proof.Proof.Moe.MixRun

@[expose] public section

set_option maxRecDepth 8192
set_option maxHeartbeats 1000000

noncomputable section

namespace Cert.Proof.Moe.Mix

open Cert.MixtureIdeal Cert.MixtureIdeal.Gen Cert.MixtureIdeal.Value
open Idealize.ShloMosaic Idealize.ShloMosaic.TcCoe Idealize.ShloMosaic.Tactic Idealize.SL.Sem
open Idealize.ShloMosaic.StableHlo

variable (m : (ℓ : Loc nD τ sig) → Buf (Elt Ideal) ℓ) (g : Dev nD → PrngReg)

/-- The arguments' buffers. -/
abbrev argRefs : List (Ref sig .tc) :=
  [main_arg0, main_arg1, main_arg2, main_arg3, main_arg4, main_arg5, main_arg6, main_arg7, main_arg8, main_arg9, main_arg10]

theorem post_keeps (W : Val) : ∀ r ∈ argRefs, after hostOps0_5 W (Proc.devRef .tc r) = W (Proc.devRef .tc r) := by
  intro r hr
  simp only [argRefs, List.mem_cons, List.not_mem_nil, or_false] at hr
  rcases hr with rfl | rfl | rfl | rfl | rfl | rfl | rfl | rfl | rfl | rfl | rfl <;> after_results_simp

theorem args_free : ∀ r ∈ argRefs, Free r ∧ (r ∉ hostOps0_W ∧ r ∉ hostOps0_1_W ∧ r ∉ hostOps0_2_W ∧ r ∉ hostOps0_3_W ∧ r ∉ hostOps0_4_W) := by
  decide +kernel

/-- An argument at the end is the argument. -/
theorem arg_kept (c : Dev nD) (r : Ref sig .tc) (hr : r ∈ argRefs) :
    finalContents condOps preI bodyI postI 2048 m c (Proc.devRef .tc r) = m (c.tc.loc r) := by
  have hf := args_free r hr
  show after hostOps0_5 (after condOps (atK m 2048 c)) (Proc.devRef .tc r) = _
  rw [post_keeps _ r hr]
  exact ((after_of_writes_sub condOps _ condOps_writes hf.1.1).trans (loop_keeps r hf.1 2048)).trans (keep_all _ r hf.2)

theorem run_args : θ_run (defs (F := Ideal)) (onTc (τ := τ) (main (F := Ideal))) ⟨m, fun _ => 0, g⟩ (fun r => ∀ c : Dev nD,
      r.2.mem (c.tc.loc main_v78) = finalContents condOps preI bodyI postI 2048 m c (Proc.devRef .tc main_v78)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)) := by
  refine (θ_run _ _ _).mono (fun r h c => ?_) (run_fold m g)
  have hk : ∀ b ∈ argRefs, r.2.mem (c.tc.loc b) = m (c.tc.loc b) := fun b hb =>
    (h c b (by
      simp only [argRefs, List.mem_cons, List.not_mem_nil, or_false] at hb
      rcases hb with rfl | rfl | rfl | rfl | rfl | rfl | rfl | rfl | rfl | rfl | rfl <;> rfl)).trans (arg_kept m c b hb)
  exact ⟨h c main_v78 rfl, hk _ (by decide), hk _ (by decide), hk _ (by decide), hk _ (by decide), hk _ (by decide), hk _ (by decide), hk _ (by decide),
    hk _ (by decide), hk _ (by decide), hk _ (by decide), hk _ (by decide)⟩

end Cert.Proof.Moe.Mix

end
-- ==== Proof.Moe.Tame.lean ====
/-
  The precondition of the experts' claim, read: every argument is an array of reals, and no step before the softplus is above 20.
-/
module

public import proofs.«01_k».proof.Proof.Moe.MixValue
public import proofs.«01_k».proof.Proof.Gen.Pre_tame
public import proofs.«01_k».proof.Proof.Equal

@[expose] public section

set_option maxRecDepth 16384
set_option maxHeartbeats 1000000

noncomputable section

namespace Cert.Proof.Moe

open Idealize.ShloMosaic Idealize.ShloMosaic.TcCoe Idealize.SL.Sem
open Cert.Proof.Equal (and_one real_of_abs_lt ofBits_top)
open Cert.Proof.Moe.Mix

/-- The element of an array below infinity in absolute value. -/
theorem fin_of_lt (x : EReal) (h : Ideal.cmp .olt (max x (-x)) (Ideal.ofBits .f32 0x7F800000#32) = 1#1) : x = ((x.toReal : ℝ) : EReal) := by
  rw [ofBits_top] at h
  obtain ⟨r, hr⟩ := real_of_abs_lt x h
  rw [hr, EReal.toReal_coe]

theorem twenty : Ideal.ofBits .f32 0x41A00000#32 = ((20 : ℝ) : EReal) := by
  simp [Ideal.ofBits, Ideal.ieee, -EReal.coe_mul]; norm_num

theorem le_of_ole (r : ℝ) (h : Ideal.cmp .ole (r : EReal) (Ideal.ofBits .f32 0x41A00000#32) = 1#1) : r ≤ 20 := by
  rw [twenty] at h
  unfold Ideal.cmp at h
  by_contra hn
  have : ¬ ((r : EReal) ≤ ((20 : ℝ) : EReal)) := fun h' => hn (EReal.coe_le_coe_iff.mp h')
  simp [this] at h

section

variable (x : FVec Ideal Cert.Pre_tame.S2x2048x1024 .f32) (w : FVec Ideal Cert.Pre_tame.S8x4096 .f32) (win : FVec Ideal Cert.Pre_tame.S8x1024x4096 .f32)
    (wconv : FVec Ideal Cert.Pre_tame.S8x2048x4 .f32) (bconv : FVec Ideal Cert.Pre_tame.S8x2048 .f32) (wx : FVec Ideal Cert.Pre_tame.S8x2048x96 .f32)
    (wdt : FVec Ideal Cert.Pre_tame.S8x64x2048 .f32) (bdt : FVec Ideal Cert.Pre_tame.S8x2048 .f32) (alog : FVec Ideal Cert.Pre_tame.S8x2048x16 .f32)
    (dsk : FVec Ideal Cert.Pre_tame.S8x2048 .f32) (wout : FVec Ideal Cert.Pre_tame.S8x2048x1024 .f32)

theorem tame_of (h : Cert.Pre_tame.fn (F := Ideal) x w win wconv bconv wx wdt bdt alog dsk wout = fun _ => 1#1) :
    ∃ a : Args, ArgsOf a x w win wconv bconv wx wdt bdt alog dsk wout ∧ ∀ e b l f, l < 2048 → a.pre e b l f ≤ 20 := by
  have h0 := congrFun h finZeroElim
  have p10 := and_one _ _ h0
  have p9 := and_one _ _ p10.1
  have p8 := and_one _ _ p9.1
  have p7 := and_one _ _ p8.1
  have p6 := and_one _ _ p7.1
  have p5 := and_one _ _ p6.1
  have p4 := and_one _ _ p5.1
  have p3 := and_one _ _ p4.1
  have p2 := and_one _ _ p3.1
  have p1 := and_one _ _ p2.1
  have p0 := and_one _ _ p1.1
  have hA : ArgsOf (realArgs x w win wconv bconv wx wdt bdt alog dsk wout) x w win wconv bconv wx wdt bdt alog dsk wout :=
    realArgs_of x w win wconv bconv wx wdt bdt alog dsk wout
      (fun i => fin_of_lt _ (Host.reduce_andi_all _ _ _ _ _ p0.2 i))
      (fun i => fin_of_lt _ (Host.reduce_andi_all _ _ _ _ _ p1.2 i))
      (fun i => fin_of_lt _ (Host.reduce_andi_all _ _ _ _ _ p2.2 i))
      (fun i => fin_of_lt _ (Host.reduce_andi_all _ _ _ _ _ p3.2 i))
      (fun i => fin_of_lt _ (Host.reduce_andi_all _ _ _ _ _ p4.2 i))
      (fun i => fin_of_lt _ (Host.reduce_andi_all _ _ _ _ _ p5.2 i))
      (fun i => fin_of_lt _ (Host.reduce_andi_all _ _ _ _ _ p6.2 i))
      (fun i => fin_of_lt _ (Host.reduce_andi_all _ _ _ _ _ p7.2 i))
      (fun i => fin_of_lt _ (Host.reduce_andi_all _ _ _ _ _ p8.2 i))
      (fun i => fin_of_lt _ (Host.reduce_andi_all _ _ _ _ _ p9.2 i))
      (fun i => fin_of_lt _ (Host.reduce_andi_all _ _ _ _ _ p10.2 i))
  refine ⟨_, hA, fun e b l f hl => ?_⟩
  refine le_of_ole _ ?_
  rw [← pre_val hA e b ⟨l, hl⟩ f]
  exact Host.reduce_andi_all _ _ _ _ _ p0.1 (ix4 e b ⟨l, hl⟩ f)

end

end Cert.Proof.Moe

end
-- ==== Proof.Moe.Claims.lean ====
/-
  The claims of the experts' call: the frames, that the idealized program is the printed one with its constant named, and
  that it and the reference mixture end with one result.
-/
module

public import proofs.«01_k».proof.Defs
public import proofs.«01_k».proof.Proof.Moe.Points
public import proofs.«01_k».proof.Proof.Moe.Frame
public import proofs.«01_k».proof.Proof.Moe.Printed.Frame
public import proofs.«01_k».proof.Proof.Moe.MixFrame
public import proofs.«01_k».proof.Proof.Moe.Tame
public import Idealize.ShloMosaic.Adequacy
public import Idealize.ShloMosaic.Init

@[expose] public section

set_option maxRecDepth 16384
set_option maxHeartbeats 1000000

noncomputable section

namespace Cert.Proof.Moe

open Idealize.ShloMosaic Idealize.ShloMosaic.TcCoe Idealize.SL.Sem
open Cert.ExpertsIdeal.Gen

theorem frame_experts : Cert.quiescent_Experts := fun m g _ => Printed.run_frame (F := Bits) m g

theorem frame_ideal : Cert.quiescent_ExpertsIdeal := fun m g _ => run_frame (F := Ideal) m g

theorem frame_ideal_tame : Cert.quiescent_ExpertsIdeal_pre_tame := fun m g _ => run_frame (F := Ideal) m g

theorem frame_mixture : Cert.quiescent_MixtureIdeal := fun m g _ =>
  (θ_run Cert.MixtureIdeal.defs _ _).mono
    (fun r h => ⟨fun c => (h c).2, Idealize.ShloMosaic.sem_eq_zero_of_no_sems (by decide) r.2⟩)
    (Mix.run_args m g)

theorem frame_mixture_tame : Cert.quiescent_MixtureIdeal_pre_tame := fun m g _ => frame_mixture m g trivial

theorem names : Cert.preserves_Experts_ExpertsIdeal :=
  IdealRules.named_const.statement Cert.ExpertsIdeal.κ "log2_e" .f32 0x3FB8AA3B#32 (((Real.log 2)⁻¹ : ℝ) : EReal) rfl

/-- The mixture's result of real arguments. -/
def resOf (a : Args) : Arr ⟨3, ![2, 2048, 1024]⟩ := fun j => ((a.res (j 0) (j 1).val (j 2) : ℝ) : EReal)

theorem eq_resOf (a : Args) (G : Arr ⟨3, ![2, 2048, 1024]⟩) (h : ∀ b (l : Fin 2048) d, G (ix3 b l d) = ((a.res b l.val d : ℝ) : EReal)) : G = resOf a := by
  funext j
  have hj : j = ix3 (j 0) (j 1) (j 2) := by
    funext k; fin_cases k <;> rfl
  rw [hj]
  exact h (j 0) (j 1) (j 2)

theorem value : Cert.algebraic_ExpertsIdeal_MixtureIdeal_pre_tame := by
  intro m g m' g' hpre hargs
  choose a hE hle using fun c => tame_of _ _ _ _ _ _ _ _ _ _ _ (hpre c)
  refine ⟨fun c => resOf (a c), ?_, ?_⟩
  · refine (θ_run _ _ _).mono (fun r h c => ?_) (run (F := Ideal) m g)
    have hk := arg_kept m h.1 c
    refine ⟨eq_resOf (a c) _ fun b l d => out_arr (hE c) (hle c) _ ((h.1 c).1 11) b l d, ?_⟩
    exact ⟨hk _ (by decide), hk _ (by decide), hk _ (by decide), hk _ (by decide), hk _ (by decide), hk _ (by decide), hk _ (by decide),
      hk _ (by decide), hk _ (by decide), hk _ (by decide), hk _ (by decide)⟩
  · refine (θ_run _ _ _).mono (fun r h c => ⟨(h c).1.trans ?_, (h c).2⟩) (Mix.run_args m' g')
    obtain ⟨e0, e1, e2, e3, e4, e5, e6, e7, e8, e9, e10⟩ := hargs c
    have hL : Mix.EntryOf (a c) (StableHlo.launchContents m' c) := by
      have := hE c
      rw [← e0, ← e1, ← e2, ← e3, ← e4, ← e5, ← e6, ← e7, ← e8, ← e9, ← e10] at this
      exact this
    exact eq_resOf (a c) _ fun b l d => Mix.final_v78 hL b l d

end Cert.Proof.Moe

end
-- ==== Proof.lean ====
/-
  The certificate's claim, assembled.
-/
module

public import proofs.«01_k».proof.Proof.Claims
public import proofs.«01_k».proof.Proof.Equal
public import proofs.«01_k».proof.Proof.Moe.Claims

@[expose] public section

namespace Cert.Proof

theorem claim : Cert.Claim :=
  ⟨Cert.Kernel.Gen.facts, Cert.KernelIdeal.Gen.facts, Cert.ReferenceIdeal.Gen.facts, Cert.Experts.Gen.facts, Cert.ExpertsIdeal.Gen.facts,
    Cert.MixtureIdeal.Gen.facts, Cert.Pre_finite.Gen.facts, Cert.Pre_tame.Gen.facts,
    frame_kernel, frame_ideal, frame_ideal_finite, frame_reference, frame_reference_finite,
    Moe.frame_experts, Moe.frame_ideal, Moe.frame_ideal_tame, Moe.frame_mixture, Moe.frame_mixture_tame,
    names, Equal.value, Moe.names, Moe.value⟩

end Cert.Proof
